-- ==== Defs.lean ====
def Pre_Kernel [hPre_counts_fit : Cert.Pre_counts_fit.Facts] (m : (ℓ : Loc Cert.Kernel.nD Cert.Kernel.τ Cert.Kernel.sig) → Buf (Elt Bits) ℓ) : Prop :=
  ∀ c : Dev Cert.Kernel.nD,
    (Cert.Pre_counts_fit.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_counts_fit : Cert.Pre_counts_fit.Facts] (m : (ℓ : Loc Cert.KernelIdeal.nD Cert.KernelIdeal.τ Cert.KernelIdeal.sig) → Buf (Elt Ideal) ℓ) : Prop :=
  ∀ c : Dev Cert.KernelIdeal.nD,
    (Cert.Pre_counts_fit.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_KernelIdeal_routing_tables [hPre_routing_tables : Cert.Pre_routing_tables.Facts] (m : (ℓ : Loc Cert.KernelIdeal.nD Cert.KernelIdeal.τ Cert.KernelIdeal.sig) → Buf (Elt Ideal) ℓ) : Prop :=
  ∀ c : Dev Cert.KernelIdeal.nD,
    (Cert.Pre_routing_tables.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routing_tables [hPre_routing_tables : Cert.Pre_routing_tables.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routing_tables.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] [hPre_counts_fit : Cert.Pre_counts_fit.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] [hPre_counts_fit : Cert.Pre_counts_fit.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_routing_tables [hKernelIdeal : Cert.KernelIdeal.Facts] [hPre_routing_tables : Cert.Pre_routing_tables.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routing_tables m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_routing_tables [hReferenceIdeal : Cert.ReferenceIdeal.Facts] [hPre_routing_tables : Cert.Pre_routing_tables.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routing_tables m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def preserves_Kernel_KernelIdeal : Prop :=
  True

def algebraic_KernelIdeal_ReferenceIdeal_pre_routing_tables [hKernelIdeal : Cert.KernelIdeal.Facts] [hReferenceIdeal : Cert.ReferenceIdeal.Facts] [hPre_routing_tables : Cert.Pre_routing_tables.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routing_tables m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v32) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v1_0)) (v1 : (c : Dev Cert.Kernel3Ideal.nD) → Buf (Elt Ideal) ((c.tc : Thread Cert.Kernel3Ideal.nD Cert.Kernel3Ideal.τ).loc Cert.Kernel3Ideal.main_v1_1)) (v2 : (c : Dev Cert.Kernel3Ideal.nD) → Buf (Elt Ideal) ((c.tc : Thread Cert.Kernel3Ideal.nD Cert.Kernel3Ideal.τ).loc Cert.Kernel3Ideal.main_v1_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1_0) = v0 c
          ∧ r.2.mem ((c.tc : Thread Cert.Kernel3Ideal.nD Cert.Kernel3Ideal.τ).loc Cert.Kernel3Ideal.main_v1_1) = v1 c
          ∧ r.2.mem ((c.tc : Thread Cert.Kernel3Ideal.nD Cert.Kernel3Ideal.τ).loc Cert.Kernel3Ideal.main_v1_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_v5) = v1 c
          ∧ r.2.mem ((c.tc : Thread Cert.Reference3Ideal.nD Cert.Reference3Ideal.τ).loc Cert.Reference3Ideal.main_v6) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v27) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v5) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v28) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v5_0)) (v1 : (c : Dev Cert.Kernel6Ideal.nD) → Buf (Elt Ideal) ((c.tc : Thread Cert.Kernel6Ideal.nD Cert.Kernel6Ideal.τ).loc Cert.Kernel6Ideal.main_v5_1)) (v2 : (c : Dev Cert.Kernel6Ideal.nD) → Buf (Elt Ideal) ((c.tc : Thread Cert.Kernel6Ideal.nD Cert.Kernel6Ideal.τ).loc Cert.Kernel6Ideal.main_v5_2)) (v3 : (c : Dev Cert.Kernel6Ideal.nD) → Buf (Elt Ideal) ((c.tc : Thread Cert.Kernel6Ideal.nD Cert.Kernel6Ideal.τ).loc Cert.Kernel6Ideal.main_v5_3)) (v4 : (c : Dev Cert.Kernel6Ideal.nD) → Buf (Elt Ideal) ((c.tc : Thread Cert.Kernel6Ideal.nD Cert.Kernel6Ideal.τ).loc Cert.Kernel6Ideal.main_v5_4)) (v5 : (c : Dev Cert.Kernel6Ideal.nD) → Buf (Elt Ideal) ((c.tc : Thread Cert.Kernel6Ideal.nD Cert.Kernel6Ideal.τ).loc Cert.Kernel6Ideal.main_v5_5)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v5_0) = v0 c
          ∧ r.2.mem ((c.tc : Thread Cert.Kernel6Ideal.nD Cert.Kernel6Ideal.τ).loc Cert.Kernel6Ideal.main_v5_1) = v1 c
          ∧ r.2.mem ((c.tc : Thread Cert.Kernel6Ideal.nD Cert.Kernel6Ideal.τ).loc Cert.Kernel6Ideal.main_v5_2) = v2 c
          ∧ r.2.mem ((c.tc : Thread Cert.Kernel6Ideal.nD Cert.Kernel6Ideal.τ).loc Cert.Kernel6Ideal.main_v5_3) = v3 c
          ∧ r.2.mem ((c.tc : Thread Cert.Kernel6Ideal.nD Cert.Kernel6Ideal.τ).loc Cert.Kernel6Ideal.main_v5_4) = v4 c
          ∧ r.2.mem ((c.tc : Thread Cert.Kernel6Ideal.nD Cert.Kernel6Ideal.τ).loc Cert.Kernel6Ideal.main_v5_5) = v5 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v7) = v0 c
          ∧ r.2.mem ((c.tc : Thread Cert.Reference6Ideal.nD Cert.Reference6Ideal.τ).loc Cert.Reference6Ideal.main_v8) = v1 c
          ∧ r.2.mem ((c.tc : Thread Cert.Reference6Ideal.nD Cert.Reference6Ideal.τ).loc Cert.Reference6Ideal.main_v9) = v2 c
          ∧ r.2.mem ((c.tc : Thread Cert.Reference6Ideal.nD Cert.Reference6Ideal.τ).loc Cert.Reference6Ideal.main_v4) = v3 c
          ∧ r.2.mem ((c.tc : Thread Cert.Reference6Ideal.nD Cert.Reference6Ideal.τ).loc Cert.Reference6Ideal.main_v5) = v4 c
          ∧ r.2.mem ((c.tc : Thread Cert.Reference6Ideal.nD Cert.Reference6Ideal.τ).loc Cert.Reference6Ideal.main_v10) = v5 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_counts_fit : Cert.Pre_counts_fit.Facts) (hPre_routing_tables : Cert.Pre_routing_tables.Facts),
    quiescent_Kernel (hKernel := hKernel) (hPre_counts_fit := hPre_counts_fit)
    ∧ quiescent_KernelIdeal (hKernelIdeal := hKernelIdeal) (hPre_counts_fit := hPre_counts_fit)
    ∧ quiescent_KernelIdeal_pre_routing_tables (hKernelIdeal := hKernelIdeal) (hPre_routing_tables := hPre_routing_tables)
    ∧ quiescent_ReferenceIdeal (hReferenceIdeal := hReferenceIdeal)
    ∧ quiescent_ReferenceIdeal_pre_routing_tables (hReferenceIdeal := hReferenceIdeal) (hPre_routing_tables := hPre_routing_tables)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_routing_tables (hKernelIdeal := hKernelIdeal) (hReferenceIdeal := hReferenceIdeal) (hPre_routing_tables := hPre_routing_tables)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_counts_fit.lean ====
abbrev S65536x1024 : Shape := ⟨2, ![65536, 1024]⟩
abbrev S65536x128 : Shape := ⟨2, ![65536, 128]⟩
abbrev S64x8x1024 : Shape := ⟨3, ![64, 8, 1024]⟩
abbrev S512x128 : Shape := ⟨2, ![512, 128]⟩
abbrev S8x1024x7168 : Shape := ⟨3, ![8, 1024, 7168]⟩
abbrev S8x3584x1024 : Shape := ⟨3, ![8, 3584, 1024]⟩
abbrev S1024 : Shape := ⟨1, ![1024]⟩
abbrev S64x8x128 : Shape := ⟨3, ![64, 8, 128]⟩
abbrev S64x1x8 : Shape := ⟨3, ![64, 1, 8]⟩
abbrev S64x8 : Shape := ⟨2, ![64, 8]⟩
abbrev S_ : Shape := ⟨0, ![]⟩

class Facts : Prop where
  shapeCasts_S512x128_S64x8x128 : S512x128.ShapeCasts S64x8x128
  slices_S64x8x128_S64x1x8_0_0_0 : S64x8x128.Slices ![0, 0, 0] S64x1x8
  shapeCasts_S64x1x8_S64x8 : S64x1x8.ShapeCasts S64x8
  bcast_S_S64x8 : S_.BroadcastsInDim S64x8 (![] : Fin 0 → Fin S64x8.rank)
  reducesTo_S64x8_S_d0_1 : S64x8.ReducesTo [0, 1] S_
  h_S_ : 0 < S_.numel

variable [Facts]

def fn {F : FTy → Type} [FloatOps F] (main_arg0 : FVec F S65536x1024 .f32) (main_arg1 : FVec F S65536x128 .f32) (main_arg2 : FVec F S65536x128 .f32) (main_arg3 : FVec F S64x8x1024 .f32) (main_arg4 : FVec F S512x128 .f32) (main_arg5 : FVec F S8x1024x7168 .f32) (main_arg6 : FVec F S8x3584x1024 .f32) (main_arg7 : FVec F S1024 .f32) (main_arg8 : FVec F S1024 .f32) : IVec S_ 1 :=
  let main_v0 : FVec F S64x8x128 .f32 := shapeCast S64x8x128 main_arg4 shapeCasts_S512x128_S64x8x128
  let main_v1 : FVec F S64x1x8 .f32 := (extractStridedSlice S64x1x8 ![0, 0, 0] · slices_S64x8x128_S64x1x8_0_0_0) main_v0
  let main_v2 : FVec F S64x8 .f32 := shapeCast S64x8 main_v1 shapeCasts_S64x1x8_S64x8
  let main_cst : FVec F S_ .f32 := constant S_ .f32 0x42800000#32
  let main_v3 : FVec F S64x8 .f32 := broadcastInDim S64x8 ![] bcast_S_S64x8 main_cst
  let main_v4 : FVec F S64x8 .f32 := Host.divf main_v2 main_v3
  let main_v5 : FVec F S64x8 .f32 := Host.ceil main_v4
  let main_v6 : IVec S64x8 32 := fptosi 32 main_v5
  let main_c : IVec S_ 32 := constantI S_ 32 0#32
  let main_v7 : IVec S64x8 32 := broadcastInDim S64x8 ![] bcast_S_S64x8 main_c
  let main_v8 : IVec S64x8 1 := cmpi .sge main_v6 main_v7
  let main_c_0 : IVec S_ 32 := constantI S_ 32 16#32
  let main_v9 : IVec S64x8 32 := broadcastInDim S64x8 ![] bcast_S_S64x8 main_c_0
  let main_v10 : IVec S64x8 1 := cmpi .sle main_v6 main_v9
  let main_v11 : IVec S64x8 1 := andi main_v8 main_v10
  let main_c_1 : IVec S_ 1 := constantI S_ 1 1#1
  let main_v12 : IVec S_ 1 := (fun x v => Host.reduce IntOp.andi x v reducesTo_S64x8_S_d0_1 h_S_) main_v11 main_c_1
  main_v12
-- ==== Pre_routing_tables.lean ====
abbrev S65536x1024 : Shape := ⟨2, ![65536, 1024]⟩
abbrev S65536x128 : Shape := ⟨2, ![65536, 128]⟩
abbrev S64x8x1024 : Shape := ⟨3, ![64, 8, 1024]⟩
abbrev S512x128 : Shape := ⟨2, ![512, 128]⟩
abbrev S8x1024x7168 : Shape := ⟨3, ![8, 1024, 7168]⟩
abbrev S8x3584x1024 : Shape := ⟨3, ![8, 3584, 1024]⟩
abbrev S1024 : Shape := ⟨1, ![1024]⟩
abbrev S64x8x128 : Shape := ⟨3, ![64, 8, 128]⟩
abbrev S64x1x8 : Shape := ⟨3, ![64, 1, 8]⟩
abbrev S64x8 : Shape := ⟨2, ![64, 8]⟩
abbrev S_ : Shape := ⟨0, ![]⟩
abbrev S64x1024x128 : Shape := ⟨3, ![64, 1024, 128]⟩
abbrev S64x1024x8 : Shape := ⟨3, ![64, 1024, 8]⟩
abbrev S1024x1 : Shape := ⟨2, ![1024, 1]⟩
abbrev S1x1024 : Shape := ⟨2, ![1, 1024]⟩
abbrev S1024x1024 : Shape := ⟨2, ![1024, 1024]⟩
abbrev S1x1024x1024x1 : Shape := ⟨4, ![1, 1024, 1024, 1]⟩
abbrev S64x1024x1x8 : Shape := ⟨4, ![64, 1024, 1, 8]⟩
abbrev S64x1x1024x8 : Shape := ⟨4, ![64, 1, 1024, 8]⟩
abbrev S64x1024x1024x8 : Shape := ⟨4, ![64, 1024, 1024, 8]⟩

class Facts : Prop where
  shapeCasts_S512x128_S64x8x128 : S512x128.ShapeCasts S64x8x128
  slices_S64x8x128_S64x1x8_0_0_0 : S64x8x128.Slices ![0, 0, 0] S64x1x8
  shapeCasts_S64x1x8_S64x8 : S64x1x8.ShapeCasts S64x8
  bcast_S_S64x8 : S_.BroadcastsInDim S64x8 (![] : Fin 0 → Fin S64x8.rank)
  shapeCasts_S65536x128_S64x1024x128 : S65536x128.ShapeCasts S64x1024x128
  slices_S64x1024x128_S64x1024x8_0_0_0 : S64x1024x128.Slices ![0, 0, 0] S64x1024x8
  bcast_S64x8_S64x1x8_0_2 : S64x8.BroadcastsInDim S64x1x8 (![0, 2] : Fin 2 → Fin S64x1x8.rank)
  bcast_S_S64x1024x8 : S_.BroadcastsInDim S64x1024x8 (![] : Fin 0 → Fin S64x1024x8.rank)
  bcast_S64x1x8_S64x1024x8_0_1_2 : S64x1x8.BroadcastsInDim S64x1024x8 (![0, 1, 2] : Fin 3 → Fin S64x1024x8.rank)
  bcast_S1024_S1024x1_0 : S1024.BroadcastsInDim S1024x1 (![0] : Fin 1 → Fin S1024x1.rank)
  bcast_S1024_S1x1024_1 : S1024.BroadcastsInDim S1x1024 (![1] : Fin 1 → Fin S1x1024.rank)
  bcast_S1024x1_S1024x1024_0_1 : S1024x1.BroadcastsInDim S1024x1024 (![0, 1] : Fin 2 → Fin S1024x1024.rank)
  bcast_S1x1024_S1024x1024_0_1 : S1x1024.BroadcastsInDim S1024x1024 (![0, 1] : Fin 2 → Fin S1024x1024.rank)
  bcast_S1024x1024_S1x1024x1024x1_1_2 : S1024x1024.BroadcastsInDim S1x1024x1024x1 (![1, 2] : Fin 2 → Fin S1x1024x1024x1.rank)
  bcast_S64x1024x8_S64x1024x1x8_0_1_3 : S64x1024x8.BroadcastsInDim S64x1024x1x8 (![0, 1, 3] : Fin 3 → Fin S64x1024x1x8.rank)
  bcast_S64x1024x8_S64x1x1024x8_0_2_3 : S64x1024x8.BroadcastsInDim S64x1x1024x8 (![0, 2, 3] : Fin 3 → Fin S64x1x1024x8.rank)
  bcast_S64x1024x1x8_S64x1024x1024x8_0_1_2_3 : S64x1024x1x8.BroadcastsInDim S64x1024x1024x8 (![0, 1, 2, 3] : Fin 4 → Fin S64x1024x1024x8.rank)
  bcast_S64x1x1024x8_S64x1024x1024x8_0_1_2_3 : S64x1x1024x8.BroadcastsInDim S64x1024x1024x8 (![0, 1, 2, 3] : Fin 4 → Fin S64x1024x1024x8.rank)
  bcast_S1x1024x1024x1_S64x1024x1024x8_0_1_2_3 : S1x1024x1024x1.BroadcastsInDim S64x1024x1024x8 (![0, 1, 2, 3] : Fin 4 → Fin S64x1024x1024x8.rank)
  reducesTo_S64x8_S_d0_1 : S64x8.ReducesTo [0, 1] S_
  h_S_ : 0 < S_.numel
  reducesTo_S64x1024x8_S_d0_1_2 : S64x1024x8.ReducesTo [0, 1, 2] S_
  transposes_S64x1024x8_S64x8x1024_0_2_1 : S64x1024x8.Transposes [0, 2, 1] S64x8x1024
  reducesTo_S64x8x1024_S_d0_1_2 : S64x8x1024.ReducesTo [0, 1, 2] S_
  reducesTo_S64x1024x1024x8_S_d0_1_2_3 : S64x1024x1024x8.ReducesTo [0, 1, 2, 3] S_

variable [Facts]

def fn_part3 {F : FTy → Type} [FloatOps F] (main_arg3 : FVec F S64x8x1024 .f32) (main_v8 : FVec F S64x1024x8 .f32) (main_v46 : IVec S64x1024x1024x8 1) (main_v55 : IVec S_ 1) (main_v59 : IVec S_ 1) : IVec S_ 1 :=
  let main_v60 : IVec S_ 1 := andi main_v55 main_v59
  let main_v61 : FVec F S64x8x1024 .f32 := (transpose S64x8x1024 [0, 2, 1] · transposes_S64x1024x8_S64x8x1024_0_2_1) main_v8
  let main_v62 : IVec S64x8x1024 1 := cmpf .oeq main_arg3 main_v61
  let main_c_10 : IVec S_ 1 := constantI S_ 1 1#1
  let main_v63 : IVec S_ 1 := (fun x v => Host.reduce IntOp.andi x v reducesTo_S64x8x1024_S_d0_1_2 h_S_) main_v62 main_c_10
  let main_v64 : IVec S_ 1 := andi main_v60 main_v63
  let main_v65 : IVec S64x1024x1024x8 1 := noti main_v46
  let main_c_11 : IVec S_ 1 := constantI S_ 1 1#1
  let main_v66 : IVec S_ 1 := (fun x v => Host.reduce IntOp.andi x v reducesTo_S64x1024x1024x8_S_d0_1_2_3 h_S_) main_v65 main_c_11
  let main_v67 : IVec S_ 1 := andi main_v64 main_v66
  main_v67

def fn_part2 {F : FTy → Type} [FloatOps F] (main_arg3 : FVec F S64x8x1024 .f32) (main_v6 : IVec S64x8 32) (main_v8 : FVec F S64x1024x8 .f32) (main_v10 : FVec F S64x1024x8 .f32) (main_v22 : IVec S64x1024x8 1) (main_v27 : IVec S64x1024x8 1) (main_v41 : IVec S64x1024x1024x8 1) (main_cst_3 : FVec F S_ .f32) : IVec S_ 1 :=
  let main_v42 : FVec F S64x1024x8 .f32 := broadcastInDim S64x1024x8 ![] bcast_S_S64x1024x8 main_cst_3
  let main_v43 : IVec S64x1024x8 1 := cmpf .oge main_v8 main_v42
  let main_v44 : IVec S64x1024x1x8 1 := broadcastInDim S64x1024x1x8 ![0, 1, 3] bcast_S64x1024x8_S64x1024x1x8_0_1_3 main_v43
  let main_v45 : IVec S64x1024x1024x8 1 := broadcastInDim S64x1024x1024x8 ![0, 1, 2, 3] bcast_S64x1024x1x8_S64x1024x1024x8_0_1_2_3 main_v44
  let main_v46 : IVec S64x1024x1024x8 1 := andi main_v41 main_v45
  let main_c_4 : IVec S_ 32 := constantI S_ 32 0#32
  let main_v47 : IVec S64x8 32 := broadcastInDim S64x8 ![] bcast_S_S64x8 main_c_4
  let main_v48 : IVec S64x8 1 := cmpi .sge main_v6 main_v47
  let main_c_5 : IVec S_ 32 := constantI S_ 32 16#32
  let main_v49 : IVec S64x8 32 := broadcastInDim S64x8 ![] bcast_S_S64x8 main_c_5
  let main_v50 : IVec S64x8 1 := cmpi .sle main_v6 main_v49
  let main_v51 : IVec S64x8 1 := andi main_v48 main_v50
  let main_c_6 : IVec S_ 1 := constantI S_ 1 1#1
  let main_v52 : IVec S_ 1 := (fun x v => Host.reduce IntOp.andi x v reducesTo_S64x8_S_d0_1 h_S_) main_v51 main_c_6
  let main_v53 : IVec S64x1024x8 1 := ori main_v22 main_v27
  let main_c_7 : IVec S_ 1 := constantI S_ 1 1#1
  let main_v54 : IVec S_ 1 := (fun x v => Host.reduce IntOp.andi x v reducesTo_S64x1024x8_S_d0_1_2 h_S_) main_v53 main_c_7
  let main_v55 : IVec S_ 1 := andi main_v52 main_v54
  let main_v56 : FVec F S64x1024x8 .f32 := Host.absf main_v10
  let main_cst_8 : FVec F S_ .f32 := constant S_ .f32 0x7F800000#32
  let main_v57 : FVec F S64x1024x8 .f32 := broadcastInDim S64x1024x8 ![] bcast_S_S64x1024x8 main_cst_8
  let main_v58 : IVec S64x1024x8 1 := cmpf .olt main_v56 main_v57
  let main_c_9 : IVec S_ 1 := constantI S_ 1 1#1
  let main_v59 : IVec S_ 1 := (fun x v => Host.reduce IntOp.andi x v reducesTo_S64x1024x8_S_d0_1_2 h_S_) main_v58 main_c_9
  fn_part3 (F := F) main_arg3 main_v8 main_v46 main_v55 main_v59

def fn_part1 {F : FTy → Type} [FloatOps F] (main_arg3 : FVec F S64x8x1024 .f32) (main_v6 : IVec S64x8 32) (main_v8 : FVec F S64x1024x8 .f32) (main_v10 : FVec F S64x1024x8 .f32) (main_v19 : IVec S64x1024x8 1) (main_v20 : FVec F S64x1024x8 .f32) : IVec S_ 1 :=
  let main_v21 : IVec S64x1024x8 1 := cmpf .olt main_v8 main_v20
  let main_v22 : IVec S64x1024x8 1 := andi main_v19 main_v21
  let main_cst_1 : FVec F S_ .f32 := constant S_ .f32 0xBF800000#32
  let main_v23 : FVec F S64x1024x8 .f32 := broadcastInDim S64x1024x8 ![] bcast_S_S64x1024x8 main_cst_1
  let main_v24 : IVec S64x1024x8 1 := cmpf .oeq main_v8 main_v23
  let main_cst_2 : FVec F S_ .f32 := constant S_ .f32 0x00000000#32
  let main_v25 : FVec F S64x1024x8 .f32 := broadcastInDim S64x1024x8 ![] bcast_S_S64x1024x8 main_cst_2
  let main_v26 : IVec S64x1024x8 1 := cmpf .oeq main_v10 main_v25
  let main_v27 : IVec S64x1024x8 1 := andi main_v24 main_v26
  let main_v28 : IVec S1024 32 := iotaInDim S1024 32 0
  let main_v29 : IVec S1024x1 32 := broadcastInDim S1024x1 ![0] bcast_S1024_S1024x1_0 main_v28
  let main_v30 : IVec S1x1024 32 := broadcastInDim S1x1024 ![1] bcast_S1024_S1x1024_1 main_v28
  let main_v31 : IVec S1024x1024 32 := broadcastInDim S1024x1024 ![0, 1] bcast_S1024x1_S1024x1024_0_1 main_v29
  let main_v32 : IVec S1024x1024 32 := broadcastInDim S1024x1024 ![0, 1] bcast_S1x1024_S1024x1024_0_1 main_v30
  let main_v33 : IVec S1024x1024 1 := cmpi .ne main_v31 main_v32
  let main_v34 : IVec S1x1024x1024x1 1 := broadcastInDim S1x1024x1024x1 ![1, 2] bcast_S1024x1024_S1x1024x1024x1_1_2 main_v33
  let main_v35 : FVec F S64x1024x1x8 .f32 := broadcastInDim S64x1024x1x8 ![0, 1, 3] bcast_S64x1024x8_S64x1024x1x8_0_1_3 main_v8
  let main_v36 : FVec F S64x1x1024x8 .f32 := broadcastInDim S64x1x1024x8 ![0, 2, 3] bcast_S64x1024x8_S64x1x1024x8_0_2_3 main_v8
  let main_v37 : FVec F S64x1024x1024x8 .f32 := broadcastInDim S64x1024x1024x8 ![0, 1, 2, 3] bcast_S64x1024x1x8_S64x1024x1024x8_0_1_2_3 main_v35
  let main_v38 : FVec F S64x1024x1024x8 .f32 := broadcastInDim S64x1024x1024x8 ![0, 1, 2, 3] bcast_S64x1x1024x8_S64x1024x1024x8_0_1_2_3 main_v36
  let main_v39 : IVec S64x1024x1024x8 1 := cmpf .oeq main_v37 main_v38
  let main_v40 : IVec S64x1024x1024x8 1 := broadcastInDim S64x1024x1024x8 ![0, 1, 2, 3] bcast_S1x1024x1024x1_S64x1024x1024x8_0_1_2_3 main_v34
  let main_v41 : IVec S64x1024x1024x8 1 := andi main_v40 main_v39
  let main_cst_3 : FVec F S_ .f32 := constant S_ .f32 0x00000000#32
  fn_part2 (F := F) main_arg3 main_v6 main_v8 main_v10 main_v22 main_v27 main_v41 main_cst_3

def fn {F : FTy → Type} [FloatOps F] (main_arg0 : FVec F S65536x1024 .f32) (main_arg1 : FVec F S65536x128 .f32) (main_arg2 : FVec F S65536x128 .f32) (main_arg3 : FVec F S64x8x1024 .f32) (main_arg4 : FVec F S512x128 .f32) (main_arg5 : FVec F S8x1024x7168 .f32) (main_arg6 : FVec F S8x3584x1024 .f32) (main_arg7 : FVec F S1024 .f32) (main_arg8 : FVec F S1024 .f32) : IVec S_ 1 :=
  let main_v0 : FVec F S64x8x128 .f32 := shapeCast S64x8x128 main_arg4 shapeCasts_S512x128_S64x8x128
  let main_v1 : FVec F S64x1x8 .f32 := (extractStridedSlice S64x1x8 ![0, 0, 0] · slices_S64x8x128_S64x1x8_0_0_0) main_v0
  let main_v2 : FVec F S64x8 .f32 := shapeCast S64x8 main_v1 shapeCasts_S64x1x8_S64x8
  let main_cst : FVec F S_ .f32 := constant S_ .f32 0x42800000#32
  let main_v3 : FVec F S64x8 .f32 := broadcastInDim S64x8 ![] bcast_S_S64x8 main_cst
  let main_v4 : FVec F S64x8 .f32 := Host.divf main_v2 main_v3
  let main_v5 : FVec F S64x8 .f32 := Host.ceil main_v4
  let main_v6 : IVec S64x8 32 := fptosi 32 main_v5
  let main_v7 : FVec F S64x1024x128 .f32 := shapeCast S64x1024x128 main_arg2 shapeCasts_S65536x128_S64x1024x128
  let main_v8 : FVec F S64x1024x8 .f32 := (extractStridedSlice S64x1024x8 ![0, 0, 0] · slices_S64x1024x128_S64x1024x8_0_0_0) main_v7
  let main_v9 : FVec F S64x1024x128 .f32 := shapeCast S64x1024x128 main_arg1 shapeCasts_S65536x128_S64x1024x128
  let main_v10 : FVec F S64x1024x8 .f32 := (extractStridedSlice S64x1024x8 ![0, 0, 0] · slices_S64x1024x128_S64x1024x8_0_0_0) main_v9
  let main_c : IVec S_ 32 := constantI S_ 32 64#32
  let main_v11 : IVec S64x8 32 := broadcastInDim S64x8 ![] bcast_S_S64x8 main_c
  let main_v12 : IVec S64x8 32 := muli main_v6 main_v11
  let main_v13 : FVec F S64x8 .f32 := sitofp .f32 main_v12
  let main_v14 : FVec F S64x1x8 .f32 := broadcastInDim S64x1x8 ![0, 2] bcast_S64x8_S64x1x8_0_2 main_v13
  let main_v15 : FVec F S64x1024x8 .f32 := Host.floor main_v8
  let main_v16 : IVec S64x1024x8 1 := cmpf .oeq main_v8 main_v15
  let main_cst_0 : FVec F S_ .f32 := constant S_ .f32 0x00000000#32
  let main_v17 : FVec F S64x1024x8 .f32 := broadcastInDim S64x1024x8 ![] bcast_S_S64x1024x8 main_cst_0
  let main_v18 : IVec S64x1024x8 1 := cmpf .oge main_v8 main_v17
  let main_v19 : IVec S64x1024x8 1 := andi main_v16 main_v18
  let main_v20 : FVec F S64x1024x8 .f32 := broadcastInDim S64x1024x8 ![0, 1, 2] bcast_S64x1x8_S64x1024x8_0_1_2 main_v14
  fn_part1 (F := F) main_arg3 main_v6 main_v8 main_v10 main_v19 main_v20
-- ==== Kernel.lean ====
abbrev S65536x1024 : Shape := ⟨2, ![65536, 1024]⟩
abbrev S65536x128 : Shape := ⟨2, ![65536, 128]⟩
abbrev S64x8x1024 : Shape := ⟨3, ![64, 8, 1024]⟩
abbrev S512x128 : Shape := ⟨2, ![512, 128]⟩
abbrev S8x1024x7168 : Shape := ⟨3, ![8, 1024, 7168]⟩
abbrev S8x3584x1024 : Shape := ⟨3, ![8, 3584, 1024]⟩
abbrev S1024 : Shape := ⟨1, ![1024]⟩
abbrev S64x8x128 : Shape := ⟨3, ![64, 8, 128]⟩
abbrev S64x1x8 : Shape := ⟨3, ![64, 1, 8]⟩
abbrev S64x8 : Shape := ⟨2, ![64, 8]⟩
abbrev S_ : Shape := ⟨0, ![]⟩
abbrev S512 : Shape := ⟨1, ![512]⟩
abbrev S1x1024 : Shape := ⟨2, ![1, 1024]⟩
abbrev S1024x1024 : Shape := ⟨2, ![1024, 1024]⟩
abbrev S1024x128 : Shape := ⟨2, ![1024, 128]⟩
abbrev S1x8x1024 : Shape := ⟨3, ![1, 8, 1024]⟩
abbrev S1x1024x896 : Shape := ⟨3, ![1, 1024, 896]⟩
abbrev S1x896x1024 : Shape := ⟨3, ![1, 896, 1024]⟩
abbrev S1 : Shape := ⟨1, ![1]⟩
abbrev S1x128 : Shape := ⟨2, ![1, 128]⟩
abbrev S1x1x1024 : Shape := ⟨3, ![1, 1, 1024]⟩
abbrev S256x1024 : Shape := ⟨2, ![256, 1024]⟩
abbrev S256x128 : Shape := ⟨2, ![256, 128]⟩
abbrev S256 : Shape := ⟨1, ![256]⟩
abbrev S256x1 : Shape := ⟨2, ![256, 1]⟩
abbrev S128x1024 : Shape := ⟨2, ![128, 1024]⟩
abbrev S128x128 : Shape := ⟨2, ![128, 128]⟩
abbrev S128 : Shape := ⟨1, ![128]⟩
abbrev S128x1 : Shape := ⟨2, ![128, 1]⟩
abbrev S64x1024 : Shape := ⟨2, ![64, 1024]⟩
abbrev S64x128 : Shape := ⟨2, ![64, 128]⟩
abbrev S64 : Shape := ⟨1, ![64]⟩
abbrev S64x1 : Shape := ⟨2, ![64, 1]⟩
abbrev S1024x896 : Shape := ⟨2, ![1024, 896]⟩
abbrev S256x896 : Shape := ⟨2, ![256, 896]⟩
abbrev S896x1024 : Shape := ⟨2, ![896, 1024]⟩
abbrev S128x896 : Shape := ⟨2, ![128, 896]⟩
abbrev S64x896 : Shape := ⟨2, ![64, 896]⟩
abbrev S1024x1 : Shape := ⟨2, ![1024, 1]⟩
abbrev S1024x256 : Shape := ⟨2, ![1024, 256]⟩
abbrev S1024x64 : Shape := ⟨2, ![1024, 64]⟩

abbrev nBuf : Space → Nat
  | .hbm => 22
  | .vmem => 22
  | .smem => 1
  | _ => 0

abbrev bufTy : (tb : Table) → Fin (tcTables nBuf tb) → BufTy
  | .hbm, ⟨0, _⟩ => ⟨S65536x1024, .f32⟩
  | .hbm, ⟨1, _⟩ => ⟨S65536x128, .f32⟩
  | .hbm, ⟨2, _⟩ => ⟨S65536x128, .f32⟩
  | .hbm, ⟨3, _⟩ => ⟨S64x8x1024, .f32⟩
  | .hbm, ⟨4, _⟩ => ⟨S512x128, .f32⟩
  | .hbm, ⟨5, _⟩ => ⟨S8x1024x7168, .f32⟩
  | .hbm, ⟨6, _⟩ => ⟨S8x3584x1024, .f32⟩
  | .hbm, ⟨7, _⟩ => ⟨S1024, .f32⟩
  | .hbm, ⟨8, _⟩ => ⟨S1024, .f32⟩
  | .hbm, ⟨9, _⟩ => ⟨S8x1024x7168, .bf16⟩
  | .hbm, ⟨10, _⟩ => ⟨S8x3584x1024, .bf16⟩
  | .hbm, ⟨11, _⟩ => ⟨S64x8x128, .f32⟩
  | .hbm, ⟨12, _⟩ => ⟨S64x1x8, .f32⟩
  | .hbm, ⟨13, _⟩ => ⟨S64x8, .f32⟩
  | .hbm, ⟨14, _⟩ => ⟨S_, .f32⟩
  | .hbm, ⟨15, _⟩ => ⟨S64x8, .f32⟩
  | .hbm, ⟨16, _⟩ => ⟨S64x8, .f32⟩
  | .hbm, ⟨17, _⟩ => ⟨S64x8, .f32⟩
  | .hbm, ⟨18, _⟩ => ⟨S64x8, .i32⟩
  | .hbm, ⟨19, _⟩ => ⟨S1x1024, .f32⟩
  | .hbm, ⟨20, _⟩ => ⟨S1x1024, .f32⟩
  | .hbm, ⟨21, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1x8x1024, .f32⟩
  | .local _ .vmem, ⟨7, _⟩ => ⟨S1x8x1024, .f32⟩
  | .local _ .vmem, ⟨8, _⟩ => ⟨S1x1024x896, .bf16⟩
  | .local _ .vmem, ⟨9, _⟩ => ⟨S1x1024x896, .bf16⟩
  | .local _ .vmem, ⟨10, _⟩ => ⟨S1x1024x896, .bf16⟩
  | .local _ .vmem, ⟨11, _⟩ => ⟨S1x1024x896, .bf16⟩
  | .local _ .vmem, ⟨12, _⟩ => ⟨S1x896x1024, .bf16⟩
  | .local _ .vmem, ⟨13, _⟩ => ⟨S1x896x1024, .bf16⟩
  | .local _ .vmem, ⟨14, _⟩ => ⟨S1x1024, .f32⟩
  | .local _ .vmem, ⟨15, _⟩ => ⟨S1x1024, .f32⟩
  | .local _ .vmem, ⟨16, _⟩ => ⟨S1024x1024, .f32⟩
  | .local _ .vmem, ⟨17, _⟩ => ⟨S1024x1024, .f32⟩
  | .local _ .vmem, ⟨18, _⟩ => ⟨S1024x1024, .bf16⟩
  | .local _ .vmem, ⟨19, _⟩ => ⟨S1024x1024, .bf16⟩
  | .local _ .vmem, ⟨20, _⟩ => ⟨S1024x128, .f32⟩
  | .local _ .vmem, ⟨21, _⟩ => ⟨S1024x1024, .f32⟩
  | .local _ .smem, ⟨0, _⟩ => ⟨S512, .i32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v9 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨3, ![64, 8, 4], ![false, false, false]⟩

abbrev pre0 : Pipeline.Prefetch sig := ⟨1, ![main_v9.idx], fun | 0 => main_v9.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let v2 : Index := Scalar.indexCast v1
  ![v2.toNat]
def k0_cond2 (i : grid0.Coords) : BitVec 1 :=
  let arg2 : BitVec 32 := BitVec.ofNat 32 (i 2).val
  let c0_i32_2 : BitVec 32 := 0#32
  let v10 : BitVec 1 := Scalar.cmpi .eq arg2 c0_i32_2
  let v11 : BitVec 32 := Scalar.extui v10
  let c0_i32_3 : BitVec 32 := 0#32
  let v12 : BitVec 1 := Scalar.cmpi .ne v11 c0_i32_3
  v12

def k0_off2 (i : grid0.Coords) : Fin 3 → Nat :=
  let c0_18 : Index := 0#32
  let arg1 : BitVec 32 := BitVec.ofNat 32 (i 1).val
  let v40 : Index := Scalar.indexCast arg1
  let c0_19 : Index := 0#32
  ![0, v40.toNat, 0]
@[reducible] def k0_t1_loop (v3 : BitVec 32) : Scf.Loop 32 :=
  let c0_i32_22 : BitVec 32 := 0#32
  let c2_i32_20 : BitVec 32 := 2#32
  let v43 : BitVec 32 := Scalar.shrsi v3 c2_i32_20
  let v44 : BitVec 32 := Scalar.subi v43 c0_i32_22
  let c1_i32_23 : BitVec 32 := 1#32
  let v46 : BitVec 32 := Scalar.divsi v44 c1_i32_23
  let v47 : BitVec 32 := Scalar.muli v46 c1_i32_23
  let v48 : BitVec 32 := Scalar.addi c0_i32_22 v47
  let c1_i32_24 : BitVec 32 := 1#32
  ⟨c0_i32_22, v48, c1_i32_24⟩

def k0_mult1 (v3 : BitVec 32) (k0_t1 : Fin (k0_t1_loop v3).trips) : BitVec 32 :=
  let c0_i32_22 : BitVec 32 := 0#32
  let c1_i32_24 : BitVec 32 := 1#32
  let arg18 : BitVec 32 := Scf.iv c0_i32_22 c1_i32_24 k0_t1
  let c256_i32 : BitVec 32 := 256#32
  let v57 : BitVec 32 := Scalar.muli arg18 c256_i32
  v57
def k0_off3 (v3 : BitVec 32) (k0_t1 : Fin (k0_t1_loop v3).trips) : Fin 2 → Nat :=
  let c0_i32_22 : BitVec 32 := 0#32
  let c1_i32_24 : BitVec 32 := 1#32
  let arg18 : BitVec 32 := Scf.iv c0_i32_22 c1_i32_24 k0_t1
  let c256_i32 : BitVec 32 := 256#32
  let v57 : BitVec 32 := Scalar.muli arg18 c256_i32
  let v58 : BitVec 32 := v57
  let v72 : Index := Scalar.indexCast v58
  let c0_36 : Index := 0#32
  ![v72.toNat, 0]
def k0_off4 (v3 : BitVec 32) (k0_t1 : Fin (k0_t1_loop v3).trips) : Fin 2 → Nat :=
  let c0_i32_22 : BitVec 32 := 0#32
  let c1_i32_24 : BitVec 32 := 1#32
  let arg18 : BitVec 32 := Scf.iv c0_i32_22 c1_i32_24 k0_t1
  let c256_i32 : BitVec 32 := 256#32
  let v57 : BitVec 32 := Scalar.muli arg18 c256_i32
  let v58 : BitVec 32 := v57
  let v89 : Index := Scalar.indexCast v58
  let c0_41 : Index := 0#32
  ![v89.toNat, 0]
@[reducible] def k0_t2_loop (v3 : BitVec 32) : Scf.Loop 32 :=
  let c0_i32_22 : BitVec 32 := 0#32
  let c2_i32_20 : BitVec 32 := 2#32
  let v43 : BitVec 32 := Scalar.shrsi v3 c2_i32_20
  let v44 : BitVec 32 := Scalar.subi v43 c0_i32_22
  let c1_i32_23 : BitVec 32 := 1#32
  let v46 : BitVec 32 := Scalar.divsi v44 c1_i32_23
  let v47 : BitVec 32 := Scalar.muli v46 c1_i32_23
  let v48 : BitVec 32 := Scalar.addi c0_i32_22 v47
  let v45 : BitVec 32 := Scalar.addi c0_i32_22 v44
  let c1_i32_25 : BitVec 32 := 1#32
  ⟨v48, v45, c1_i32_25⟩
def k0_mult2 (v3 : BitVec 32) (k0_t2 : Fin (k0_t2_loop v3).trips) : BitVec 32 :=
  let c0_i32_22 : BitVec 32 := 0#32
  let c2_i32_20 : BitVec 32 := 2#32
  let v43 : BitVec 32 := Scalar.shrsi v3 c2_i32_20
  let v44 : BitVec 32 := Scalar.subi v43 c0_i32_22
  let c1_i32_23 : BitVec 32 := 1#32
  let v46 : BitVec 32 := Scalar.divsi v44 c1_i32_23
  let v47 : BitVec 32 := Scalar.muli v46 c1_i32_23
  let v48 : BitVec 32 := Scalar.addi c0_i32_22 v47
  let c1_i32_25 : BitVec 32 := 1#32
  let arg18 : BitVec 32 := Scf.iv v48 c1_i32_25 k0_t2
  let c256_i32 : BitVec 32 := 256#32
  let v57 : BitVec 32 := Scalar.muli arg18 c256_i32
  v57
def k0_off5 (v3 : BitVec 32) (k0_t2 : Fin (k0_t2_loop v3).trips) : Fin 2 → Nat :=
  let c0_i32_22 : BitVec 32 := 0#32
  let c2_i32_20 : BitVec 32 := 2#32
  let v43 : BitVec 32 := Scalar.shrsi v3 c2_i32_20
  let v44 : BitVec 32 := Scalar.subi v43 c0_i32_22
  let c1_i32_23 : BitVec 32 := 1#32
  let v46 : BitVec 32 := Scalar.divsi v44 c1_i32_23
  let v47 : BitVec 32 := Scalar.muli v46 c1_i32_23
  let v48 : BitVec 32 := Scalar.addi c0_i32_22 v47
  let c1_i32_25 : BitVec 32 := 1#32
  let arg18 : BitVec 32 := Scf.iv v48 c1_i32_25 k0_t2
  let c256_i32 : BitVec 32 := 256#32
  let v57 : BitVec 32 := Scalar.muli arg18 c256_i32
  let v58 : BitVec 32 := v57
  let v72 : Index := Scalar.indexCast v58
  let c0_36 : Index := 0#32
  ![v72.toNat, 0]
def k0_off6 (v3 : BitVec 32) (k0_t2 : Fin (k0_t2_loop v3).trips) : Fin 2 → Nat :=
  let c0_i32_22 : BitVec 32 := 0#32
  let c2_i32_20 : BitVec 32 := 2#32
  let v43 : BitVec 32 := Scalar.shrsi v3 c2_i32_20
  let v44 : BitVec 32 := Scalar.subi v43 c0_i32_22
  let c1_i32_23 : BitVec 32 := 1#32
  let v46 : BitVec 32 := Scalar.divsi v44 c1_i32_23
  let v47 : BitVec 32 := Scalar.muli v46 c1_i32_23
  let v48 : BitVec 32 := Scalar.addi c0_i32_22 v47
  let c1_i32_25 : BitVec 32 := 1#32
  let arg18 : BitVec 32 := Scf.iv v48 c1_i32_25 k0_t2
  let c256_i32 : BitVec 32 := 256#32
  let v57 : BitVec 32 := Scalar.muli arg18 c256_i32
  let v58 : BitVec 32 := v57
  let v89 : Index := Scalar.indexCast v58
  let c0_41 : Index := 0#32
  ![v89.toNat, 0]
def k0_mult3 (v3 : BitVec 32) : BitVec 32 :=
  let c2_i32_20 : BitVec 32 := 2#32
  let v43 : BitVec 32 := Scalar.shrsi v3 c2_i32_20
  let c256_i32 : BitVec 32 := 256#32
  let v57 : BitVec 32 := Scalar.muli v43 c256_i32
  v57
def k0_cond3 (v3 : BitVec 32) : BitVec 1 :=
  let c2_i32_26 : BitVec 32 := 2#32
  let v49 : BitVec 32 := Scalar.andi v3 c2_i32_26
  let c0_i32_27 : BitVec 32 := 0#32
  let v50 : BitVec 1 := Scalar.cmpi .ne v49 c0_i32_27
  let v51 : BitVec 32 := Scalar.extui v50
  let c0_i32_28 : BitVec 32 := 0#32
  let v52 : BitVec 1 := Scalar.cmpi .ne v51 c0_i32_28
  v52

def k0_off7 (v3 : BitVec 32) : Fin 2 → Nat :=
  let c2_i32_20 : BitVec 32 := 2#32
  let v43 : BitVec 32 := Scalar.shrsi v3 c2_i32_20
  let c256_i32 : BitVec 32 := 256#32
  let v57 : BitVec 32 := Scalar.muli v43 c256_i32
  let v58 : BitVec 32 := v57
  let v72 : Index := Scalar.indexCast v58
  let c0_36 : Index := 0#32
  ![v72.toNat, 0]
def k0_off8 (v3 : BitVec 32) : Fin 2 → Nat :=
  let c2_i32_20 : BitVec 32 := 2#32
  let v43 : BitVec 32 := Scalar.shrsi v3 c2_i32_20
  let c256_i32 : BitVec 32 := 256#32
  let v57 : BitVec 32 := Scalar.muli v43 c256_i32
  let v58 : BitVec 32 := v57
  let v89 : Index := Scalar.indexCast v58
  let c0_41 : Index := 0#32
  ![v89.toNat, 0]
def k0_mult4 (v3 : BitVec 32) : BitVec 32 :=
  let c1_i32_32 : BitVec 32 := 1#32
  let v57 : BitVec 32 := Scalar.subi v3 c1_i32_32
  let c64_i32 : BitVec 32 := 64#32
  let v58 : BitVec 32 := Scalar.muli v57 c64_i32
  v58
def k0_cond4 (v3 : BitVec 32) : BitVec 1 :=
  let c1_i32_29 : BitVec 32 := 1#32
  let v53 : BitVec 32 := Scalar.andi v3 c1_i32_29
  let c0_i32_30 : BitVec 32 := 0#32
  let v54 : BitVec 1 := Scalar.cmpi .ne v53 c0_i32_30
  let v55 : BitVec 32 := Scalar.extui v54
  let c0_i32_31 : BitVec 32 := 0#32
  let v56 : BitVec 1 := Scalar.cmpi .ne v55 c0_i32_31
  v56

def k0_off9 (v3 : BitVec 32) : Fin 2 → Nat :=
  let c1_i32_32 : BitVec 32 := 1#32
  let v57 : BitVec 32 := Scalar.subi v3 c1_i32_32
  let c64_i32 : BitVec 32 := 64#32
  let v58 : BitVec 32 := Scalar.muli v57 c64_i32
  let v59 : BitVec 32 := v58
  let v73 : Index := Scalar.indexCast v59
  let c0_37 : Index := 0#32
  ![v73.toNat, 0]
def k0_off10 (v3 : BitVec 32) : Fin 2 → Nat :=
  let c1_i32_32 : BitVec 32 := 1#32
  let v57 : BitVec 32 := Scalar.subi v3 c1_i32_32
  let c64_i32 : BitVec 32 := 64#32
  let v58 : BitVec 32 := Scalar.muli v57 c64_i32
  let v59 : BitVec 32 := v58
  let v90 : Index := Scalar.indexCast v59
  let c0_42 : Index := 0#32
  ![v90.toNat, 0]
@[reducible] def k0_t3_loop (v3 : BitVec 32) : Scf.Loop 32 :=
  let c0_i32_5 : BitVec 32 := 0#32
  let c2_i32 : BitVec 32 := 2#32
  let v13 : BitVec 32 := Scalar.shrsi v3 c2_i32
  let v14 : BitVec 32 := Scalar.subi v13 c0_i32_5
  let c1_i32 : BitVec 32 := 1#32
  let v16 : BitVec 32 := Scalar.divsi v14 c1_i32
  let v17 : BitVec 32 := Scalar.muli v16 c1_i32
  let v18 : BitVec 32 := Scalar.addi c0_i32_5 v17
  let c1_i32_6 : BitVec 32 := 1#32
  ⟨c0_i32_5, v18, c1_i32_6⟩
def k0_mult5 (v3 : BitVec 32) (k0_t3 : Fin (k0_t3_loop v3).trips) : BitVec 32 :=
  let c0_i32_5 : BitVec 32 := 0#32
  let c1_i32_6 : BitVec 32 := 1#32
  let arg18 : BitVec 32 := Scf.iv c0_i32_5 c1_i32_6 k0_t3
  let c256_i32 : BitVec 32 := 256#32
  let v35 : BitVec 32 := Scalar.muli arg18 c256_i32
  v35
def k0_off11 (v3 : BitVec 32) (k0_t3 : Fin (k0_t3_loop v3).trips) : Fin 2 → Nat :=
  let c0_i32_5 : BitVec 32 := 0#32
  let c1_i32_6 : BitVec 32 := 1#32
  let arg18 : BitVec 32 := Scf.iv c0_i32_5 c1_i32_6 k0_t3
  let c256_i32 : BitVec 32 := 256#32
  let v35 : BitVec 32 := Scalar.muli arg18 c256_i32
  let v36 : BitVec 32 := v35
  let v37 : Index := Scalar.indexCast v36
  let c0 : Index := 0#32
  ![v37.toNat, 0]
def k0_off12 (v3 : BitVec 32) (k0_t3 : Fin (k0_t3_loop v3).trips) : Fin 2 → Nat :=
  let c0_i32_5 : BitVec 32 := 0#32
  let c1_i32_6 : BitVec 32 := 1#32
  let arg18 : BitVec 32 := Scf.iv c0_i32_5 c1_i32_6 k0_t3
  let c256_i32 : BitVec 32 := 256#32
  let v35 : BitVec 32 := Scalar.muli arg18 c256_i32
  let v36 : BitVec 32 := v35
  let v48 : Index := Scalar.indexCast v36
  let c0_24 : Index := 0#32
  ![v48.toNat, 0]
def k0_cond5 (i : grid0.Coords) : BitVec 1 :=
  let arg2 : BitVec 32 := BitVec.ofNat 32 (i 2).val
  let c0_i32_29 : BitVec 32 := 0#32
  let v56 : BitVec 1 := Scalar.cmpi .eq arg2 c0_i32_29
  let v57 : BitVec 32 := Scalar.extui v56
  let c0_i32_30 : BitVec 32 := 0#32
  let v58 : BitVec 1 := Scalar.cmpi .ne v57 c0_i32_30
  v58

def k0_off13 (v3 : BitVec 32) (k0_t3 : Fin (k0_t3_loop v3).trips) : Fin 2 → Nat :=
  let c0_i32_5 : BitVec 32 := 0#32
  let c1_i32_6 : BitVec 32 := 1#32
  let arg18 : BitVec 32 := Scf.iv c0_i32_5 c1_i32_6 k0_t3
  let c256_i32 : BitVec 32 := 256#32
  let v35 : BitVec 32 := Scalar.muli arg18 c256_i32
  let v36 : BitVec 32 := v35
  let v62 : Index := Scalar.indexCast v36
  let c0_33 : Index := 0#32
  ![v62.toNat, 0]
def k0_cond6 (i : grid0.Coords) : BitVec 1 :=
  let arg2 : BitVec 32 := BitVec.ofNat 32 (i 2).val
  let c0_i32_31 : BitVec 32 := 0#32
  let v59 : BitVec 1 := Scalar.cmpi .sgt arg2 c0_i32_31
  let v60 : BitVec 32 := Scalar.extui v59
  let c0_i32_32 : BitVec 32 := 0#32
  let v61 : BitVec 1 := Scalar.cmpi .ne v60 c0_i32_32
  v61

def k0_off14 (v3 : BitVec 32) (k0_t3 : Fin (k0_t3_loop v3).trips) : Fin 2 → Nat :=
  let c0_i32_5 : BitVec 32 := 0#32
  let c1_i32_6 : BitVec 32 := 1#32
  let arg18 : BitVec 32 := Scf.iv c0_i32_5 c1_i32_6 k0_t3
  let c256_i32 : BitVec 32 := 256#32
  let v35 : BitVec 32 := Scalar.muli arg18 c256_i32
  let v36 : BitVec 32 := v35
  let v62 : Index := Scalar.indexCast v36
  let c0_33 : Index := 0#32
  ![v62.toNat, 0]
@[reducible] def k0_t4_loop (v3 : BitVec 32) : Scf.Loop 32 :=
  let c0_i32_5 : BitVec 32 := 0#32
  let c2_i32 : BitVec 32 := 2#32
  let v13 : BitVec 32 := Scalar.shrsi v3 c2_i32
  let v14 : BitVec 32 := Scalar.subi v13 c0_i32_5
  let c1_i32 : BitVec 32 := 1#32
  let v16 : BitVec 32 := Scalar.divsi v14 c1_i32
  let v17 : BitVec 32 := Scalar.muli v16 c1_i32
  let v18 : BitVec 32 := Scalar.addi c0_i32_5 v17
  let v15 : BitVec 32 := Scalar.addi c0_i32_5 v14
  let c1_i32_7 : BitVec 32 := 1#32
  ⟨v18, v15, c1_i32_7⟩
def k0_mult6 (v3 : BitVec 32) (k0_t4 : Fin (k0_t4_loop v3).trips) : BitVec 32 :=
  let c0_i32_5 : BitVec 32 := 0#32
  let c2_i32 : BitVec 32 := 2#32
  let v13 : BitVec 32 := Scalar.shrsi v3 c2_i32
  let v14 : BitVec 32 := Scalar.subi v13 c0_i32_5
  let c1_i32 : BitVec 32 := 1#32
  let v16 : BitVec 32 := Scalar.divsi v14 c1_i32
  let v17 : BitVec 32 := Scalar.muli v16 c1_i32
  let v18 : BitVec 32 := Scalar.addi c0_i32_5 v17
  let c1_i32_7 : BitVec 32 := 1#32
  let arg18 : BitVec 32 := Scf.iv v18 c1_i32_7 k0_t4
  let c256_i32 : BitVec 32 := 256#32
  let v35 : BitVec 32 := Scalar.muli arg18 c256_i32
  v35
def k0_off15 (v3 : BitVec 32) (k0_t4 : Fin (k0_t4_loop v3).trips) : Fin 2 → Nat :=
  let c0_i32_5 : BitVec 32 := 0#32
  let c2_i32 : BitVec 32 := 2#32
  let v13 : BitVec 32 := Scalar.shrsi v3 c2_i32
  let v14 : BitVec 32 := Scalar.subi v13 c0_i32_5
  let c1_i32 : BitVec 32 := 1#32
  let v16 : BitVec 32 := Scalar.divsi v14 c1_i32
  let v17 : BitVec 32 := Scalar.muli v16 c1_i32
  let v18 : BitVec 32 := Scalar.addi c0_i32_5 v17
  let c1_i32_7 : BitVec 32 := 1#32
  let arg18 : BitVec 32 := Scf.iv v18 c1_i32_7 k0_t4
  let c256_i32 : BitVec 32 := 256#32
  let v35 : BitVec 32 := Scalar.muli arg18 c256_i32
  let v36 : BitVec 32 := v35
  let v37 : Index := Scalar.indexCast v36
  let c0 : Index := 0#32
  ![v37.toNat, 0]
def k0_off16 (v3 : BitVec 32) (k0_t4 : Fin (k0_t4_loop v3).trips) : Fin 2 → Nat :=
  let c0_i32_5 : BitVec 32 := 0#32
  let c2_i32 : BitVec 32 := 2#32
  let v13 : BitVec 32 := Scalar.shrsi v3 c2_i32
  let v14 : BitVec 32 := Scalar.subi v13 c0_i32_5
  let c1_i32 : BitVec 32 := 1#32
  let v16 : BitVec 32 := Scalar.divsi v14 c1_i32
  let v17 : BitVec 32 := Scalar.muli v16 c1_i32
  let v18 : BitVec 32 := Scalar.addi c0_i32_5 v17
  let c1_i32_7 : BitVec 32 := 1#32
  let arg18 : BitVec 32 := Scf.iv v18 c1_i32_7 k0_t4
  let c256_i32 : BitVec 32 := 256#32
  let v35 : BitVec 32 := Scalar.muli arg18 c256_i32
  let v36 : BitVec 32 := v35
  let v48 : Index := Scalar.indexCast v36
  let c0_24 : Index := 0#32
  ![v48.toNat, 0]
def k0_cond7 (i : grid0.Coords) : BitVec 1 :=
  let arg2 : BitVec 32 := BitVec.ofNat 32 (i 2).val
  let c0_i32_29 : BitVec 32 := 0#32
  let v56 : BitVec 1 := Scalar.cmpi .eq arg2 c0_i32_29
  let v57 : BitVec 32 := Scalar.extui v56
  let c0_i32_30 : BitVec 32 := 0#32
  let v58 : BitVec 1 := Scalar.cmpi .ne v57 c0_i32_30
  v58

def k0_off17 (v3 : BitVec 32) (k0_t4 : Fin (k0_t4_loop v3).trips) : Fin 2 → Nat :=
  let c0_i32_5 : BitVec 32 := 0#32
  let c2_i32 : BitVec 32 := 2#32
  let v13 : BitVec 32 := Scalar.shrsi v3 c2_i32
  let v14 : BitVec 32 := Scalar.subi v13 c0_i32_5
  let c1_i32 : BitVec 32 := 1#32
  let v16 : BitVec 32 := Scalar.divsi v14 c1_i32
  let v17 : BitVec 32 := Scalar.muli v16 c1_i32
  let v18 : BitVec 32 := Scalar.addi c0_i32_5 v17
  let c1_i32_7 : BitVec 32 := 1#32
  let arg18 : BitVec 32 := Scf.iv v18 c1_i32_7 k0_t4
  let c256_i32 : BitVec 32 := 256#32
  let v35 : BitVec 32 := Scalar.muli arg18 c256_i32
  let v36 : BitVec 32 := v35
  let v62 : Index := Scalar.indexCast v36
  let c0_33 : Index := 0#32
  ![v62.toNat, 0]
def k0_cond8 (i : grid0.Coords) : BitVec 1 :=
  let arg2 : BitVec 32 := BitVec.ofNat 32 (i 2).val
  let c0_i32_31 : BitVec 32 := 0#32
  let v59 : BitVec 1 := Scalar.cmpi .sgt arg2 c0_i32_31
  let v60 : BitVec 32 := Scalar.extui v59
  let c0_i32_32 : BitVec 32 := 0#32
  let v61 : BitVec 1 := Scalar.cmpi .ne v60 c0_i32_32
  v61

def k0_off18 (v3 : BitVec 32) (k0_t4 : Fin (k0_t4_loop v3).trips) : Fin 2 → Nat :=
  let c0_i32_5 : BitVec 32 := 0#32
  let c2_i32 : BitVec 32 := 2#32
  let v13 : BitVec 32 := Scalar.shrsi v3 c2_i32
  let v14 : BitVec 32 := Scalar.subi v13 c0_i32_5
  let c1_i32 : BitVec 32 := 1#32
  let v16 : BitVec 32 := Scalar.divsi v14 c1_i32
  let v17 : BitVec 32 := Scalar.muli v16 c1_i32
  let v18 : BitVec 32 := Scalar.addi c0_i32_5 v17
  let c1_i32_7 : BitVec 32 := 1#32
  let arg18 : BitVec 32 := Scf.iv v18 c1_i32_7 k0_t4
  let c256_i32 : BitVec 32 := 256#32
  let v35 : BitVec 32 := Scalar.muli arg18 c256_i32
  let v36 : BitVec 32 := v35
  let v62 : Index := Scalar.indexCast v36
  let c0_33 : Index := 0#32
  ![v62.toNat, 0]
def k0_mult7 (v3 : BitVec 32) : BitVec 32 :=
  let c2_i32 : BitVec 32 := 2#32
  let v13 : BitVec 32 := Scalar.shrsi v3 c2_i32
  let c256_i32 : BitVec 32 := 256#32
  let v35 : BitVec 32 := Scalar.muli v13 c256_i32
  v35
def k0_cond9 (v3 : BitVec 32) : BitVec 1 :=
  let c2_i32_8 : BitVec 32 := 2#32
  let v19 : BitVec 32 := Scalar.andi v3 c2_i32_8
  let c0_i32_9 : BitVec 32 := 0#32
  let v20 : BitVec 1 := Scalar.cmpi .ne v19 c0_i32_9
  let v21 : BitVec 32 := Scalar.extui v20
  let c0_i32_10 : BitVec 32 := 0#32
  let v22 : BitVec 1 := Scalar.cmpi .ne v21 c0_i32_10
  v22

def k0_off19 (v3 : BitVec 32) : Fin 2 → Nat :=
  let c2_i32 : BitVec 32 := 2#32
  let v13 : BitVec 32 := Scalar.shrsi v3 c2_i32
  let c256_i32 : BitVec 32 := 256#32
  let v35 : BitVec 32 := Scalar.muli v13 c256_i32
  let v36 : BitVec 32 := v35
  let v37 : Index := Scalar.indexCast v36
  let c0 : Index := 0#32
  ![v37.toNat, 0]
def k0_off20 (v3 : BitVec 32) : Fin 2 → Nat :=
  let c2_i32 : BitVec 32 := 2#32
  let v13 : BitVec 32 := Scalar.shrsi v3 c2_i32
  let c256_i32 : BitVec 32 := 256#32
  let v35 : BitVec 32 := Scalar.muli v13 c256_i32
  let v36 : BitVec 32 := v35
  let v48 : Index := Scalar.indexCast v36
  let c0_24 : Index := 0#32
  ![v48.toNat, 0]
def k0_cond10 (i : grid0.Coords) : BitVec 1 :=
  let arg2 : BitVec 32 := BitVec.ofNat 32 (i 2).val
  let c0_i32_29 : BitVec 32 := 0#32
  let v56 : BitVec 1 := Scalar.cmpi .eq arg2 c0_i32_29
  let v57 : BitVec 32 := Scalar.extui v56
  let c0_i32_30 : BitVec 32 := 0#32
  let v58 : BitVec 1 := Scalar.cmpi .ne v57 c0_i32_30
  v58

def k0_off21 (v3 : BitVec 32) : Fin 2 → Nat :=
  let c2_i32 : BitVec 32 := 2#32
  let v13 : BitVec 32 := Scalar.shrsi v3 c2_i32
  let c256_i32 : BitVec 32 := 256#32
  let v35 : BitVec 32 := Scalar.muli v13 c256_i32
  let v36 : BitVec 32 := v35
  let v62 : Index := Scalar.indexCast v36
  let c0_33 : Index := 0#32
  ![v62.toNat, 0]
def k0_cond11 (i : grid0.Coords) : BitVec 1 :=
  let arg2 : BitVec 32 := BitVec.ofNat 32 (i 2).val
  let c0_i32_31 : BitVec 32 := 0#32
  let v59 : BitVec 1 := Scalar.cmpi .sgt arg2 c0_i32_31
  let v60 : BitVec 32 := Scalar.extui v59
  let c0_i32_32 : BitVec 32 := 0#32
  let v61 : BitVec 1 := Scalar.cmpi .ne v60 c0_i32_32
  v61

def k0_off22 (v3 : BitVec 32) : Fin 2 → Nat :=
  let c2_i32 : BitVec 32 := 2#32
  let v13 : BitVec 32 := Scalar.shrsi v3 c2_i32
  let c256_i32 : BitVec 32 := 256#32
  let v35 : BitVec 32 := Scalar.muli v13 c256_i32
  let v36 : BitVec 32 := v35
  let v62 : Index := Scalar.indexCast v36
  let c0_33 : Index := 0#32
  ![v62.toNat, 0]
def k0_mult8 (v3 : BitVec 32) : BitVec 32 :=
  let c1_i32_17 : BitVec 32 := 1#32
  let v35 : BitVec 32 := Scalar.subi v3 c1_i32_17
  let c64_i32 : BitVec 32 := 64#32
  let v36 : BitVec 32 := Scalar.muli v35 c64_i32
  v36
def k0_cond12 (v3 : BitVec 32) : BitVec 1 :=
  let c1_i32_11 : BitVec 32 := 1#32
  let v23 : BitVec 32 := Scalar.andi v3 c1_i32_11
  let c0_i32_12 : BitVec 32 := 0#32
  let v24 : BitVec 1 := Scalar.cmpi .ne v23 c0_i32_12
  let v25 : BitVec 32 := Scalar.extui v24
  let c0_i32_13 : BitVec 32 := 0#32
  let v26 : BitVec 1 := Scalar.cmpi .ne v25 c0_i32_13
  v26

def k0_off23 (v3 : BitVec 32) : Fin 2 → Nat :=
  let c1_i32_17 : BitVec 32 := 1#32
  let v35 : BitVec 32 := Scalar.subi v3 c1_i32_17
  let c64_i32 : BitVec 32 := 64#32
  let v36 : BitVec 32 := Scalar.muli v35 c64_i32
  let v37 : BitVec 32 := v36
  let v38 : Index := Scalar.indexCast v37
  let c0 : Index := 0#32
  ![v38.toNat, 0]
def k0_off24 (v3 : BitVec 32) : Fin 2 → Nat :=
  let c1_i32_17 : BitVec 32 := 1#32
  let v35 : BitVec 32 := Scalar.subi v3 c1_i32_17
  let c64_i32 : BitVec 32 := 64#32
  let v36 : BitVec 32 := Scalar.muli v35 c64_i32
  let v37 : BitVec 32 := v36
  let v49 : Index := Scalar.indexCast v37
  let c0_25 : Index := 0#32
  ![v49.toNat, 0]
def k0_cond13 (i : grid0.Coords) : BitVec 1 :=
  let arg2 : BitVec 32 := BitVec.ofNat 32 (i 2).val
  let c0_i32_30 : BitVec 32 := 0#32
  let v57 : BitVec 1 := Scalar.cmpi .eq arg2 c0_i32_30
  let v58 : BitVec 32 := Scalar.extui v57
  let c0_i32_31 : BitVec 32 := 0#32
  let v59 : BitVec 1 := Scalar.cmpi .ne v58 c0_i32_31
  v59

def k0_off25 (v3 : BitVec 32) : Fin 2 → Nat :=
  let c1_i32_17 : BitVec 32 := 1#32
  let v35 : BitVec 32 := Scalar.subi v3 c1_i32_17
  let c64_i32 : BitVec 32 := 64#32
  let v36 : BitVec 32 := Scalar.muli v35 c64_i32
  let v37 : BitVec 32 := v36
  let v63 : Index := Scalar.indexCast v37
  let c0_34 : Index := 0#32
  ![v63.toNat, 0]
def k0_cond14 (i : grid0.Coords) : BitVec 1 :=
  let arg2 : BitVec 32 := BitVec.ofNat 32 (i 2).val
  let c0_i32_32 : BitVec 32 := 0#32
  let v60 : BitVec 1 := Scalar.cmpi .sgt arg2 c0_i32_32
  let v61 : BitVec 32 := Scalar.extui v60
  let c0_i32_33 : BitVec 32 := 0#32
  let v62 : BitVec 1 := Scalar.cmpi .ne v61 c0_i32_33
  v62

def k0_off26 (v3 : BitVec 32) : Fin 2 → Nat :=
  let c1_i32_17 : BitVec 32 := 1#32
  let v35 : BitVec 32 := Scalar.subi v3 c1_i32_17
  let c64_i32 : BitVec 32 := 64#32
  let v36 : BitVec 32 := Scalar.muli v35 c64_i32
  let v37 : BitVec 32 := v36
  let v63 : Index := Scalar.indexCast v37
  let c0_34 : Index := 0#32
  ![v63.toNat, 0]
def k0_cond15 (i : grid0.Coords) : BitVec 1 :=
  let arg2 : BitVec 32 := BitVec.ofNat 32 (i 2).val
  let c3_i32 : BitVec 32 := 3#32
  let v27 : BitVec 1 := Scalar.cmpi .eq arg2 c3_i32
  let v28 : BitVec 32 := Scalar.extui v27
  let c0_i32_14 : BitVec 32 := 0#32
  let v29 : BitVec 1 := Scalar.cmpi .ne v28 c0_i32_14
  v29

@[reducible] def k0_t5_loop (v3 : BitVec 32) : Scf.Loop 32 :=
  let c0_i32_21 : BitVec 32 := 0#32
  let c2_i32_19 : BitVec 32 := 2#32
  let v44 : BitVec 32 := Scalar.shrsi v3 c2_i32_19
  let v45 : BitVec 32 := Scalar.subi v44 c0_i32_21
  let c1_i32_22 : BitVec 32 := 1#32
  let v47 : BitVec 32 := Scalar.divsi v45 c1_i32_22
  let v48 : BitVec 32 := Scalar.muli v47 c1_i32_22
  let v49 : BitVec 32 := Scalar.addi c0_i32_21 v48
  let c1_i32_23 : BitVec 32 := 1#32
  ⟨c0_i32_21, v49, c1_i32_23⟩
def k0_mult9 (v3 : BitVec 32) (k0_t5 : Fin (k0_t5_loop v3).trips) : BitVec 32 :=
  let c0_i32_21 : BitVec 32 := 0#32
  let c1_i32_23 : BitVec 32 := 1#32
  let arg18 : BitVec 32 := Scf.iv c0_i32_21 c1_i32_23 k0_t5
  let c256_i32 : BitVec 32 := 256#32
  let v58 : BitVec 32 := Scalar.muli arg18 c256_i32
  v58
def k0_off27 (v3 : BitVec 32) (k0_t5 : Fin (k0_t5_loop v3).trips) : Fin 2 → Nat :=
  let c0_i32_21 : BitVec 32 := 0#32
  let c1_i32_23 : BitVec 32 := 1#32
  let arg18 : BitVec 32 := Scf.iv c0_i32_21 c1_i32_23 k0_t5
  let c256_i32 : BitVec 32 := 256#32
  let v58 : BitVec 32 := Scalar.muli arg18 c256_i32
  let v59 : BitVec 32 := v58
  let v72 : Index := Scalar.indexCast v59
  let c0_35 : Index := 0#32
  ![v72.toNat, 0]
@[reducible] def k0_t6_loop (v3 : BitVec 32) : Scf.Loop 32 :=
  let c0_i32_21 : BitVec 32 := 0#32
  let c2_i32_19 : BitVec 32 := 2#32
  let v44 : BitVec 32 := Scalar.shrsi v3 c2_i32_19
  let v45 : BitVec 32 := Scalar.subi v44 c0_i32_21
  let c1_i32_22 : BitVec 32 := 1#32
  let v47 : BitVec 32 := Scalar.divsi v45 c1_i32_22
  let v48 : BitVec 32 := Scalar.muli v47 c1_i32_22
  let v49 : BitVec 32 := Scalar.addi c0_i32_21 v48
  let v46 : BitVec 32 := Scalar.addi c0_i32_21 v45
  let c1_i32_24 : BitVec 32 := 1#32
  ⟨v49, v46, c1_i32_24⟩
def k0_mult10 (v3 : BitVec 32) (k0_t6 : Fin (k0_t6_loop v3).trips) : BitVec 32 :=
  let c0_i32_21 : BitVec 32 := 0#32
  let c2_i32_19 : BitVec 32 := 2#32
  let v44 : BitVec 32 := Scalar.shrsi v3 c2_i32_19
  let v45 : BitVec 32 := Scalar.subi v44 c0_i32_21
  let c1_i32_22 : BitVec 32 := 1#32
  let v47 : BitVec 32 := Scalar.divsi v45 c1_i32_22
  let v48 : BitVec 32 := Scalar.muli v47 c1_i32_22
  let v49 : BitVec 32 := Scalar.addi c0_i32_21 v48
  let c1_i32_24 : BitVec 32 := 1#32
  let arg18 : BitVec 32 := Scf.iv v49 c1_i32_24 k0_t6
  let c256_i32 : BitVec 32 := 256#32
  let v58 : BitVec 32 := Scalar.muli arg18 c256_i32
  v58
def k0_off28 (v3 : BitVec 32) (k0_t6 : Fin (k0_t6_loop v3).trips) : Fin 2 → Nat :=
  let c0_i32_21 : BitVec 32 := 0#32
  let c2_i32_19 : BitVec 32 := 2#32
  let v44 : BitVec 32 := Scalar.shrsi v3 c2_i32_19
  let v45 : BitVec 32 := Scalar.subi v44 c0_i32_21
  let c1_i32_22 : BitVec 32 := 1#32
  let v47 : BitVec 32 := Scalar.divsi v45 c1_i32_22
  let v48 : BitVec 32 := Scalar.muli v47 c1_i32_22
  let v49 : BitVec 32 := Scalar.addi c0_i32_21 v48
  let c1_i32_24 : BitVec 32 := 1#32
  let arg18 : BitVec 32 := Scf.iv v49 c1_i32_24 k0_t6
  let c256_i32 : BitVec 32 := 256#32
  let v58 : BitVec 32 := Scalar.muli arg18 c256_i32
  let v59 : BitVec 32 := v58
  let v72 : Index := Scalar.indexCast v59
  let c0_35 : Index := 0#32
  ![v72.toNat, 0]
def k0_mult11 (v3 : BitVec 32) : BitVec 32 :=
  let c2_i32_19 : BitVec 32 := 2#32
  let v44 : BitVec 32 := Scalar.shrsi v3 c2_i32_19
  let c256_i32 : BitVec 32 := 256#32
  let v58 : BitVec 32 := Scalar.muli v44 c256_i32
  v58
def k0_cond16 (v3 : BitVec 32) : BitVec 1 :=
  let c2_i32_25 : BitVec 32 := 2#32
  let v50 : BitVec 32 := Scalar.andi v3 c2_i32_25
  let c0_i32_26 : BitVec 32 := 0#32
  let v51 : BitVec 1 := Scalar.cmpi .ne v50 c0_i32_26
  let v52 : BitVec 32 := Scalar.extui v51
  let c0_i32_27 : BitVec 32 := 0#32
  let v53 : BitVec 1 := Scalar.cmpi .ne v52 c0_i32_27
  v53

def k0_off29 (v3 : BitVec 32) : Fin 2 → Nat :=
  let c2_i32_19 : BitVec 32 := 2#32
  let v44 : BitVec 32 := Scalar.shrsi v3 c2_i32_19
  let c256_i32 : BitVec 32 := 256#32
  let v58 : BitVec 32 := Scalar.muli v44 c256_i32
  let v59 : BitVec 32 := v58
  let v72 : Index := Scalar.indexCast v59
  let c0_35 : Index := 0#32
  ![v72.toNat, 0]
def k0_mult12 (v3 : BitVec 32) : BitVec 32 :=
  let c1_i32_31 : BitVec 32 := 1#32
  let v58 : BitVec 32 := Scalar.subi v3 c1_i32_31
  let c64_i32 : BitVec 32 := 64#32
  let v59 : BitVec 32 := Scalar.muli v58 c64_i32
  v59
def k0_cond17 (v3 : BitVec 32) : BitVec 1 :=
  let c1_i32_28 : BitVec 32 := 1#32
  let v54 : BitVec 32 := Scalar.andi v3 c1_i32_28
  let c0_i32_29 : BitVec 32 := 0#32
  let v55 : BitVec 1 := Scalar.cmpi .ne v54 c0_i32_29
  let v56 : BitVec 32 := Scalar.extui v55
  let c0_i32_30 : BitVec 32 := 0#32
  let v57 : BitVec 1 := Scalar.cmpi .ne v56 c0_i32_30
  v57

def k0_off30 (v3 : BitVec 32) : Fin 2 → Nat :=
  let c1_i32_31 : BitVec 32 := 1#32
  let v58 : BitVec 32 := Scalar.subi v3 c1_i32_31
  let c64_i32 : BitVec 32 := 64#32
  let v59 : BitVec 32 := Scalar.muli v58 c64_i32
  let v60 : BitVec 32 := v59
  let v73 : Index := Scalar.indexCast v60
  let c0_36 : Index := 0#32
  ![v73.toNat, 0]

def k0_chk1_0 (i : grid0.Coords) (v3 : BitVec 32) : Prop :=
  (∀ (k0_h2 : k0_cond2 i = 1#1), (k0_t1_loop v3).OK) ∧
  (∀ k0_t1 : Fin (k0_t1_loop v3).trips, ∀ (k0_h2 : k0_cond2 i = 1#1), 256 ∣ (k0_mult1 v3 k0_t1).toNat) ∧
  (∀ k0_t1 : Fin (k0_t1_loop v3).trips, ∀ (k0_h2 : k0_cond2 i = 1#1), ∀ a, (k0_off3 v3 k0_t1) a + S256x1024.size a ≤ S1024x1024.size a) ∧
  (∀ k0_t1 : Fin (k0_t1_loop v3).trips, ∀ (k0_h2 : k0_cond2 i = 1#1), ∀ (hinb : ∀ a, (k0_off3 v3 k0_t1) a + S256x1024.size a ≤ S1024x1024.size a), (Rect.unit (s := S1024x1024) (k0_off3 v3 k0_t1) S256x1024.size hinb).PackedRows (EltTy.packing .bf16)) ∧
  (∀ k0_t1 : Fin (k0_t1_loop v3).trips, ∀ (k0_h2 : k0_cond2 i = 1#1), ∀ a, (k0_off4 v3 k0_t1) a + S256x128.size a ≤ S1024x128.size a) ∧
  (∀ (k0_h2 : k0_cond2 i = 1#1), (k0_t2_loop v3).OK) ∧
  (∀ k0_t2 : Fin (k0_t2_loop v3).trips, ∀ (k0_h2 : k0_cond2 i = 1#1), 256 ∣ (k0_mult2 v3 k0_t2).toNat) ∧
  (∀ k0_t2 : Fin (k0_t2_loop v3).trips, ∀ (k0_h2 : k0_cond2 i = 1#1), ∀ a, (k0_off5 v3 k0_t2) a + S256x1024.size a ≤ S1024x1024.size a) ∧
  (∀ k0_t2 : Fin (k0_t2_loop v3).trips, ∀ (k0_h2 : k0_cond2 i = 1#1), ∀ (hinb : ∀ a, (k0_off5 v3 k0_t2) a + S256x1024.size a ≤ S1024x1024.size a), (Rect.unit (s := S1024x1024) (k0_off5 v3 k0_t2) S256x1024.size hinb).PackedRows (EltTy.packing .bf16)) ∧
  (∀ k0_t2 : Fin (k0_t2_loop v3).trips, ∀ (k0_h2 : k0_cond2 i = 1#1), ∀ a, (k0_off6 v3 k0_t2) a + S256x128.size a ≤ S1024x128.size a) ∧
  (∀ (k0_h2 : k0_cond2 i = 1#1), ∀ (k0_h3 : k0_cond3 v3 = 1#1), 128 ∣ (k0_mult3 v3).toNat) ∧
  (∀ (k0_h2 : k0_cond2 i = 1#1), ∀ (k0_h3 : k0_cond3 v3 = 1#1), ∀ a, (k0_off7 v3) a + S128x1024.size a ≤ S1024x1024.size a) ∧
  (∀ (k0_h2 : k0_cond2 i = 1#1), ∀ (k0_h3 : k0_cond3 v3 = 1#1), ∀ (hinb : ∀ a, (k0_off7 v3) a + S128x1024.size a ≤ S1024x1024.size a), (Rect.unit (s := S1024x1024) (k0_off7 v3) S128x1024.size hinb).PackedRows (EltTy.packing .bf16)) ∧
  (∀ (k0_h2 : k0_cond2 i = 1#1), ∀ (k0_h3 : k0_cond3 v3 = 1#1), ∀ a, (k0_off8 v3) a + S128x128.size a ≤ S1024x128.size a) ∧
  (∀ (k0_h2 : k0_cond2 i = 1#1), ∀ (k0_h4 : k0_cond4 v3 = 1#1), 64 ∣ (k0_mult4 v3).toNat) ∧
  (∀ (k0_h2 : k0_cond2 i = 1#1), ∀ (k0_h4 : k0_cond4 v3 = 1#1), ∀ a, (k0_off9 v3) a + S64x1024.size a ≤ S1024x1024.size a) ∧
  (∀ (k0_h2 : k0_cond2 i = 1#1), ∀ (k0_h4 : k0_cond4 v3 = 1#1), ∀ (hinb : ∀ a, (k0_off9 v3) a + S64x1024.size a ≤ S1024x1024.size a), (Rect.unit (s := S1024x1024) (k0_off9 v3) S64x1024.size hinb).PackedRows (EltTy.packing .bf16)) ∧
  (∀ (k0_h2 : k0_cond2 i = 1#1), ∀ (k0_h4 : k0_cond4 v3 = 1#1), ∀ a, (k0_off10 v3) a + S64x128.size a ≤ S1024x128.size a) ∧
  ((k0_t3_loop v3).OK) ∧
  (∀ k0_t3 : Fin (k0_t3_loop v3).trips, 256 ∣ (k0_mult5 v3 k0_t3).toNat) ∧
  (∀ k0_t3 : Fin (k0_t3_loop v3).trips, ∀ a, (k0_off11 v3 k0_t3) a + S256x1024.size a ≤ S1024x1024.size a) ∧
  (∀ k0_t3 : Fin (k0_t3_loop v3).trips, ∀ a, (k0_off12 v3 k0_t3) a + S256x1.size a ≤ S1024x128.size a) ∧
  (∀ k0_t3 : Fin (k0_t3_loop v3).trips, ∀ (k0_h5 : k0_cond5 i = 1#1), ∀ a, (k0_off13 v3 k0_t3) a + S256x1024.size a ≤ S1024x1024.size a) ∧
  (∀ k0_t3 : Fin (k0_t3_loop v3).trips, ∀ (k0_h6 : k0_cond6 i = 1#1), ∀ a, (k0_off14 v3 k0_t3) a + S256x1024.size a ≤ S1024x1024.size a) ∧
  ((k0_t4_loop v3).OK) ∧
  (∀ k0_t4 : Fin (k0_t4_loop v3).trips, 256 ∣ (k0_mult6 v3 k0_t4).toNat) ∧
  (∀ k0_t4 : Fin (k0_t4_loop v3).trips, ∀ a, (k0_off15 v3 k0_t4) a + S256x1024.size a ≤ S1024x1024.size a) ∧
  (∀ k0_t4 : Fin (k0_t4_loop v3).trips, ∀ a, (k0_off16 v3 k0_t4) a + S256x1.size a ≤ S1024x128.size a) ∧
  (∀ k0_t4 : Fin (k0_t4_loop v3).trips, ∀ (k0_h7 : k0_cond7 i = 1#1), ∀ a, (k0_off17 v3 k0_t4) a + S256x1024.size a ≤ S1024x1024.size a) ∧
  (∀ k0_t4 : Fin (k0_t4_loop v3).trips, ∀ (k0_h8 : k0_cond8 i = 1#1), ∀ a, (k0_off18 v3 k0_t4) a + S256x1024.size a ≤ S1024x1024.size a) ∧
  (∀ (k0_h9 : k0_cond9 v3 = 1#1), 128 ∣ (k0_mult7 v3).toNat) ∧
  (∀ (k0_h9 : k0_cond9 v3 = 1#1), ∀ a, (k0_off19 v3) a + S128x1024.size a ≤ S1024x1024.size a)
def k0_chk1_1 (i : grid0.Coords) (v3 : BitVec 32) : Prop :=
  (∀ (k0_h9 : k0_cond9 v3 = 1#1), ∀ a, (k0_off20 v3) a + S128x1.size a ≤ S1024x128.size a) ∧
  (∀ (k0_h9 : k0_cond9 v3 = 1#1), ∀ (k0_h10 : k0_cond10 i = 1#1), ∀ a, (k0_off21 v3) a + S128x1024.size a ≤ S1024x1024.size a) ∧
  (∀ (k0_h9 : k0_cond9 v3 = 1#1), ∀ (k0_h11 : k0_cond11 i = 1#1), ∀ a, (k0_off22 v3) a + S128x1024.size a ≤ S1024x1024.size a) ∧
  (∀ (k0_h12 : k0_cond12 v3 = 1#1), 64 ∣ (k0_mult8 v3).toNat) ∧
  (∀ (k0_h12 : k0_cond12 v3 = 1#1), ∀ a, (k0_off23 v3) a + S64x1024.size a ≤ S1024x1024.size a) ∧
  (∀ (k0_h12 : k0_cond12 v3 = 1#1), ∀ a, (k0_off24 v3) a + S64x1.size a ≤ S1024x128.size a) ∧
  (∀ (k0_h12 : k0_cond12 v3 = 1#1), ∀ (k0_h13 : k0_cond13 i = 1#1), ∀ a, (k0_off25 v3) a + S64x1024.size a ≤ S1024x1024.size a) ∧
  (∀ (k0_h12 : k0_cond12 v3 = 1#1), ∀ (k0_h14 : k0_cond14 i = 1#1), ∀ a, (k0_off26 v3) a + S64x1024.size a ≤ S1024x1024.size a) ∧
  (∀ (k0_h15 : k0_cond15 i = 1#1), (k0_t5_loop v3).OK) ∧
  (∀ k0_t5 : Fin (k0_t5_loop v3).trips, ∀ (k0_h15 : k0_cond15 i = 1#1), 256 ∣ (k0_mult9 v3 k0_t5).toNat) ∧
  (∀ k0_t5 : Fin (k0_t5_loop v3).trips, ∀ (k0_h15 : k0_cond15 i = 1#1), ∀ a, (k0_off27 v3 k0_t5) a + S256x1024.size a ≤ S1024x1024.size a) ∧
  (∀ (k0_h15 : k0_cond15 i = 1#1), (k0_t6_loop v3).OK) ∧
  (∀ k0_t6 : Fin (k0_t6_loop v3).trips, ∀ (k0_h15 : k0_cond15 i = 1#1), 256 ∣ (k0_mult10 v3 k0_t6).toNat) ∧
  (∀ k0_t6 : Fin (k0_t6_loop v3).trips, ∀ (k0_h15 : k0_cond15 i = 1#1), ∀ a, (k0_off28 v3 k0_t6) a + S256x1024.size a ≤ S1024x1024.size a) ∧
  (∀ (k0_h15 : k0_cond15 i = 1#1), ∀ (k0_h16 : k0_cond16 v3 = 1#1), 128 ∣ (k0_mult11 v3).toNat) ∧
  (∀ (k0_h15 : k0_cond15 i = 1#1), ∀ (k0_h16 : k0_cond16 v3 = 1#1), ∀ a, (k0_off29 v3) a + S128x1024.size a ≤ S1024x1024.size a) ∧
  (∀ (k0_h15 : k0_cond15 i = 1#1), ∀ (k0_h17 : k0_cond17 v3 = 1#1), 64 ∣ (k0_mult12 v3).toNat) ∧
  (∀ (k0_h15 : k0_cond15 i = 1#1), ∀ (k0_h17 : k0_cond17 v3 = 1#1), ∀ a, (k0_off30 v3) a + S64x1024.size a ≤ S1024x1024.size a)
def k0_chk1 (i : grid0.Coords) (v3 : BitVec 32) : Prop :=
  k0_chk1_0 i v3 ∧
  k0_chk1_1 i v3
theorem k0_t1_ok : ∀ (i : grid0.Coords) (v3 : BitVec 32) (k0_hw1 : k0_chk1 i v3), ∀ (k0_h2 : k0_cond2 i = 1#1), (k0_t1_loop v3).OK := fun i v3 k0_hw1 k0_h2 => k0_hw1.1.1 k0_h2
theorem k0_mult1_dvd : ∀ (i : grid0.Coords) (v3 : BitVec 32) (k0_hw1 : k0_chk1 i v3) (k0_t1 : Fin (k0_t1_loop v3).trips), ∀ (k0_h2 : k0_cond2 i = 1#1), 256 ∣ (k0_mult1 v3 k0_t1).toNat := fun i v3 k0_hw1 k0_t1 k0_h2 => k0_hw1.1.2.1 k0_t1 k0_h2
theorem k0_off3_inb : ∀ (i : grid0.Coords) (v3 : BitVec 32) (k0_hw1 : k0_chk1 i v3) (k0_t1 : Fin (k0_t1_loop v3).trips), ∀ (k0_h2 : k0_cond2 i = 1#1), ∀ a, (k0_off3 v3 k0_t1) a + S256x1024.size a ≤ S1024x1024.size a := fun i v3 k0_hw1 k0_t1 k0_h2 => k0_hw1.1.2.2.1 k0_t1 k0_h2
theorem k0_off3_packedbf16 : ∀ (i : grid0.Coords) (v3 : BitVec 32) (k0_hw1 : k0_chk1 i v3) (k0_t1 : Fin (k0_t1_loop v3).trips), ∀ (k0_h2 : k0_cond2 i = 1#1), (Rect.unit (s := S1024x1024) (k0_off3 v3 k0_t1) S256x1024.size (k0_off3_inb i v3 k0_hw1 k0_t1 k0_h2)).PackedRows (EltTy.packing .bf16) := fun i v3 k0_hw1 k0_t1 k0_h2 => k0_hw1.1.2.2.2.1 k0_t1 k0_h2 (k0_off3_inb i v3 k0_hw1 k0_t1 k0_h2)
theorem k0_off4_inb : ∀ (i : grid0.Coords) (v3 : BitVec 32) (k0_hw1 : k0_chk1 i v3) (k0_t1 : Fin (k0_t1_loop v3).trips), ∀ (k0_h2 : k0_cond2 i = 1#1), ∀ a, (k0_off4 v3 k0_t1) a + S256x128.size a ≤ S1024x128.size a := fun i v3 k0_hw1 k0_t1 k0_h2 => k0_hw1.1.2.2.2.2.1 k0_t1 k0_h2
theorem k0_t2_ok : ∀ (i : grid0.Coords) (v3 : BitVec 32) (k0_hw1 : k0_chk1 i v3), ∀ (k0_h2 : k0_cond2 i = 1#1), (k0_t2_loop v3).OK := fun i v3 k0_hw1 k0_h2 => k0_hw1.1.2.2.2.2.2.1 k0_h2
theorem k0_mult2_dvd : ∀ (i : grid0.Coords) (v3 : BitVec 32) (k0_hw1 : k0_chk1 i v3) (k0_t2 : Fin (k0_t2_loop v3).trips), ∀ (k0_h2 : k0_cond2 i = 1#1), 256 ∣ (k0_mult2 v3 k0_t2).toNat := fun i v3 k0_hw1 k0_t2 k0_h2 => k0_hw1.1.2.2.2.2.2.2.1 k0_t2 k0_h2
theorem k0_off5_inb : ∀ (i : grid0.Coords) (v3 : BitVec 32) (k0_hw1 : k0_chk1 i v3) (k0_t2 : Fin (k0_t2_loop v3).trips), ∀ (k0_h2 : k0_cond2 i = 1#1), ∀ a, (k0_off5 v3 k0_t2) a + S256x1024.size a ≤ S1024x1024.size a := fun i v3 k0_hw1 k0_t2 k0_h2 => k0_hw1.1.2.2.2.2.2.2.2.1 k0_t2 k0_h2
theorem k0_off5_packedbf16 : ∀ (i : grid0.Coords) (v3 : BitVec 32) (k0_hw1 : k0_chk1 i v3) (k0_t2 : Fin (k0_t2_loop v3).trips), ∀ (k0_h2 : k0_cond2 i = 1#1), (Rect.unit (s := S1024x1024) (k0_off5 v3 k0_t2) S256x1024.size (k0_off5_inb i v3 k0_hw1 k0_t2 k0_h2)).PackedRows (EltTy.packing .bf16) := fun i v3 k0_hw1 k0_t2 k0_h2 => k0_hw1.1.2.2.2.2.2.2.2.2.1 k0_t2 k0_h2 (k0_off5_inb i v3 k0_hw1 k0_t2 k0_h2)
theorem k0_off6_inb : ∀ (i : grid0.Coords) (v3 : BitVec 32) (k0_hw1 : k0_chk1 i v3) (k0_t2 : Fin (k0_t2_loop v3).trips), ∀ (k0_h2 : k0_cond2 i = 1#1), ∀ a, (k0_off6 v3 k0_t2) a + S256x128.size a ≤ S1024x128.size a := fun i v3 k0_hw1 k0_t2 k0_h2 => k0_hw1.1.2.2.2.2.2.2.2.2.2.1 k0_t2 k0_h2
theorem k0_mult3_dvd : ∀ (i : grid0.Coords) (v3 : BitVec 32) (k0_hw1 : k0_chk1 i v3), ∀ (k0_h2 : k0_cond2 i = 1#1), ∀ (k0_h3 : k0_cond3 v3 = 1#1), 128 ∣ (k0_mult3 v3).toNat := fun i v3 k0_hw1 k0_h2 k0_h3 => k0_hw1.1.2.2.2.2.2.2.2.2.2.2.1 k0_h2 k0_h3
theorem k0_off7_inb : ∀ (i : grid0.Coords) (v3 : BitVec 32) (k0_hw1 : k0_chk1 i v3), ∀ (k0_h2 : k0_cond2 i = 1#1), ∀ (k0_h3 : k0_cond3 v3 = 1#1), ∀ a, (k0_off7 v3) a + S128x1024.size a ≤ S1024x1024.size a := fun i v3 k0_hw1 k0_h2 k0_h3 => k0_hw1.1.2.2.2.2.2.2.2.2.2.2.2.1 k0_h2 k0_h3
theorem k0_off7_packedbf16 : ∀ (i : grid0.Coords) (v3 : BitVec 32) (k0_hw1 : k0_chk1 i v3), ∀ (k0_h2 : k0_cond2 i = 1#1), ∀ (k0_h3 : k0_cond3 v3 = 1#1), (Rect.unit (s := S1024x1024) (k0_off7 v3) S128x1024.size (k0_off7_inb i v3 k0_hw1 k0_h2 k0_h3)).PackedRows (EltTy.packing .bf16) := fun i v3 k0_hw1 k0_h2 k0_h3 => k0_hw1.1.2.2.2.2.2.2.2.2.2.2.2.2.1 k0_h2 k0_h3 (k0_off7_inb i v3 k0_hw1 k0_h2 k0_h3)
theorem k0_off8_inb : ∀ (i : grid0.Coords) (v3 : BitVec 32) (k0_hw1 : k0_chk1 i v3), ∀ (k0_h2 : k0_cond2 i = 1#1), ∀ (k0_h3 : k0_cond3 v3 = 1#1), ∀ a, (k0_off8 v3) a + S128x128.size a ≤ S1024x128.size a := fun i v3 k0_hw1 k0_h2 k0_h3 => k0_hw1.1.2.2.2.2.2.2.2.2.2.2.2.2.2.1 k0_h2 k0_h3
theorem k0_mult4_dvd : ∀ (i : grid0.Coords) (v3 : BitVec 32) (k0_hw1 : k0_chk1 i v3), ∀ (k0_h2 : k0_cond2 i = 1#1), ∀ (k0_h4 : k0_cond4 v3 = 1#1), 64 ∣ (k0_mult4 v3).toNat := fun i v3 k0_hw1 k0_h2 k0_h4 => k0_hw1.1.2.2.2.2.2.2.2.2.2.2.2.2.2.2.1 k0_h2 k0_h4
theorem k0_off9_inb : ∀ (i : grid0.Coords) (v3 : BitVec 32) (k0_hw1 : k0_chk1 i v3), ∀ (k0_h2 : k0_cond2 i = 1#1), ∀ (k0_h4 : k0_cond4 v3 = 1#1), ∀ a, (k0_off9 v3) a + S64x1024.size a ≤ S1024x1024.size a := fun i v3 k0_hw1 k0_h2 k0_h4 => k0_hw1.1.2.2.2.2.2.2.2.2.2.2.2.2.2.2.2.1 k0_h2 k0_h4
theorem k0_off9_packedbf16 : ∀ (i : grid0.Coords) (v3 : BitVec 32) (k0_hw1 : k0_chk1 i v3), ∀ (k0_h2 : k0_cond2 i = 1#1), ∀ (k0_h4 : k0_cond4 v3 = 1#1), (Rect.unit (s := S1024x1024) (k0_off9 v3) S64x1024.size (k0_off9_inb i v3 k0_hw1 k0_h2 k0_h4)).PackedRows (EltTy.packing .bf16) := fun i v3 k0_hw1 k0_h2 k0_h4 => k0_hw1.1.2.2.2.2.2.2.2.2.2.2.2.2.2.2.2.2.1 k0_h2 k0_h4 (k0_off9_inb i v3 k0_hw1 k0_h2 k0_h4)
theorem k0_off10_inb : ∀ (i : grid0.Coords) (v3 : BitVec 32) (k0_hw1 : k0_chk1 i v3), ∀ (k0_h2 : k0_cond2 i = 1#1), ∀ (k0_h4 : k0_cond4 v3 = 1#1), ∀ a, (k0_off10 v3) a + S64x128.size a ≤ S1024x128.size a := fun i v3 k0_hw1 k0_h2 k0_h4 => k0_hw1.1.2.2.2.2.2.2.2.2.2.2.2.2.2.2.2.2.2.1 k0_h2 k0_h4
theorem k0_t3_ok : ∀ (i : grid0.Coords) (v3 : BitVec 32) (k0_hw1 : k0_chk1 i v3), (k0_t3_loop v3).OK := fun i v3 k0_hw1 => k0_hw1.1.2.2.2.2.2.2.2.2.2.2.2.2.2.2.2.2.2.2.1
theorem k0_mult5_dvd : ∀ (i : grid0.Coords) (v3 : BitVec 32) (k0_hw1 : k0_chk1 i v3) (k0_t3 : Fin (k0_t3_loop v3).trips), 256 ∣ (k0_mult5 v3 k0_t3).toNat := fun i v3 k0_hw1 k0_t3 => k0_hw1.1.2.2.2.2.2.2.2.2.2.2.2.2.2.2.2.2.2.2.2.1 k0_t3
theorem k0_off11_inb : ∀ (i : grid0.Coords) (v3 : BitVec 32) (k0_hw1 : k0_chk1 i v3) (k0_t3 : Fin (k0_t3_loop v3).trips), ∀ a, (k0_off11 v3 k0_t3) a + S256x1024.size a ≤ S1024x1024.size a := fun i v3 k0_hw1 k0_t3 => k0_hw1.1.2.2.2.2.2.2.2.2.2.2.2.2.2.2.2.2.2.2.2.2.1 k0_t3
theorem k0_off12_inb : ∀ (i : grid0.Coords) (v3 : BitVec 32) (k0_hw1 : k0_chk1 i v3) (k0_t3 : Fin (k0_t3_loop v3).trips), ∀ a, (k0_off12 v3 k0_t3) a + S256x1.size a ≤ S1024x128.size a := fun i v3 k0_hw1 k0_t3 => k0_hw1.1.2.2.2.2.2.2.2.2.2.2.2.2.2.2.2.2.2.2.2.2.2.1 k0_t3
theorem k0_off13_inb : ∀ (i : grid0.Coords) (v3 : BitVec 32) (k0_hw1 : k0_chk1 i v3) (k0_t3 : Fin (k0_t3_loop v3).trips), ∀ (k0_h5 : k0_cond5 i = 1#1), ∀ a, (k0_off13 v3 k0_t3) a + S256x1024.size a ≤ S1024x1024.size a := fun i v3 k0_hw1 k0_t3 k0_h5 => k0_hw1.1.2.2.2.2.2.2.2.2.2.2.2.2.2.2.2.2.2.2.2.2.2.2.1 k0_t3 k0_h5
theorem k0_off14_inb : ∀ (i : grid0.Coords) (v3 : BitVec 32) (k0_hw1 : k0_chk1 i v3) (k0_t3 : Fin (k0_t3_loop v3).trips), ∀ (k0_h6 : k0_cond6 i = 1#1), ∀ a, (k0_off14 v3 k0_t3) a + S256x1024.size a ≤ S1024x1024.size a := fun i v3 k0_hw1 k0_t3 k0_h6 => k0_hw1.1.2.2.2.2.2.2.2.2.2.2.2.2.2.2.2.2.2.2.2.2.2.2.2.1 k0_t3 k0_h6
theorem k0_t4_ok : ∀ (i : grid0.Coords) (v3 : BitVec 32) (k0_hw1 : k0_chk1 i v3), (k0_t4_loop v3).OK := fun i v3 k0_hw1 => k0_hw1.1.2.2.2.2.2.2.2.2.2.2.2.2.2.2.2.2.2.2.2.2.2.2.2.2.1
theorem k0_mult6_dvd : ∀ (i : grid0.Coords) (v3 : BitVec 32) (k0_hw1 : k0_chk1 i v3) (k0_t4 : Fin (k0_t4_loop v3).trips), 256 ∣ (k0_mult6 v3 k0_t4).toNat := fun i v3 k0_hw1 k0_t4 => k0_hw1.1.2.2.2.2.2.2.2.2.2.2.2.2.2.2.2.2.2.2.2.2.2.2.2.2.2.1 k0_t4
theorem k0_off15_inb : ∀ (i : grid0.Coords) (v3 : BitVec 32) (k0_hw1 : k0_chk1 i v3) (k0_t4 : Fin (k0_t4_loop v3).trips), ∀ a, (k0_off15 v3 k0_t4) a + S256x1024.size a ≤ S1024x1024.size a := fun i v3 k0_hw1 k0_t4 => k0_hw1.1.2.2.2.2.2.2.2.2.2.2.2.2.2.2.2.2.2.2.2.2.2.2.2.2.2.2.1 k0_t4
theorem k0_off16_inb : ∀ (i : grid0.Coords) (v3 : BitVec 32) (k0_hw1 : k0_chk1 i v3) (k0_t4 : Fin (k0_t4_loop v3).trips), ∀ a, (k0_off16 v3 k0_t4) a + S256x1.size a ≤ S1024x128.size a := fun i v3 k0_hw1 k0_t4 => k0_hw1.1.2.2.2.2.2.2.2.2.2.2.2.2.2.2.2.2.2.2.2.2.2.2.2.2.2.2.2.1 k0_t4
theorem k0_off17_inb : ∀ (i : grid0.Coords) (v3 : BitVec 32) (k0_hw1 : k0_chk1 i v3) (k0_t4 : Fin (k0_t4_loop v3).trips), ∀ (k0_h7 : k0_cond7 i = 1#1), ∀ a, (k0_off17 v3 k0_t4) a + S256x1024.size a ≤ S1024x1024.size a := fun i v3 k0_hw1 k0_t4 k0_h7 => k0_hw1.1.2.2.2.2.2.2.2.2.2.2.2.2.2.2.2.2.2.2.2.2.2.2.2.2.2.2.2.2.1 k0_t4 k0_h7
theorem k0_off18_inb : ∀ (i : grid0.Coords) (v3 : BitVec 32) (k0_hw1 : k0_chk1 i v3) (k0_t4 : Fin (k0_t4_loop v3).trips), ∀ (k0_h8 : k0_cond8 i = 1#1), ∀ a, (k0_off18 v3 k0_t4) a + S256x1024.size a ≤ S1024x1024.size a := fun i v3 k0_hw1 k0_t4 k0_h8 => k0_hw1.1.2.2.2.2.2.2.2.2.2.2.2.2.2.2.2.2.2.2.2.2.2.2.2.2.2.2.2.2.2.1 k0_t4 k0_h8
theorem k0_mult7_dvd : ∀ (i : grid0.Coords) (v3 : BitVec 32) (k0_hw1 : k0_chk1 i v3), ∀ (k0_h9 : k0_cond9 v3 = 1#1), 128 ∣ (k0_mult7 v3).toNat := fun i v3 k0_hw1 k0_h9 => k0_hw1.1.2.2.2.2.2.2.2.2.2.2.2.2.2.2.2.2.2.2.2.2.2.2.2.2.2.2.2.2.2.2.1 k0_h9
theorem k0_off19_inb : ∀ (i : grid0.Coords) (v3 : BitVec 32) (k0_hw1 : k0_chk1 i v3), ∀ (k0_h9 : k0_cond9 v3 = 1#1), ∀ a, (k0_off19 v3) a + S128x1024.size a ≤ S1024x1024.size a := fun i v3 k0_hw1 k0_h9 => k0_hw1.1.2.2.2.2.2.2.2.2.2.2.2.2.2.2.2.2.2.2.2.2.2.2.2.2.2.2.2.2.2.2.2 k0_h9
theorem k0_off20_inb : ∀ (i : grid0.Coords) (v3 : BitVec 32) (k0_hw1 : k0_chk1 i v3), ∀ (k0_h9 : k0_cond9 v3 = 1#1), ∀ a, (k0_off20 v3) a + S128x1.size a ≤ S1024x128.size a := fun i v3 k0_hw1 k0_h9 => k0_hw1.2.1 k0_h9
theorem k0_off21_inb : ∀ (i : grid0.Coords) (v3 : BitVec 32) (k0_hw1 : k0_chk1 i v3), ∀ (k0_h9 : k0_cond9 v3 = 1#1), ∀ (k0_h10 : k0_cond10 i = 1#1), ∀ a, (k0_off21 v3) a + S128x1024.size a ≤ S1024x1024.size a := fun i v3 k0_hw1 k0_h9 k0_h10 => k0_hw1.2.2.1 k0_h9 k0_h10
theorem k0_off22_inb : ∀ (i : grid0.Coords) (v3 : BitVec 32) (k0_hw1 : k0_chk1 i v3), ∀ (k0_h9 : k0_cond9 v3 = 1#1), ∀ (k0_h11 : k0_cond11 i = 1#1), ∀ a, (k0_off22 v3) a + S128x1024.size a ≤ S1024x1024.size a := fun i v3 k0_hw1 k0_h9 k0_h11 => k0_hw1.2.2.2.1 k0_h9 k0_h11
theorem k0_mult8_dvd : ∀ (i : grid0.Coords) (v3 : BitVec 32) (k0_hw1 : k0_chk1 i v3), ∀ (k0_h12 : k0_cond12 v3 = 1#1), 64 ∣ (k0_mult8 v3).toNat := fun i v3 k0_hw1 k0_h12 => k0_hw1.2.2.2.2.1 k0_h12
theorem k0_off23_inb : ∀ (i : grid0.Coords) (v3 : BitVec 32) (k0_hw1 : k0_chk1 i v3), ∀ (k0_h12 : k0_cond12 v3 = 1#1), ∀ a, (k0_off23 v3) a + S64x1024.size a ≤ S1024x1024.size a := fun i v3 k0_hw1 k0_h12 => k0_hw1.2.2.2.2.2.1 k0_h12
theorem k0_off24_inb : ∀ (i : grid0.Coords) (v3 : BitVec 32) (k0_hw1 : k0_chk1 i v3), ∀ (k0_h12 : k0_cond12 v3 = 1#1), ∀ a, (k0_off24 v3) a + S64x1.size a ≤ S1024x128.size a := fun i v3 k0_hw1 k0_h12 => k0_hw1.2.2.2.2.2.2.1 k0_h12
theorem k0_off25_inb : ∀ (i : grid0.Coords) (v3 : BitVec 32) (k0_hw1 : k0_chk1 i v3), ∀ (k0_h12 : k0_cond12 v3 = 1#1), ∀ (k0_h13 : k0_cond13 i = 1#1), ∀ a, (k0_off25 v3) a + S64x1024.size a ≤ S1024x1024.size a := fun i v3 k0_hw1 k0_h12 k0_h13 => k0_hw1.2.2.2.2.2.2.2.1 k0_h12 k0_h13
theorem k0_off26_inb : ∀ (i : grid0.Coords) (v3 : BitVec 32) (k0_hw1 : k0_chk1 i v3), ∀ (k0_h12 : k0_cond12 v3 = 1#1), ∀ (k0_h14 : k0_cond14 i = 1#1), ∀ a, (k0_off26 v3) a + S64x1024.size a ≤ S1024x1024.size a := fun i v3 k0_hw1 k0_h12 k0_h14 => k0_hw1.2.2.2.2.2.2.2.2.1 k0_h12 k0_h14
theorem k0_t5_ok : ∀ (i : grid0.Coords) (v3 : BitVec 32) (k0_hw1 : k0_chk1 i v3), ∀ (k0_h15 : k0_cond15 i = 1#1), (k0_t5_loop v3).OK := fun i v3 k0_hw1 k0_h15 => k0_hw1.2.2.2.2.2.2.2.2.2.1 k0_h15
theorem k0_mult9_dvd : ∀ (i : grid0.Coords) (v3 : BitVec 32) (k0_hw1 : k0_chk1 i v3) (k0_t5 : Fin (k0_t5_loop v3).trips), ∀ (k0_h15 : k0_cond15 i = 1#1), 256 ∣ (k0_mult9 v3 k0_t5).toNat := fun i v3 k0_hw1 k0_t5 k0_h15 => k0_hw1.2.2.2.2.2.2.2.2.2.2.1 k0_t5 k0_h15
theorem k0_off27_inb : ∀ (i : grid0.Coords) (v3 : BitVec 32) (k0_hw1 : k0_chk1 i v3) (k0_t5 : Fin (k0_t5_loop v3).trips), ∀ (k0_h15 : k0_cond15 i = 1#1), ∀ a, (k0_off27 v3 k0_t5) a + S256x1024.size a ≤ S1024x1024.size a := fun i v3 k0_hw1 k0_t5 k0_h15 => k0_hw1.2.2.2.2.2.2.2.2.2.2.2.1 k0_t5 k0_h15
theorem k0_t6_ok : ∀ (i : grid0.Coords) (v3 : BitVec 32) (k0_hw1 : k0_chk1 i v3), ∀ (k0_h15 : k0_cond15 i = 1#1), (k0_t6_loop v3).OK := fun i v3 k0_hw1 k0_h15 => k0_hw1.2.2.2.2.2.2.2.2.2.2.2.2.1 k0_h15
theorem k0_mult10_dvd : ∀ (i : grid0.Coords) (v3 : BitVec 32) (k0_hw1 : k0_chk1 i v3) (k0_t6 : Fin (k0_t6_loop v3).trips), ∀ (k0_h15 : k0_cond15 i = 1#1), 256 ∣ (k0_mult10 v3 k0_t6).toNat := fun i v3 k0_hw1 k0_t6 k0_h15 => k0_hw1.2.2.2.2.2.2.2.2.2.2.2.2.2.1 k0_t6 k0_h15
theorem k0_off28_inb : ∀ (i : grid0.Coords) (v3 : BitVec 32) (k0_hw1 : k0_chk1 i v3) (k0_t6 : Fin (k0_t6_loop v3).trips), ∀ (k0_h15 : k0_cond15 i = 1#1), ∀ a, (k0_off28 v3 k0_t6) a + S256x1024.size a ≤ S1024x1024.size a := fun i v3 k0_hw1 k0_t6 k0_h15 => k0_hw1.2.2.2.2.2.2.2.2.2.2.2.2.2.2.1 k0_t6 k0_h15
theorem k0_mult11_dvd : ∀ (i : grid0.Coords) (v3 : BitVec 32) (k0_hw1 : k0_chk1 i v3), ∀ (k0_h15 : k0_cond15 i = 1#1), ∀ (k0_h16 : k0_cond16 v3 = 1#1), 128 ∣ (k0_mult11 v3).toNat := fun i v3 k0_hw1 k0_h15 k0_h16 => k0_hw1.2.2.2.2.2.2.2.2.2.2.2.2.2.2.2.1 k0_h15 k0_h16
theorem k0_off29_inb : ∀ (i : grid0.Coords) (v3 : BitVec 32) (k0_hw1 : k0_chk1 i v3), ∀ (k0_h15 : k0_cond15 i = 1#1), ∀ (k0_h16 : k0_cond16 v3 = 1#1), ∀ a, (k0_off29 v3) a + S128x1024.size a ≤ S1024x1024.size a := fun i v3 k0_hw1 k0_h15 k0_h16 => k0_hw1.2.2.2.2.2.2.2.2.2.2.2.2.2.2.2.2.1 k0_h15 k0_h16
theorem k0_mult12_dvd : ∀ (i : grid0.Coords) (v3 : BitVec 32) (k0_hw1 : k0_chk1 i v3), ∀ (k0_h15 : k0_cond15 i = 1#1), ∀ (k0_h17 : k0_cond17 v3 = 1#1), 64 ∣ (k0_mult12 v3).toNat := fun i v3 k0_hw1 k0_h15 k0_h17 => k0_hw1.2.2.2.2.2.2.2.2.2.2.2.2.2.2.2.2.2.1 k0_h15 k0_h17
theorem k0_off30_inb : ∀ (i : grid0.Coords) (v3 : BitVec 32) (k0_hw1 : k0_chk1 i v3), ∀ (k0_h15 : k0_cond15 i = 1#1), ∀ (k0_h17 : k0_cond17 v3 = 1#1), ∀ a, (k0_off30 v3) a + S64x1024.size a ≤ S1024x1024.size a := fun i v3 k0_hw1 k0_h15 k0_h17 => k0_hw1.2.2.2.2.2.2.2.2.2.2.2.2.2.2.2.2.2.2 k0_h15 k0_h17

def k0_cond1 (i : grid0.Coords) : BitVec 1 :=
  let arg1 : BitVec 32 := BitVec.ofNat 32 (i 1).val
  let c0_i32 : BitVec 32 := 0#32
  let v5 : BitVec 1 := Scalar.cmpi .eq arg1 c0_i32
  let arg2 : BitVec 32 := BitVec.ofNat 32 (i 2).val
  let c0_i32_0 : BitVec 32 := 0#32
  let v6 : BitVec 1 := Scalar.cmpi .eq arg2 c0_i32_0
  let v7 : BitVec 1 := Scalar.andi v5 v6
  let v8 : BitVec 32 := Scalar.extui v7
  let c0_i32_1 : BitVec 32 := 0#32
  let v9 : BitVec 1 := Scalar.cmpi .ne v8 c0_i32_1
  v9

def k0_cond18 (i : grid0.Coords) : BitVec 1 :=
  let arg1 : BitVec 32 := BitVec.ofNat 32 (i 1).val
  let c7_i32 : BitVec 32 := 7#32
  let v30 : BitVec 1 := Scalar.cmpi .eq arg1 c7_i32
  let arg2 : BitVec 32 := BitVec.ofNat 32 (i 2).val
  let c3_i32_15 : BitVec 32 := 3#32
  let v31 : BitVec 1 := Scalar.cmpi .eq arg2 c3_i32_15
  let v32 : BitVec 1 := Scalar.andi v30 v31
  let v33 : BitVec 32 := Scalar.extui v32
  let c0_i32_16 : BitVec 32 := 0#32
  let v34 : BitVec 1 := Scalar.cmpi .ne v33 c0_i32_16
  v34

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi arg2 c4_i32
  let c0_i32 : BitVec 32 := 0#32
  let c0_i32_0 : BitVec 32 := 0#32
  ![arg1.toNat, c0_i32.toNat, v0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x1024x896 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S1x1024x896 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, true]

abbrev stage0_6 : Fin 2 → Memref sig .tc .vmem S1x896x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false, false]
-- ==== ReferenceIdeal.lean ====
abbrev S65536x1024 : Shape := ⟨2, ![65536, 1024]⟩
abbrev S65536x128 : Shape := ⟨2, ![65536, 128]⟩
abbrev S64x8x1024 : Shape := ⟨3, ![64, 8, 1024]⟩
abbrev S512x128 : Shape := ⟨2, ![512, 128]⟩
abbrev S8x1024x7168 : Shape := ⟨3, ![8, 1024, 7168]⟩
abbrev S8x3584x1024 : Shape := ⟨3, ![8, 3584, 1024]⟩
abbrev S1024 : Shape := ⟨1, ![1024]⟩
abbrev S65536x8 : Shape := ⟨2, ![65536, 8]⟩
abbrev S65536x8x7168 : Shape := ⟨3, ![65536, 8, 7168]⟩
abbrev S65536x8x3584 : Shape := ⟨3, ![65536, 8, 3584]⟩
abbrev S_ : Shape := ⟨0, ![]⟩
abbrev S65536x8x1 : Shape := ⟨3, ![65536, 8, 1]⟩
abbrev S65536 : Shape := ⟨1, ![65536]⟩
abbrev S65536x1 : Shape := ⟨2, ![65536, 1]⟩
abbrev S1x1024 : Shape := ⟨2, ![1, 1024]⟩

abbrev nBuf : Space → Nat
  | .hbm => 60
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x128, .f32⟩
  | .hbm, ⟨2, _⟩ => ⟨S65536x128, .f32⟩
  | .hbm, ⟨3, _⟩ => ⟨S64x8x1024, .f32⟩
  | .hbm, ⟨4, _⟩ => ⟨S512x128, .f32⟩
  | .hbm, ⟨5, _⟩ => ⟨S8x1024x7168, .f32⟩
  | .hbm, ⟨6, _⟩ => ⟨S8x3584x1024, .f32⟩
  | .hbm, ⟨7, _⟩ => ⟨S1024, .f32⟩
  | .hbm, ⟨8, _⟩ => ⟨S1024, .f32⟩
  | .hbm, ⟨9, _⟩ => ⟨S65536x8, .f32⟩
  | .hbm, ⟨10, _⟩ => ⟨S65536x8x7168, .f32⟩
  | .hbm, ⟨11, _⟩ => ⟨S65536x8x3584, .f32⟩
  | .hbm, ⟨12, _⟩ => ⟨S65536x8x3584, .f32⟩
  | .hbm, ⟨13, _⟩ => ⟨S65536x8x3584, .f32⟩
  | .hbm, ⟨14, _⟩ => ⟨S65536x8x3584, .f32⟩
  | .hbm, ⟨15, _⟩ => ⟨S_, .f32⟩
  | .hbm, ⟨16, _⟩ => ⟨S65536x8x3584, .f32⟩
  | .hbm, ⟨17, _⟩ => ⟨S65536x8x3584, .f32⟩
  | .hbm, ⟨18, _⟩ => ⟨S_, .f32⟩
  | .hbm, ⟨19, _⟩ => ⟨S65536x8x3584, .f32⟩
  | .hbm, ⟨20, _⟩ => ⟨S65536x8x3584, .f32⟩
  | .hbm, ⟨21, _⟩ => ⟨S65536x8x3584, .f32⟩
  | .hbm, ⟨22, _⟩ => ⟨S65536x8x3584, .f32⟩
  | .hbm, ⟨23, _⟩ => ⟨S65536x8x1, .f32⟩
  | .hbm, ⟨24, _⟩ => ⟨S65536x8x3584, .f32⟩
  | .hbm, ⟨25, _⟩ => ⟨S65536x8x3584, .f32⟩
  | .hbm, ⟨26, _⟩ => ⟨S65536x1024, .f32⟩
  | .hbm, ⟨27, _⟩ => ⟨S_, .f32⟩
  | .hbm, ⟨28, _⟩ => ⟨S65536x1024, .f32⟩
  | .hbm, ⟨29, _⟩ => ⟨S65536x1024, .f32⟩
  | .hbm, ⟨30, _⟩ => ⟨S65536x1024, .f32⟩
  | .hbm, ⟨31, _⟩ => ⟨S_, .f32⟩
  | .hbm, ⟨32, _⟩ => ⟨S65536, .f32⟩
  | .hbm, ⟨33, _⟩ => ⟨S65536x1, .f32⟩
  | .hbm, ⟨34, _⟩ => ⟨S_, .f32⟩
  | .hbm, ⟨35, _⟩ => ⟨S65536x1, .f32⟩
  | .hbm, ⟨36, _⟩ => ⟨S65536x1, .f32⟩
  | .hbm, ⟨37, _⟩ => ⟨S65536x1024, .f32⟩
  | .hbm, ⟨38, _⟩ => ⟨S65536x1024, .f32⟩
  | .hbm, ⟨39, _⟩ => ⟨S65536x1024, .f32⟩
  | .hbm, ⟨40, _⟩ => ⟨S_, .f32⟩
  | .hbm, ⟨41, _⟩ => ⟨S65536, .f32⟩
  | .hbm, ⟨42, _⟩ => ⟨S65536x1, .f32⟩
  | .hbm, ⟨43, _⟩ => ⟨S_, .f32⟩
  | .hbm, ⟨44, _⟩ => ⟨S65536x1, .f32⟩
  | .hbm, ⟨45, _⟩ => ⟨S65536x1, .f32⟩
  | .hbm, ⟨46, _⟩ => ⟨S65536x1024, .f32⟩
  | .hbm, ⟨47, _⟩ => ⟨S65536x1024, .f32⟩
  | .hbm, ⟨48, _⟩ => ⟨S_, .f32⟩
  | .hbm, ⟨49, _⟩ => ⟨S65536x1, .f32⟩
  | .hbm, ⟨50, _⟩ => ⟨S65536x1, .f32⟩
  | .hbm, ⟨51, _⟩ => ⟨S65536x1, .f32⟩
  | .hbm, ⟨52, _⟩ => ⟨S65536x1024, .f32⟩
  | .hbm, ⟨53, _⟩ => ⟨S65536x1024, .f32⟩
  | .hbm, ⟨54, _⟩ => ⟨S1x1024, .f32⟩
  | .hbm, ⟨55, _⟩ => ⟨S65536x1024, .f32⟩
  | .hbm, ⟨56, _⟩ => ⟨S65536x1024, .f32⟩
  | .hbm, ⟨57, _⟩ => ⟨S1x1024, .f32⟩
  | .hbm, ⟨58, _⟩ => ⟨S65536x1024, .f32⟩
  | .hbm, ⟨59, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_cst : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_cst_0 : Ref sig .tc := ⟨.hbm, 31, rfl⟩
abbrev main_v13 : Ref sig .tc := ⟨.hbm, 32, rfl⟩
abbrev main_v14 : Ref sig .tc := ⟨.hbm, 33, rfl⟩
abbrev main_cst_1 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_cst_2 : Ref sig .tc := ⟨.hbm, 40, rfl⟩
abbrev main_v20 : Ref sig .tc := ⟨.hbm, 41, rfl⟩
abbrev main_v21 : Ref sig .tc := ⟨.hbm, 42, rfl⟩
abbrev main_cst_3 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_cst_4 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩

abbrev nD : Nat := 1
abbrev τ : Topo := Topo.v7x

variable {F : FTy → Type} [FloatOps F]
-- ==== Kernel2.lean ====
abbrev S65536x1024 : Shape := ⟨2, ![65536, 1024]⟩
abbrev S1024x5632 : Shape := ⟨2, ![1024, 5632]⟩
abbrev S2816x1024 : Shape := ⟨2, ![2816, 1024]⟩
abbrev S1024 : Shape := ⟨1, ![1024]⟩
abbrev S1x1024 : Shape := ⟨2, ![1, 1024]⟩
abbrev S512x1024 : Shape := ⟨2, ![512, 1024]⟩
abbrev S1024x1408 : Shape := ⟨2, ![1024, 1408]⟩
abbrev S1408x1024 : Shape := ⟨2, ![1408, 1024]⟩
abbrev S512x1408 : Shape := ⟨2, ![512, 1408]⟩
abbrev S512 : Shape := ⟨1, ![512]⟩
abbrev S512x1 : Shape := ⟨2, ![512, 1]⟩

abbrev nBuf : Space → Nat
  | .hbm => 10
  | .vmem => 13
  | .smem => 0
  | _ => 0

abbrev bufTy : (tb : Table) → Fin (tcTables nBuf tb) → BufTy
  | .hbm, ⟨0, _⟩ => ⟨S65536x1024, .f32⟩
  | .hbm, ⟨1, _⟩ => ⟨S1024x5632, .f32⟩
  | .hbm, ⟨2, _⟩ => ⟨S2816x1024, .f32⟩
  | .hbm, ⟨3, _⟩ => ⟨S1024, .f32⟩
  | .hbm, ⟨4, _⟩ => ⟨S1024, .f32⟩
  | .hbm, ⟨5, _⟩ => ⟨S1024x5632, .bf16⟩
  | .hbm, ⟨6, _⟩ => ⟨S2816x1024, .bf16⟩
  | .hbm, ⟨7, _⟩ => ⟨S1x1024, .f32⟩
  | .hbm, ⟨8, _⟩ => ⟨S1x1024, .f32⟩
  | .hbm, ⟨9, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1408x1024, .bf16⟩
  | .local _ .vmem, ⟨7, _⟩ => ⟨S1408x1024, .bf16⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![128, 2], ![false, false]⟩

def k0_cond2 (i : grid0.Coords) : BitVec 1 :=
  let arg1 : BitVec 32 := BitVec.ofNat 32 (i 1).val
  let c1_i32 : BitVec 32 := 1#32
  let v23 : BitVec 1 := Scalar.cmpi .eq arg1 c1_i32
  let v24 : BitVec 32 := Scalar.extui v23
  let c0_i32_14 : BitVec 32 := 0#32
  let v25 : BitVec 1 := Scalar.cmpi .ne v24 c0_i32_14
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference2Ideal.lean ====
abbrev S65536x1024 : Shape := ⟨2, ![65536, 1024]⟩
abbrev S1024x5632 : Shape := ⟨2, ![1024, 5632]⟩
abbrev S2816x1024 : Shape := ⟨2, ![2816, 1024]⟩
abbrev S1024 : Shape := ⟨1, ![1024]⟩
abbrev S65536x5632 : Shape := ⟨2, ![65536, 5632]⟩
abbrev S65536x2816 : Shape := ⟨2, ![65536, 2816]⟩
abbrev S_ : Shape := ⟨0, ![]⟩
abbrev S65536 : Shape := ⟨1, ![65536]⟩
abbrev S65536x1 : Shape := ⟨2, ![65536, 1]⟩
abbrev S1x1024 : Shape := ⟨2, ![1, 1024]⟩

abbrev nBuf : Space → Nat
  | .hbm => 52
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024x5632, .f32⟩
  | .hbm, ⟨2, _⟩ => ⟨S2816x1024, .f32⟩
  | .hbm, ⟨3, _⟩ => ⟨S1024, .f32⟩
  | .hbm, ⟨4, _⟩ => ⟨S1024, .f32⟩
  | .hbm, ⟨5, _⟩ => ⟨S65536x5632, .f32⟩
  | .hbm, ⟨6, _⟩ => ⟨S65536x2816, .f32⟩
  | .hbm, ⟨7, _⟩ => ⟨S65536x2816, .f32⟩
  | .hbm, ⟨8, _⟩ => ⟨S65536x2816, .f32⟩
  | .hbm, ⟨9, _⟩ => ⟨S65536x2816, .f32⟩
  | .hbm, ⟨10, _⟩ => ⟨S_, .f32⟩
  | .hbm, ⟨11, _⟩ => ⟨S65536x2816, .f32⟩
  | .hbm, ⟨12, _⟩ => ⟨S65536x2816, .f32⟩
  | .hbm, ⟨13, _⟩ => ⟨S_, .f32⟩
  | .hbm, ⟨14, _⟩ => ⟨S65536x2816, .f32⟩
  | .hbm, ⟨15, _⟩ => ⟨S65536x2816, .f32⟩
  | .hbm, ⟨16, _⟩ => ⟨S65536x2816, .f32⟩
  | .hbm, ⟨17, _⟩ => ⟨S65536x2816, .f32⟩
  | .hbm, ⟨18, _⟩ => ⟨S65536x1024, .f32⟩
  | .hbm, ⟨19, _⟩ => ⟨S_, .f32⟩
  | .hbm, ⟨20, _⟩ => ⟨S65536x1024, .f32⟩
  | .hbm, ⟨21, _⟩ => ⟨S65536x1024, .f32⟩
  | .hbm, ⟨22, _⟩ => ⟨S65536x1024, .f32⟩
  | .hbm, ⟨23, _⟩ => ⟨S_, .f32⟩
  | .hbm, ⟨24, _⟩ => ⟨S65536, .f32⟩
  | .hbm, ⟨25, _⟩ => ⟨S65536x1, .f32⟩
  | .hbm, ⟨26, _⟩ => ⟨S_, .f32⟩
  | .hbm, ⟨27, _⟩ => ⟨S65536x1, .f32⟩
  | .hbm, ⟨28, _⟩ => ⟨S65536x1, .f32⟩
  | .hbm, ⟨29, _⟩ => ⟨S65536x1024, .f32⟩
  | .hbm, ⟨30, _⟩ => ⟨S65536x1024, .f32⟩
  | .hbm, ⟨31, _⟩ => ⟨S65536x1024, .f32⟩
  | .hbm, ⟨32, _⟩ => ⟨S_, .f32⟩
  | .hbm, ⟨33, _⟩ => ⟨S65536, .f32⟩
  | .hbm, ⟨34, _⟩ => ⟨S65536x1, .f32⟩
  | .hbm, ⟨35, _⟩ => ⟨S_, .f32⟩
  | .hbm, ⟨36, _⟩ => ⟨S65536x1, .f32⟩
  | .hbm, ⟨37, _⟩ => ⟨S65536x1, .f32⟩
  | .hbm, ⟨38, _⟩ => ⟨S65536x1024, .f32⟩
  | .hbm, ⟨39, _⟩ => ⟨S65536x1024, .f32⟩
  | .hbm, ⟨40, _⟩ => ⟨S_, .f32⟩
  | .hbm, ⟨41, _⟩ => ⟨S65536x1, .f32⟩
  | .hbm, ⟨42, _⟩ => ⟨S65536x1, .f32⟩
  | .hbm, ⟨43, _⟩ => ⟨S65536x1, .f32⟩
  | .hbm, ⟨44, _⟩ => ⟨S65536x1024, .f32⟩
  | .hbm, ⟨45, _⟩ => ⟨S65536x1024, .f32⟩
  | .hbm, ⟨46, _⟩ => ⟨S1x1024, .f32⟩
  | .hbm, ⟨47, _⟩ => ⟨S65536x1024, .f32⟩
  | .hbm, ⟨48, _⟩ => ⟨S65536x1024, .f32⟩
  | .hbm, ⟨49, _⟩ => ⟨S1x1024, .f32⟩
  | .hbm, ⟨50, _⟩ => ⟨S65536x1024, .f32⟩
  | .hbm, ⟨51, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_2 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_4 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩

abbrev nD : Nat := 1
abbrev τ : Topo := Topo.v7x

variable {F : FTy → Type} [FloatOps F]
-- ==== Kernel3.lean ====
abbrev S65536x1024 : Shape := ⟨2, ![65536, 1024]⟩
abbrev S1024x3072 : Shape := ⟨2, ![1024, 3072]⟩
abbrev S256x1024 : Shape := ⟨2, ![256, 1024]⟩
abbrev S1024x1024 : Shape := ⟨2, ![1024, 1024]⟩

abbrev nBuf : Space → Nat
  | .hbm => 6
  | .vmem => 9
  | .smem => 0
  | _ => 0

abbrev bufTy : (tb : Table) → Fin (tcTables nBuf tb) → BufTy
  | .hbm, ⟨0, _⟩ => ⟨S65536x1024, .f32⟩
  | .hbm, ⟨1, _⟩ => ⟨S1024x3072, .f32⟩
  | .hbm, ⟨2, _⟩ => ⟨S1024x3072, .bf16⟩
  | .hbm, ⟨3, _⟩ => ⟨S65536x1024, .bf16⟩
  | .hbm, ⟨4, _⟩ => ⟨S65536x1024, .bf16⟩
  | .hbm, ⟨5, _⟩ => ⟨S65536x1024, .bf16⟩
  | .local _ .vmem, ⟨0, _⟩ => ⟨S256x1024, .f32⟩
  | .local _ .vmem, ⟨1, _⟩ => ⟨S256x1024, .f32⟩
  | .local _ .vmem, ⟨2, _⟩ => ⟨S1024x3072, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference3Ideal.lean ====
abbrev S65536x1024 : Shape := ⟨2, ![65536, 1024]⟩
abbrev S1024x3072 : Shape := ⟨2, ![1024, 3072]⟩
abbrev S65536x3072 : Shape := ⟨2, ![65536, 3072]⟩

abbrev nBuf : Space → Nat
  | .hbm => 9
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024x3072, .f32⟩
  | .hbm, ⟨2, _⟩ => ⟨S65536x3072, .f32⟩
  | .hbm, ⟨3, _⟩ => ⟨S65536x1024, .f32⟩
  | .hbm, ⟨4, _⟩ => ⟨S65536x1024, .f32⟩
  | .hbm, ⟨5, _⟩ => ⟨S65536x1024, .f32⟩
  | .hbm, ⟨6, _⟩ => ⟨S65536x1024, .bf16⟩
  | .hbm, ⟨7, _⟩ => ⟨S65536x1024, .bf16⟩
  | .hbm, ⟨8, _⟩ => ⟨S65536x1024, .bf16⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Kernel4.lean ====
abbrev S65536x1024 : Shape := ⟨2, ![65536, 1024]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 9
  | .vmem => 9
  | .smem => 0
  | _ => 0

abbrev bufTy : (tb : Table) → Fin (tcTables nBuf tb) → BufTy
  | .hbm, ⟨0, _⟩ => ⟨S65536x1024, .bf16⟩
  | .hbm, ⟨1, _⟩ => ⟨S1024x1024, .f32⟩
  | .hbm, ⟨2, _⟩ => ⟨S65536x1024, .f32⟩
  | .hbm, ⟨3, _⟩ => ⟨S1024, .f32⟩
  | .hbm, ⟨4, _⟩ => ⟨S1024, .f32⟩
  | .hbm, ⟨5, _⟩ => ⟨S1024x1024, .bf16⟩
  | .hbm, ⟨6, _⟩ => ⟨S1x1024, .f32⟩
  | .hbm, ⟨7, _⟩ => ⟨S1x1024, .f32⟩
  | .hbm, ⟨8, _⟩ => ⟨S65536x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | _, _ => ⟨S65536x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference4Ideal.lean ====
abbrev S65536x1024 : Shape := ⟨2, ![65536, 1024]⟩
abbrev S1024x1024 : Shape := ⟨2, ![1024, 1024]⟩
abbrev S1024 : Shape := ⟨1, ![1024]⟩
abbrev S_ : Shape := ⟨0, ![]⟩
abbrev S65536 : Shape := ⟨1, ![65536]⟩
abbrev S65536x1 : Shape := ⟨2, ![65536, 1]⟩
abbrev S1x1024 : Shape := ⟨2, ![1, 1024]⟩

abbrev nBuf : Space → Nat
  | .hbm => 39
  | .vmem => 0
  | .smem => 0
  | _ => 0

abbrev bufTy : (tb : Table) → Fin (tcTables nBuf tb) → BufTy
  | .hbm, ⟨0, _⟩ => ⟨S65536x1024, .bf16⟩
  | .hbm, ⟨1, _⟩ => ⟨S1024x1024, .f32⟩
  | .hbm, ⟨2, _⟩ => ⟨S65536x1024, .f32⟩
  | .hbm, ⟨3, _⟩ => ⟨S1024, .f32⟩
  | .hbm, ⟨4, _⟩ => ⟨S1024, .f32⟩
  | .hbm, ⟨5, _⟩ => ⟨S_, .f32⟩
  | .hbm, ⟨6, _⟩ => ⟨S65536x1024, .f32⟩
  | .hbm, ⟨7, _⟩ => ⟨S65536x1024, .f32⟩
  | .hbm, ⟨8, _⟩ => ⟨S65536x1024, .f32⟩
  | .hbm, ⟨9, _⟩ => ⟨S65536x1024, .f32⟩
  | .hbm, ⟨10, _⟩ => ⟨S_, .f32⟩
  | .hbm, ⟨11, _⟩ => ⟨S65536, .f32⟩
  | .hbm, ⟨12, _⟩ => ⟨S65536x1, .f32⟩
  | .hbm, ⟨13, _⟩ => ⟨S_, .f32⟩
  | .hbm, ⟨14, _⟩ => ⟨S65536x1, .f32⟩
  | .hbm, ⟨15, _⟩ => ⟨S65536x1, .f32⟩
  | .hbm, ⟨16, _⟩ => ⟨S65536x1024, .f32⟩
  | .hbm, ⟨17, _⟩ => ⟨S65536x1024, .f32⟩
  | .hbm, ⟨18, _⟩ => ⟨S65536x1024, .f32⟩
  | .hbm, ⟨19, _⟩ => ⟨S_, .f32⟩
  | .hbm, ⟨20, _⟩ => ⟨S65536, .f32⟩
  | .hbm, ⟨21, _⟩ => ⟨S65536x1, .f32⟩
  | .hbm, ⟨22, _⟩ => ⟨S_, .f32⟩
  | .hbm, ⟨23, _⟩ => ⟨S65536x1, .f32⟩
  | .hbm, ⟨24, _⟩ => ⟨S65536x1, .f32⟩
  | .hbm, ⟨25, _⟩ => ⟨S65536x1024, .f32⟩
  | .hbm, ⟨26, _⟩ => ⟨S65536x1024, .f32⟩
  | .hbm, ⟨27, _⟩ => ⟨S_, .f32⟩
  | .hbm, ⟨28, _⟩ => ⟨S65536x1, .f32⟩
  | .hbm, ⟨29, _⟩ => ⟨S65536x1, .f32⟩
  | .hbm, ⟨30, _⟩ => ⟨S65536x1, .f32⟩
  | .hbm, ⟨31, _⟩ => ⟨S65536x1024, .f32⟩
  | .hbm, ⟨32, _⟩ => ⟨S65536x1024, .f32⟩
  | .hbm, ⟨33, _⟩ => ⟨S1x1024, .f32⟩
  | .hbm, ⟨34, _⟩ => ⟨S65536x1024, .f32⟩
  | .hbm, ⟨35, _⟩ => ⟨S65536x1024, .f32⟩
  | .hbm, ⟨36, _⟩ => ⟨S1x1024, .f32⟩
  | .hbm, ⟨37, _⟩ => ⟨S65536x1024, .f32⟩
  | .hbm, ⟨38, _⟩ => ⟨S65536x1024, .f32⟩
  | _, _ => ⟨S65536x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]
-- ==== Kernel5.lean ====
abbrev S65536x512 : Shape := ⟨2, ![65536, 512]⟩
abbrev S65536x1024 : Shape := ⟨2, ![65536, 1024]⟩
abbrev S1536x1024 : Shape := ⟨2, ![1536, 1024]⟩
abbrev S1024 : Shape := ⟨1, ![1024]⟩
abbrev S512x1024 : Shape := ⟨2, ![512, 1024]⟩
abbrev S1024x1024 : Shape := ⟨2, ![1024, 1024]⟩
abbrev S1x1024 : Shape := ⟨2, ![1, 1024]⟩
abbrev S512x512 : Shape := ⟨2, ![512, 512]⟩
abbrev S512 : Shape := ⟨1, ![512]⟩
abbrev S512x1 : Shape := ⟨2, ![512, 1]⟩

abbrev nBuf : Space → Nat
  | .hbm => 12
  | .vmem => 12
  | .smem => 0
  | _ => 0

abbrev bufTy : (tb : Table) → Fin (tcTables nBuf tb) → BufTy
  | .hbm, ⟨0, _⟩ => ⟨S65536x512, .bf16⟩
  | .hbm, ⟨1, _⟩ => ⟨S65536x1024, .bf16⟩
  | .hbm, ⟨2, _⟩ => ⟨S1536x1024, .f32⟩
  | .hbm, ⟨3, _⟩ => ⟨S65536x1024, .f32⟩
  | .hbm, ⟨4, _⟩ => ⟨S1024, .f32⟩
  | .hbm, ⟨5, _⟩ => ⟨S1024, .f32⟩
  | .hbm, ⟨6, _⟩ => ⟨S1536x1024, .bf16⟩
  | .hbm, ⟨7, _⟩ => ⟨S512x1024, .bf16⟩
  | .hbm, ⟨8, _⟩ => ⟨S1024x1024, .bf16⟩
  | .hbm, ⟨9, _⟩ => ⟨S1x1024, .f32⟩
  | .hbm, ⟨10, _⟩ => ⟨S1x1024, .f32⟩
  | .hbm, ⟨11, _⟩ => ⟨S65536x1024, .f32⟩
  | .local _ .vmem, ⟨0, _⟩ => ⟨S512x512, .bf16⟩
  | .local _ .vmem, ⟨1, _⟩ => ⟨S512x512, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S1024x1024, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | _, _ => ⟨S65536x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference5Ideal.lean ====
abbrev S65536x512 : Shape := ⟨2, ![65536, 512]⟩
abbrev S65536x1024 : Shape := ⟨2, ![65536, 1024]⟩
abbrev S1536x1024 : Shape := ⟨2, ![1536, 1024]⟩
abbrev S1024 : Shape := ⟨1, ![1024]⟩
abbrev S_ : Shape := ⟨0, ![]⟩
abbrev S65536x1536 : Shape := ⟨2, ![65536, 1536]⟩
abbrev S65536 : Shape := ⟨1, ![65536]⟩
abbrev S65536x1 : Shape := ⟨2, ![65536, 1]⟩
abbrev S1x1024 : Shape := ⟨2, ![1, 1024]⟩

abbrev nBuf : Space → Nat
  | .hbm => 41
  | .vmem => 0
  | .smem => 0
  | _ => 0

abbrev bufTy : (tb : Table) → Fin (tcTables nBuf tb) → BufTy
  | .hbm, ⟨0, _⟩ => ⟨S65536x512, .bf16⟩
  | .hbm, ⟨1, _⟩ => ⟨S65536x1024, .bf16⟩
  | .hbm, ⟨2, _⟩ => ⟨S1536x1024, .f32⟩
  | .hbm, ⟨3, _⟩ => ⟨S65536x1024, .f32⟩
  | .hbm, ⟨4, _⟩ => ⟨S1024, .f32⟩
  | .hbm, ⟨5, _⟩ => ⟨S1024, .f32⟩
  | .hbm, ⟨6, _⟩ => ⟨S_, .f32⟩
  | .hbm, ⟨7, _⟩ => ⟨S65536x1024, .f32⟩
  | .hbm, ⟨8, _⟩ => ⟨S65536x1024, .f32⟩
  | .hbm, ⟨9, _⟩ => ⟨S65536x1536, .bf16⟩
  | .hbm, ⟨10, _⟩ => ⟨S65536x1024, .f32⟩
  | .hbm, ⟨11, _⟩ => ⟨S65536x1024, .f32⟩
  | .hbm, ⟨12, _⟩ => ⟨S_, .f32⟩
  | .hbm, ⟨13, _⟩ => ⟨S65536, .f32⟩
  | .hbm, ⟨14, _⟩ => ⟨S65536x1, .f32⟩
  | .hbm, ⟨15, _⟩ => ⟨S_, .f32⟩
  | .hbm, ⟨16, _⟩ => ⟨S65536x1, .f32⟩
  | .hbm, ⟨17, _⟩ => ⟨S65536x1, .f32⟩
  | .hbm, ⟨18, _⟩ => ⟨S65536x1024, .f32⟩
  | .hbm, ⟨19, _⟩ => ⟨S65536x1024, .f32⟩
  | .hbm, ⟨20, _⟩ => ⟨S65536x1024, .f32⟩
  | .hbm, ⟨21, _⟩ => ⟨S_, .f32⟩
  | .hbm, ⟨22, _⟩ => ⟨S65536, .f32⟩
  | .hbm, ⟨23, _⟩ => ⟨S65536x1, .f32⟩
  | .hbm, ⟨24, _⟩ => ⟨S_, .f32⟩
  | .hbm, ⟨25, _⟩ => ⟨S65536x1, .f32⟩
  | .hbm, ⟨26, _⟩ => ⟨S65536x1, .f32⟩
  | .hbm, ⟨27, _⟩ => ⟨S65536x1024, .f32⟩
  | .hbm, ⟨28, _⟩ => ⟨S65536x1024, .f32⟩
  | .hbm, ⟨29, _⟩ => ⟨S_, .f32⟩
  | .hbm, ⟨30, _⟩ => ⟨S65536x1, .f32⟩
  | .hbm, ⟨31, _⟩ => ⟨S65536x1, .f32⟩
  | .hbm, ⟨32, _⟩ => ⟨S65536x1, .f32⟩
  | .hbm, ⟨33, _⟩ => ⟨S65536x1024, .f32⟩
  | .hbm, ⟨34, _⟩ => ⟨S65536x1024, .f32⟩
  | .hbm, ⟨35, _⟩ => ⟨S1x1024, .f32⟩
  | .hbm, ⟨36, _⟩ => ⟨S65536x1024, .f32⟩
  | .hbm, ⟨37, _⟩ => ⟨S65536x1024, .f32⟩
  | .hbm, ⟨38, _⟩ => ⟨S1x1024, .f32⟩
  | .hbm, ⟨39, _⟩ => ⟨S65536x1024, .f32⟩
  | .hbm, ⟨40, _⟩ => ⟨S65536x1024, .f32⟩
  | _, _ => ⟨S65536x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩

abbrev nD : Nat := 1
abbrev τ : Topo := Topo.v7x

variable {F : FTy → Type} [FloatOps F]
-- ==== Kernel6.lean ====
abbrev S65536x1024 : Shape := ⟨2, ![65536, 1024]⟩
abbrev S1024x4624 : Shape := ⟨2, ![1024, 4624]⟩
abbrev S1024x4608 : Shape := ⟨2, ![1024, 4608]⟩
abbrev S1024x16 : Shape := ⟨2, ![1024, 16]⟩
abbrev S_ : Shape := ⟨0, ![]⟩
abbrev S1024x128 : Shape := ⟨2, ![1024, 128]⟩
abbrev S1024x4736 : Shape := ⟨2, ![1024, 4736]⟩
abbrev S65536x512 : Shape := ⟨2, ![65536, 512]⟩
abbrev S65536x2048 : Shape := ⟨2, ![65536, 2048]⟩
abbrev S65536x128 : Shape := ⟨2, ![65536, 128]⟩
abbrev S256x1024 : Shape := ⟨2, ![256, 1024]⟩
abbrev S256x512 : Shape := ⟨2, ![256, 512]⟩
abbrev S256x2048 : Shape := ⟨2, ![256, 2048]⟩
abbrev S256x128 : Shape := ⟨2, ![256, 128]⟩
abbrev S1024x512 : Shape := ⟨2, ![1024, 512]⟩
abbrev S1024x1024 : Shape := ⟨2, ![1024, 1024]⟩
abbrev S1024x2048 : Shape := ⟨2, ![1024, 2048]⟩

abbrev nBuf : Space → Nat
  | .hbm => 15
  | .vmem => 15
  | .smem => 0
  | _ => 0

abbrev bufTy : (tb : Table) → Fin (tcTables nBuf tb) → BufTy
  | .hbm, ⟨0, _⟩ => ⟨S65536x1024, .f32⟩
  | .hbm, ⟨1, _⟩ => ⟨S1024x4624, .f32⟩
  | .hbm, ⟨2, _⟩ => ⟨S1024x4608, .f32⟩
  | .hbm, ⟨3, _⟩ => ⟨S1024x16, .f32⟩
  | .hbm, ⟨4, _⟩ => ⟨S_, .i32⟩
  | .hbm, ⟨5, _⟩ => ⟨S_, .f32⟩
  | .hbm, ⟨6, _⟩ => ⟨S1024x128, .f32⟩
  | .hbm, ⟨7, _⟩ => ⟨S1024x4736, .f32⟩
  | .hbm, ⟨8, _⟩ => ⟨S1024x4736, .bf16⟩
  | .hbm, ⟨9, _⟩ => ⟨S65536x512, .bf16⟩
  | .hbm, ⟨10, _⟩ => ⟨S65536x512, .bf16⟩
  | .hbm, ⟨11, _⟩ => ⟨S65536x512, .bf16⟩
  | .hbm, ⟨12, _⟩ => ⟨S65536x1024, .f32⟩
  | .hbm, ⟨13, _⟩ => ⟨S65536x2048, .f32⟩
  | .hbm, ⟨14, _⟩ => ⟨S65536x128, .f32⟩
  | .local _ .vmem, ⟨0, _⟩ => ⟨S256x1024, .f32⟩
  | .local _ .vmem, ⟨1, _⟩ => ⟨S256x1024, .f32⟩
  | .local _ .vmem, ⟨2, _⟩ => ⟨S1024x4736, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256x1024, .f32⟩
  | .local _ .vmem, ⟨10, _⟩ => ⟨S256x1024, .f32⟩
  | .local _ .vmem, ⟨11, _⟩ => ⟨S256x2048, .f32⟩
  | .local _ .vmem, ⟨12, _⟩ => ⟨S256x2048, .f32⟩
  | .local _ .vmem, ⟨13, _⟩ => ⟨S256x128, .f32⟩
  | .local _ .vmem, ⟨14, _⟩ => ⟨S256x128, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev main_v5_3 : Ref sig .tc := ⟨.hbm, 12, rfl⟩
abbrev main_v5_4 : Ref sig .tc := ⟨.hbm, 13, rfl⟩
abbrev main_v5_5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4736 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference6Ideal.lean ====
abbrev S65536x1024 : Shape := ⟨2, ![65536, 1024]⟩
abbrev S1024x4624 : Shape := ⟨2, ![1024, 4624]⟩
abbrev S65536x4624 : Shape := ⟨2, ![65536, 4624]⟩
abbrev S65536x512 : Shape := ⟨2, ![65536, 512]⟩
abbrev S65536x2048 : Shape := ⟨2, ![65536, 2048]⟩
abbrev S65536x16 : Shape := ⟨2, ![65536, 16]⟩
abbrev S_ : Shape := ⟨0, ![]⟩
abbrev S65536x128 : Shape := ⟨2, ![65536, 128]⟩

abbrev nBuf : Space → Nat
  | .hbm => 15
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024x4624, .f32⟩
  | .hbm, ⟨2, _⟩ => ⟨S65536x4624, .f32⟩
  | .hbm, ⟨3, _⟩ => ⟨S65536x512, .f32⟩
  | .hbm, ⟨4, _⟩ => ⟨S65536x512, .f32⟩
  | .hbm, ⟨5, _⟩ => ⟨S65536x512, .f32⟩
  | .hbm, ⟨6, _⟩ => ⟨S65536x1024, .f32⟩
  | .hbm, ⟨7, _⟩ => ⟨S65536x2048, .f32⟩
  | .hbm, ⟨8, _⟩ => ⟨S65536x16, .f32⟩
  | .hbm, ⟨9, _⟩ => ⟨S65536x512, .bf16⟩
  | .hbm, ⟨10, _⟩ => ⟨S65536x512, .bf16⟩
  | .hbm, ⟨11, _⟩ => ⟨S65536x512, .bf16⟩
  | .hbm, ⟨12, _⟩ => ⟨S_, .i32⟩
  | .hbm, ⟨13, _⟩ => ⟨S_, .f32⟩
  | .hbm, ⟨14, _⟩ => ⟨S65536x128, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_c : Ref sig .tc := ⟨.hbm, 12, rfl⟩
abbrev main_call0_v0 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Proof.Segs.lean ====
/-
  The kernel's body cut at its conditionals. Each piece takes the program that follows it, `kp`, so that what comes after
  a conditional is stated once, whichever way the conditional goes, and where it has pieces of its own the program `kk`
  that goes on inside from the arrays it loads.
-/
module

public import proofs.«01_k».proof.Proof.Gen.KernelIdeal.Loops

@[expose] public section

set_option maxRecDepth 16384

noncomputable section

namespace Cert.KernelIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

/-- At the first point of a tile: the running sum cleared and the tile kept in the matrix unit's format. -/
def segInit (i : grid0.Coords) (arg4 : Memref sig .tc .vmem S1024x1024 .f32) (arg13 : Memref sig .tc .vmem S1024x1024 .f32) (arg14 : Memref sig .tc .vmem S1024x1024 .bf16) (harg14 : arg14.IsWhole) {β : Type} (kp : Prog (TpuEff nD τ sig (Elt F) Λ₀ .tc) β) : Prog (TpuEff nD τ sig (Elt F) Λ₀ .tc) β :=
  if k0_h1 : k0_cond1 i = 1#1 then do
    let v36 : Vec F S1024x1024 .f32 ← Prog.lift (.load arg13 (Rect.unit (s := S1024x1024) ![0, 0] S1024x1024.size inb_S1024x1024_S1024x1024_0_0).toLoadRect (View.loadsAt_vmem h_S1024x1024))
    Prog.lift (.store arg13 (Rect.unit (s := S1024x1024) ![0, 0] S1024x1024.size inb_S1024x1024_S1024x1024_0_0) (k0_pay7 (F := F)) Finset.univ (View.stores_vmem_bits_univ h_S1024x1024 rfl) (.inl rfl))
    let v37 : Vec F S1024x1024 .f32 ← Prog.lift (.load arg4 (Rect.unit (s := S1024x1024) ![0, 0] S1024x1024.size inb_S1024x1024_S1024x1024_0_0).toLoadRect (View.loadsAt_vmem h_S1024x1024))
    let v39 : Vec F S1024x1024 .bf16 ← Prog.lift (.load arg14 (Rect.unit (s := S1024x1024) ![0, 0] S1024x1024.size inb_S1024x1024_S1024x1024_0_0).toLoadRect (View.loadsAt_vmem h_S1024x1024))
    Prog.lift (.store arg14 (Rect.unit (s := S1024x1024) ![0, 0] S1024x1024.size inb_S1024x1024_S1024x1024_0_0) (k0_pay8 v37) Finset.univ (View.stores_vmem h_S1024x1024 (harg14.storeExact_slice rfl _ packedbf16_S1024x1024_S1024x1024_0_0) (fun _ => rfl)) (.inl rfl))
    kp
  else kp

/-- The gather's group of 128 rows, run when the count has its bit 2. -/
def segG128 (i : grid0.Coords) (arg14 : Memref sig .tc .vmem S1024x1024 .bf16) (arg15 : Memref sig .tc .vmem S1024x1024 .bf16) (harg15 : arg15.IsWhole) (arg16 : Memref sig .tc .vmem S1024x128 .f32) (v3 : Elt F .i32) (k0_hw1 : k0_chk1 i v3) (k0_h2 : k0_cond2 i = 1#1) (v35 : Vec F S1024x128 .f32) (v41 : Vec F S1x1x1024 .f32) {β : Type} (kp : Prog (TpuEff nD τ sig (Elt F) Λ₀ .tc) β) : Prog (TpuEff nD τ sig (Elt F) Λ₀ .tc) β :=
  if k0_h3 : k0_cond3 v3 = 1#1 then do
    let v69 : Vec F S1024x1024 .bf16 ← Prog.lift (.load arg14 (Rect.unit (s := S1024x1024) ![0, 0] S1024x1024.size inb_S1024x1024_S1024x1024_0_0).toLoadRect (View.loadsAt_vmem h_S1024x1024))
    let v73 : Vec F S128x1024 .bf16 ← Prog.lift (.load arg15 (Rect.unit (s := S1024x1024) (k0_off7 v3) S128x1024.size (k0_off7_inb i v3 k0_hw1 k0_h2 k0_h3)).toLoadRect (View.loadsAt_vmem h_S128x1024))
    Prog.lift (.store arg15 (Rect.unit (s := S1024x1024) (k0_off7 v3) S128x1024.size (k0_off7_inb i v3 k0_hw1 k0_h2 k0_h3)) (k0_pay19 v3 v41 v69) Finset.univ (View.stores_vmem h_S128x1024 (harg15.storeExact_slice rfl _ (k0_off7_packedbf16 i v3 k0_hw1 k0_h2 k0_h3)) (fun _ => rfl)) (.inl rfl))
    let v90 : Vec F S128x128 .f32 ← Prog.lift (.load arg16 (Rect.unit (s := S1024x128) (k0_off8 v3) S128x128.size (k0_off8_inb i v3 k0_hw1 k0_h2 k0_h3)).toLoadRect (View.loadsAt_vmem h_S128x128))
    Prog.lift (.store arg16 (Rect.unit (s := S1024x128) (k0_off8 v3) S128x128.size (k0_off8_inb i v3 k0_hw1 k0_h2 k0_h3)) (k0_pay20 i v3 v35 v41) Finset.univ (View.stores_vmem_bits_univ h_S128x128 rfl) (.inl rfl))
    kp
  else kp

/-- The gather's last group of 64 rows, run when the count is odd. -/
def segG64 (i : grid0.Coords) (arg14 : Memref sig .tc .vmem S1024x1024 .bf16) (arg15 : Memref sig .tc .vmem S1024x1024 .bf16) (harg15 : arg15.IsWhole) (arg16 : Memref sig .tc .vmem S1024x128 .f32) (v3 : Elt F .i32) (k0_hw1 : k0_chk1 i v3) (k0_h2 : k0_cond2 i = 1#1) (v35 : Vec F S1024x128 .f32) (v41 : Vec F S1x1x1024 .f32) {β : Type} (kp : Prog (TpuEff nD τ sig (Elt F) Λ₀ .tc) β) : Prog (TpuEff nD τ sig (Elt F) Λ₀ .tc) β :=
  if k0_h4 : k0_cond4 v3 = 1#1 then do
    let v70 : Vec F S1024x1024 .bf16 ← Prog.lift (.load arg14 (Rect.unit (s := S1024x1024) ![0, 0] S1024x1024.size inb_S1024x1024_S1024x1024_0_0).toLoadRect (View.loadsAt_vmem h_S1024x1024))
    let v74 : Vec F S64x1024 .bf16 ← Prog.lift (.load arg15 (Rect.unit (s := S1024x1024) (k0_off9 v3) S64x1024.size (k0_off9_inb i v3 k0_hw1 k0_h2 k0_h4)).toLoadRect (View.loadsAt_vmem h_S64x1024))
    Prog.lift (.store arg15 (Rect.unit (s := S1024x1024) (k0_off9 v3) S64x1024.size (k0_off9_inb i v3 k0_hw1 k0_h2 k0_h4)) (k0_pay22 v3 v41 v70) Finset.univ (View.stores_vmem h_S64x1024 (harg15.storeExact_slice rfl _ (k0_off9_packedbf16 i v3 k0_hw1 k0_h2 k0_h4)) (fun _ => rfl)) (.inl rfl))
    let v91 : Vec F S64x128 .f32 ← Prog.lift (.load arg16 (Rect.unit (s := S1024x128) (k0_off10 v3) S64x128.size (k0_off10_inb i v3 k0_hw1 k0_h2 k0_h4)).toLoadRect (View.loadsAt_vmem h_S64x128))
    Prog.lift (.store arg16 (Rect.unit (s := S1024x128) (k0_off10 v3) S64x128.size (k0_off10_inb i v3 k0_hw1 k0_h2 k0_h4)) (k0_pay23 i v3 v35 v41) Finset.univ (View.stores_vmem_bits_univ h_S64x128 rfl) (.inl rfl))
    kp
  else kp

/-- The gather of an expert's rows, run at the expert's first point. -/
def segGather (i : grid0.Coords) (arg5 : Memref sig .tc .vmem S1024x128 .f32) (arg7 : Memref sig .tc .vmem S1x8x1024 .f32) {β : Type} (kk : k0_cond2 i = 1#1 → Vec F S1024x128 .f32 → Vec F S1x1x1024 .f32 → Prog (TpuEff nD τ sig (Elt F) Λ₀ .tc) β) (kp : Prog (TpuEff nD τ sig (Elt F) Λ₀ .tc) β) : Prog (TpuEff nD τ sig (Elt F) Λ₀ .tc) β :=
  if k0_h2 : k0_cond2 i = 1#1 then do
    let v35 : Vec F S1024x128 .f32 ← Prog.lift (.load arg5 (Rect.unit (s := S1024x128) ![0, 0] S1024x128.size inb_S1024x128_S1024x128_0_0).toLoadRect (View.loadsAt_vmem h_S1024x128))
    let v41 : Vec F S1x1x1024 .f32 ← Prog.lift (.load arg7 (Rect.unit (s := S1x8x1024) (k0_off2 i) S1x1x1024.size (k0_off2_inb i k0_h2)).toLoadRect (View.loadsAt_vmem h_S1x1x1024))
    kk k0_h2 v35 v41
  else kp

/-- Two groups' product stored, at the first column block. -/
def segF128a (i : grid0.Coords) (arg17 : Memref sig .tc .vmem S1024x1024 .f32) (v3 : Elt F .i32) (k0_hw1 : k0_chk1 i v3) (k0_h9 : k0_cond9 v3 = 1#1) (v38 : Vec F S128x1024 .bf16) (v39 : Vec F S1x1024x896 .bf16) (v42 : Vec F S1x1024x896 .bf16) (v49 : Vec F S128x1 .f32) (v53 : Vec F S1x896x1024 .bf16) {β : Type} (kp : Prog (TpuEff nD τ sig (Elt F) Λ₀ .tc) β) : Prog (TpuEff nD τ sig (Elt F) Λ₀ .tc) β :=
  if k0_h10 : k0_cond10 i = 1#1 then do
    let v63 : Vec F S128x1024 .f32 ← Prog.lift (.load arg17 (Rect.unit (s := S1024x1024) (k0_off21 v3) S128x1024.size (k0_off21_inb i v3 k0_hw1 k0_h9 k0_h10)).toLoadRect (View.loadsAt_vmem h_S128x1024))
    Prog.lift (.store arg17 (Rect.unit (s := S1024x1024) (k0_off21 v3) S128x1024.size (k0_off21_inb i v3 k0_hw1 k0_h9 k0_h10)) (k0_pay31 v38 v39 v42 v49 v53) Finset.univ (View.stores_vmem_bits_univ h_S128x1024 rfl) (.inl rfl))
    kp
  else kp

/-- Two groups' product added, at a later column block. -/
def segF128b (i : grid0.Coords) (arg17 : Memref sig .tc .vmem S1024x1024 .f32) (v3 : Elt F .i32) (k0_hw1 : k0_chk1 i v3) (k0_h9 : k0_cond9 v3 = 1#1) (v38 : Vec F S128x1024 .bf16) (v39 : Vec F S1x1024x896 .bf16) (v42 : Vec F S1x1024x896 .bf16) (v49 : Vec F S128x1 .f32) (v53 : Vec F S1x896x1024 .bf16) {β : Type} (kp : Prog (TpuEff nD τ sig (Elt F) Λ₀ .tc) β) : Prog (TpuEff nD τ sig (Elt F) Λ₀ .tc) β :=
  if k0_h11 : k0_cond11 i = 1#1 then do
    let v63 : Vec F S128x1024 .f32 ← Prog.lift (.load arg17 (Rect.unit (s := S1024x1024) (k0_off22 v3) S128x1024.size (k0_off22_inb i v3 k0_hw1 k0_h9 k0_h11)).toLoadRect (View.loadsAt_vmem h_S128x1024))
    let v66 : Vec F S128x1024 .f32 ← Prog.lift (.load arg17 (Rect.unit (s := S1024x1024) (k0_off22 v3) S128x1024.size (k0_off22_inb i v3 k0_hw1 k0_h9 k0_h11)).toLoadRect (View.loadsAt_vmem h_S128x1024))
    Prog.lift (.store arg17 (Rect.unit (s := S1024x1024) (k0_off22 v3) S128x1024.size (k0_off22_inb i v3 k0_hw1 k0_h9 k0_h11)) (k0_pay32 v38 v39 v42 v49 v53 v63) Finset.univ (View.stores_vmem_bits_univ h_S128x1024 rfl) (.inl rfl))
    kp
  else kp

/-- The expert's product over its group of 128 rows. -/
def segF128 (i : grid0.Coords) (arg8 : Memref sig .tc .vmem S1x1024x896 .bf16) (arg9 : Memref sig .tc .vmem S1x1024x896 .bf16) (arg10 : Memref sig .tc .vmem S1x896x1024 .bf16) (arg15 : Memref sig .tc .vmem S1024x1024 .bf16) (arg16 : Memref sig .tc .vmem S1024x128 .f32) (v3 : Elt F .i32) (k0_hw1 : k0_chk1 i v3) {β : Type} (kk : k0_cond9 v3 = 1#1 → Vec F S128x1024 .bf16 → Vec F S1x1024x896 .bf16 → Vec F S1x1024x896 .bf16 → Vec F S128x1 .f32 → Vec F S1x896x1024 .bf16 → Prog (TpuEff nD τ sig (Elt F) Λ₀ .tc) β) (kp : Prog (TpuEff nD τ sig (Elt F) Λ₀ .tc) β) : Prog (TpuEff nD τ sig (Elt F) Λ₀ .tc) β :=
  if k0_h9 : k0_cond9 v3 = 1#1 then do
    let v38 : Vec F S128x1024 .bf16 ← Prog.lift (.load arg15 (Rect.unit (s := S1024x1024) (k0_off19 v3) S128x1024.size (k0_off19_inb i v3 k0_hw1 k0_h9)).toLoadRect (View.loadsAt_vmem h_S128x1024))
    let v39 : Vec F S1x1024x896 .bf16 ← Prog.lift (.load arg8 (Rect.unit (s := S1x1024x896) ![0, 0, 0] S1x1024x896.size inb_S1x1024x896_S1x1024x896_0_0_0).toLoadRect (View.loadsAt_vmem h_S1x1024x896))
    let v42 : Vec F S1x1024x896 .bf16 ← Prog.lift (.load arg9 (Rect.unit (s := S1x1024x896) ![0, 0, 0] S1x1024x896.size inb_S1x1024x896_S1x1024x896_0_0_0).toLoadRect (View.loadsAt_vmem h_S1x1024x896))
    let v49 : Vec F S128x1 .f32 ← Prog.lift (.load arg16 (Rect.unit (s := S1024x128) (k0_off20 v3) S128x1.size (k0_off20_inb i v3 k0_hw1 k0_h9)).toLoadRect (View.loadsAt_vmem h_S128x1))
    let v53 : Vec F S1x896x1024 .bf16 ← Prog.lift (.load arg10 (Rect.unit (s := S1x896x1024) ![0, 0, 0] S1x896x1024.size inb_S1x896x1024_S1x896x1024_0_0_0).toLoadRect (View.loadsAt_vmem h_S1x896x1024))
    kk k0_h9 v38 v39 v42 v49 v53
  else kp

/-- The last group's product stored, at the first column block. -/
def segF64a (i : grid0.Coords) (arg17 : Memref sig .tc .vmem S1024x1024 .f32) (v3 : Elt F .i32) (k0_hw1 : k0_chk1 i v3) (k0_h12 : k0_cond12 v3 = 1#1) (v39 : Vec F S64x1024 .bf16) (v40 : Vec F S1x1024x896 .bf16) (v43 : Vec F S1x1024x896 .bf16) (v50 : Vec F S64x1 .f32) (v54 : Vec F S1x896x1024 .bf16) {β : Type} (kp : Prog (TpuEff nD τ sig (Elt F) Λ₀ .tc) β) : Prog (TpuEff nD τ sig (Elt F) Λ₀ .tc) β :=
  if k0_h13 : k0_cond13 i = 1#1 then do
    let v64 : Vec F S64x1024 .f32 ← Prog.lift (.load arg17 (Rect.unit (s := S1024x1024) (k0_off25 v3) S64x1024.size (k0_off25_inb i v3 k0_hw1 k0_h12 k0_h13)).toLoadRect (View.loadsAt_vmem h_S64x1024))
    Prog.lift (.store arg17 (Rect.unit (s := S1024x1024) (k0_off25 v3) S64x1024.size (k0_off25_inb i v3 k0_hw1 k0_h12 k0_h13)) (k0_pay34 v39 v40 v43 v50 v54) Finset.univ (View.stores_vmem_bits_univ h_S64x1024 rfl) (.inl rfl))
    kp
  else kp

/-- The last group's product added, at a later column block. -/
def segF64b (i : grid0.Coords) (arg17 : Memref sig .tc .vmem S1024x1024 .f32) (v3 : Elt F .i32) (k0_hw1 : k0_chk1 i v3) (k0_h12 : k0_cond12 v3 = 1#1) (v39 : Vec F S64x1024 .bf16) (v40 : Vec F S1x1024x896 .bf16) (v43 : Vec F S1x1024x896 .bf16) (v50 : Vec F S64x1 .f32) (v54 : Vec F S1x896x1024 .bf16) {β : Type} (kp : Prog (TpuEff nD τ sig (Elt F) Λ₀ .tc) β) : Prog (TpuEff nD τ sig (Elt F) Λ₀ .tc) β :=
  if k0_h14 : k0_cond14 i = 1#1 then do
    let v64 : Vec F S64x1024 .f32 ← Prog.lift (.load arg17 (Rect.unit (s := S1024x1024) (k0_off26 v3) S64x1024.size (k0_off26_inb i v3 k0_hw1 k0_h12 k0_h14)).toLoadRect (View.loadsAt_vmem h_S64x1024))
    let v67 : Vec F S64x1024 .f32 ← Prog.lift (.load arg17 (Rect.unit (s := S1024x1024) (k0_off26 v3) S64x1024.size (k0_off26_inb i v3 k0_hw1 k0_h12 k0_h14)).toLoadRect (View.loadsAt_vmem h_S64x1024))
    Prog.lift (.store arg17 (Rect.unit (s := S1024x1024) (k0_off26 v3) S64x1024.size (k0_off26_inb i v3 k0_hw1 k0_h12 k0_h14)) (k0_pay35 v39 v40 v43 v50 v54 v64) Finset.univ (View.stores_vmem_bits_univ h_S64x1024 rfl) (.inl rfl))
    kp
  else kp

/-- The expert's product over its last group of 64 rows. -/
def segF64 (i : grid0.Coords) (arg8 : Memref sig .tc .vmem S1x1024x896 .bf16) (arg9 : Memref sig .tc .vmem S1x1024x896 .bf16) (arg10 : Memref sig .tc .vmem S1x896x1024 .bf16) (arg15 : Memref sig .tc .vmem S1024x1024 .bf16) (arg16 : Memref sig .tc .vmem S1024x128 .f32) (v3 : Elt F .i32) (k0_hw1 : k0_chk1 i v3) {β : Type} (kk : k0_cond12 v3 = 1#1 → Vec F S64x1024 .bf16 → Vec F S1x1024x896 .bf16 → Vec F S1x1024x896 .bf16 → Vec F S64x1 .f32 → Vec F S1x896x1024 .bf16 → Prog (TpuEff nD τ sig (Elt F) Λ₀ .tc) β) (kp : Prog (TpuEff nD τ sig (Elt F) Λ₀ .tc) β) : Prog (TpuEff nD τ sig (Elt F) Λ₀ .tc) β :=
  if k0_h12 : k0_cond12 v3 = 1#1 then do
    let v39 : Vec F S64x1024 .bf16 ← Prog.lift (.load arg15 (Rect.unit (s := S1024x1024) (k0_off23 v3) S64x1024.size (k0_off23_inb i v3 k0_hw1 k0_h12)).toLoadRect (View.loadsAt_vmem h_S64x1024))
    let v40 : Vec F S1x1024x896 .bf16 ← Prog.lift (.load arg8 (Rect.unit (s := S1x1024x896) ![0, 0, 0] S1x1024x896.size inb_S1x1024x896_S1x1024x896_0_0_0).toLoadRect (View.loadsAt_vmem h_S1x1024x896))
    let v43 : Vec F S1x1024x896 .bf16 ← Prog.lift (.load arg9 (Rect.unit (s := S1x1024x896) ![0, 0, 0] S1x1024x896.size inb_S1x1024x896_S1x1024x896_0_0_0).toLoadRect (View.loadsAt_vmem h_S1x1024x896))
    let v50 : Vec F S64x1 .f32 ← Prog.lift (.load arg16 (Rect.unit (s := S1024x128) (k0_off24 v3) S64x1.size (k0_off24_inb i v3 k0_hw1 k0_h12)).toLoadRect (View.loadsAt_vmem h_S64x1))
    let v54 : Vec F S1x896x1024 .bf16 ← Prog.lift (.load arg10 (Rect.unit (s := S1x896x1024) ![0, 0, 0] S1x896x1024.size inb_S1x896x1024_S1x896x1024_0_0_0).toLoadRect (View.loadsAt_vmem h_S1x896x1024))
    kk k0_h12 v39 v40 v43 v50 v54
  else kp

/-- The scatter of the group of 128 rows. -/
def segS128 (i : grid0.Coords) (arg13 : Memref sig .tc .vmem S1024x1024 .f32) (arg17 : Memref sig .tc .vmem S1024x1024 .f32) (arg1 : BitVec 32) (v3 : Elt F .i32) (k0_hw1 : k0_chk1 i v3) (v4 : IVec S1x128 32) (k0_h15 : k0_cond15 i = 1#1) (v35 : Vec F S1024x128 .f32) {β : Type} (kp : Prog (TpuEff nD τ sig (Elt F) Λ₀ .tc) β) : Prog (TpuEff nD τ sig (Elt F) Λ₀ .tc) β :=
  if k0_h16 : k0_cond16 v3 = 1#1 then do
    let v70 : Vec F S1024x1024 .f32 ← Prog.lift (.load arg13 (Rect.unit (s := S1024x1024) ![0, 0] S1024x1024.size inb_S1024x1024_S1024x1024_0_0).toLoadRect (View.loadsAt_vmem h_S1024x1024))
    let v73 : Vec F S128x1024 .f32 ← Prog.lift (.load arg17 (Rect.unit (s := S1024x1024) (k0_off29 v3) S128x1024.size (k0_off29_inb i v3 k0_hw1 k0_h15 k0_h16)).toLoadRect (View.loadsAt_vmem h_S128x1024))
    let v77 : Vec F S1024x1024 .f32 ← Prog.lift (.load arg13 (Rect.unit (s := S1024x1024) ![0, 0] S1024x1024.size inb_S1024x1024_S1024x1024_0_0).toLoadRect (View.loadsAt_vmem h_S1024x1024))
    Prog.lift (.store arg13 (Rect.unit (s := S1024x1024) ![0, 0] S1024x1024.size inb_S1024x1024_S1024x1024_0_0) (k0_pay4 arg1 v3 v4 v35 v70 v73) Finset.univ (View.stores_vmem_bits_univ h_S1024x1024 rfl) (.inl rfl))
    kp
  else kp

/-- The scatter of the last group of 64 rows. -/
def segS64 (i : grid0.Coords) (arg13 : Memref sig .tc .vmem S1024x1024 .f32) (arg17 : Memref sig .tc .vmem S1024x1024 .f32) (arg1 : BitVec 32) (v3 : Elt F .i32) (k0_hw1 : k0_chk1 i v3) (v4 : IVec S1x128 32) (k0_h15 : k0_cond15 i = 1#1) (v35 : Vec F S1024x128 .f32) {β : Type} (kp : Prog (TpuEff nD τ sig (Elt F) Λ₀ .tc) β) : Prog (TpuEff nD τ sig (Elt F) Λ₀ .tc) β :=
  if k0_h17 : k0_cond17 v3 = 1#1 then do
    let v71 : Vec F S1024x1024 .f32 ← Prog.lift (.load arg13 (Rect.unit (s := S1024x1024) ![0, 0] S1024x1024.size inb_S1024x1024_S1024x1024_0_0).toLoadRect (View.loadsAt_vmem h_S1024x1024))
    let v74 : Vec F S64x1024 .f32 ← Prog.lift (.load arg17 (Rect.unit (s := S1024x1024) (k0_off30 v3) S64x1024.size (k0_off30_inb i v3 k0_hw1 k0_h15 k0_h17)).toLoadRect (View.loadsAt_vmem h_S64x1024))
    let v78 : Vec F S1024x1024 .f32 ← Prog.lift (.load arg13 (Rect.unit (s := S1024x1024) ![0, 0] S1024x1024.size inb_S1024x1024_S1024x1024_0_0).toLoadRect (View.loadsAt_vmem h_S1024x1024))
    Prog.lift (.store arg13 (Rect.unit (s := S1024x1024) ![0, 0] S1024x1024.size inb_S1024x1024_S1024x1024_0_0) (k0_pay5 arg1 v3 v4 v35 v71 v74) Finset.univ (View.stores_vmem_bits_univ h_S1024x1024 rfl) (.inl rfl))
    kp
  else kp

/-- The scatter of an expert's rows, run at the expert's last point. -/
def segScatter (i : grid0.Coords) (arg6 : Memref sig .tc .vmem S1024x128 .f32) {β : Type} (kk : k0_cond15 i = 1#1 → Vec F S1024x128 .f32 → Prog (TpuEff nD τ sig (Elt F) Λ₀ .tc) β) (kp : Prog (TpuEff nD τ sig (Elt F) Λ₀ .tc) β) : Prog (TpuEff nD τ sig (Elt F) Λ₀ .tc) β :=
  if k0_h15 : k0_cond15 i = 1#1 then do
    let v35 : Vec F S1024x128 .f32 ← Prog.lift (.load arg6 (Rect.unit (s := S1024x128) ![0, 0] S1024x128.size inb_S1024x128_S1024x128_0_0).toLoadRect (View.loadsAt_vmem h_S1024x128))
    kk k0_h15 v35
  else kp

/-- At the last point of a tile: the residual and the layer norm. -/
def segNorm (i : grid0.Coords) (arg4 : Memref sig .tc .vmem S1024x1024 .f32) (arg11 : Memref sig .tc .vmem S1x1024 .f32) (arg12 : Memref sig .tc .vmem S1x1024 .f32) (arg13 : Memref sig .tc .vmem S1024x1024 .f32) {β : Type} (kp : Prog (TpuEff nD τ sig (Elt F) Λ₀ .tc) β) : Prog (TpuEff nD τ sig (Elt F) Λ₀ .tc) β :=
  if k0_h18 : k0_cond18 i = 1#1 then do
    let v35 : Vec F S1024x1024 .f32 ← Prog.lift (.load arg4 (Rect.unit (s := S1024x1024) ![0, 0] S1024x1024.size inb_S1024x1024_S1024x1024_0_0).toLoadRect (View.loadsAt_vmem h_S1024x1024))
    let v38 : Vec F S1024x1024 .f32 ← Prog.lift (.load arg13 (Rect.unit (s := S1024x1024) ![0, 0] S1024x1024.size inb_S1024x1024_S1024x1024_0_0).toLoadRect (View.loadsAt_vmem h_S1024x1024))
    let v41 : Vec F S1x1024 .f32 ← Prog.lift (.load arg11 (Rect.unit (s := S1x1024) ![0, 0] S1x1024.size inb_S1x1024_S1x1024_0_0).toLoadRect (View.loadsAt_vmem h_S1x1024))
    let v43 : Vec F S1x1024 .f32 ← Prog.lift (.load arg12 (Rect.unit (s := S1x1024) ![0, 0] S1x1024.size inb_S1x1024_S1x1024_0_0).toLoadRect (View.loadsAt_vmem h_S1x1024))
    let v65 : Vec F S1024x1024 .f32 ← Prog.lift (.load arg13 (Rect.unit (s := S1024x1024) ![0, 0] S1024x1024.size inb_S1024x1024_S1024x1024_0_0).toLoadRect (View.loadsAt_vmem h_S1024x1024))
    Prog.lift (.store arg13 (Rect.unit (s := S1024x1024) ![0, 0] S1024x1024.size inb_S1024x1024_S1024x1024_0_0) (k0_pay6 v35 v38 v41 v43) Finset.univ (View.stores_vmem_bits_univ h_S1024x1024 rfl) (.inl rfl))
    kp
  else kp

end Cert.KernelIdeal.Moe

end
-- ==== Proof.Step.lean ====
/-
  What each piece of the kernel's body does to the four arrays it keeps between points, as plain functions of the arrays
  it reads: the running sum `O`, the gathered rows `X` and their weights `G`, and the expert's product `P`.
-/
module

public import proofs.«01_k».proof.Proof.Gen.KernelIdeal.Loops
public import Idealize.ShloMosaic.Lib.VecWindow

@[expose] public section

set_option maxRecDepth 16384

noncomputable section

namespace Cert.KernelIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

/-- The first `k` trips of a counted loop, applied to `x`. -/
def loopN {α : Type} {n : ℕ} (f : Fin n → α → α) (x : α) : ℕ → α
  | 0 => x
  | k + 1 => if h : k < n then f ⟨k, h⟩ (loopN f x k) else loopN f x k

theorem loopN_succ {α : Type} {n : ℕ} (f : Fin n → α → α) (x : α) (k : Fin n) : loopN f x (k.val + 1) = f k (loopN f x k.val) := by
  rw [loopN, dif_pos k.isLt]

open VecWindow (put window)

/-! ## The gather -/

section Gather
variable (i : grid0.Coords) (v3 : Elt F .i32) (v35 : Vec F S1024x128 .f32) (v41 : Vec F S1x1x1024 .f32) (xb : Vec F S1024x1024 .bf16)

def gX256 (k : Fin (k0_t1_loop v3).trips) (X : Vec F S1024x1024 .bf16) : Vec F S1024x1024 .bf16 :=
  put X (k0_off3 v3 k) S256x1024.size (k0_pay13 v3 v41 k xb)
def gG256 (k : Fin (k0_t1_loop v3).trips) (G : Vec F S1024x128 .f32) : Vec F S1024x128 .f32 :=
  put G (k0_off4 v3 k) S256x128.size (k0_pay14 i v3 v35 v41 k)
def gX128 (X : Vec F S1024x1024 .bf16) : Vec F S1024x1024 .bf16 :=
  if k0_cond3 v3 = 1#1 then put X (k0_off7 v3) S128x1024.size (k0_pay19 v3 v41 xb) else X
def gG128 (G : Vec F S1024x128 .f32) : Vec F S1024x128 .f32 :=
  if k0_cond3 v3 = 1#1 then put G (k0_off8 v3) S128x128.size (k0_pay20 i v3 v35 v41) else G
def gX64 (X : Vec F S1024x1024 .bf16) : Vec F S1024x1024 .bf16 :=
  if k0_cond4 v3 = 1#1 then put X (k0_off9 v3) S64x1024.size (k0_pay22 v3 v41 xb) else X
def gG64 (G : Vec F S1024x128 .f32) : Vec F S1024x128 .f32 :=
  if k0_cond4 v3 = 1#1 then put G (k0_off10 v3) S64x128.size (k0_pay23 i v3 v35 v41) else G

/-- The rows an expert's groups hold after the gather. -/
def gX (X : Vec F S1024x1024 .bf16) : Vec F S1024x1024 .bf16 :=
  gX64 v3 v41 xb (gX128 v3 v41 xb (loopN (gX256 v3 v41 xb) X (k0_t1_loop v3).trips))
/-- Their weights. -/
def gG (G : Vec F S1024x128 .f32) : Vec F S1024x128 .f32 :=
  gG64 i v3 v35 v41 (gG128 i v3 v35 v41 (loopN (gG256 i v3 v35 v41) G (k0_t1_loop v3).trips))
end Gather

/-! ## The product -/

section Product
variable (i : grid0.Coords) (v3 : Elt F .i32) (hw : k0_chk1 i v3) (wg wu : Vec F S1x1024x896 .bf16) (wd : Vec F S1x896x1024 .bf16)
  (X : Vec F S1024x1024 .bf16) (G : Vec F S1024x128 .f32)

def fP256 (k : Fin (k0_t3_loop v3).trips) (P : Vec F S1024x1024 .f32) : Vec F S1024x1024 .f32 :=
  let a : Vec F S256x1024 .bf16 := window X (k0_off11 v3 k) S256x1024.size (k0_off11_inb i v3 hw k)
  let g : Vec F S256x1 .f32 := window G (k0_off12 v3 k) S256x1.size (k0_off12_inb i v3 hw k)
  let P1 : Vec F S1024x1024 .f32 := if k0_cond5 i = 1#1 then put P (k0_off13 v3 k) S256x1024.size (k0_pay25 a wg wu g wd) else P
  if h : k0_cond6 i = 1#1 then put P1 (k0_off14 v3 k) S256x1024.size (k0_pay26 a wg wu g wd (window P1 (k0_off14 v3 k) S256x1024.size (k0_off14_inb i v3 hw k h))) else P1
def fP128a (a : Vec F S128x1024 .bf16) (v39 v42 : Vec F S1x1024x896 .bf16) (g : Vec F S128x1 .f32) (v53 : Vec F S1x896x1024 .bf16) (P : Vec F S1024x1024 .f32) : Vec F S1024x1024 .f32 :=
  if k0_cond10 i = 1#1 then put P (k0_off21 v3) S128x1024.size (k0_pay31 a v39 v42 g v53) else P
def fP128b (h9 : k0_cond9 v3 = 1#1) (a : Vec F S128x1024 .bf16) (v39 v42 : Vec F S1x1024x896 .bf16) (g : Vec F S128x1 .f32) (v53 : Vec F S1x896x1024 .bf16) (P : Vec F S1024x1024 .f32) : Vec F S1024x1024 .f32 :=
  if h : k0_cond11 i = 1#1 then put P (k0_off22 v3) S128x1024.size (k0_pay32 a v39 v42 g v53 (window P (k0_off22 v3) S128x1024.size (k0_off22_inb i v3 hw h9 h))) else P
def fP128 (P : Vec F S1024x1024 .f32) : Vec F S1024x1024 .f32 :=
  if h9 : k0_cond9 v3 = 1#1 then
    let a : Vec F S128x1024 .bf16 := window X (k0_off19 v3) S128x1024.size (k0_off19_inb i v3 hw h9)
    let g : Vec F S128x1 .f32 := window G (k0_off20 v3) S128x1.size (k0_off20_inb i v3 hw h9)
    fP128b i v3 hw h9 a wg wu g wd (fP128a i v3 a wg wu g wd P)
  else P
def fP64a (a : Vec F S64x1024 .bf16) (v40 v43 : Vec F S1x1024x896 .bf16) (g : Vec F S64x1 .f32) (v54 : Vec F S1x896x1024 .bf16) (P : Vec F S1024x1024 .f32) : Vec F S1024x1024 .f32 :=
  if k0_cond13 i = 1#1 then put P (k0_off25 v3) S64x1024.size (k0_pay34 a v40 v43 g v54) else P
def fP64b (h12 : k0_cond12 v3 = 1#1) (a : Vec F S64x1024 .bf16) (v40 v43 : Vec F S1x1024x896 .bf16) (g : Vec F S64x1 .f32) (v54 : Vec F S1x896x1024 .bf16) (P : Vec F S1024x1024 .f32) : Vec F S1024x1024 .f32 :=
  if h : k0_cond14 i = 1#1 then put P (k0_off26 v3) S64x1024.size (k0_pay35 a v40 v43 g v54 (window P (k0_off26 v3) S64x1024.size (k0_off26_inb i v3 hw h12 h))) else P
def fP64 (P : Vec F S1024x1024 .f32) : Vec F S1024x1024 .f32 :=
  if h12 : k0_cond12 v3 = 1#1 then
    let a : Vec F S64x1024 .bf16 := window X (k0_off23 v3) S64x1024.size (k0_off23_inb i v3 hw h12)
    let g : Vec F S64x1 .f32 := window G (k0_off24 v3) S64x1.size (k0_off24_inb i v3 hw h12)
    fP64b i v3 hw h12 a wg wu g wd (fP64a i v3 a wg wu g wd P)
  else P

/-- The expert's product after one column block. -/
def fP (P : Vec F S1024x1024 .f32) : Vec F S1024x1024 .f32 :=
  fP64 i v3 hw wg wu wd X G (fP128 i v3 hw wg wu wd X G (loopN (fP256 i v3 hw wg wu wd X G) P (k0_t3_loop v3).trips))
end Product

/-! ## The scatter -/

section Scatter
variable (i : grid0.Coords) (arg1 : BitVec 32) (v3 : Elt F .i32) (hw : k0_chk1 i v3) (v4 : IVec S1x128 32) (h15 : k0_cond15 i = 1#1)
  (p : Vec F S1024x128 .f32) (P : Vec F S1024x1024 .f32)

def sO256 (k : Fin (k0_t5_loop v3).trips) (O : Vec F S1024x1024 .f32) : Vec F S1024x1024 .f32 :=
  k0_pay2 arg1 v3 v4 p k O (window P (k0_off27 v3 k) S256x1024.size (k0_off27_inb i v3 hw k h15))
def sO128 (O : Vec F S1024x1024 .f32) : Vec F S1024x1024 .f32 :=
  if h : k0_cond16 v3 = 1#1 then k0_pay4 arg1 v3 v4 p O (window P (k0_off29 v3) S128x1024.size (k0_off29_inb i v3 hw h15 h)) else O
def sO64 (O : Vec F S1024x1024 .f32) : Vec F S1024x1024 .f32 :=
  if h : k0_cond17 v3 = 1#1 then k0_pay5 arg1 v3 v4 p O (window P (k0_off30 v3) S64x1024.size (k0_off30_inb i v3 hw h15 h)) else O
/-- The running sum with an expert's rows added to their tokens. -/
def sO (O : Vec F S1024x1024 .f32) : Vec F S1024x1024 .f32 :=
  sO64 i arg1 v3 hw v4 h15 p P (sO128 i arg1 v3 hw v4 h15 p P (loopN (sO256 i arg1 v3 hw v4 h15 p P) O (k0_t5_loop v3).trips))
end Scatter

/-! ## One point -/

/-- What a point reads: the tile, its weights, its slots by token and by slot, the expert's three matrices, the norm's
    scale and shift. -/
structure Ins (F : FTy → Type) where
  x : Vec F S1024x1024 .f32
  cw : Vec F S1024x128 .f32
  p : Vec F S1024x128 .f32
  pt : Vec F S1x8x1024 .f32
  wg : Vec F S1x1024x896 .bf16
  wu : Vec F S1x1024x896 .bf16
  wd : Vec F S1x896x1024 .bf16
  g : Vec F S1x1024 .f32
  b : Vec F S1x1024 .f32

/-- What a point keeps for the next: the running sum, the tile, the gathered rows, their weights, the expert's product. -/
structure St (F : FTy → Type) where
  O : Vec F S1024x1024 .f32
  xb : Vec F S1024x1024 .bf16
  X : Vec F S1024x1024 .bf16
  G : Vec F S1024x128 .f32
  P : Vec F S1024x1024 .f32

section Point
variable (i : grid0.Coords) (v3 : Elt F .i32) (hw : k0_chk1 i v3) (I : Ins F)

def stInit (S : St F) : St F := if k0_cond1 i = 1#1 then { S with O := k0_pay7 (F := F), xb := k0_pay8 I.x } else S
def stGather (S : St F) : St F :=
  if h : k0_cond2 i = 1#1 then
    { S with
      X := gX v3 (window I.pt (k0_off2 i) S1x1x1024.size (k0_off2_inb i h)) S.xb S.X
      G := gG i v3 I.cw (window I.pt (k0_off2 i) S1x1x1024.size (k0_off2_inb i h)) S.G }
  else S
def stProduct (S : St F) : St F := { S with P := fP i v3 hw I.wg I.wu I.wd S.X S.G S.P }
def stScatter (S : St F) : St F :=
  if h : k0_cond15 i = 1#1 then
    { S with O := sO i (BitVec.ofNat 32 (i 1).val) v3 hw (iota .tc S1x128 32 [1] iota_S1x128_d1_w32) h I.p S.P S.O }
  else S
def stNorm (S : St F) : St F := if k0_cond18 i = 1#1 then { S with O := k0_pay6 I.x S.O I.g I.b } else S

/-- One point. -/
def step (S : St F) : St F := stNorm i I (stScatter i v3 hw I (stProduct i v3 hw I (stGather i v3 I (stInit i I S))))
end Point

end Cert.KernelIdeal.Moe

end
-- ==== Proof.Pieces.lean ====
/-
  Each piece of the kernel's body, run over memrefs held whole: what it leaves is what `Step` says.
-/
module

public import proofs.«01_k».proof.Proof.Segs
public import proofs.«01_k».proof.Proof.Step
public import Idealize.ShloMosaic.Lib.Pipeline.TableIdle

@[expose] public section

set_option maxRecDepth 16384

noncomputable section

namespace Cert.KernelIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

/-- Core `c` holds the whole of `M` and reads `X` through it. -/
abbrev held (c : Dev nD) {sp : Space} {s : Shape} {e : EltTy} (M : Memref sig .tc sp s e) (X : s.Idx → Elt F e) : sProp 𝕄 :=
  M.view.loc (c : Thread nD τ) ↦[M.view.set]{fullShare} M.view.rep X

/-- Held at any contents that read as `X`. -/
theorem held_of (c : Dev nD) {sp : Space} {s : Shape} {e : EltTy} (M : Memref sig .tc sp s e) {X : s.Idx → Elt F e}
    {f : M.view.ty.Contents (Elt F)} (h : M.view.read (Elt F) f = X) :
    (M.view.loc (c : Thread nD τ) ↦[M.view.set]{fullShare} f : sProp 𝕄) ⊢ held c M X := by
  subst h
  refine (owns_intro (Ix := Unit) (Name := ℕ) (U := UR sig nD τ) (Lvl := ℕ) (c : Thread nD τ) M fullShare f).trans ?_
  exact rep_of_owns (c : Thread nD τ) M fullShare _

/-- Held at `X` with one window stored over it. -/
theorem held_put (c : Dev nD) {sp : Space} {s : Shape} {e : EltTy} (M : Memref sig .tc sp s e) {X : s.Idx → Elt F e}
    {off size : Fin s.rank → ℕ} (inb : ∀ a, off a + size a ≤ s.size a) (w : (Rect.unit off size inb).shape.Idx → Elt F e) :
    (M.view.loc (c : Thread nD τ) ↦[M.view.set]{fullShare} M.view.writes (Elt F) (M.view.rep X) [⟨Rect.unit off size inb, w⟩] : sProp 𝕄)
      ⊢ held c M (VecWindow.put X off size w) :=
  held_of c M (View.read_writes_rep_unit M.view X inb w rfl)

/-- Held whole at one value stored over everything. -/
theorem held_full (c : Dev nD) {sp : Space} {s : Shape} {e : EltTy} (M : Memref sig .tc sp s e) {X : s.Idx → Elt F e}
    {off : Fin s.rank → ℕ} (inb : ∀ a, off a + s.size a ≤ s.size a) (w : s.Idx → Elt F e) :
    (M.view.loc (c : Thread nD τ) ↦[M.view.set]{fullShare} M.view.writes (Elt F) (M.view.rep X) [⟨Rect.unit off s.size inb, w⟩] : sProp 𝕄)
      ⊢ held c M w :=
  held_of c M (by
    rw [View.read_writes_rep_unit M.view X inb w rfl]
    have h0 : ∀ a, off a = 0 := fun a => by have := inb a; omega
    funext y
    have h : ∀ a, off a ≤ (y a).val ∧ (y a).val < off a + s.size a := fun a => ⟨by rw [h0]; exact Nat.zero_le _, by have := (y a).isLt; rw [h0]; omega⟩
    refine (dif_pos h).trans (congrArg w (funext fun a => Fin.ext ?_))
    show (y a).val - off a = _
    rw [h0, Nat.sub_zero])

/-- A load of a whole memref reads its contents. -/
theorem rd_S1024x1024 {sp : Space} {e : EltTy} (v : View sig .tc sp S1024x1024 e) (x : S1024x1024.Idx → Elt F e) (inb : ∀ a, ![0, 0] a + ![1024, 1024] a ≤ S1024x1024.size a) :
    v.readAt (Elt F) (Rect.unit (s := S1024x1024) ![0, 0] ![1024, 1024] inb).toLoadRect (v.rep x) = x := View.readAt_rep_full v x inb

theorem rd_S1024x128 {sp : Space} {e : EltTy} (v : View sig .tc sp S1024x128 e) (x : S1024x128.Idx → Elt F e) (inb : ∀ a, ![0, 0] a + ![1024, 128] a ≤ S1024x128.size a) :
    v.readAt (Elt F) (Rect.unit (s := S1024x128) ![0, 0] ![1024, 128] inb).toLoadRect (v.rep x) = x := View.readAt_rep_full v x inb

theorem rd_S1x1024 {sp : Space} {e : EltTy} (v : View sig .tc sp S1x1024 e) (x : S1x1024.Idx → Elt F e) (inb : ∀ a, ![0, 0] a + ![1, 1024] a ≤ S1x1024.size a) :
    v.readAt (Elt F) (Rect.unit (s := S1x1024) ![0, 0] ![1, 1024] inb).toLoadRect (v.rep x) = x := View.readAt_rep_full v x inb

theorem rd_S1x1024x896 {sp : Space} {e : EltTy} (v : View sig .tc sp S1x1024x896 e) (x : S1x1024x896.Idx → Elt F e) (inb : ∀ a, ![0, 0, 0] a + ![1, 1024, 896] a ≤ S1x1024x896.size a) :
    v.readAt (Elt F) (Rect.unit (s := S1x1024x896) ![0, 0, 0] ![1, 1024, 896] inb).toLoadRect (v.rep x) = x := View.readAt_rep_full v x inb

theorem rd_S1x896x1024 {sp : Space} {e : EltTy} (v : View sig .tc sp S1x896x1024 e) (x : S1x896x1024.Idx → Elt F e) (inb : ∀ a, ![0, 0, 0] a + ![1, 896, 1024] a ≤ S1x896x1024.size a) :
    v.readAt (Elt F) (Rect.unit (s := S1x896x1024) ![0, 0, 0] ![1, 896, 1024] inb).toLoadRect (v.rep x) = x := View.readAt_rep_full v x inb

/-- A load of a window reads the window. -/
theorem readAt_rep_window {sp : Space} {s : Shape} {e : EltTy} (v : View sig .tc sp s e) (x : s.Idx → Elt F e) {off size : Fin s.rank → ℕ}
    (inb : ∀ a, off a + size a ≤ s.size a) :
    v.readAt (Elt F) (Rect.unit off size inb).toLoadRect (v.rep x) = VecWindow.window x off size inb :=
  View.readAt_rep_unit v x inb rfl inb

section Runs

/-- A counted loop whose trips each take `J x` to `J (f k x)`. -/
theorem loop_wp (𝒱 : Variants) (c : Dev nD) (bd : Option 𝒱.V) (E : Set ℕ) {β : Type} (Q : β → sProp 𝕄) {α : Type} (lb ub st : BitVec 32) (hok : Scf.OK lb ub st)
    (body : Fin (Scf.trips lb ub st) → Unit → Prog (TpuEff nD τ sig (Elt F) Λ₀ .tc) Unit) (f : Fin (Scf.trips lb ub st) → α → α) (J : α → sProp 𝕄)
    (hb : ∀ k x, J x ⊢ wp frame (wpE (defs₀ (F := F)) 𝒱 (c : Thread nD τ) bd) E (body k ⟨⟩) (fun _ => J (f k x))) (x : α)
    (kk : Unit → Prog (TpuEff nD τ sig (Elt F) Λ₀ .tc) β) :
    J x ⊢ iprop((J (loopN f x (Scf.trips lb ub st)) -∗ wp frame (wpE (defs₀ (F := F)) 𝒱 (c : Thread nD τ) bd) E (kk ⟨⟩) Q) -∗ wp frame (wpE (defs₀ (F := F)) 𝒱 (c : Thread nD τ) bd) E (Scf.for lb ub st hok ⟨⟩ body >>= kk) Q) := by
  iintro H K
  iapply (Scf.wp_for_bind frame (wpE (defs₀ (F := F)) 𝒱 (c : Thread nD τ) bd) E lb ub st hok ⟨⟩ body (fun k _ => J (loopN f x k)) (fun k acc => by
    rw [loopN_succ]; exact hb k (loopN f x k.val))) $$ [H]
  · rw [show loopN f x 0 = x from rfl]; iexact H
  · iintro %acc H
    iapply K; iexact H

theorem segG128_wp (𝒱 : Variants) (c : Dev nD) (bd : Option 𝒱.V) (E : Set ℕ) {β : Type} (kp : Prog (TpuEff nD τ sig (Elt F) Λ₀ .tc) β) (Q : β → sProp 𝕄) (i : grid0.Coords) (arg14 : Memref sig .tc .vmem S1024x1024 .bf16) (arg15 : Memref sig .tc .vmem S1024x1024 .bf16) (harg15 : arg15.IsWhole) (arg16 : Memref sig .tc .vmem S1024x128 .f32) (v3 : Elt F .i32) (k0_hw1 : k0_chk1 i v3) (k0_h2 : k0_cond2 i = 1#1) (v35 : Vec F S1024x128 .f32) (v41 : Vec F S1x1x1024 .f32) (xb X : Vec F S1024x1024 .bf16) (G : Vec F S1024x128 .f32) :
    iprop(held c arg14 xb ∗ held c arg15 X ∗ held c arg16 G)
      ⊢ iprop((held c arg14 xb ∗ held c arg15 (gX128 v3 v41 xb X) ∗ held c arg16 (gG128 i v3 v35 v41 G) -∗ wp frame (wpE (defs₀ (F := F)) 𝒱 (c : Thread nD τ) bd) E (kp) Q) -∗ wp frame (wpE (defs₀ (F := F)) 𝒱 (c : Thread nD τ) bd) E (segG128 i arg14 arg15 harg15 arg16 v3 k0_hw1 k0_h2 v35 v41 kp) Q) := by
  unfold segG128 gX128 gG128
  by_cases h : k0_cond3 v3 = 1#1
  · rw [dif_pos h, if_pos h, if_pos h]
    iintro ⟨H14, H15, H16⟩ K
    sl_exec
    simp only [rd_S1024x1024, rd_S1024x128, rd_S1x1024]
    iapply K
    isplitl [H14]; · iexact H14
    isplitl [H15]; · iapply held_put; iexact H15
    iapply held_put; iexact H16
  · rw [dif_neg h, if_neg h, if_neg h]
    iintro H K
    iapply K; iexact H

theorem segG64_wp (𝒱 : Variants) (c : Dev nD) (bd : Option 𝒱.V) (E : Set ℕ) {β : Type} (kp : Prog (TpuEff nD τ sig (Elt F) Λ₀ .tc) β) (Q : β → sProp 𝕄) (i : grid0.Coords) (arg14 : Memref sig .tc .vmem S1024x1024 .bf16) (arg15 : Memref sig .tc .vmem S1024x1024 .bf16) (harg15 : arg15.IsWhole) (arg16 : Memref sig .tc .vmem S1024x128 .f32) (v3 : Elt F .i32) (k0_hw1 : k0_chk1 i v3) (k0_h2 : k0_cond2 i = 1#1) (v35 : Vec F S1024x128 .f32) (v41 : Vec F S1x1x1024 .f32) (xb X : Vec F S1024x1024 .bf16) (G : Vec F S1024x128 .f32) :
    iprop(held c arg14 xb ∗ held c arg15 X ∗ held c arg16 G)
      ⊢ iprop((held c arg14 xb ∗ held c arg15 (gX64 v3 v41 xb X) ∗ held c arg16 (gG64 i v3 v35 v41 G) -∗ wp frame (wpE (defs₀ (F := F)) 𝒱 (c : Thread nD τ) bd) E (kp) Q) -∗ wp frame (wpE (defs₀ (F := F)) 𝒱 (c : Thread nD τ) bd) E (segG64 i arg14 arg15 harg15 arg16 v3 k0_hw1 k0_h2 v35 v41 kp) Q) := by
  unfold segG64 gX64 gG64
  by_cases h : k0_cond4 v3 = 1#1
  · rw [dif_pos h, if_pos h, if_pos h]
    iintro ⟨H14, H15, H16⟩ K
    sl_exec
    simp only [rd_S1024x1024, rd_S1024x128, rd_S1x1024]
    iapply K
    isplitl [H14]; · iexact H14
    isplitl [H15]; · iapply held_put; iexact H15
    iapply held_put; iexact H16
  · rw [dif_neg h, if_neg h, if_neg h]
    iintro H K
    iapply K; iexact H

theorem segF128a_wp (𝒱 : Variants) (c : Dev nD) (bd : Option 𝒱.V) (E : Set ℕ) {β : Type} (kp : Prog (TpuEff nD τ sig (Elt F) Λ₀ .tc) β) (Q : β → sProp 𝕄) (i : grid0.Coords) (arg17 : Memref sig .tc .vmem S1024x1024 .f32) (v3 : Elt F .i32) (k0_hw1 : k0_chk1 i v3) (k0_h9 : k0_cond9 v3 = 1#1) (v38 : Vec F S128x1024 .bf16) (v39 : Vec F S1x1024x896 .bf16) (v42 : Vec F S1x1024x896 .bf16) (v49 : Vec F S128x1 .f32) (v53 : Vec F S1x896x1024 .bf16) (P : Vec F S1024x1024 .f32) :
    held c arg17 P ⊢ iprop((held c arg17 (fP128a i v3 v38 v39 v42 v49 v53 P) -∗ wp frame (wpE (defs₀ (F := F)) 𝒱 (c : Thread nD τ) bd) E (kp) Q) -∗ wp frame (wpE (defs₀ (F := F)) 𝒱 (c : Thread nD τ) bd) E (segF128a i arg17 v3 k0_hw1 k0_h9 v38 v39 v42 v49 v53 kp) Q) := by
  unfold segF128a fP128a
  by_cases h : k0_cond10 i = 1#1
  · rw [dif_pos h, if_pos h]
    iintro H K
    sl_exec
    iapply K; iapply held_put; iexact H
  · rw [dif_neg h, if_neg h]
    iintro H K
    iapply K; iexact H

theorem segF128b_wp (𝒱 : Variants) (c : Dev nD) (bd : Option 𝒱.V) (E : Set ℕ) {β : Type} (kp : Prog (TpuEff nD τ sig (Elt F) Λ₀ .tc) β) (Q : β → sProp 𝕄) (i : grid0.Coords) (arg17 : Memref sig .tc .vmem S1024x1024 .f32) (v3 : Elt F .i32) (k0_hw1 : k0_chk1 i v3) (k0_h9 : k0_cond9 v3 = 1#1) (v38 : Vec F S128x1024 .bf16) (v39 : Vec F S1x1024x896 .bf16) (v42 : Vec F S1x1024x896 .bf16) (v49 : Vec F S128x1 .f32) (v53 : Vec F S1x896x1024 .bf16) (P : Vec F S1024x1024 .f32) :
    held c arg17 P ⊢ iprop((held c arg17 (fP128b i v3 k0_hw1 k0_h9 v38 v39 v42 v49 v53 P) -∗ wp frame (wpE (defs₀ (F := F)) 𝒱 (c : Thread nD τ) bd) E (kp) Q) -∗ wp frame (wpE (defs₀ (F := F)) 𝒱 (c : Thread nD τ) bd) E (segF128b i arg17 v3 k0_hw1 k0_h9 v38 v39 v42 v49 v53 kp) Q) := by
  unfold segF128b fP128b
  by_cases h : k0_cond11 i = 1#1
  · rw [dif_pos h, dif_pos h]
    iintro H K
    sl_exec
    simp only [readAt_rep_window]
    iapply K; iapply held_put; iexact H
  · rw [dif_neg h, dif_neg h]
    iintro H K
    iapply K; iexact H

theorem segF64a_wp (𝒱 : Variants) (c : Dev nD) (bd : Option 𝒱.V) (E : Set ℕ) {β : Type} (kp : Prog (TpuEff nD τ sig (Elt F) Λ₀ .tc) β) (Q : β → sProp 𝕄) (i : grid0.Coords) (arg17 : Memref sig .tc .vmem S1024x1024 .f32) (v3 : Elt F .i32) (k0_hw1 : k0_chk1 i v3) (k0_h12 : k0_cond12 v3 = 1#1) (v39 : Vec F S64x1024 .bf16) (v40 : Vec F S1x1024x896 .bf16) (v43 : Vec F S1x1024x896 .bf16) (v50 : Vec F S64x1 .f32) (v54 : Vec F S1x896x1024 .bf16) (P : Vec F S1024x1024 .f32) :
    held c arg17 P ⊢ iprop((held c arg17 (fP64a i v3 v39 v40 v43 v50 v54 P) -∗ wp frame (wpE (defs₀ (F := F)) 𝒱 (c : Thread nD τ) bd) E (kp) Q) -∗ wp frame (wpE (defs₀ (F := F)) 𝒱 (c : Thread nD τ) bd) E (segF64a i arg17 v3 k0_hw1 k0_h12 v39 v40 v43 v50 v54 kp) Q) := by
  unfold segF64a fP64a
  by_cases h : k0_cond13 i = 1#1
  · rw [dif_pos h, if_pos h]
    iintro H K
    sl_exec
    iapply K; iapply held_put; iexact H
  · rw [dif_neg h, if_neg h]
    iintro H K
    iapply K; iexact H

theorem segF64b_wp (𝒱 : Variants) (c : Dev nD) (bd : Option 𝒱.V) (E : Set ℕ) {β : Type} (kp : Prog (TpuEff nD τ sig (Elt F) Λ₀ .tc) β) (Q : β → sProp 𝕄) (i : grid0.Coords) (arg17 : Memref sig .tc .vmem S1024x1024 .f32) (v3 : Elt F .i32) (k0_hw1 : k0_chk1 i v3) (k0_h12 : k0_cond12 v3 = 1#1) (v39 : Vec F S64x1024 .bf16) (v40 : Vec F S1x1024x896 .bf16) (v43 : Vec F S1x1024x896 .bf16) (v50 : Vec F S64x1 .f32) (v54 : Vec F S1x896x1024 .bf16) (P : Vec F S1024x1024 .f32) :
    held c arg17 P ⊢ iprop((held c arg17 (fP64b i v3 k0_hw1 k0_h12 v39 v40 v43 v50 v54 P) -∗ wp frame (wpE (defs₀ (F := F)) 𝒱 (c : Thread nD τ) bd) E (kp) Q) -∗ wp frame (wpE (defs₀ (F := F)) 𝒱 (c : Thread nD τ) bd) E (segF64b i arg17 v3 k0_hw1 k0_h12 v39 v40 v43 v50 v54 kp) Q) := by
  unfold segF64b fP64b
  by_cases h : k0_cond14 i = 1#1
  · rw [dif_pos h, dif_pos h]
    iintro H K
    sl_exec
    simp only [readAt_rep_window]
    iapply K; iapply held_put; iexact H
  · rw [dif_neg h, dif_neg h]
    iintro H K
    iapply K; iexact H

theorem segF128_load (𝒱 : Variants) (c : Dev nD) (bd : Option 𝒱.V) (E : Set ℕ) {β : Type} (kp : Prog (TpuEff nD τ sig (Elt F) Λ₀ .tc) β) (Q : β → sProp 𝕄) (i : grid0.Coords) (arg8 : Memref sig .tc .vmem S1x1024x896 .bf16) (arg9 : Memref sig .tc .vmem S1x1024x896 .bf16) (arg10 : Memref sig .tc .vmem S1x896x1024 .bf16) (arg15 : Memref sig .tc .vmem S1024x1024 .bf16) (arg16 : Memref sig .tc .vmem S1024x128 .f32) (v3 : Elt F .i32) (k0_hw1 : k0_chk1 i v3) (kk : k0_cond9 v3 = 1#1 → Vec F S128x1024 .bf16 → Vec F S1x1024x896 .bf16 → Vec F S1x1024x896 .bf16 → Vec F S128x1 .f32 → Vec F S1x896x1024 .bf16 → Prog (TpuEff nD τ sig (Elt F) Λ₀ .tc) β) (h : k0_cond9 v3 = 1#1) (wg wu : Vec F S1x1024x896 .bf16) (wd : Vec F S1x896x1024 .bf16) (X : Vec F S1024x1024 .bf16) (G : Vec F S1024x128 .f32) :
    iprop(held c arg8 wg ∗ held c arg9 wu ∗ held c arg10 wd ∗ held c arg15 X ∗ held c arg16 G)
      ⊢ iprop((held c arg8 wg ∗ held c arg9 wu ∗ held c arg10 wd ∗ held c arg15 X ∗ held c arg16 G -∗
          wp frame (wpE (defs₀ (F := F)) 𝒱 (c : Thread nD τ) bd) E (kk h (VecWindow.window X (k0_off19 v3) S128x1024.size (k0_off19_inb i v3 k0_hw1 h)) wg wu (VecWindow.window G (k0_off20 v3) S128x1.size (k0_off20_inb i v3 k0_hw1 h)) wd) Q) -∗ wp frame (wpE (defs₀ (F := F)) 𝒱 (c : Thread nD τ) bd) E (segF128 i arg8 arg9 arg10 arg15 arg16 v3 k0_hw1 kk kp) Q) := by
  unfold segF128
  rw [dif_pos h]
  iintro ⟨H8, H9, H10, H15, H16⟩ K
  sl_exec
  simp only [rd_S1024x1024, rd_S1024x128, rd_S1x1024, rd_S1x1024x896, rd_S1x896x1024]
  simp only [readAt_rep_window]
  iapply K
  isplitl [H8]; · iexact H8
  isplitl [H9]; · iexact H9
  isplitl [H10]; · iexact H10
  isplitl [H15]; · iexact H15
  iexact H16

theorem segF128_wp (𝒱 : Variants) (c : Dev nD) (bd : Option 𝒱.V) (E : Set ℕ) {β : Type} (kp : Prog (TpuEff nD τ sig (Elt F) Λ₀ .tc) β) (Q : β → sProp 𝕄) (i : grid0.Coords) (arg8 : Memref sig .tc .vmem S1x1024x896 .bf16) (arg9 : Memref sig .tc .vmem S1x1024x896 .bf16) (arg10 : Memref sig .tc .vmem S1x896x1024 .bf16) (arg15 : Memref sig .tc .vmem S1024x1024 .bf16) (arg16 : Memref sig .tc .vmem S1024x128 .f32) (v3 : Elt F .i32) (k0_hw1 : k0_chk1 i v3) (arg17 : Memref sig .tc .vmem S1024x1024 .f32) (wg wu : Vec F S1x1024x896 .bf16) (wd : Vec F S1x896x1024 .bf16) (X : Vec F S1024x1024 .bf16) (G : Vec F S1024x128 .f32) (P : Vec F S1024x1024 .f32) :
    iprop(held c arg8 wg ∗ held c arg9 wu ∗ held c arg10 wd ∗ held c arg15 X ∗ held c arg16 G ∗ held c arg17 P)
      ⊢ iprop((held c arg8 wg ∗ held c arg9 wu ∗ held c arg10 wd ∗ held c arg15 X ∗ held c arg16 G ∗ held c arg17 (fP128 i v3 k0_hw1 wg wu wd X G P) -∗ wp frame (wpE (defs₀ (F := F)) 𝒱 (c : Thread nD τ) bd) E (kp) Q) -∗
        wp frame (wpE (defs₀ (F := F)) 𝒱 (c : Thread nD τ) bd) E (segF128 i arg8 arg9 arg10 arg15 arg16 v3 k0_hw1 (fun k0_h9 v38 v39 v42 v49 v53 => segF128a i arg17 v3 k0_hw1 k0_h9 v38 v39 v42 v49 v53 (segF128b i arg17 v3 k0_hw1 k0_h9 v38 v39 v42 v49 v53 kp)) kp) Q) := by
  unfold fP128
  by_cases h : k0_cond9 v3 = 1#1
  · rw [dif_pos h]
    iintro ⟨H8, H9, H10, H15, H16, H17⟩ K
    iapply (segF128_load (h := h) (wg := wg) (wu := wu) (wd := wd) (X := X) (G := G)) $$ [H8 H9 H10 H15 H16]
    · isplitl [H8]; · iexact H8
      isplitl [H9]; · iexact H9
      isplitl [H10]; · iexact H10
      isplitl [H15]; · iexact H15
      iexact H16
    iintro ⟨H8, H9, H10, H15, H16⟩
    iapply (segF128a_wp (P := P)) $$ [H17]; · iexact H17
    iintro H17
    iapply segF128b_wp $$ [H17]; · iexact H17
    iintro H17
    iapply K
    isplitl [H8]; · iexact H8
    isplitl [H9]; · iexact H9
    isplitl [H10]; · iexact H10
    isplitl [H15]; · iexact H15
    isplitl [H16]; · iexact H16
    iexact H17
  · unfold segF128
    rw [dif_neg h, dif_neg h]
    iintro H K
    iapply K; iexact H

theorem segF64_load (𝒱 : Variants) (c : Dev nD) (bd : Option 𝒱.V) (E : Set ℕ) {β : Type} (kp : Prog (TpuEff nD τ sig (Elt F) Λ₀ .tc) β) (Q : β → sProp 𝕄) (i : grid0.Coords) (arg8 : Memref sig .tc .vmem S1x1024x896 .bf16) (arg9 : Memref sig .tc .vmem S1x1024x896 .bf16) (arg10 : Memref sig .tc .vmem S1x896x1024 .bf16) (arg15 : Memref sig .tc .vmem S1024x1024 .bf16) (arg16 : Memref sig .tc .vmem S1024x128 .f32) (v3 : Elt F .i32) (k0_hw1 : k0_chk1 i v3) (kk : k0_cond12 v3 = 1#1 → Vec F S64x1024 .bf16 → Vec F S1x1024x896 .bf16 → Vec F S1x1024x896 .bf16 → Vec F S64x1 .f32 → Vec F S1x896x1024 .bf16 → Prog (TpuEff nD τ sig (Elt F) Λ₀ .tc) β) (h : k0_cond12 v3 = 1#1) (wg wu : Vec F S1x1024x896 .bf16) (wd : Vec F S1x896x1024 .bf16) (X : Vec F S1024x1024 .bf16) (G : Vec F S1024x128 .f32) :
    iprop(held c arg8 wg ∗ held c arg9 wu ∗ held c arg10 wd ∗ held c arg15 X ∗ held c arg16 G)
      ⊢ iprop((held c arg8 wg ∗ held c arg9 wu ∗ held c arg10 wd ∗ held c arg15 X ∗ held c arg16 G -∗
          wp frame (wpE (defs₀ (F := F)) 𝒱 (c : Thread nD τ) bd) E (kk h (VecWindow.window X (k0_off23 v3) S64x1024.size (k0_off23_inb i v3 k0_hw1 h)) wg wu (VecWindow.window G (k0_off24 v3) S64x1.size (k0_off24_inb i v3 k0_hw1 h)) wd) Q) -∗ wp frame (wpE (defs₀ (F := F)) 𝒱 (c : Thread nD τ) bd) E (segF64 i arg8 arg9 arg10 arg15 arg16 v3 k0_hw1 kk kp) Q) := by
  unfold segF64
  rw [dif_pos h]
  iintro ⟨H8, H9, H10, H15, H16⟩ K
  sl_exec
  simp only [rd_S1024x1024, rd_S1024x128, rd_S1x1024, rd_S1x1024x896, rd_S1x896x1024]
  simp only [readAt_rep_window]
  iapply K
  isplitl [H8]; · iexact H8
  isplitl [H9]; · iexact H9
  isplitl [H10]; · iexact H10
  isplitl [H15]; · iexact H15
  iexact H16

theorem segF64_wp (𝒱 : Variants) (c : Dev nD) (bd : Option 𝒱.V) (E : Set ℕ) {β : Type} (kp : Prog (TpuEff nD τ sig (Elt F) Λ₀ .tc) β) (Q : β → sProp 𝕄) (i : grid0.Coords) (arg8 : Memref sig .tc .vmem S1x1024x896 .bf16) (arg9 : Memref sig .tc .vmem S1x1024x896 .bf16) (arg10 : Memref sig .tc .vmem S1x896x1024 .bf16) (arg15 : Memref sig .tc .vmem S1024x1024 .bf16) (arg16 : Memref sig .tc .vmem S1024x128 .f32) (v3 : Elt F .i32) (k0_hw1 : k0_chk1 i v3) (arg17 : Memref sig .tc .vmem S1024x1024 .f32) (wg wu : Vec F S1x1024x896 .bf16) (wd : Vec F S1x896x1024 .bf16) (X : Vec F S1024x1024 .bf16) (G : Vec F S1024x128 .f32) (P : Vec F S1024x1024 .f32) :
    iprop(held c arg8 wg ∗ held c arg9 wu ∗ held c arg10 wd ∗ held c arg15 X ∗ held c arg16 G ∗ held c arg17 P)
      ⊢ iprop((held c arg8 wg ∗ held c arg9 wu ∗ held c arg10 wd ∗ held c arg15 X ∗ held c arg16 G ∗ held c arg17 (fP64 i v3 k0_hw1 wg wu wd X G P) -∗ wp frame (wpE (defs₀ (F := F)) 𝒱 (c : Thread nD τ) bd) E (kp) Q) -∗
        wp frame (wpE (defs₀ (F := F)) 𝒱 (c : Thread nD τ) bd) E (segF64 i arg8 arg9 arg10 arg15 arg16 v3 k0_hw1 (fun k0_h12 v39 v40 v43 v50 v54 => segF64a i arg17 v3 k0_hw1 k0_h12 v39 v40 v43 v50 v54 (segF64b i arg17 v3 k0_hw1 k0_h12 v39 v40 v43 v50 v54 kp)) kp) Q) := by
  unfold fP64
  by_cases h : k0_cond12 v3 = 1#1
  · rw [dif_pos h]
    iintro ⟨H8, H9, H10, H15, H16, H17⟩ K
    iapply (segF64_load (h := h) (wg := wg) (wu := wu) (wd := wd) (X := X) (G := G)) $$ [H8 H9 H10 H15 H16]
    · isplitl [H8]; · iexact H8
      isplitl [H9]; · iexact H9
      isplitl [H10]; · iexact H10
      isplitl [H15]; · iexact H15
      iexact H16
    iintro ⟨H8, H9, H10, H15, H16⟩
    iapply (segF64a_wp (P := P)) $$ [H17]; · iexact H17
    iintro H17
    iapply segF64b_wp $$ [H17]; · iexact H17
    iintro H17
    iapply K
    isplitl [H8]; · iexact H8
    isplitl [H9]; · iexact H9
    isplitl [H10]; · iexact H10
    isplitl [H15]; · iexact H15
    isplitl [H16]; · iexact H16
    iexact H17
  · unfold segF64
    rw [dif_neg h, dif_neg h]
    iintro H K
    iapply K; iexact H

theorem segS128_wp (𝒱 : Variants) (c : Dev nD) (bd : Option 𝒱.V) (E : Set ℕ) {β : Type} (kp : Prog (TpuEff nD τ sig (Elt F) Λ₀ .tc) β) (Q : β → sProp 𝕄) (i : grid0.Coords) (arg13 : Memref sig .tc .vmem S1024x1024 .f32) (arg17 : Memref sig .tc .vmem S1024x1024 .f32) (arg1 : BitVec 32) (v3 : Elt F .i32) (k0_hw1 : k0_chk1 i v3) (v4 : IVec S1x128 32) (k0_h15 : k0_cond15 i = 1#1) (v35 : Vec F S1024x128 .f32) (P O : Vec F S1024x1024 .f32) :
    iprop(held c arg17 P ∗ held c arg13 O)
      ⊢ iprop((held c arg17 P ∗ held c arg13 (sO128 i arg1 v3 k0_hw1 v4 k0_h15 v35 P O) -∗ wp frame (wpE (defs₀ (F := F)) 𝒱 (c : Thread nD τ) bd) E (kp) Q) -∗ wp frame (wpE (defs₀ (F := F)) 𝒱 (c : Thread nD τ) bd) E (segS128 i arg13 arg17 arg1 v3 k0_hw1 v4 k0_h15 v35 kp) Q) := by
  unfold segS128 sO128
  by_cases h : k0_cond16 v3 = 1#1
  · rw [dif_pos h, dif_pos h]
    iintro ⟨H17, H13⟩ K
    sl_exec
    simp only [rd_S1024x1024, rd_S1024x128, rd_S1x1024]
    simp only [readAt_rep_window]
    iapply K
    isplitl [H17]; · iexact H17
    iapply held_full; iexact H13
  · rw [dif_neg h, dif_neg h]
    iintro H K
    iapply K; iexact H

theorem segS64_wp (𝒱 : Variants) (c : Dev nD) (bd : Option 𝒱.V) (E : Set ℕ) {β : Type} (kp : Prog (TpuEff nD τ sig (Elt F) Λ₀ .tc) β) (Q : β → sProp 𝕄) (i : grid0.Coords) (arg13 : Memref sig .tc .vmem S1024x1024 .f32) (arg17 : Memref sig .tc .vmem S1024x1024 .f32) (arg1 : BitVec 32) (v3 : Elt F .i32) (k0_hw1 : k0_chk1 i v3) (v4 : IVec S1x128 32) (k0_h15 : k0_cond15 i = 1#1) (v35 : Vec F S1024x128 .f32) (P O : Vec F S1024x1024 .f32) :
    iprop(held c arg17 P ∗ held c arg13 O)
      ⊢ iprop((held c arg17 P ∗ held c arg13 (sO64 i arg1 v3 k0_hw1 v4 k0_h15 v35 P O) -∗ wp frame (wpE (defs₀ (F := F)) 𝒱 (c : Thread nD τ) bd) E (kp) Q) -∗ wp frame (wpE (defs₀ (F := F)) 𝒱 (c : Thread nD τ) bd) E (segS64 i arg13 arg17 arg1 v3 k0_hw1 v4 k0_h15 v35 kp) Q) := by
  unfold segS64 sO64
  by_cases h : k0_cond17 v3 = 1#1
  · rw [dif_pos h, dif_pos h]
    iintro ⟨H17, H13⟩ K
    sl_exec
    simp only [rd_S1024x1024, rd_S1024x128, rd_S1x1024]
    simp only [readAt_rep_window]
    iapply K
    isplitl [H17]; · iexact H17
    iapply held_full; iexact H13
  · rw [dif_neg h, dif_neg h]
    iintro H K
    iapply K; iexact H

/-! ## The counted loops -/

theorem loopN_pair {α γ : Type} {n : ℕ} (f : Fin n → α → α) (g : Fin n → γ → γ) (x : α) (y : γ) (k : ℕ) :
    loopN (fun k (p : α × γ) => (f k p.1, g k p.2)) (x, y) k = (loopN f x k, loopN g y k) := by
  induction k with
  | zero => rfl
  | succ k ih =>
    by_cases h : k < n
    · simp only [loopN, dif_pos h, ih]
    · simp only [loopN, dif_neg h, ih]

/-- A counted loop of no trips. -/
theorem loop0_wp (𝒱 : Variants) (c : Dev nD) (bd : Option 𝒱.V) (E : Set ℕ) {β : Type} (Q : β → sProp 𝕄) (lb ub st : BitVec 32) (hok : Scf.OK lb ub st)
    (body : Fin (Scf.trips lb ub st) → Unit → Prog (TpuEff nD τ sig (Elt F) Λ₀ .tc) Unit) (h0 : Scf.trips lb ub st = 0)
    (kk : Unit → Prog (TpuEff nD τ sig (Elt F) Λ₀ .tc) β) :
    wp frame (wpE (defs₀ (F := F)) 𝒱 (c : Thread nD τ) bd) E (kk ⟨⟩) Q ⊢ wp frame (wpE (defs₀ (F := F)) 𝒱 (c : Thread nD τ) bd) E (Scf.for lb ub st hok ⟨⟩ body >>= kk) Q := by
  iintro K
  iapply (Scf.wp_for_bind frame (wpE (defs₀ (F := F)) 𝒱 (c : Thread nD τ) bd) E lb ub st hok ⟨⟩ body (fun _ _ => iprop(emp)) (fun k _ => by
    have := k.isLt; omega)) $$ []
  · iempintro
  · iintro %acc _
    iexact K

/-- The first column block and the later ones exclude one another. -/
theorem cond5_cond6 (i : grid0.Coords) (h : k0_cond5 i = 1#1) : ¬ k0_cond6 i = 1#1 := by
  unfold k0_cond5 at h
  unfold k0_cond6
  revert h
  generalize i 2 = f
  have hf : ∀ f : Fin 4, Scalar.cmpi .ne (Scalar.extui (Scalar.cmpi .eq (BitVec.ofNat 32 f.val) 0#32) : BitVec 32) 0#32 = 1#1 →
      ¬ Scalar.cmpi .ne (Scalar.extui (Scalar.cmpi .sgt (BitVec.ofNat 32 f.val) 0#32) : BitVec 32) 0#32 = 1#1 := by decide
  exact hf f

theorem trip1_wp (𝒱 : Variants) (c : Dev nD) (bd : Option 𝒱.V) (E : Set ℕ) (i : grid0.Coords) (arg3 : Memref sig .tc .smem S512 .i32) (harg3 : arg3.IsWhole) (arg4 : Memref sig .tc .vmem S1024x1024 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1x8x1024 .f32) (harg7 : arg7.IsWhole) (arg8 : Memref sig .tc .vmem S1x1024x896 .bf16) (harg8 : arg8.IsWhole) (arg9 : Memref sig .tc .vmem S1x1024x896 .bf16) (harg9 : arg9.IsWhole) (arg10 : Memref sig .tc .vmem S1x896x1024 .bf16) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1024x1024 .f32) (harg13 : arg13.IsWhole) (arg14 : Memref sig .tc .vmem S1024x1024 .bf16) (harg14 : arg14.IsWhole) (arg15 : Memref sig .tc .vmem S1024x1024 .bf16) (harg15 : arg15.IsWhole) (arg16 : Memref sig .tc .vmem S1024x128 .f32) (harg16 : arg16.IsWhole) (arg17 : Memref sig .tc .vmem S1024x1024 .f32) (harg17 : arg17.IsWhole) (v3 : Elt F .i32) (k0_hw1 : k0_chk1 i v3) (k0_h2 : k0_cond2 i = 1#1) (v35 : Vec F S1024x128 .f32) (v41 : Vec F S1x1x1024 .f32) (xb : Vec F S1024x1024 .bf16)
    (k : Fin (k0_t1_loop v3).trips) (X : Vec F S1024x1024 .bf16) (G : Vec F S1024x128 .f32) :
    iprop(held c arg14 xb ∗ held c arg15 X ∗ held c arg16 G)
      ⊢ wp frame (wpE (defs₀ (F := F)) 𝒱 (c : Thread nD τ) bd) E (k0_t1_body (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 v3 k0_hw1 k0_h2 v35 v41 k ⟨⟩) (fun _ => iprop(held c arg14 xb ∗ held c arg15 (gX256 v3 v41 xb k X) ∗ held c arg16 (gG256 i v3 v35 v41 k G))) := by
  unfold k0_t1_body gX256 gG256
  iintro ⟨H14, H15, H16⟩
  sl_exec
  simp only [rd_S1024x1024, rd_S1024x128, rd_S1x1024, rd_S1x1024x896, rd_S1x896x1024]
  sl_step
  isplitl [H14]; · iexact H14
  isplitl [H15]; · iapply held_put; iexact H15
  iapply held_put; iexact H16

theorem trip3_wp (𝒱 : Variants) (c : Dev nD) (bd : Option 𝒱.V) (E : Set ℕ) (i : grid0.Coords) (arg3 : Memref sig .tc .smem S512 .i32) (harg3 : arg3.IsWhole) (arg4 : Memref sig .tc .vmem S1024x1024 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1x8x1024 .f32) (harg7 : arg7.IsWhole) (arg8 : Memref sig .tc .vmem S1x1024x896 .bf16) (harg8 : arg8.IsWhole) (arg9 : Memref sig .tc .vmem S1x1024x896 .bf16) (harg9 : arg9.IsWhole) (arg10 : Memref sig .tc .vmem S1x896x1024 .bf16) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1024x1024 .f32) (harg13 : arg13.IsWhole) (arg14 : Memref sig .tc .vmem S1024x1024 .bf16) (harg14 : arg14.IsWhole) (arg15 : Memref sig .tc .vmem S1024x1024 .bf16) (harg15 : arg15.IsWhole) (arg16 : Memref sig .tc .vmem S1024x128 .f32) (harg16 : arg16.IsWhole) (arg17 : Memref sig .tc .vmem S1024x1024 .f32) (harg17 : arg17.IsWhole) (v3 : Elt F .i32) (k0_hw1 : k0_chk1 i v3)
    (k : Fin (k0_t3_loop v3).trips) (wg wu : Vec F S1x1024x896 .bf16) (wd : Vec F S1x896x1024 .bf16) (X : Vec F S1024x1024 .bf16) (G : Vec F S1024x128 .f32) (P : Vec F S1024x1024 .f32) :
    iprop(held c arg8 wg ∗ held c arg9 wu ∗ held c arg10 wd ∗ held c arg15 X ∗ held c arg16 G ∗ held c arg17 P)
      ⊢ wp frame (wpE (defs₀ (F := F)) 𝒱 (c : Thread nD τ) bd) E (k0_t3_body (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 v3 k0_hw1 k ⟨⟩) (fun _ => iprop(held c arg8 wg ∗ held c arg9 wu ∗ held c arg10 wd ∗ held c arg15 X ∗ held c arg16 G ∗ held c arg17 (fP256 i v3 k0_hw1 wg wu wd X G k P))) := by
  unfold k0_t3_body fP256
  by_cases h5 : k0_cond5 i = 1#1 <;> by_cases h6 : k0_cond6 i = 1#1
  · exact absurd h6 (cond5_cond6 i h5)
  · simp only [dif_pos h5, dif_neg h6, if_pos h5]
    iintro ⟨H8, H9, H10, H15, H16, H17⟩
    sl_exec
    simp only [rd_S1024x1024, rd_S1024x128, rd_S1x1024, rd_S1x1024x896, rd_S1x896x1024]
    simp only [readAt_rep_window]
    sl_step
    isplitl [H8]; · iexact H8
    isplitl [H9]; · iexact H9
    isplitl [H10]; · iexact H10
    isplitl [H15]; · iexact H15
    isplitl [H16]; · iexact H16
    iapply held_put; iexact H17
  · simp only [dif_neg h5, dif_pos h6, if_neg h5]
    iintro ⟨H8, H9, H10, H15, H16, H17⟩
    sl_exec
    unfold trip3_wp.sl.v63
    simp only [rd_S1024x1024, rd_S1024x128, rd_S1x1024, rd_S1x1024x896, rd_S1x896x1024]
    simp only [readAt_rep_window]
    sl_step
    isplitl [H8]; · iexact H8
    isplitl [H9]; · iexact H9
    isplitl [H10]; · iexact H10
    isplitl [H15]; · iexact H15
    isplitl [H16]; · iexact H16
    iapply held_put; iexact H17
  · simp only [dif_neg h5, dif_neg h6, if_neg h5]
    iintro ⟨H8, H9, H10, H15, H16, H17⟩
    sl_exec
    sl_step
    isplitl [H8]; · iexact H8
    isplitl [H9]; · iexact H9
    isplitl [H10]; · iexact H10
    isplitl [H15]; · iexact H15
    isplitl [H16]; · iexact H16
    iexact H17

theorem trip5_wp (𝒱 : Variants) (c : Dev nD) (bd : Option 𝒱.V) (E : Set ℕ) (i : grid0.Coords) (arg3 : Memref sig .tc .smem S512 .i32) (harg3 : arg3.IsWhole) (arg4 : Memref sig .tc .vmem S1024x1024 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1x8x1024 .f32) (harg7 : arg7.IsWhole) (arg8 : Memref sig .tc .vmem S1x1024x896 .bf16) (harg8 : arg8.IsWhole) (arg9 : Memref sig .tc .vmem S1x1024x896 .bf16) (harg9 : arg9.IsWhole) (arg10 : Memref sig .tc .vmem S1x896x1024 .bf16) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1024x1024 .f32) (harg13 : arg13.IsWhole) (arg14 : Memref sig .tc .vmem S1024x1024 .bf16) (harg14 : arg14.IsWhole) (arg15 : Memref sig .tc .vmem S1024x1024 .bf16) (harg15 : arg15.IsWhole) (arg16 : Memref sig .tc .vmem S1024x128 .f32) (harg16 : arg16.IsWhole) (arg17 : Memref sig .tc .vmem S1024x1024 .f32) (harg17 : arg17.IsWhole) (arg1 : BitVec 32) (v3 : Elt F .i32) (k0_hw1 : k0_chk1 i v3) (v4 : IVec S1x128 32) (k0_h15 : k0_cond15 i = 1#1) (v35 : Vec F S1024x128 .f32)
    (k : Fin (k0_t5_loop v3).trips) (P O : Vec F S1024x1024 .f32) :
    iprop(held c arg17 P ∗ held c arg13 O)
      ⊢ wp frame (wpE (defs₀ (F := F)) 𝒱 (c : Thread nD τ) bd) E (k0_t5_body (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v3 k0_hw1 v4 k0_h15 v35 k ⟨⟩) (fun _ => iprop(held c arg17 P ∗ held c arg13 (sO256 i arg1 v3 k0_hw1 v4 k0_h15 v35 P k O))) := by
  unfold k0_t5_body sO256
  iintro ⟨H17, H13⟩
  sl_exec
  simp only [rd_S1024x1024, rd_S1024x128, rd_S1x1024, rd_S1x1024x896, rd_S1x896x1024]
  simp only [readAt_rep_window]
  sl_step
  isplitl [H17]; · iexact H17
  iapply held_full; iexact H13

end Runs

end Cert.KernelIdeal.Moe

end
-- ==== Proof.Checks.lean ====
/-
  The kernel's side conditions at a count of groups between 0 and 16, and the closed forms of its loops and windows there.
  With `n` groups of 64 rows the pieces are: trips `k < n / 4` of 256 rows at `256 k`; if `n` has bit 2, 128 rows at
  `256 (n / 4)`; if `n` is odd, 64 rows at `64 (n - 1)`.
-/
module

public import proofs.«01_k».proof.Proof.Gen.KernelIdeal.Loops

@[expose] public section

set_option maxRecDepth 16384

noncomputable section

namespace Cert.KernelIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

/-- A count of groups as the 32-bit word the kernel loads. -/
abbrev nw (n : Fin 17) : BitVec 32 := BitVec.ofNat 32 n.val

theorem eq_nw (v : BitVec 32) (h : v.toNat ≤ 16) : v = nw ⟨v.toNat, by omega⟩ := by
  apply BitVec.eq_of_toNat_eq
  simp [nw]

theorem t1_trips : ∀ n : Fin 17, (k0_t1_loop (nw n)).trips = n.val / 4 := by decide +kernel
theorem t2_trips : ∀ n : Fin 17, (k0_t2_loop (nw n)).trips = 0 := by decide +kernel
theorem t3_trips : ∀ n : Fin 17, (k0_t3_loop (nw n)).trips = n.val / 4 := by decide +kernel
theorem t4_trips : ∀ n : Fin 17, (k0_t4_loop (nw n)).trips = 0 := by decide +kernel
theorem t5_trips : ∀ n : Fin 17, (k0_t5_loop (nw n)).trips = n.val / 4 := by decide +kernel
theorem t6_trips : ∀ n : Fin 17, (k0_t6_loop (nw n)).trips = 0 := by decide +kernel

theorem chk_nw (i : grid0.Coords) (n : Fin 17) : k0_chk1 i (nw n) := by
  unfold k0_chk1 k0_chk1_0 k0_chk1_1
  repeat' apply And.intro
  all_goals first
    | (revert n; decide +kernel)
    | (generalize k0_cond2 i = a; revert a n; decide +kernel)
    | (generalize k0_cond15 i = a; revert a n; decide +kernel)
    | (generalize k0_cond5 i = a; revert a n; decide +kernel)
    | (generalize k0_cond6 i = a; revert a n; decide +kernel)
    | (generalize k0_cond7 i = a; revert a n; decide +kernel)
    | (generalize k0_cond8 i = a; revert a n; decide +kernel)
    | (generalize k0_cond10 i = a; revert a n; decide +kernel)
    | (generalize k0_cond11 i = a; revert a n; decide +kernel)
    | (generalize k0_cond13 i = a; revert a n; decide +kernel)
    | (generalize k0_cond14 i = a; revert a n; decide +kernel)

/-- The kernel's side condition holds at every count between 0 and 16. -/
theorem chk_of_le (i : grid0.Coords) (v : BitVec 32) (h : v.toNat ≤ 16) : k0_chk1 i v := by
  rw [eq_nw v h]; exact chk_nw i _

theorem t2_zero (v : BitVec 32) (h : v.toNat ≤ 16) : (k0_t2_loop v).trips = 0 := by rw [eq_nw v h]; exact t2_trips _
theorem t4_zero (v : BitVec 32) (h : v.toNat ≤ 16) : (k0_t4_loop v).trips = 0 := by rw [eq_nw v h]; exact t4_trips _
theorem t6_zero (v : BitVec 32) (h : v.toNat ≤ 16) : (k0_t6_loop v).trips = 0 := by rw [eq_nw v h]; exact t6_trips _

end Cert.KernelIdeal.Moe

end
-- ==== Proof.Body.lean ====
/-
  One point of the kernel, run over memrefs held whole: its inputs are left as they were, and what it keeps goes from `S` to
  `step i v3 hw I S`, where `v3` is the count of groups the table holds for the point.
-/
module

public import proofs.«01_k».proof.Proof.Pieces
public import proofs.«01_k».proof.Proof.Checks

@[expose] public section

set_option maxRecDepth 16384

noncomputable section

namespace Cert.KernelIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

theorem segInit_wp (𝒱 : Variants) (c : Dev nD) (bd : Option 𝒱.V) (E : Set ℕ) {β : Type} (kp : Prog (TpuEff nD τ sig (Elt F) Λ₀ .tc) β) (Q : β → sProp 𝕄) (i : grid0.Coords) (arg4 : Memref sig .tc .vmem S1024x1024 .f32) (arg13 : Memref sig .tc .vmem S1024x1024 .f32) (arg14 : Memref sig .tc .vmem S1024x1024 .bf16) (harg14 : arg14.IsWhole) (x O : Vec F S1024x1024 .f32) (xb : Vec F S1024x1024 .bf16) :
    iprop(held c arg4 x ∗ held c arg13 O ∗ held c arg14 xb)
      ⊢ iprop((held c arg4 x ∗ held c arg13 (if k0_cond1 i = 1#1 then k0_pay7 (F := F) else O) ∗ held c arg14 (if k0_cond1 i = 1#1 then k0_pay8 x else xb) -∗ wp frame (wpE (defs₀ (F := F)) 𝒱 (c : Thread nD τ) bd) E (kp) Q) -∗ wp frame (wpE (defs₀ (F := F)) 𝒱 (c : Thread nD τ) bd) E (segInit i arg4 arg13 arg14 harg14 kp) Q) := by
  unfold segInit
  by_cases h : k0_cond1 i = 1#1
  · rw [dif_pos h, if_pos h, if_pos h]
    iintro ⟨H4, H13, H14⟩ K
    sl_exec
    simp only [rd_S1024x1024, rd_S1024x128, rd_S1x1024, rd_S1x1024x896, rd_S1x896x1024]
    iapply K
    isplitl [H4]; · iexact H4
    isplitl [H13]; · iapply held_full; iexact H13
    iapply held_full; iexact H14
  · rw [dif_neg h, if_neg h, if_neg h]
    iintro H K
    iapply K; iexact H

theorem segNorm_wp (𝒱 : Variants) (c : Dev nD) (bd : Option 𝒱.V) (E : Set ℕ) {β : Type} (kp : Prog (TpuEff nD τ sig (Elt F) Λ₀ .tc) β) (Q : β → sProp 𝕄) (i : grid0.Coords) (arg4 : Memref sig .tc .vmem S1024x1024 .f32) (arg11 : Memref sig .tc .vmem S1x1024 .f32) (arg12 : Memref sig .tc .vmem S1x1024 .f32) (arg13 : Memref sig .tc .vmem S1024x1024 .f32) (x O : Vec F S1024x1024 .f32) (g b : Vec F S1x1024 .f32) :
    iprop(held c arg4 x ∗ held c arg11 g ∗ held c arg12 b ∗ held c arg13 O)
      ⊢ iprop((held c arg4 x ∗ held c arg11 g ∗ held c arg12 b ∗ held c arg13 (if k0_cond18 i = 1#1 then k0_pay6 x O g b else O) -∗ wp frame (wpE (defs₀ (F := F)) 𝒱 (c : Thread nD τ) bd) E (kp) Q) -∗ wp frame (wpE (defs₀ (F := F)) 𝒱 (c : Thread nD τ) bd) E (segNorm i arg4 arg11 arg12 arg13 kp) Q) := by
  unfold segNorm
  by_cases h : k0_cond18 i = 1#1
  · rw [dif_pos h, if_pos h]
    iintro ⟨H4, H11, H12, H13⟩ K
    sl_exec
    simp only [rd_S1024x1024, rd_S1024x128, rd_S1x1024, rd_S1x1024x896, rd_S1x896x1024]
    iapply K
    isplitl [H4]; · iexact H4
    isplitl [H11]; · iexact H11
    isplitl [H12]; · iexact H12
    iapply held_full; iexact H13
  · rw [dif_neg h, if_neg h]
    iintro H K
    iapply K; iexact H

theorem segGather_load (𝒱 : Variants) (c : Dev nD) (bd : Option 𝒱.V) (E : Set ℕ) {β : Type} (kp : Prog (TpuEff nD τ sig (Elt F) Λ₀ .tc) β) (Q : β → sProp 𝕄) (i : grid0.Coords) (arg5 : Memref sig .tc .vmem S1024x128 .f32) (arg7 : Memref sig .tc .vmem S1x8x1024 .f32) (kk : k0_cond2 i = 1#1 → Vec F S1024x128 .f32 → Vec F S1x1x1024 .f32 → Prog (TpuEff nD τ sig (Elt F) Λ₀ .tc) β) (h : k0_cond2 i = 1#1)
    (cw : Vec F S1024x128 .f32) (pt : Vec F S1x8x1024 .f32) :
    iprop(held c arg5 cw ∗ held c arg7 pt)
      ⊢ iprop((held c arg5 cw ∗ held c arg7 pt -∗ wp frame (wpE (defs₀ (F := F)) 𝒱 (c : Thread nD τ) bd) E (kk h cw (VecWindow.window pt (k0_off2 i) S1x1x1024.size (k0_off2_inb i h))) Q) -∗ wp frame (wpE (defs₀ (F := F)) 𝒱 (c : Thread nD τ) bd) E (segGather i arg5 arg7 kk kp) Q) := by
  unfold segGather
  rw [dif_pos h]
  iintro ⟨H5, H7⟩ K
  sl_exec
  simp only [rd_S1024x1024, rd_S1024x128, rd_S1x1024, rd_S1x1024x896, rd_S1x896x1024]
  simp only [readAt_rep_window]
  iapply K
  isplitl [H5]; · iexact H5
  iexact H7

theorem segScatter_load (𝒱 : Variants) (c : Dev nD) (bd : Option 𝒱.V) (E : Set ℕ) {β : Type} (kp : Prog (TpuEff nD τ sig (Elt F) Λ₀ .tc) β) (Q : β → sProp 𝕄) (i : grid0.Coords) (arg6 : Memref sig .tc .vmem S1024x128 .f32) (kk : k0_cond15 i = 1#1 → Vec F S1024x128 .f32 → Prog (TpuEff nD τ sig (Elt F) Λ₀ .tc) β) (h : k0_cond15 i = 1#1)
    (p : Vec F S1024x128 .f32) :
    held c arg6 p ⊢ iprop((held c arg6 p -∗ wp frame (wpE (defs₀ (F := F)) 𝒱 (c : Thread nD τ) bd) E (kk h p) Q) -∗ wp frame (wpE (defs₀ (F := F)) 𝒱 (c : Thread nD τ) bd) E (segScatter i arg6 kk kp) Q) := by
  unfold segScatter
  rw [dif_pos h]
  iintro H6 K
  sl_exec
  simp only [rd_S1024x1024, rd_S1024x128, rd_S1x1024, rd_S1x1024x896, rd_S1x896x1024]
  iapply K; iexact H6

section Whole
variable (i : grid0.Coords) (arg3 : Memref sig .tc .smem S512 .i32) (harg3 : arg3.IsWhole) (arg4 : Memref sig .tc .vmem S1024x1024 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1x8x1024 .f32) (harg7 : arg7.IsWhole) (arg8 : Memref sig .tc .vmem S1x1024x896 .bf16) (harg8 : arg8.IsWhole) (arg9 : Memref sig .tc .vmem S1x1024x896 .bf16) (harg9 : arg9.IsWhole) (arg10 : Memref sig .tc .vmem S1x896x1024 .bf16) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1024x1024 .f32) (harg13 : arg13.IsWhole) (arg14 : Memref sig .tc .vmem S1024x1024 .bf16) (harg14 : arg14.IsWhole) (arg15 : Memref sig .tc .vmem S1024x1024 .bf16) (harg15 : arg15.IsWhole) (arg16 : Memref sig .tc .vmem S1024x128 .f32) (harg16 : arg16.IsWhole) (arg17 : Memref sig .tc .vmem S1024x1024 .f32) (harg17 : arg17.IsWhole) (v3 : Elt F .i32) (k0_hw1 : k0_chk1 i v3)

/-- The gather's pieces. -/
def progGather {β : Type} (kp : Prog (TpuEff nD τ sig (Elt F) Λ₀ .tc) β) (k0_h2 : k0_cond2 i = 1#1) (v35 : Vec F S1024x128 .f32) (v41 : Vec F S1x1x1024 .f32) : Prog (TpuEff nD τ sig (Elt F) Λ₀ .tc) β := do
  Scf.Loop.for (k0_t1_loop v3) (k0_t1_ok i v3 k0_hw1 k0_h2) ⟨⟩ (k0_t1_body i arg3 harg3 arg4 harg4 arg5 harg5 arg6 harg6 arg7 harg7 arg8 harg8 arg9 harg9 arg10 harg10 arg11 harg11 arg12 harg12 arg13 harg13 arg14 harg14 arg15 harg15 arg16 harg16 arg17 harg17 v3 k0_hw1 k0_h2 v35 v41)
  Scf.Loop.for (k0_t2_loop v3) (k0_t2_ok i v3 k0_hw1 k0_h2) ⟨⟩ (k0_t2_body i arg3 harg3 arg4 harg4 arg5 harg5 arg6 harg6 arg7 harg7 arg8 harg8 arg9 harg9 arg10 harg10 arg11 harg11 arg12 harg12 arg13 harg13 arg14 harg14 arg15 harg15 arg16 harg16 arg17 harg17 v3 k0_hw1 k0_h2 v35 v41)
  segG128 i arg14 arg15 harg15 arg16 v3 k0_hw1 k0_h2 v35 v41 (segG64 i arg14 arg15 harg15 arg16 v3 k0_hw1 k0_h2 v35 v41 kp)

/-- The product's pieces. -/
def progProduct {β : Type} (kp : Prog (TpuEff nD τ sig (Elt F) Λ₀ .tc) β) : Prog (TpuEff nD τ sig (Elt F) Λ₀ .tc) β := do
  Scf.Loop.for (k0_t3_loop v3) (k0_t3_ok i v3 k0_hw1) ⟨⟩ (k0_t3_body i arg3 harg3 arg4 harg4 arg5 harg5 arg6 harg6 arg7 harg7 arg8 harg8 arg9 harg9 arg10 harg10 arg11 harg11 arg12 harg12 arg13 harg13 arg14 harg14 arg15 harg15 arg16 harg16 arg17 harg17 v3 k0_hw1)
  Scf.Loop.for (k0_t4_loop v3) (k0_t4_ok i v3 k0_hw1) ⟨⟩ (k0_t4_body i arg3 harg3 arg4 harg4 arg5 harg5 arg6 harg6 arg7 harg7 arg8 harg8 arg9 harg9 arg10 harg10 arg11 harg11 arg12 harg12 arg13 harg13 arg14 harg14 arg15 harg15 arg16 harg16 arg17 harg17 v3 k0_hw1)
  segF128 i arg8 arg9 arg10 arg15 arg16 v3 k0_hw1 (fun k0_h9 v38 v39 v42 v49 v53 => segF128a i arg17 v3 k0_hw1 k0_h9 v38 v39 v42 v49 v53 (segF128b i arg17 v3 k0_hw1 k0_h9 v38 v39 v42 v49 v53 (segF64 i arg8 arg9 arg10 arg15 arg16 v3 k0_hw1 (fun k0_h12 v39 v40 v43 v50 v54 => segF64a i arg17 v3 k0_hw1 k0_h12 v39 v40 v43 v50 v54 (segF64b i arg17 v3 k0_hw1 k0_h12 v39 v40 v43 v50 v54 kp)) kp)))
    (segF64 i arg8 arg9 arg10 arg15 arg16 v3 k0_hw1 (fun k0_h12 v39 v40 v43 v50 v54 => segF64a i arg17 v3 k0_hw1 k0_h12 v39 v40 v43 v50 v54 (segF64b i arg17 v3 k0_hw1 k0_h12 v39 v40 v43 v50 v54 kp)) kp)

/-- The scatter's pieces. -/
def progScatter {β : Type} (kp : Prog (TpuEff nD τ sig (Elt F) Λ₀ .tc) β) (arg1 : BitVec 32) (v4 : IVec S1x128 32) (k0_h15 : k0_cond15 i = 1#1) (v35 : Vec F S1024x128 .f32) : Prog (TpuEff nD τ sig (Elt F) Λ₀ .tc) β := do
  Scf.Loop.for (k0_t5_loop v3) (k0_t5_ok i v3 k0_hw1 k0_h15) ⟨⟩ (k0_t5_body i arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v3 k0_hw1 v4 k0_h15 v35)
  Scf.Loop.for (k0_t6_loop v3) (k0_t6_ok i v3 k0_hw1 k0_h15) ⟨⟩ (k0_t6_body i arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v3 k0_hw1 v4 k0_h15 v35)
  segS128 i arg13 arg17 arg1 v3 k0_hw1 v4 k0_h15 v35 (segS64 i arg13 arg17 arg1 v3 k0_hw1 v4 k0_h15 v35 kp)

/-- The body's first part past its word, its pieces one after another. -/
def prog1 : Prog (TpuEff nD τ sig (Elt F) Λ₀ .tc) (Σ' (arg1 : BitVec 32) (arg2 : BitVec 32) (v3 : Elt F .i32) (k0_hw1 : k0_chk1 i v3), IVec S1x128 32) :=
  let kp : Prog (TpuEff nD τ sig (Elt F) Λ₀ .tc) (Σ' (arg1 : BitVec 32) (arg2 : BitVec 32) (v3 : Elt F .i32) (k0_hw1 : k0_chk1 i v3), IVec S1x128 32) :=
    progProduct i arg3 harg3 arg4 harg4 arg5 harg5 arg6 harg6 arg7 harg7 arg8 harg8 arg9 harg9 arg10 harg10 arg11 harg11 arg12 harg12 arg13 harg13 arg14 harg14 arg15 harg15 arg16 harg16 arg17 harg17 v3 k0_hw1 (pure ⟨BitVec.ofNat 32 (i 1).val, BitVec.ofNat 32 (i 2).val, v3, k0_hw1, iota .tc S1x128 32 [1] iota_S1x128_d1_w32⟩)
  segInit i arg4 arg13 arg14 harg14 (segGather i arg5 arg7 (progGather i arg3 harg3 arg4 harg4 arg5 harg5 arg6 harg6 arg7 harg7 arg8 harg8 arg9 harg9 arg10 harg10 arg11 harg11 arg12 harg12 arg13 harg13 arg14 harg14 arg15 harg15 arg16 harg16 arg17 harg17 v3 k0_hw1 kp) kp)

/-- The rest of the body. -/
def prog2 (arg1 : BitVec 32) (v4 : IVec S1x128 32) : Prog (TpuEff nD τ sig (Elt F) Λ₀ .tc) PUnit :=
  let kp : Prog (TpuEff nD τ sig (Elt F) Λ₀ .tc) PUnit := segNorm i arg4 arg11 arg12 arg13 (pure ⟨⟩)
  segScatter i arg6 (progScatter i arg3 harg3 arg4 harg4 arg5 harg5 arg6 harg6 arg7 harg7 arg8 harg8 arg9 harg9 arg10 harg10 arg11 harg11 arg12 harg12 arg13 harg13 arg14 harg14 arg15 harg15 arg16 harg16 arg17 harg17 v3 k0_hw1 kp arg1 v4) kp

theorem part1_eq : k0_part1 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 =
    .op (.load arg3 (Rect.unit (s := S512) (k0_off1 i) S1.size (k0_off1_inb i)).toLoadRect (View.loadsAt_rect (View.loads_smem_one rfl numel1_S1))) fun f =>
      .op (.assume (k0_chk1 i (f (Shape.Idx.first (numel1_S1.symm ▸ Nat.one_pos)))) (k0_chk1.dec i _)) fun hw =>
        prog1 i arg3 harg3 arg4 harg4 arg5 harg5 arg6 harg6 arg7 harg7 arg8 harg8 arg9 harg9 arg10 harg10 arg11 harg11 arg12 harg12 arg13 harg13 arg14 harg14 arg15 harg15 arg16 harg16 arg17 harg17 (f (Shape.Idx.first (numel1_S1.symm ▸ Nat.one_pos))) hw.down := by
  rw [k0_part1_eq_skeleton]; rfl

theorem body_eq : cc0_moe_ln (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 = (k0_part1 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 >>= fun r => prog2 i arg3 harg3 arg4 harg4 arg5 harg5 arg6 harg6 arg7 harg7 arg8 harg8 arg9 harg9 arg10 harg10 arg11 harg11 arg12 harg12 arg13 harg13 arg14 harg14 arg15 harg15 arg16 harg16 arg17 harg17 r.2.2.1 r.2.2.2.1 r.1 r.2.2.2.2) := by
  rw [cc0_moe_ln_eq_skeleton]; rfl
end Whole

section WholeRuns
theorem progGather_wp (𝒱 : Variants) (c : Dev nD) (bd : Option 𝒱.V) (E : Set ℕ) {β : Type} (kp : Prog (TpuEff nD τ sig (Elt F) Λ₀ .tc) β) (Q : β → sProp 𝕄) (i : grid0.Coords) (arg3 : Memref sig .tc .smem S512 .i32) (harg3 : arg3.IsWhole) (arg4 : Memref sig .tc .vmem S1024x1024 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1x8x1024 .f32) (harg7 : arg7.IsWhole) (arg8 : Memref sig .tc .vmem S1x1024x896 .bf16) (harg8 : arg8.IsWhole) (arg9 : Memref sig .tc .vmem S1x1024x896 .bf16) (harg9 : arg9.IsWhole) (arg10 : Memref sig .tc .vmem S1x896x1024 .bf16) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1024x1024 .f32) (harg13 : arg13.IsWhole) (arg14 : Memref sig .tc .vmem S1024x1024 .bf16) (harg14 : arg14.IsWhole) (arg15 : Memref sig .tc .vmem S1024x1024 .bf16) (harg15 : arg15.IsWhole) (arg16 : Memref sig .tc .vmem S1024x128 .f32) (harg16 : arg16.IsWhole) (arg17 : Memref sig .tc .vmem S1024x1024 .f32) (harg17 : arg17.IsWhole) (v3 : Elt F .i32) (k0_hw1 : k0_chk1 i v3) (hn : BitVec.toNat (w := 32) v3 ≤ 16)
    (k0_h2 : k0_cond2 i = 1#1) (v35 : Vec F S1024x128 .f32) (v41 : Vec F S1x1x1024 .f32) (xb X : Vec F S1024x1024 .bf16) (G : Vec F S1024x128 .f32) :
    iprop(held c arg14 xb ∗ held c arg15 X ∗ held c arg16 G)
      ⊢ iprop((held c arg14 xb ∗ held c arg15 (gX v3 v41 xb X) ∗ held c arg16 (gG i v3 v35 v41 G) -∗ wp frame (wpE (defs₀ (F := F)) 𝒱 (c : Thread nD τ) bd) E (kp) Q) -∗
        wp frame (wpE (defs₀ (F := F)) 𝒱 (c : Thread nD τ) bd) E (progGather i arg3 harg3 arg4 harg4 arg5 harg5 arg6 harg6 arg7 harg7 arg8 harg8 arg9 harg9 arg10 harg10 arg11 harg11 arg12 harg12 arg13 harg13 arg14 harg14 arg15 harg15 arg16 harg16 arg17 harg17 v3 k0_hw1 kp k0_h2 v35 v41) Q) := by
  unfold progGather gX gG
  iintro H K
  iapply (loop_wp (F := F) (f := fun k p => (gX256 v3 v41 xb k p.1, gG256 i v3 v35 v41 k p.2))
    (J := fun p => iprop(held c arg14 xb ∗ held c arg15 p.1 ∗ held c arg16 p.2)) (x := (X, G))
    (hb := fun k p => trip1_wp 𝒱 c bd E i arg3 harg3 arg4 harg4 arg5 harg5 arg6 harg6 arg7 harg7 arg8 harg8 arg9 harg9 arg10 harg10 arg11 harg11 arg12 harg12 arg13 harg13 arg14 harg14 arg15 harg15 arg16 harg16 arg17 harg17 v3 k0_hw1 k0_h2 v35 v41 xb k p.1 p.2)) $$ [H]
  · iexact H
  iintro H
  iapply (loop0_wp (F := F) (h0 := t2_zero v3 hn))
  rw [loopN_pair]
  iapply segG128_wp $$ [H]
  · iexact H
  iintro H
  iapply segG64_wp $$ [H]
  · iexact H
  iexact K

theorem progProduct_wp (𝒱 : Variants) (c : Dev nD) (bd : Option 𝒱.V) (E : Set ℕ) {β : Type} (kp : Prog (TpuEff nD τ sig (Elt F) Λ₀ .tc) β) (Q : β → sProp 𝕄) (i : grid0.Coords) (arg3 : Memref sig .tc .smem S512 .i32) (harg3 : arg3.IsWhole) (arg4 : Memref sig .tc .vmem S1024x1024 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1x8x1024 .f32) (harg7 : arg7.IsWhole) (arg8 : Memref sig .tc .vmem S1x1024x896 .bf16) (harg8 : arg8.IsWhole) (arg9 : Memref sig .tc .vmem S1x1024x896 .bf16) (harg9 : arg9.IsWhole) (arg10 : Memref sig .tc .vmem S1x896x1024 .bf16) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1024x1024 .f32) (harg13 : arg13.IsWhole) (arg14 : Memref sig .tc .vmem S1024x1024 .bf16) (harg14 : arg14.IsWhole) (arg15 : Memref sig .tc .vmem S1024x1024 .bf16) (harg15 : arg15.IsWhole) (arg16 : Memref sig .tc .vmem S1024x128 .f32) (harg16 : arg16.IsWhole) (arg17 : Memref sig .tc .vmem S1024x1024 .f32) (harg17 : arg17.IsWhole) (v3 : Elt F .i32) (k0_hw1 : k0_chk1 i v3) (hn : BitVec.toNat (w := 32) v3 ≤ 16)
    (wg wu : Vec F S1x1024x896 .bf16) (wd : Vec F S1x896x1024 .bf16) (X : Vec F S1024x1024 .bf16) (G : Vec F S1024x128 .f32) (P : Vec F S1024x1024 .f32) :
    iprop(held c arg8 wg ∗ held c arg9 wu ∗ held c arg10 wd ∗ held c arg15 X ∗ held c arg16 G ∗ held c arg17 P)
      ⊢ iprop((held c arg8 wg ∗ held c arg9 wu ∗ held c arg10 wd ∗ held c arg15 X ∗ held c arg16 G ∗ held c arg17 (fP i v3 k0_hw1 wg wu wd X G P) -∗ wp frame (wpE (defs₀ (F := F)) 𝒱 (c : Thread nD τ) bd) E (kp) Q) -∗
        wp frame (wpE (defs₀ (F := F)) 𝒱 (c : Thread nD τ) bd) E (progProduct i arg3 harg3 arg4 harg4 arg5 harg5 arg6 harg6 arg7 harg7 arg8 harg8 arg9 harg9 arg10 harg10 arg11 harg11 arg12 harg12 arg13 harg13 arg14 harg14 arg15 harg15 arg16 harg16 arg17 harg17 v3 k0_hw1 kp) Q) := by
  unfold progProduct fP
  iintro H K
  iapply (loop_wp (F := F) (f := fP256 i v3 k0_hw1 wg wu wd X G)
    (J := fun p => iprop(held c arg8 wg ∗ held c arg9 wu ∗ held c arg10 wd ∗ held c arg15 X ∗ held c arg16 G ∗ held c arg17 p)) (x := P)
    (hb := fun k p => trip3_wp 𝒱 c bd E i arg3 harg3 arg4 harg4 arg5 harg5 arg6 harg6 arg7 harg7 arg8 harg8 arg9 harg9 arg10 harg10 arg11 harg11 arg12 harg12 arg13 harg13 arg14 harg14 arg15 harg15 arg16 harg16 arg17 harg17 v3 k0_hw1 k wg wu wd X G p)) $$ [H]
  · iexact H
  iintro H
  iapply (loop0_wp (F := F) (h0 := t4_zero v3 hn))
  iapply segF128_wp $$ [H]
  · iexact H
  iintro H
  iapply segF64_wp $$ [H]
  · iexact H
  iexact K

theorem progScatter_wp (𝒱 : Variants) (c : Dev nD) (bd : Option 𝒱.V) (E : Set ℕ) {β : Type} (kp : Prog (TpuEff nD τ sig (Elt F) Λ₀ .tc) β) (Q : β → sProp 𝕄) (i : grid0.Coords) (arg3 : Memref sig .tc .smem S512 .i32) (harg3 : arg3.IsWhole) (arg4 : Memref sig .tc .vmem S1024x1024 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1x8x1024 .f32) (harg7 : arg7.IsWhole) (arg8 : Memref sig .tc .vmem S1x1024x896 .bf16) (harg8 : arg8.IsWhole) (arg9 : Memref sig .tc .vmem S1x1024x896 .bf16) (harg9 : arg9.IsWhole) (arg10 : Memref sig .tc .vmem S1x896x1024 .bf16) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1024x1024 .f32) (harg13 : arg13.IsWhole) (arg14 : Memref sig .tc .vmem S1024x1024 .bf16) (harg14 : arg14.IsWhole) (arg15 : Memref sig .tc .vmem S1024x1024 .bf16) (harg15 : arg15.IsWhole) (arg16 : Memref sig .tc .vmem S1024x128 .f32) (harg16 : arg16.IsWhole) (arg17 : Memref sig .tc .vmem S1024x1024 .f32) (harg17 : arg17.IsWhole) (v3 : Elt F .i32) (k0_hw1 : k0_chk1 i v3) (hn : BitVec.toNat (w := 32) v3 ≤ 16)
    (arg1 : BitVec 32) (v4 : IVec S1x128 32) (k0_h15 : k0_cond15 i = 1#1) (p : Vec F S1024x128 .f32) (P O : Vec F S1024x1024 .f32) :
    iprop(held c arg17 P ∗ held c arg13 O)
      ⊢ iprop((held c arg17 P ∗ held c arg13 (sO i arg1 v3 k0_hw1 v4 k0_h15 p P O) -∗ wp frame (wpE (defs₀ (F := F)) 𝒱 (c : Thread nD τ) bd) E (kp) Q) -∗
        wp frame (wpE (defs₀ (F := F)) 𝒱 (c : Thread nD τ) bd) E (progScatter i arg3 harg3 arg4 harg4 arg5 harg5 arg6 harg6 arg7 harg7 arg8 harg8 arg9 harg9 arg10 harg10 arg11 harg11 arg12 harg12 arg13 harg13 arg14 harg14 arg15 harg15 arg16 harg16 arg17 harg17 v3 k0_hw1 kp arg1 v4 k0_h15 p) Q) := by
  unfold progScatter sO
  iintro H K
  iapply (loop_wp (F := F) (f := sO256 i arg1 v3 k0_hw1 v4 k0_h15 p P)
    (J := fun o => iprop(held c arg17 P ∗ held c arg13 o)) (x := O)
    (hb := fun k o => trip5_wp 𝒱 c bd E i arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v3 k0_hw1 v4 k0_h15 p k P o)) $$ [H]
  · iexact H
  iintro H
  iapply (loop0_wp (F := F) (h0 := t6_zero v3 hn))
  iapply segS128_wp $$ [H]
  · iexact H
  iintro H
  iapply segS64_wp $$ [H]
  · iexact H
  iexact K

/-- The point's inputs, held whole. -/
abbrev insHeld (c : Dev nD) (arg4 : Memref sig .tc .vmem S1024x1024 .f32) (arg5 : Memref sig .tc .vmem S1024x128 .f32) (arg6 : Memref sig .tc .vmem S1024x128 .f32) (arg7 : Memref sig .tc .vmem S1x8x1024 .f32) (arg8 : Memref sig .tc .vmem S1x1024x896 .bf16) (arg9 : Memref sig .tc .vmem S1x1024x896 .bf16) (arg10 : Memref sig .tc .vmem S1x896x1024 .bf16) (arg11 : Memref sig .tc .vmem S1x1024 .f32) (arg12 : Memref sig .tc .vmem S1x1024 .f32) (I : Ins F) : sProp 𝕄 :=
  iprop(held c arg4 I.x ∗ held c arg5 I.cw ∗ held c arg6 I.p ∗ held c arg7 I.pt ∗ held c arg8 I.wg ∗ held c arg9 I.wu ∗ held c arg10 I.wd ∗ held c arg11 I.g ∗ held c arg12 I.b)

/-- What the point keeps, held whole. -/
abbrev stHeld (c : Dev nD) (arg13 : Memref sig .tc .vmem S1024x1024 .f32) (arg14 : Memref sig .tc .vmem S1024x1024 .bf16) (arg15 : Memref sig .tc .vmem S1024x1024 .bf16) (arg16 : Memref sig .tc .vmem S1024x128 .f32) (arg17 : Memref sig .tc .vmem S1024x1024 .f32) (S : St F) : sProp 𝕄 :=
  iprop(held c arg13 S.O ∗ held c arg14 S.xb ∗ held c arg15 S.X ∗ held c arg16 S.G ∗ held c arg17 S.P)

theorem prog1_wp (𝒱 : Variants) (c : Dev nD) (bd : Option 𝒱.V) (E : Set ℕ) (i : grid0.Coords) (arg3 : Memref sig .tc .smem S512 .i32) (harg3 : arg3.IsWhole) (arg4 : Memref sig .tc .vmem S1024x1024 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1x8x1024 .f32) (harg7 : arg7.IsWhole) (arg8 : Memref sig .tc .vmem S1x1024x896 .bf16) (harg8 : arg8.IsWhole) (arg9 : Memref sig .tc .vmem S1x1024x896 .bf16) (harg9 : arg9.IsWhole) (arg10 : Memref sig .tc .vmem S1x896x1024 .bf16) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1024x1024 .f32) (harg13 : arg13.IsWhole) (arg14 : Memref sig .tc .vmem S1024x1024 .bf16) (harg14 : arg14.IsWhole) (arg15 : Memref sig .tc .vmem S1024x1024 .bf16) (harg15 : arg15.IsWhole) (arg16 : Memref sig .tc .vmem S1024x128 .f32) (harg16 : arg16.IsWhole) (arg17 : Memref sig .tc .vmem S1024x1024 .f32) (harg17 : arg17.IsWhole) (v3 : Elt F .i32) (k0_hw1 : k0_chk1 i v3) (hn : BitVec.toNat (w := 32) v3 ≤ 16) (I : Ins F) (S : St F)
    (Q : (Σ' (arg1 : BitVec 32) (arg2 : BitVec 32) (v3 : Elt F .i32) (k0_hw1 : k0_chk1 i v3), IVec S1x128 32) → sProp 𝕄) :
    iprop(insHeld c arg4 arg5 arg6 arg7 arg8 arg9 arg10 arg11 arg12 I ∗ stHeld c arg13 arg14 arg15 arg16 arg17 S)
      ⊢ iprop((insHeld c arg4 arg5 arg6 arg7 arg8 arg9 arg10 arg11 arg12 I ∗ stHeld c arg13 arg14 arg15 arg16 arg17 (stProduct i v3 k0_hw1 I (stGather i v3 I (stInit i I S)))
          -∗ Q ⟨BitVec.ofNat 32 (i 1).val, BitVec.ofNat 32 (i 2).val, v3, k0_hw1, iota .tc S1x128 32 [1] iota_S1x128_d1_w32⟩) -∗
        wp frame (wpE (defs₀ (F := F)) 𝒱 (c : Thread nD τ) bd) E (prog1 i arg3 harg3 arg4 harg4 arg5 harg5 arg6 harg6 arg7 harg7 arg8 harg8 arg9 harg9 arg10 harg10 arg11 harg11 arg12 harg12 arg13 harg13 arg14 harg14 arg15 harg15 arg16 harg16 arg17 harg17 v3 k0_hw1) Q) := by
  unfold prog1
  iintro ⟨⟨H4, H5, H6, H7, H8, H9, H10, H11, H12⟩, ⟨H13, H14, H15, H16, H17⟩⟩ K
  iapply (segInit_wp (F := F) (x := I.x) (O := S.O) (xb := S.xb)) $$ [H4 H13 H14]
  · isplitl [H4]; · iexact H4
    isplitl [H13]; · iexact H13
    iexact H14
  iintro ⟨H4, H13, H14⟩
  rw [show (if k0_cond1 i = 1#1 then k0_pay7 (F := F) else S.O) = (stInit i I S).O by unfold stInit; split <;> rfl,
    show (if k0_cond1 i = 1#1 then k0_pay8 I.x else S.xb) = (stInit i I S).xb by unfold stInit; split <;> rfl]
  rw [show S.X = (stInit i I S).X by unfold stInit; split <;> rfl, show S.G = (stInit i I S).G by unfold stInit; split <;> rfl,
    show S.P = (stInit i I S).P by unfold stInit; split <;> rfl]
  generalize stInit i I S = T
  by_cases h : k0_cond2 i = 1#1
  · iapply (segGather_load (F := F) (h := h) (cw := I.cw) (pt := I.pt)) $$ [H5 H7]
    · isplitl [H5]; · iexact H5
      iexact H7
    iintro ⟨H5, H7⟩
    iapply (progGather_wp (F := F) (hn := hn)) $$ [H14 H15 H16]
    · isplitl [H14]; · iexact H14
      isplitl [H15]; · iexact H15
      iexact H16
    iintro ⟨H14, H15, H16⟩
    iapply (progProduct_wp (F := F) (hn := hn)) $$ [H8 H9 H10 H15 H16 H17]
    · isplitl [H8]; · iexact H8
      isplitl [H9]; · iexact H9
      isplitl [H10]; · iexact H10
      isplitl [H15]; · iexact H15
      isplitl [H16]; · iexact H16
      iexact H17
    iintro ⟨H8, H9, H10, H15, H16, H17⟩
    sl_step
    iapply K
    unfold stProduct stGather
    rw [dif_pos h]
    isplitl [H4 H5 H6 H7 H8 H9 H10 H11 H12]
    · isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact H12
    isplitl [H13]; · iexact H13
    isplitl [H14]; · iexact H14
    isplitl [H15]; · iexact H15
    isplitl [H16]; · iexact H16
    iexact H17
  · unfold segGather
    rw [dif_neg h]
    iapply (progProduct_wp (F := F) (hn := hn)) $$ [H8 H9 H10 H15 H16 H17]
    · isplitl [H8]; · iexact H8
      isplitl [H9]; · iexact H9
      isplitl [H10]; · iexact H10
      isplitl [H15]; · iexact H15
      isplitl [H16]; · iexact H16
      iexact H17
    iintro ⟨H8, H9, H10, H15, H16, H17⟩
    sl_step
    iapply K
    unfold stProduct stGather
    rw [dif_neg h]
    isplitl [H4 H5 H6 H7 H8 H9 H10 H11 H12]
    · isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact H12
    isplitl [H13]; · iexact H13
    isplitl [H14]; · iexact H14
    isplitl [H15]; · iexact H15
    isplitl [H16]; · iexact H16
    iexact H17

theorem prog2_wp (𝒱 : Variants) (c : Dev nD) (bd : Option 𝒱.V) (E : Set ℕ) (i : grid0.Coords) (arg3 : Memref sig .tc .smem S512 .i32) (harg3 : arg3.IsWhole) (arg4 : Memref sig .tc .vmem S1024x1024 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1x8x1024 .f32) (harg7 : arg7.IsWhole) (arg8 : Memref sig .tc .vmem S1x1024x896 .bf16) (harg8 : arg8.IsWhole) (arg9 : Memref sig .tc .vmem S1x1024x896 .bf16) (harg9 : arg9.IsWhole) (arg10 : Memref sig .tc .vmem S1x896x1024 .bf16) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1024x1024 .f32) (harg13 : arg13.IsWhole) (arg14 : Memref sig .tc .vmem S1024x1024 .bf16) (harg14 : arg14.IsWhole) (arg15 : Memref sig .tc .vmem S1024x1024 .bf16) (harg15 : arg15.IsWhole) (arg16 : Memref sig .tc .vmem S1024x128 .f32) (harg16 : arg16.IsWhole) (arg17 : Memref sig .tc .vmem S1024x1024 .f32) (harg17 : arg17.IsWhole) (v3 : Elt F .i32) (k0_hw1 : k0_chk1 i v3) (hn : BitVec.toNat (w := 32) v3 ≤ 16) (I : Ins F) (S : St F)
    (Q : PUnit → sProp 𝕄) :
    iprop(insHeld c arg4 arg5 arg6 arg7 arg8 arg9 arg10 arg11 arg12 I ∗ stHeld c arg13 arg14 arg15 arg16 arg17 S)
      ⊢ iprop((insHeld c arg4 arg5 arg6 arg7 arg8 arg9 arg10 arg11 arg12 I ∗ stHeld c arg13 arg14 arg15 arg16 arg17 (stNorm i I (stScatter i v3 k0_hw1 I S)) -∗ Q ⟨⟩) -∗
        wp frame (wpE (defs₀ (F := F)) 𝒱 (c : Thread nD τ) bd) E (prog2 i arg3 harg3 arg4 harg4 arg5 harg5 arg6 harg6 arg7 harg7 arg8 harg8 arg9 harg9 arg10 harg10 arg11 harg11 arg12 harg12 arg13 harg13 arg14 harg14 arg15 harg15 arg16 harg16 arg17 harg17 v3 k0_hw1 (BitVec.ofNat 32 (i 1).val) (iota .tc S1x128 32 [1] iota_S1x128_d1_w32)) Q) := by
  unfold prog2
  iintro ⟨⟨H4, H5, H6, H7, H8, H9, H10, H11, H12⟩, ⟨H13, H14, H15, H16, H17⟩⟩ K
  by_cases h : k0_cond15 i = 1#1
  · iapply (segScatter_load (F := F) (h := h) (p := I.p)) $$ [H6]; · iexact H6
    iintro H6
    iapply (progScatter_wp (F := F) (hn := hn)) $$ [H17 H13]
    · isplitl [H17]; · iexact H17
      iexact H13
    iintro ⟨H17, H13⟩
    iapply (segNorm_wp (F := F) (x := I.x) (g := I.g) (b := I.b)) $$ [H4 H11 H12 H13]
    · isplitl [H4]; · iexact H4
      isplitl [H11]; · iexact H11
      isplitl [H12]; · iexact H12
      iexact H13
    iintro ⟨H4, H11, H12, H13⟩
    sl_step
    iapply K
    isplitl [H4 H5 H6 H7 H8 H9 H10 H11 H12]
    · isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact H12
    unfold stNorm stScatter
    rw [dif_pos h]
    by_cases hx : k0_cond18 i = 1#1
    · rw [if_pos hx, if_pos hx]
      isplitl [H13]; · iexact H13
      isplitl [H14]; · iexact H14
      isplitl [H15]; · iexact H15
      isplitl [H16]; · iexact H16
      iexact H17
    · rw [if_neg hx, if_neg hx]
      isplitl [H13]; · iexact H13
      isplitl [H14]; · iexact H14
      isplitl [H15]; · iexact H15
      isplitl [H16]; · iexact H16
      iexact H17
  · unfold segScatter
    rw [dif_neg h]
    iapply (segNorm_wp (F := F) (x := I.x) (g := I.g) (b := I.b)) $$ [H4 H11 H12 H13]
    · isplitl [H4]; · iexact H4
      isplitl [H11]; · iexact H11
      isplitl [H12]; · iexact H12
      iexact H13
    iintro ⟨H4, H11, H12, H13⟩
    sl_step
    iapply K
    isplitl [H4 H5 H6 H7 H8 H9 H10 H11 H12]
    · isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact H12
    unfold stNorm stScatter
    rw [dif_neg h]
    by_cases hx : k0_cond18 i = 1#1
    · rw [if_pos hx, if_pos hx]
      isplitl [H13]; · iexact H13
      isplitl [H14]; · iexact H14
      isplitl [H15]; · iexact H15
      isplitl [H16]; · iexact H16
      iexact H17
    · rw [if_neg hx, if_neg hx]
      isplitl [H13]; · iexact H13
      isplitl [H14]; · iexact H14
      isplitl [H15]; · iexact H15
      isplitl [H16]; · iexact H16
      iexact H17

/-- ONE POINT. -/
theorem body_wp (𝒱 : Variants) (c : Dev nD) (bd : Option 𝒱.V) (E : Set ℕ) (i : grid0.Coords) (arg3 : Memref sig .tc .smem S512 .i32) (harg3 : arg3.IsWhole) (arg4 : Memref sig .tc .vmem S1024x1024 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1x8x1024 .f32) (harg7 : arg7.IsWhole) (arg8 : Memref sig .tc .vmem S1x1024x896 .bf16) (harg8 : arg8.IsWhole) (arg9 : Memref sig .tc .vmem S1x1024x896 .bf16) (harg9 : arg9.IsWhole) (arg10 : Memref sig .tc .vmem S1x896x1024 .bf16) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1024x1024 .f32) (harg13 : arg13.IsWhole) (arg14 : Memref sig .tc .vmem S1024x1024 .bf16) (harg14 : arg14.IsWhole) (arg15 : Memref sig .tc .vmem S1024x1024 .bf16) (harg15 : arg15.IsWhole) (arg16 : Memref sig .tc .vmem S1024x128 .f32) (harg16 : arg16.IsWhole) (arg17 : Memref sig .tc .vmem S1024x1024 .f32) (harg17 : arg17.IsWhole) (tb : arg3.view.ty.Contents (Elt F)) (q : PosShare TreeShare) (v3 : Elt F .i32)
    (hv : arg3.view.readAt (Elt F) (Rect.unit (s := S512) (k0_off1 i) S1.size (k0_off1_inb i)).toLoadRect tb (Shape.Idx.first (numel1_S1.symm ▸ Nat.one_pos)) = v3)
    (k0_hw1 : k0_chk1 i v3) (hn : BitVec.toNat (w := 32) v3 ≤ 16) (I : Ins F) (S : St F) (Q : PUnit → sProp 𝕄) :
    iprop((arg3.view.loc (c : Thread nD τ) ↦{q} tb) ∗ insHeld c arg4 arg5 arg6 arg7 arg8 arg9 arg10 arg11 arg12 I ∗ stHeld c arg13 arg14 arg15 arg16 arg17 S)
      ⊢ iprop(((arg3.view.loc (c : Thread nD τ) ↦{q} tb) ∗ insHeld c arg4 arg5 arg6 arg7 arg8 arg9 arg10 arg11 arg12 I ∗ stHeld c arg13 arg14 arg15 arg16 arg17 (step i v3 k0_hw1 I S) -∗ Q ⟨⟩) -∗
        wp frame (wpE (defs₀ (F := F)) 𝒱 (c : Thread nD τ) bd) E (cc0_moe_ln (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17) Q) := by
  rw [body_eq, wp_bind, part1_eq]
  subst hv
  iintro ⟨Ht, HI, HS⟩ K
  sl_step
  iapply (wp_assume 𝒱 (c : Thread nD τ) bd E k0_hw1)
  iapply (prog1_wp (F := F) (hn := hn) (I := I) (S := S)) $$ [HI HS]
  · isplitl [HI]; · iexact HI
    iexact HS
  iintro ⟨HI, HS⟩
  iapply (prog2_wp (F := F) (hn := hn) (I := I)) $$ [HI HS]
  · isplitl [HI]; · iexact HI
    iexact HS
  iintro ⟨HI, HS⟩
  iapply K
  isplitl [Ht]; · iexact Ht
  isplitl [HI]; · iexact HI
  iexact HS
end WholeRuns

end Cert.KernelIdeal.Moe

end
-- ==== Proof.Kit.lean ====
/-
  The launch: what the buffers hold when the pipeline starts, the table of group counts there, and the kernel's run point
  by point under any invariant of what it keeps between points.
-/
module

public import proofs.«01_k».proof.Proof.Gen.KernelIdeal.Launch
public import Idealize.ShloMosaic.Lib.Pipeline.FrameBody
public import proofs.«01_k».proof.Proof.Body

@[expose] public section

set_option maxRecDepth 16384

noncomputable section

namespace Cert.KernelIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

open Idealize.ShloMosaic.Pipeline (RDat Cfg Window)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The memory when the pipeline starts -/

/-- A buffer's contents after the host operations that come before the kernel. -/
abbrev V (c : Dev nD) (b : Ref sig .tc) : Buf (Elt F) ((c : Thread nD τ).loc b) := StableHlo.after hostOps0 (fun b => m (c, b)) b

theorem fresh0 : (hostOps0 : List (HloOp τ sig (Elt F))).Forall fun op => op.fresh = ∅ := by
  simp only [List.Forall]; repeat' constructor

set_option maxHeartbeats 800000 in
/-- The program is its host operations followed by the kernel. -/
theorem hmain (𝒱₀ : Variants) :
    Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub fresh0 main_chain

/-- The buffers the host operations write. -/
abbrev hostWrites : List (Ref sig .tc) :=
  [main_v0, main_v1, main_v2, main_v3, main_v4, main_cst, main_v5, main_v6, main_v7, main_v8, main_v9, main_v10, main_v11]

/-- A buffer no host operation writes is as it was launched. -/
theorem V_kept (c : Dev nD) (b : Ref sig .tc) (h : ∀ r ∈ hostWrites, b ≠ r) : V m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes,
      Finset.mem_singleton]
    repeat' apply And.intro
    all_goals exact StableHlo.devRef_ne_of_ne (h _ (by simp))))

/-- The table of group counts. -/
def tbl : pre0.Contents (Elt F) := fun j => V m (0 : Dev nD) (pre0.ref j)
theorem V_pre (c : Dev nD) (j : Fin 1) : V m c (pre0.ref j) = tbl m j := by
  obtain rfl : c = 0 := Subsingleton.elim _ _; rfl
theorem ok : ok0 (F := F) (tbl m) := by unfold ok0; trivial
abbrev adm : (pcfg0 (F := F)).Adm := ⟨tbl m, ok m⟩
abbrev cfgM : Cfg sig Λ₀ := cfg0 (adm m)

/-- The table whole, and half of it held. -/
abbrev tbM : Memref sig .tc .smem S512 .i32 := Memref.whole main_v9
abbrev tbHeld (c : Dev nD) (M : Memref sig .tc .smem S512 .i32) (f : M.view.ty.Contents (Elt F)) : sProp 𝕄 :=
  M.view.loc (c : Thread nD τ) ↦{fullShare.right} f

theorem PhiT_eq (c : Dev nD) : (Pipeline.ΦT pre0 (tbl m) c : sProp 𝕄) = tbHeld c tbM (tbl m 0) := by
  unfold Pipeline.ΦT Pipeline.prefHeld
  rw [show (Finset.univ : Finset (Fin 1)) = {(0 : Fin 1)} from by decide, bigSep_singleton]
  rfl

/-- The count of groups the table holds for a grid point. -/
def word (i : grid0.Coords) : Elt F .i32 :=
  (tbM).view.readAt (Elt F) (Rect.unit (s := S512) (k0_off1 i) S1.size (k0_off1_inb i)).toLoadRect (tbl m 0)
    (Shape.Idx.first (numel1_S1.symm ▸ Nat.one_pos))

/-! ## The windows -/

/-- Window `w`'s block at point `t`. -/
def iblk (c : Dev nD) (w : Fin (cfgM m).W) (t : Fin (cfgM m).N) :
    (((cfgM m).win w).xblock ((cfgM m).grid.coords t)).Idx → Elt F ((cfgM m).win w).elt :=
  (((cfgM m).win w).blk t).view.read (Elt F) (V m c (Pipeline.arrRef spec0 w))

/-- What the kernel's inputs hold at point `t`. -/
def insAt (c : Dev nD) (t : Fin (cfgM m).N) : Ins F :=
  ⟨iblk m c 0 t, iblk m c 1 t, iblk m c 2 t, iblk m c 3 t, iblk m c 4 t, iblk m c 5 t, iblk m c 6 t, iblk m c 7 t, iblk m c 8 t⟩

theorem out_flush : ∀ t : Fin (cfgM m).N, ((cfgM m).win 9).flush t = true ↔ t.val % 32 = 31 :=
  (fun t => Pipeline.Window.flushOf_reads cc0_transform_9 reads0_9 hreads0_9 0 (by decide) (by decide) (Pipeline.Window.sep_of_coord cc0_transform_9 0 0 (fun _ => rfl) (by decide)) (P := 32) (m := 31) (by decide) rfl t : ∀ t : Fin grid0.N, Pipeline.Window.flushOf grid0 true cc0_transform_9 t = true ↔ t.val % 32 = 31)

/-! ## The run -/

variable (RO : ℕ → (S1024x1024.Idx → Elt F .f32) → Prop)
  (RS : ℕ → (S1024x1024.Idx → Elt F .bf16) → (S1024x1024.Idx → Elt F .bf16) → (S1024x128.Idx → Elt F .f32) → (S1024x1024.Idx → Elt F .f32) → Prop)

/-- What the kernel keeps in its own arrays before point `t`: contents satisfying `RS t`. -/
def scr (c : Dev nD) (t : ℕ) : sProp 𝕄 :=
  iprop(∃ xb X G P, ⌜RS t xb X G P⌝ ∗ held c (Memref.whole cc0_scratch0) xb ∗ held c (Memref.whole cc0_scratch1) X
    ∗ held c (Memref.whole cc0_scratch2) G ∗ held c (Memref.whole cc0_scratch3) P)

/-- The proof data: an input is left as found; the output is left satisfying `RO t`. -/
def rdat (c : Dev nD) : RDat τ (Elt F) Unit ℕ (UR sig nD τ) ℕ (cfgM m) c where
  A := fun w => V m c (Pipeline.arrRef spec0 w)
  after := fun w t Y X => (w ≠ 9 → X = Y) ∧ ∀ Z, w = 9 → HEq X Z → RO t.val Z
  Φ := fun t => iprop(tbHeld c tbM (tbl m 0) ∗ scr RS c t.val ∗ ∃ r, prngReg c r)
  q := Pipeline.shareOf spec0
  owed := fun _ => 0

/-- Every step keeps the invariant: from contents satisfying it, the point's step leaves contents satisfying it. -/
def Keeps (c : Dev nD) : Prop :=
  ∀ (t : Fin (cfgM m).N) (hw : k0_chk1 ((cfgM m).grid.coords t) (word m ((cfgM m).grid.coords t))) (S : St F),
    RS t.val S.xb S.X S.G S.P → (t.val % 32 ≠ 0 → RO (t.val - 1) S.O) →
    RO t.val (step ((cfgM m).grid.coords t) (word m ((cfgM m).grid.coords t)) hw (insAt m c t) S).O
    ∧ RS (t.val + 1) (step ((cfgM m).grid.coords t) (word m ((cfgM m).grid.coords t)) hw (insAt m c t) S).xb
        (step ((cfgM m).grid.coords t) (word m ((cfgM m).grid.coords t)) hw (insAt m c t) S).X
        (step ((cfgM m).grid.coords t) (word m ((cfgM m).grid.coords t)) hw (insAt m c t) S).G
        (step ((cfgM m).grid.coords t) (word m ((cfgM m).grid.coords t)) hw (insAt m c t) S).P

/-- An input window shows its block. -/
theorem finds_in (c : Dev nD) (w : Fin (cfgM m).W) (hw : w ≠ 9) (hin : ((cfgM m).win w).isOut = false)
    (hclip : ∀ t t' : Fin (cfgM m).N, ((cfgM m).win w).index t = ((cfgM m).win w).index t' →
      ((cfgM m).win w).clip ((cfgM m).grid.coords t) = ((cfgM m).win w).clip ((cfgM m).grid.coords t'))
    (t : Fin (cfgM m).N) (Y) (hY : (rdat m RO RS c).Finds w t Y) : ∃ d, Y = (rdat m RO RS c).fetched w t d :=
  (rdat m RO RS c).finds_in_eq_fetched w hin hclip (fun t Y X h => h.1 hw) t Y hY
theorem finds0 (c : Dev nD) (t : Fin (cfgM m).N) (Y) (hY : (rdat m RO RS c).Finds 0 t Y) : Y = iblk m c 0 t := by
  obtain ⟨d, hd⟩ := finds_in m RO RS c 0 (by exact (by decide : (0 : Fin 10) ≠ 9)) rfl (fun _ _ _ => rfl) t Y hY
  rw [hd]; rfl
theorem finds1 (c : Dev nD) (t : Fin (cfgM m).N) (Y) (hY : (rdat m RO RS c).Finds 1 t Y) : Y = iblk m c 1 t := by
  obtain ⟨d, hd⟩ := finds_in m RO RS c 1 (by exact (by decide : (1 : Fin 10) ≠ 9)) rfl (fun _ _ _ => rfl) t Y hY
  rw [hd]; rfl
theorem finds2 (c : Dev nD) (t : Fin (cfgM m).N) (Y) (hY : (rdat m RO RS c).Finds 2 t Y) : Y = iblk m c 2 t := by
  obtain ⟨d, hd⟩ := finds_in m RO RS c 2 (by exact (by decide : (2 : Fin 10) ≠ 9)) rfl (fun _ _ _ => rfl) t Y hY
  rw [hd]; rfl
theorem finds3 (c : Dev nD) (t : Fin (cfgM m).N) (Y) (hY : (rdat m RO RS c).Finds 3 t Y) : Y = iblk m c 3 t := by
  obtain ⟨d, hd⟩ := finds_in m RO RS c 3 (by exact (by decide : (3 : Fin 10) ≠ 9)) rfl (fun _ _ _ => rfl) t Y hY
  rw [hd]; rfl
theorem finds4 (c : Dev nD) (t : Fin (cfgM m).N) (Y) (hY : (rdat m RO RS c).Finds 4 t Y) : Y = iblk m c 4 t := by
  obtain ⟨d, hd⟩ := finds_in m RO RS c 4 (by exact (by decide : (4 : Fin 10) ≠ 9)) rfl (fun _ _ _ => rfl) t Y hY
  rw [hd]; rfl
theorem finds5 (c : Dev nD) (t : Fin (cfgM m).N) (Y) (hY : (rdat m RO RS c).Finds 5 t Y) : Y = iblk m c 5 t := by
  obtain ⟨d, hd⟩ := finds_in m RO RS c 5 (by exact (by decide : (5 : Fin 10) ≠ 9)) rfl (fun _ _ _ => rfl) t Y hY
  rw [hd]; rfl
theorem finds6 (c : Dev nD) (t : Fin (cfgM m).N) (Y) (hY : (rdat m RO RS c).Finds 6 t Y) : Y = iblk m c 6 t := by
  obtain ⟨d, hd⟩ := finds_in m RO RS c 6 (by exact (by decide : (6 : Fin 10) ≠ 9)) rfl (fun _ _ _ => rfl) t Y hY
  rw [hd]; rfl
theorem finds7 (c : Dev nD) (t : Fin (cfgM m).N) (Y) (hY : (rdat m RO RS c).Finds 7 t Y) : Y = iblk m c 7 t := by
  obtain ⟨d, hd⟩ := finds_in m RO RS c 7 (by exact (by decide : (7 : Fin 10) ≠ 9)) rfl (fun _ _ _ => rfl) t Y hY
  rw [hd]; rfl
theorem finds8 (c : Dev nD) (t : Fin (cfgM m).N) (Y) (hY : (rdat m RO RS c).Finds 8 t Y) : Y = iblk m c 8 t := by
  obtain ⟨d, hd⟩ := finds_in m RO RS c 8 (by exact (by decide : (8 : Fin 10) ≠ 9)) rfl (fun _ _ _ => rfl) t Y hY
  rw [hd]; rfl

/-- The output is found as the point before left it, unless a new tile starts. -/
theorem finds9 (c : Dev nD) (t : Fin (cfgM m).N) (Y) (hY : (rdat m RO RS c).Finds 9 t Y) (ht : t.val % 32 ≠ 0) : RO (t.val - 1) Y := by
  have hne : t.val ≠ 0 := by omega
  rcases ((rdat m RO RS c).finds_of_pos (((cfgM m).win 9).fetch_out rfl t) hne Y).mp hY with hfl | ⟨Y', -, hR⟩
  · have := (out_flush m _).mp hfl
    simp only at this; omega
  · exact hR.2 Y rfl HEq.rfl

end Cert.KernelIdeal.Moe

end
-- ==== Proof.Point.lean ====
/-
  One grid point of the kernel over whole memrefs, under an invariant of what it keeps.
-/
module

public import proofs.«01_k».proof.Proof.Kit

@[expose] public section

set_option maxRecDepth 16384

noncomputable section

namespace Cert.KernelIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

open Idealize.ShloMosaic.Pipeline (RDat Cfg Window)

variable {F : FTy → Type} [FloatOps F]

local notation "𝕄" => MT nD τ sig Unit (Elt F) ℕ (UR sig nD τ) ℕ

/-- One point of the kernel: it takes the invariant of what it keeps, and an output contents, to the next. -/
theorem body_at (RS : ℕ → (S1024x1024.Idx → Elt F .bf16) → (S1024x1024.Idx → Elt F .bf16) → (S1024x128.Idx → Elt F .f32) → (S1024x1024.Idx → Elt F .f32) → Prop)
    (c : Dev nD) (i : grid0.Coords) (tb : (tbM).view.ty.Contents (Elt F)) (v3 : Elt F .i32)
    (hv : (tbM).view.readAt (Elt F) (Rect.unit (s := S512) (k0_off1 i) S1.size (k0_off1_inb i)).toLoadRect tb
      (Shape.Idx.first (numel1_S1.symm ▸ Nat.one_pos)) = v3)
    (A0 : Memref sig .tc .vmem S1024x1024 .f32) (hA0 : A0.IsWhole) (A1 : Memref sig .tc .vmem S1024x128 .f32) (hA1 : A1.IsWhole) (A2 : Memref sig .tc .vmem S1024x128 .f32) (hA2 : A2.IsWhole) (A3 : Memref sig .tc .vmem S1x8x1024 .f32) (hA3 : A3.IsWhole) (A4 : Memref sig .tc .vmem S1x1024x896 .bf16) (hA4 : A4.IsWhole) (A5 : Memref sig .tc .vmem S1x1024x896 .bf16) (hA5 : A5.IsWhole) (A6 : Memref sig .tc .vmem S1x896x1024 .bf16) (hA6 : A6.IsWhole) (A7 : Memref sig .tc .vmem S1x1024 .f32) (hA7 : A7.IsWhole) (A8 : Memref sig .tc .vmem S1x1024 .f32) (hA8 : A8.IsWhole) (A9 : Memref sig .tc .vmem S1024x1024 .f32) (hA9 : A9.IsWhole) (hn : (v3 : BitVec 32).toNat ≤ 16) (I : Ins F)
    (n : ℕ) (R : (S1024x1024.Idx → Elt F .f32) → Prop) (O : S1024x1024.Idx → Elt F .f32)
    (hK : ∀ (hw : k0_chk1 i v3) (xb X G P), RS n xb X G P → R (step i v3 hw I ⟨O, xb, X, G, P⟩).O
      ∧ RS (n + 1) (step i v3 hw I ⟨O, xb, X, G, P⟩).xb (step i v3 hw I ⟨O, xb, X, G, P⟩).X
        (step i v3 hw I ⟨O, xb, X, G, P⟩).G (step i v3 hw I ⟨O, xb, X, G, P⟩).P) (W Z : sProp 𝕄) :
    iprop((tbHeld c tbM (tb) ∗ scr RS c n ∗ Z) ∗ W ∗ owns c A0 fullShare I.x ∗ owns c A1 fullShare I.cw ∗ owns c A2 fullShare I.p ∗ owns c A3 fullShare I.pt ∗ owns c A4 fullShare I.wg ∗ owns c A5 fullShare I.wu ∗ owns c A6 fullShare I.wd ∗ owns c A7 fullShare I.g ∗ owns c A8 fullShare I.b ∗ owns c A9 fullShare O)
      ⊢ wp frame (wpE (defs₀ (F := F)) Variants.none c none) Set.univ (cc0_moe_ln (F := F) i tbM (Memref.isWhole_whole _) A0 hA0 A1 hA1 A2 hA2 A3 hA3 A4 hA4 A5 hA5 A6 hA6 A7 hA7 A8 hA8 A9 hA9
      (Memref.whole cc0_scratch0) (Memref.isWhole_whole _) (Memref.whole cc0_scratch1) (Memref.isWhole_whole _)
      (Memref.whole cc0_scratch2) (Memref.isWhole_whole _) (Memref.whole cc0_scratch3) (Memref.isWhole_whole _))
        fun _ => iprop((tbHeld c tbM (tb) ∗ scr RS c (n + 1) ∗ Z) ∗ W ∗ owns c A0 fullShare I.x ∗ owns c A1 fullShare I.cw ∗ owns c A2 fullShare I.p ∗ owns c A3 fullShare I.pt ∗ owns c A4 fullShare I.wg ∗ owns c A5 fullShare I.wu ∗ owns c A6 fullShare I.wd ∗ owns c A7 fullShare I.g ∗ owns c A8 fullShare I.b
          ∗ ∃ O', ⌜R O'⌝ ∗ owns c A9 fullShare O') := by
  have hw : k0_chk1 i v3 := chk_of_le _ _ hn
  unfold scr
  iintro ⟨⟨Ht, ⟨%xb, %X, %G, %P, %hS, Ha, Hb, Hc, Hd⟩, Hg⟩, HW, H0, H1, H2, H3, H4, H5, H6, H7, H8, H9⟩
  have hK' := hK hw xb X G P hS
  iapply (body_wp (F := F) Variants.none c none Set.univ i (hv := hv) (k0_hw1 := hw) (hn := hn) (tb := tb) (q := fullShare.right)
    (I := I) (S := ⟨O, xb, X, G, P⟩)) $$ [Ht H0 H1 H2 H3 H4 H5 H6 H7 H8 H9 Ha Hb Hc Hd]
  · isplitl [Ht]; · iexact Ht
    isplitl [H0 H1 H2 H3 H4 H5 H6 H7 H8]
    · isplitl [H0]; · iapply (rep_of_owns (c : Thread nD τ) A0 fullShare I.x); iexact H0
      isplitl [H1]; · iapply (rep_of_owns (c : Thread nD τ) A1 fullShare I.cw); iexact H1
      isplitl [H2]; · iapply (rep_of_owns (c : Thread nD τ) A2 fullShare I.p); iexact H2
      isplitl [H3]; · iapply (rep_of_owns (c : Thread nD τ) A3 fullShare I.pt); iexact H3
      isplitl [H4]; · iapply (rep_of_owns (c : Thread nD τ) A4 fullShare I.wg); iexact H4
      isplitl [H5]; · iapply (rep_of_owns (c : Thread nD τ) A5 fullShare I.wu); iexact H5
      isplitl [H6]; · iapply (rep_of_owns (c : Thread nD τ) A6 fullShare I.wd); iexact H6
      isplitl [H7]; · iapply (rep_of_owns (c : Thread nD τ) A7 fullShare I.g); iexact H7
      iapply (rep_of_owns (c : Thread nD τ) A8 fullShare I.b); iexact H8
    · isplitl [H9]; · iapply (rep_of_owns (c : Thread nD τ) A9 fullShare O); iexact H9
      isplitl [Ha]; · iexact Ha
      isplitl [Hb]; · iexact Hb
      isplitl [Hc]; · iexact Hc
      iexact Hd
  iintro ⟨Ht, ⟨H0, H1, H2, H3, H4, H5, H6, H7, H8⟩, ⟨H9, Ha, Hb, Hc, Hd⟩⟩
  isplitl [Ht Ha Hb Hc Hd Hg]
  · isplitl [Ht]; · iexact Ht
    isplitl [Ha Hb Hc Hd]
    · iexists _; iexists _; iexists _; iexists _
      isplitr; · ipureintro; exact hK'.2
      isplitl [Ha]; · iexact Ha
      isplitl [Hb]; · iexact Hb
      isplitl [Hc]; · iexact Hc
      iexact Hd
    · iexact Hg
  isplitl [HW]; · iexact HW
  isplitl [H0]; · iapply (owns_of_rep (c : Thread nD τ) A0 fullShare I.x); iexact H0
  isplitl [H1]; · iapply (owns_of_rep (c : Thread nD τ) A1 fullShare I.cw); iexact H1
  isplitl [H2]; · iapply (owns_of_rep (c : Thread nD τ) A2 fullShare I.p); iexact H2
  isplitl [H3]; · iapply (owns_of_rep (c : Thread nD τ) A3 fullShare I.pt); iexact H3
  isplitl [H4]; · iapply (owns_of_rep (c : Thread nD τ) A4 fullShare I.wg); iexact H4
  isplitl [H5]; · iapply (owns_of_rep (c : Thread nD τ) A5 fullShare I.wu); iexact H5
  isplitl [H6]; · iapply (owns_of_rep (c : Thread nD τ) A6 fullShare I.wd); iexact H6
  isplitl [H7]; · iapply (owns_of_rep (c : Thread nD τ) A7 fullShare I.g); iexact H7
  isplitl [H8]; · iapply (owns_of_rep (c : Thread nD τ) A8 fullShare I.b); iexact H8
  iexists _
  isplitr; · ipureintro; exact hK'.1
  iapply (owns_of_rep (c : Thread nD τ) A9 fullShare _); iexact H9

end Cert.KernelIdeal.Moe

end
-- ==== Proof.Obligation.lean ====
/-
  The pipeline's obligation of the kernel.
-/
module

public import proofs.«01_k».proof.Proof.Point

@[expose] public section

set_option maxRecDepth 16384

noncomputable section

namespace Cert.KernelIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

open Idealize.ShloMosaic.Pipeline (RDat Cfg Window)

variable {F : FTy → Type} [FloatOps F]

local notation "𝕄" => MT nD τ sig Unit (Elt F) ℕ (UR sig nD τ) ℕ

variable (m : (ℓ : Loc nD τ sig) → Buf (Elt F) ℓ) (ρ : Dev nD → PrngReg)
variable (RO : ℕ → (S1024x1024.Idx → Elt F .f32) → Prop)
  (RS : ℕ → (S1024x1024.Idx → Elt F .bf16) → (S1024x1024.Idx → Elt F .bf16) → (S1024x128.Idx → Elt F .f32) → (S1024x1024.Idx → Elt F .f32) → Prop)

/-- The kernel as the pipeline calls it at point `t`. -/
abbrev kernelAt (t : Fin (cfgM m).N) : Prog (TpuEff nD τ sig (Elt F) Λ₀ .tc) PUnit :=
  cc0_moe_ln (F := F) (grid0.coords t) tbM (Memref.isWhole_whole _)
    (spec0_0.stage ((cfgM m).slots t 0)) (hstage0_0 (((cfgM m).slots t 0).cast nbuf0_0)) (spec0_1.stage ((cfgM m).slots t 1)) (hstage0_1 (((cfgM m).slots t 1).cast nbuf0_1)) (spec0_2.stage ((cfgM m).slots t 2)) (hstage0_2 (((cfgM m).slots t 2).cast nbuf0_2)) (spec0_3.stage ((cfgM m).slots t 3)) (hstage0_3 (((cfgM m).slots t 3).cast nbuf0_3)) (spec0_4.stage ((cfgM m).slots t 4)) (hstage0_4 (((cfgM m).slots t 4).cast nbuf0_4)) (spec0_5.stage ((cfgM m).slots t 5)) (hstage0_5 (((cfgM m).slots t 5).cast nbuf0_5)) (spec0_6.stage ((cfgM m).slots t 6)) (hstage0_6 (((cfgM m).slots t 6).cast nbuf0_6)) (spec0_7.stage ((cfgM m).slots t 7)) (hstage0_7 (((cfgM m).slots t 7).cast nbuf0_7)) (spec0_8.stage ((cfgM m).slots t 8)) (hstage0_8 (((cfgM m).slots t 8).cast nbuf0_8)) (spec0_9.stage ((cfgM m).slots t 9)) (hstage0_9 (((cfgM m).slots t 9).cast nbuf0_9))
    (Memref.whole cc0_scratch0) (Memref.isWhole_whole _) (Memref.whole cc0_scratch1) (Memref.isWhole_whole _)
    (Memref.whole cc0_scratch2) (Memref.isWhole_whole _) (Memref.whole cc0_scratch3) (Memref.isWhole_whole _)

theorem defs₀_row (t : Fin (cfgM m).N) :
    defs₀ (F := F) .tc (cfgM m).body ((cfgM m).bodyArgs t ((cfgM m).slots t)) = kernelAt m t := by
  unfold defs₀; rw [Defs.onTc_tc]

theorem word_eq (i : grid0.Coords) : (tbM).view.readAt (Elt F) (Rect.unit (s := S512) (k0_off1 i) S1.size (k0_off1_inb i)).toLoadRect (tbl m 0)
    (Shape.Idx.first (numel1_S1.symm ▸ Nat.one_pos)) = word m i := rfl

theorem Phi_eq (c : Dev nD) (t : Fin ((cfgM m).N + 1)) :
    (rdat m RO RS c).Φ t = iprop(tbHeld c tbM (tbl m 0) ∗ scr RS c t.val ∗ ∃ r, prngReg c r) := rfl

theorem into0 (c : Dev nD) (t : Fin (cfgM m).N) (Y) (hY : (rdat m RO RS c).Finds 0 t Y) :
    (owns c (((cfgM m).win 0).stage ((cfgM m).slots t 0)) fullShare Y : sProp 𝕄) ⊢ owns c (spec0_0.stage ((cfgM m).slots t 0)) fullShare (insAt m c t).x := by
  obtain rfl := finds0 m RO RS c t Y hY
  exact Idealize.SL.BI.Entails.refl _

theorem back0 (c : Dev nD) (t : Fin (cfgM m).N) (Y) (hY : (rdat m RO RS c).Finds 0 t Y) :
    (owns c (spec0_0.stage ((cfgM m).slots t 0)) fullShare (insAt m c t).x : sProp 𝕄)
      ⊢ iprop(∃ X, ⌜(rdat m RO RS c).after 0 t Y X⌝ ∗ owns c (((cfgM m).win 0).stage ((cfgM m).slots t 0)) fullShare X) := by
  obtain rfl := finds0 m RO RS c t Y hY
  iintro H
  iexists (iblk m c 0 t)
  isplitr
  · ipureintro; exact ⟨fun _ => rfl, fun _ h => absurd h (by exact (by decide : (0 : Fin 10) ≠ 9))⟩
  · iexact H

theorem into1 (c : Dev nD) (t : Fin (cfgM m).N) (Y) (hY : (rdat m RO RS c).Finds 1 t Y) :
    (owns c (((cfgM m).win 1).stage ((cfgM m).slots t 1)) fullShare Y : sProp 𝕄) ⊢ owns c (spec0_1.stage ((cfgM m).slots t 1)) fullShare (insAt m c t).cw := by
  obtain rfl := finds1 m RO RS c t Y hY
  exact Idealize.SL.BI.Entails.refl _

theorem back1 (c : Dev nD) (t : Fin (cfgM m).N) (Y) (hY : (rdat m RO RS c).Finds 1 t Y) :
    (owns c (spec0_1.stage ((cfgM m).slots t 1)) fullShare (insAt m c t).cw : sProp 𝕄)
      ⊢ iprop(∃ X, ⌜(rdat m RO RS c).after 1 t Y X⌝ ∗ owns c (((cfgM m).win 1).stage ((cfgM m).slots t 1)) fullShare X) := by
  obtain rfl := finds1 m RO RS c t Y hY
  iintro H
  iexists (iblk m c 1 t)
  isplitr
  · ipureintro; exact ⟨fun _ => rfl, fun _ h => absurd h (by exact (by decide : (1 : Fin 10) ≠ 9))⟩
  · iexact H

theorem into2 (c : Dev nD) (t : Fin (cfgM m).N) (Y) (hY : (rdat m RO RS c).Finds 2 t Y) :
    (owns c (((cfgM m).win 2).stage ((cfgM m).slots t 2)) fullShare Y : sProp 𝕄) ⊢ owns c (spec0_2.stage ((cfgM m).slots t 2)) fullShare (insAt m c t).p := by
  obtain rfl := finds2 m RO RS c t Y hY
  exact Idealize.SL.BI.Entails.refl _

theorem back2 (c : Dev nD) (t : Fin (cfgM m).N) (Y) (hY : (rdat m RO RS c).Finds 2 t Y) :
    (owns c (spec0_2.stage ((cfgM m).slots t 2)) fullShare (insAt m c t).p : sProp 𝕄)
      ⊢ iprop(∃ X, ⌜(rdat m RO RS c).after 2 t Y X⌝ ∗ owns c (((cfgM m).win 2).stage ((cfgM m).slots t 2)) fullShare X) := by
  obtain rfl := finds2 m RO RS c t Y hY
  iintro H
  iexists (iblk m c 2 t)
  isplitr
  · ipureintro; exact ⟨fun _ => rfl, fun _ h => absurd h (by exact (by decide : (2 : Fin 10) ≠ 9))⟩
  · iexact H

theorem into3 (c : Dev nD) (t : Fin (cfgM m).N) (Y) (hY : (rdat m RO RS c).Finds 3 t Y) :
    (owns c (((cfgM m).win 3).stage ((cfgM m).slots t 3)) fullShare Y : sProp 𝕄) ⊢ owns c (spec0_3.stage ((cfgM m).slots t 3)) fullShare (insAt m c t).pt := by
  obtain rfl := finds3 m RO RS c t Y hY
  exact Idealize.SL.BI.Entails.refl _

theorem back3 (c : Dev nD) (t : Fin (cfgM m).N) (Y) (hY : (rdat m RO RS c).Finds 3 t Y) :
    (owns c (spec0_3.stage ((cfgM m).slots t 3)) fullShare (insAt m c t).pt : sProp 𝕄)
      ⊢ iprop(∃ X, ⌜(rdat m RO RS c).after 3 t Y X⌝ ∗ owns c (((cfgM m).win 3).stage ((cfgM m).slots t 3)) fullShare X) := by
  obtain rfl := finds3 m RO RS c t Y hY
  iintro H
  iexists (iblk m c 3 t)
  isplitr
  · ipureintro; exact ⟨fun _ => rfl, fun _ h => absurd h (by exact (by decide : (3 : Fin 10) ≠ 9))⟩
  · iexact H

theorem into4 (c : Dev nD) (t : Fin (cfgM m).N) (Y) (hY : (rdat m RO RS c).Finds 4 t Y) :
    (owns c (((cfgM m).win 4).stage ((cfgM m).slots t 4)) fullShare Y : sProp 𝕄) ⊢ owns c (spec0_4.stage ((cfgM m).slots t 4)) fullShare (insAt m c t).wg := by
  obtain rfl := finds4 m RO RS c t Y hY
  exact Idealize.SL.BI.Entails.refl _

theorem back4 (c : Dev nD) (t : Fin (cfgM m).N) (Y) (hY : (rdat m RO RS c).Finds 4 t Y) :
    (owns c (spec0_4.stage ((cfgM m).slots t 4)) fullShare (insAt m c t).wg : sProp 𝕄)
      ⊢ iprop(∃ X, ⌜(rdat m RO RS c).after 4 t Y X⌝ ∗ owns c (((cfgM m).win 4).stage ((cfgM m).slots t 4)) fullShare X) := by
  obtain rfl := finds4 m RO RS c t Y hY
  iintro H
  iexists (iblk m c 4 t)
  isplitr
  · ipureintro; exact ⟨fun _ => rfl, fun _ h => absurd h (by exact (by decide : (4 : Fin 10) ≠ 9))⟩
  · iexact H

theorem into5 (c : Dev nD) (t : Fin (cfgM m).N) (Y) (hY : (rdat m RO RS c).Finds 5 t Y) :
    (owns c (((cfgM m).win 5).stage ((cfgM m).slots t 5)) fullShare Y : sProp 𝕄) ⊢ owns c (spec0_5.stage ((cfgM m).slots t 5)) fullShare (insAt m c t).wu := by
  obtain rfl := finds5 m RO RS c t Y hY
  exact Idealize.SL.BI.Entails.refl _

theorem back5 (c : Dev nD) (t : Fin (cfgM m).N) (Y) (hY : (rdat m RO RS c).Finds 5 t Y) :
    (owns c (spec0_5.stage ((cfgM m).slots t 5)) fullShare (insAt m c t).wu : sProp 𝕄)
      ⊢ iprop(∃ X, ⌜(rdat m RO RS c).after 5 t Y X⌝ ∗ owns c (((cfgM m).win 5).stage ((cfgM m).slots t 5)) fullShare X) := by
  obtain rfl := finds5 m RO RS c t Y hY
  iintro H
  iexists (iblk m c 5 t)
  isplitr
  · ipureintro; exact ⟨fun _ => rfl, fun _ h => absurd h (by exact (by decide : (5 : Fin 10) ≠ 9))⟩
  · iexact H

theorem into6 (c : Dev nD) (t : Fin (cfgM m).N) (Y) (hY : (rdat m RO RS c).Finds 6 t Y) :
    (owns c (((cfgM m).win 6).stage ((cfgM m).slots t 6)) fullShare Y : sProp 𝕄) ⊢ owns c (spec0_6.stage ((cfgM m).slots t 6)) fullShare (insAt m c t).wd := by
  obtain rfl := finds6 m RO RS c t Y hY
  exact Idealize.SL.BI.Entails.refl _

theorem back6 (c : Dev nD) (t : Fin (cfgM m).N) (Y) (hY : (rdat m RO RS c).Finds 6 t Y) :
    (owns c (spec0_6.stage ((cfgM m).slots t 6)) fullShare (insAt m c t).wd : sProp 𝕄)
      ⊢ iprop(∃ X, ⌜(rdat m RO RS c).after 6 t Y X⌝ ∗ owns c (((cfgM m).win 6).stage ((cfgM m).slots t 6)) fullShare X) := by
  obtain rfl := finds6 m RO RS c t Y hY
  iintro H
  iexists (iblk m c 6 t)
  isplitr
  · ipureintro; exact ⟨fun _ => rfl, fun _ h => absurd h (by exact (by decide : (6 : Fin 10) ≠ 9))⟩
  · iexact H

theorem into7 (c : Dev nD) (t : Fin (cfgM m).N) (Y) (hY : (rdat m RO RS c).Finds 7 t Y) :
    (owns c (((cfgM m).win 7).stage ((cfgM m).slots t 7)) fullShare Y : sProp 𝕄) ⊢ owns c (spec0_7.stage ((cfgM m).slots t 7)) fullShare (insAt m c t).g := by
  obtain rfl := finds7 m RO RS c t Y hY
  exact Idealize.SL.BI.Entails.refl _

theorem back7 (c : Dev nD) (t : Fin (cfgM m).N) (Y) (hY : (rdat m RO RS c).Finds 7 t Y) :
    (owns c (spec0_7.stage ((cfgM m).slots t 7)) fullShare (insAt m c t).g : sProp 𝕄)
      ⊢ iprop(∃ X, ⌜(rdat m RO RS c).after 7 t Y X⌝ ∗ owns c (((cfgM m).win 7).stage ((cfgM m).slots t 7)) fullShare X) := by
  obtain rfl := finds7 m RO RS c t Y hY
  iintro H
  iexists (iblk m c 7 t)
  isplitr
  · ipureintro; exact ⟨fun _ => rfl, fun _ h => absurd h (by exact (by decide : (7 : Fin 10) ≠ 9))⟩
  · iexact H

theorem into8 (c : Dev nD) (t : Fin (cfgM m).N) (Y) (hY : (rdat m RO RS c).Finds 8 t Y) :
    (owns c (((cfgM m).win 8).stage ((cfgM m).slots t 8)) fullShare Y : sProp 𝕄) ⊢ owns c (spec0_8.stage ((cfgM m).slots t 8)) fullShare (insAt m c t).b := by
  obtain rfl := finds8 m RO RS c t Y hY
  exact Idealize.SL.BI.Entails.refl _

theorem back8 (c : Dev nD) (t : Fin (cfgM m).N) (Y) (hY : (rdat m RO RS c).Finds 8 t Y) :
    (owns c (spec0_8.stage ((cfgM m).slots t 8)) fullShare (insAt m c t).b : sProp 𝕄)
      ⊢ iprop(∃ X, ⌜(rdat m RO RS c).after 8 t Y X⌝ ∗ owns c (((cfgM m).win 8).stage ((cfgM m).slots t 8)) fullShare X) := by
  obtain rfl := finds8 m RO RS c t Y hY
  iintro H
  iexists (iblk m c 8 t)
  isplitr
  · ipureintro; exact ⟨fun _ => rfl, fun _ h => absurd h (by exact (by decide : (8 : Fin 10) ≠ 9))⟩
  · iexact H

theorem back9 (c : Dev nD) (t : Fin (cfgM m).N) (Y) :
    (iprop(∃ O', ⌜RO t.val O'⌝ ∗ owns c (spec0_9.stage ((cfgM m).slots t 9)) fullShare O') : sProp 𝕄)
      ⊢ iprop(∃ X, ⌜(rdat m RO RS c).after 9 t Y X⌝ ∗ owns c (((cfgM m).win 9).stage ((cfgM m).slots t 9)) fullShare X) := by
  iintro ⟨%X, %hX, H⟩
  iexists X
  isplitr
  · ipureintro; exact ⟨fun h => absurd rfl h, fun Z _ h => by rw [← eq_of_heq h]; exact hX⟩
  · iexact H

/-- The step at a point, as the kernel's run asks for it. -/
theorem keeps_at (c : Dev nD) (hK : Keeps m RO RS c) (t : Fin (cfgM m).N) (O : S1024x1024.Idx → Elt F .f32) (hO : t.val % 32 ≠ 0 → RO (t.val - 1) O)
    (hw : k0_chk1 (grid0.coords t) (word m (grid0.coords t))) (xb X G P) (hS : RS t.val xb X G P) :
    RO t.val (step (grid0.coords t) (word m (grid0.coords t)) hw (insAt m c t) ⟨O, xb, X, G, P⟩).O
      ∧ RS (t.val + 1) (step (grid0.coords t) (word m (grid0.coords t)) hw (insAt m c t) ⟨O, xb, X, G, P⟩).xb
        (step (grid0.coords t) (word m (grid0.coords t)) hw (insAt m c t) ⟨O, xb, X, G, P⟩).X
        (step (grid0.coords t) (word m (grid0.coords t)) hw (insAt m c t) ⟨O, xb, X, G, P⟩).G
        (step (grid0.coords t) (word m (grid0.coords t)) hw (insAt m c t) ⟨O, xb, X, G, P⟩).P :=
  hK t hw ⟨O, xb, X, G, P⟩ hS hO

theorem kernel_at (c : Dev nD) (hK : Keeps m RO RS c) (hn : ∀ i, (word m i : BitVec 32).toNat ≤ 16) (t : Fin (cfgM m).N)
    (O : S1024x1024.Idx → Elt F .f32) (hO : t.val % 32 ≠ 0 → RO (t.val - 1) O) (W Z : sProp 𝕄) :
    iprop((tbHeld c tbM (tbl m 0) ∗ scr RS c t.val ∗ Z) ∗ W ∗ owns c (spec0_0.stage ((cfgM m).slots t 0)) fullShare (insAt m c t).x ∗ owns c (spec0_1.stage ((cfgM m).slots t 1)) fullShare (insAt m c t).cw ∗ owns c (spec0_2.stage ((cfgM m).slots t 2)) fullShare (insAt m c t).p ∗ owns c (spec0_3.stage ((cfgM m).slots t 3)) fullShare (insAt m c t).pt ∗ owns c (spec0_4.stage ((cfgM m).slots t 4)) fullShare (insAt m c t).wg ∗ owns c (spec0_5.stage ((cfgM m).slots t 5)) fullShare (insAt m c t).wu ∗ owns c (spec0_6.stage ((cfgM m).slots t 6)) fullShare (insAt m c t).wd ∗ owns c (spec0_7.stage ((cfgM m).slots t 7)) fullShare (insAt m c t).g ∗ owns c (spec0_8.stage ((cfgM m).slots t 8)) fullShare (insAt m c t).b ∗ owns c (spec0_9.stage ((cfgM m).slots t 9)) fullShare O)
      ⊢ wp frame (wpE (defs₀ (F := F)) Variants.none c none) Set.univ (kernelAt m t)
        fun _ => iprop((tbHeld c tbM (tbl m 0) ∗ scr RS c (t.val + 1) ∗ Z) ∗ W ∗ owns c (spec0_0.stage ((cfgM m).slots t 0)) fullShare (insAt m c t).x ∗ owns c (spec0_1.stage ((cfgM m).slots t 1)) fullShare (insAt m c t).cw ∗ owns c (spec0_2.stage ((cfgM m).slots t 2)) fullShare (insAt m c t).p ∗ owns c (spec0_3.stage ((cfgM m).slots t 3)) fullShare (insAt m c t).pt ∗ owns c (spec0_4.stage ((cfgM m).slots t 4)) fullShare (insAt m c t).wg ∗ owns c (spec0_5.stage ((cfgM m).slots t 5)) fullShare (insAt m c t).wu ∗ owns c (spec0_6.stage ((cfgM m).slots t 6)) fullShare (insAt m c t).wd ∗ owns c (spec0_7.stage ((cfgM m).slots t 7)) fullShare (insAt m c t).g ∗ owns c (spec0_8.stage ((cfgM m).slots t 8)) fullShare (insAt m c t).b
          ∗ ∃ O', ⌜RO t.val O'⌝ ∗ owns c (spec0_9.stage ((cfgM m).slots t 9)) fullShare O') :=
  body_at (F := F) RS c (grid0.coords t) (tbl m 0) (word m (grid0.coords t)) (word_eq m _) (spec0_0.stage ((cfgM m).slots t 0)) (hstage0_0 (((cfgM m).slots t 0).cast nbuf0_0)) (spec0_1.stage ((cfgM m).slots t 1)) (hstage0_1 (((cfgM m).slots t 1).cast nbuf0_1)) (spec0_2.stage ((cfgM m).slots t 2)) (hstage0_2 (((cfgM m).slots t 2).cast nbuf0_2)) (spec0_3.stage ((cfgM m).slots t 3)) (hstage0_3 (((cfgM m).slots t 3).cast nbuf0_3)) (spec0_4.stage ((cfgM m).slots t 4)) (hstage0_4 (((cfgM m).slots t 4).cast nbuf0_4)) (spec0_5.stage ((cfgM m).slots t 5)) (hstage0_5 (((cfgM m).slots t 5).cast nbuf0_5)) (spec0_6.stage ((cfgM m).slots t 6)) (hstage0_6 (((cfgM m).slots t 6).cast nbuf0_6)) (spec0_7.stage ((cfgM m).slots t 7)) (hstage0_7 (((cfgM m).slots t 7).cast nbuf0_7)) (spec0_8.stage ((cfgM m).slots t 8)) (hstage0_8 (((cfgM m).slots t 8).cast nbuf0_8)) (spec0_9.stage ((cfgM m).slots t 9)) (hstage0_9 (((cfgM m).slots t 9).cast nbuf0_9)) (hn _) (insAt m c t) t.val (RO t.val) O
    (fun hw xb X G P hS => keeps_at m RO RS c hK t O hO hw xb X G P hS) W Z

theorem Phi_castSucc (c : Dev nD) (t : Fin (cfgM m).N) :
    (rdat m RO RS c).Φ t.castSucc = iprop(tbHeld c tbM (tbl m 0) ∗ scr RS c t.val ∗ ∃ r, prngReg c r) := by
  rw [Phi_eq, Fin.val_castSucc]

theorem Phi_succ (c : Dev nD) (t : Fin (cfgM m).N) :
    (rdat m RO RS c).Φ t.succ = iprop(tbHeld c tbM (tbl m 0) ∗ scr RS c (t.val + 1) ∗ ∃ r, prngReg c r) := by
  rw [Phi_eq, Fin.val_succ]

theorem owes_eq (c : Dev nD) (t : Fin (cfgM m).N) : (rdat m RO RS c).owesAt () t.succ = (rdat m RO RS c).owesAt () t.castSucc := rfl

theorem obligation (c : Dev nD) (hK : Keeps m RO RS c) (hn : ∀ i, (word m i : BitVec 32).toNat ≤ 16) :
    (rdat m RO RS c).BodyObligation (defs₀ (F := F)) Variants.none () Set.univ := by
  intro t Y hY
  rw [bigSep_W0, bigSep_W0]
  rw [Phi_castSucc m RO RS c t, Phi_succ m RO RS c t, owes_eq m RO RS c t]
  refine triple_restated (kernel_at m RO RS c hK hn t (Y 9) (finds9 m RO RS c t (Y 9) (hY 9)) ((rdat m RO RS c).owesAt () t.castSucc) iprop(∃ r, prngReg c r))
    ?_ ?_ ?_
  · rw [defs₀_row]
  · refine Idealize.SL.BI.BIClass.sep_mono (Idealize.SL.BI.Entails.refl _) (Idealize.SL.BI.BIClass.sep_mono (Idealize.SL.BI.Entails.refl _) ?_)
    refine Idealize.SL.BI.BIClass.sep_mono (into0 m RO RS c t (Y 0) (hY 0)) ?_
    refine Idealize.SL.BI.BIClass.sep_mono (into1 m RO RS c t (Y 1) (hY 1)) ?_
    refine Idealize.SL.BI.BIClass.sep_mono (into2 m RO RS c t (Y 2) (hY 2)) ?_
    refine Idealize.SL.BI.BIClass.sep_mono (into3 m RO RS c t (Y 3) (hY 3)) ?_
    refine Idealize.SL.BI.BIClass.sep_mono (into4 m RO RS c t (Y 4) (hY 4)) ?_
    refine Idealize.SL.BI.BIClass.sep_mono (into5 m RO RS c t (Y 5) (hY 5)) ?_
    refine Idealize.SL.BI.BIClass.sep_mono (into6 m RO RS c t (Y 6) (hY 6)) ?_
    refine Idealize.SL.BI.BIClass.sep_mono (into7 m RO RS c t (Y 7) (hY 7)) ?_
    refine Idealize.SL.BI.BIClass.sep_mono (into8 m RO RS c t (Y 8) (hY 8)) ?_
    exact Idealize.SL.BI.Entails.refl _
  · intro _
    refine Idealize.SL.BI.BIClass.sep_mono (Idealize.SL.BI.Entails.refl _) (Idealize.SL.BI.BIClass.sep_mono (Idealize.SL.BI.Entails.refl _) ?_)
    refine Idealize.SL.BI.BIClass.sep_mono (back0 m RO RS c t (Y 0) (hY 0)) ?_
    refine Idealize.SL.BI.BIClass.sep_mono (back1 m RO RS c t (Y 1) (hY 1)) ?_
    refine Idealize.SL.BI.BIClass.sep_mono (back2 m RO RS c t (Y 2) (hY 2)) ?_
    refine Idealize.SL.BI.BIClass.sep_mono (back3 m RO RS c t (Y 3) (hY 3)) ?_
    refine Idealize.SL.BI.BIClass.sep_mono (back4 m RO RS c t (Y 4) (hY 4)) ?_
    refine Idealize.SL.BI.BIClass.sep_mono (back5 m RO RS c t (Y 5) (hY 5)) ?_
    refine Idealize.SL.BI.BIClass.sep_mono (back6 m RO RS c t (Y 6) (hY 6)) ?_
    refine Idealize.SL.BI.BIClass.sep_mono (back7 m RO RS c t (Y 7) (hY 7)) ?_
    refine Idealize.SL.BI.BIClass.sep_mono (back8 m RO RS c t (Y 8) (hY 8)) ?_
    exact back9 m RO RS c t (Y 9)

end Cert.KernelIdeal.Moe

end
-- ==== Proof.Run.lean ====
/-
  The run of the whole program: it ends, its arguments are as they were, and the result is written tile by tile with
  contents satisfying the invariant of the output.
-/
module

public import proofs.«01_k».proof.Proof.Obligation

@[expose] public section

set_option maxRecDepth 16384

noncomputable section

namespace Cert.KernelIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

open Idealize.ShloMosaic.Pipeline (RDat Cfg Window)

variable {F : FTy → Type} [FloatOps F]

local notation "𝕄" => MT nD τ sig Unit (Elt F) ℕ (UR sig nD τ) ℕ

variable (m : (ℓ : Loc nD τ sig) → Buf (Elt F) ℓ) (ρ : Dev nD → PrngReg)
variable (RO : ℕ → (S1024x1024.Idx → Elt F .f32) → Prop)
  (RS : ℕ → (S1024x1024.Idx → Elt F .bf16) → (S1024x1024.Idx → Elt F .bf16) → (S1024x128.Idx → Elt F .f32) → (S1024x1024.Idx → Elt F .f32) → Prop)

theorem held_whole (c : Dev nD) (b : Ref sig .tc) (f : Buf (Elt F) ((c : Thread nD τ).loc b)) :
    (((c : Thread nD τ).loc b) ↦{fullShare} f : sProp 𝕄) ⊢ held c (Memref.whole b) ((Memref.whole b).view.read (Elt F) f) := by
  refine BI.Entails.trans ?_ (held_of (F := F) c (Memref.whole b) (f := f) rfl)
  rw [View.set_whole]
  exact Idealize.SL.BI.Entails.refl _

theorem whole_held (c : Dev nD) (b : Ref sig .tc) (X : b.ty.shape.Idx → Elt F b.ty.elt) :
    (held c (Memref.whole b) X : sProp 𝕄) ⊢ (((c : Thread nD τ).loc b) ↦{fullShare} (Memref.whole b).view.rep X) := by
  unfold held
  rw [View.set_whole]

theorem hin (c : Dev nD) (h0 : ∀ xb X G P, RS 0 xb X G P) :
    iprop(Pipeline.ΦA spec0 c ∗ Pipeline.ΦT pre0 (tbl m) c) ⊢ iprop(tbHeld c tbM (tbl m 0) ∗ scr RS c 0 ∗ ∃ r, prngReg c r) := by
  rw [PhiT_eq]
  unfold Pipeline.ΦA
  rw [scopedRest0_eq]
  unfold scr
  iintro ⟨⟨⟨⟨%a, Ha⟩, ⟨%b, Hb⟩, ⟨%d, Hc⟩, ⟨%e, Hd⟩⟩, Hg⟩, Ht⟩
  isplitl [Ht]; · iexact Ht
  isplitl [Ha Hb Hc Hd]
  · iexists ((Memref.whole cc0_scratch0).view.read (Elt F) a); iexists ((Memref.whole cc0_scratch1).view.read (Elt F) b)
    iexists ((Memref.whole cc0_scratch2).view.read (Elt F) d); iexists ((Memref.whole cc0_scratch3).view.read (Elt F) e)
    isplitr; · ipureintro; exact h0 _ _ _ _
    isplitl [Ha]; · iapply (held_whole c cc0_scratch0 a); iexact Ha
    isplitl [Hb]; · iapply (held_whole c cc0_scratch1 b); iexact Hb
    isplitl [Hc]; · iapply (held_whole c cc0_scratch2 d); iexact Hc
    iapply (held_whole c cc0_scratch3 e); iexact Hd
  · iexact Hg

theorem hout (c : Dev nD) (t : ℕ) :
    iprop(tbHeld c tbM (tbl m 0) ∗ scr RS c t ∗ ∃ r, prngReg c r) ⊢ (Pipeline.ΦA spec0 c : sProp 𝕄) := by
  unfold Pipeline.ΦA
  rw [scopedRest0_eq]
  unfold scr
  iintro ⟨Ht, ⟨%xb, %X, %G, %P, -, Ha, Hb, Hc, Hd⟩, Hg⟩
  isplitl [Ha Hb Hc Hd]
  · isplitl [Ha]; · iexists _; iapply (whole_held c cc0_scratch0 xb); iexact Ha
    isplitl [Hb]; · iexists _; iapply (whole_held c cc0_scratch1 X); iexact Hb
    isplitl [Hc]; · iexists _; iapply (whole_held c cc0_scratch2 G); iexact Hc
    iexists _; iapply (whole_held c cc0_scratch3 P); iexact Hd
  · iexact Hg

set_option backward.isDefEq.respectTransparency.types false in
/-- The run. -/
theorem run (h0 : ∀ xb X G P, RS 0 xb X G P) (hK : ∀ c, Keeps m RO RS c) (hn : ∀ i, (word m i : BitVec 32).toNat ≤ 16) :
    θ_run defs (onTc (τ := τ) (main (F := F))) (s₀ m ρ)
      (fun r => RDat.FramePost (cfgM m) (fun c => rdat m RO RS c) (V m) r ∧ r.2.sem = fun _ => 0) :=
  RDat.θ_run_frameP_track_shared (Q' := _) pcfgs (fun _ => adm m) (0 : Fin 1) launch₀0 defs₀ Variants.none (fun c => rdat m RO RS c) m ρ main
    (hbody := fun c => obligation m RO RS c (hK c) hn) (hq := fun _ _ _ => rfl) (howed := fun _ _ => rfl) (V := V m)
    (hmain := hmain m Variants.none) (hA := fun _ _ => rfl) (hpf := fun c j => V_pre m c j)
    (hin := fun c => hin m RS c h0) (hout := fun c => hout m RS c _) (hQ' := fun _ h => h)

/-- The arguments in the final memory. -/
theorem args_of (r : PUnit × MemSt nD τ sig (Elt F)) (h : RDat.FramePost (cfgM m) (fun c => rdat m RO RS c) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) := by
  refine ⟨?_, ?_, ?_, ?_, ?_, ?_, ?_, ?_, ?_⟩
  · exact (h.arr_in c 0 rfl).trans (V_kept m c main_arg0 (by decide))
  · exact (h.arr_in c 1 rfl).trans (V_kept m c main_arg1 (by decide))
  · exact (h.arr_in c 2 rfl).trans (V_kept m c main_arg2 (by decide))
  · exact (h.arr_in c 3 rfl).trans (V_kept m c main_arg3 (by decide))
  · exact ((h c).2 main_arg4 (by decide : main_arg4 ∈ Pipeline.restRefs sig spec0)).trans (V_kept m c main_arg4 (by decide))
  · exact ((h c).2 main_arg5 (by decide : main_arg5 ∈ Pipeline.restRefs sig spec0)).trans (V_kept m c main_arg5 (by decide))
  · exact ((h c).2 main_arg6 (by decide : main_arg6 ∈ Pipeline.restRefs sig spec0)).trans (V_kept m c main_arg6 (by decide))
  · exact ((h c).2 main_arg7 (by decide : main_arg7 ∈ Pipeline.restRefs sig spec0)).trans (V_kept m c main_arg7 (by decide))
  · exact ((h c).2 main_arg8 (by decide : main_arg8 ∈ Pipeline.restRefs sig spec0)).trans (V_kept m c main_arg8 (by decide))

/-- The frame: from a table of counts between 0 and 16 the program ends, its arguments unchanged and its counters at zero. -/
theorem frame (hn : ∀ i, (word m i : BitVec 32).toNat ≤ 16) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun r h => ⟨args_of m _ _ r h.1, h.2⟩)
    (run m ρ (fun _ _ => True) (fun _ _ _ _ _ => True) (fun _ _ _ _ => trivial) (fun _ _ _ _ _ _ => ⟨trivial, trivial⟩) hn)

end Cert.KernelIdeal.Moe

end
-- ==== Proof.Counts.lean ====
/-
  The table of group counts: what the host operations make of the counts, and what the preconditions say of it.
-/
module

public import proofs.«01_k».proof.Proof.Kit
public import proofs.«01_k».proof.Proof.Gen.Pre_counts_fit
public import proofs.«01_k».proof.Proof.Gen.Pre_routing_tables
public import Idealize.ShloMosaic.Lib.ReduceAll
public import Idealize.ShloMosaic.Lib.ValueIdx
public import Idealize.ShloMosaic.Lib.StableHlo.ReadAt
public import Idealize.ShloMosaic.Lib.StableHlo.Predicate
public import Idealize.ShloMosaic.Lib.Claim

@[expose] public section

set_option maxRecDepth 16384

noncomputable section

namespace Cert.KernelIdeal.Moe

open Idealize.ShloMosaic Idealize.ShloMosaic.TcCoe Idealize.ShloMosaic.Tactic Idealize.ShloMosaic.Tactic
open Idealize.SL Idealize.SL.Sem
open Cert.KernelIdeal Cert.KernelIdeal.Gen

variable {F : FTy → Type} [FloatOps F]

instance : Subsingleton S_.Idx := ⟨fun a b => funext fun k => k.elim0⟩

/-- The number of groups of 64 rows that each tile gives each expert, from the counts. -/
def groups (cnt : FVec F S512x128 .f32) : IVec S64x8 32 :=
  fptosi 32 (Host.ceil (Host.divf
    (shapeCast S64x8 ((extractStridedSlice S64x1x8 ![0, 0, 0] · slices_S64x8x128_S64x1x8_0_0_0)
      (shapeCast S64x8x128 cnt shapeCasts_S512x128_S64x8x128)) shapeCasts_S64x1x8_S64x8)
    (broadcastInDim S64x8 ![] bcast_S_S64x8 (constant S_ .f32 0x42800000#32))))

theorem andi_one (a b : BitVec 1) : IntOp.andi a b = 1#1 ↔ a = 1#1 ∧ b = 1#1 := by revert a b; decide

/-- A word that is at least 0 and at most 16 as a signed number is at most 16. -/
theorem le_of_between (v : BitVec 32)
    (h : IntOp.andi (IntOp.cmpi .sge v 0#32) (IntOp.cmpi .sle v 16#32) = 1#1) : v.toNat ≤ 16 := by
  obtain ⟨h1, h2⟩ := (andi_one _ _).1 h
  have h1 := IntOp.cmpi_sge.1 h1
  have h2 := IntOp.cmpi_sle.1 h2
  have e0 : (0#32 : BitVec 32).toInt = 0 := by decide
  have e16 : (16#32 : BitVec 32).toInt = 16 := by decide
  rw [e0] at h1; rw [e16] at h2
  have := BitVec.toInt_eq_toNat_cond v
  have := v.isLt
  split at * <;> omega

theorem groups_of_counts_fit (a0 a1 a2 a3 a4 a5 a6 a7 a8)
    (h : Cert.Pre_counts_fit.fn (F := F) a0 a1 a2 a3 a4 a5 a6 a7 a8 = fun _ => 1#1) (i : S64x8.Idx) :
    (groups a4 i).toNat ≤ 16 := by
  have h1 := congrFun h ValueIdx.ix0
  exact le_of_between _ (Host.reduce_andi_all _ _ _ _ _ h1 i)

variable (m : (ℓ : Loc nD τ sig) → Buf (Elt F) ℓ)

theorem tbl_eq : tbl m 0 = (shapeCast S512 (groups (m (((0 : Dev nD) : Thread nD τ).loc main_arg4))) shapeCasts_S64x8_S512 : IVec S512 32) := by
  show V m 0 main_v9 = _
  entry_read
  rfl

theorem word_eq_groups (i : grid0.Coords) :
    word m i = groups (m (((0 : Dev nD) : Thread nD τ).loc main_arg4)) (ValueIdx.ix2 (i 0) (i 1)) := by
  unfold word
  rw [tbl_eq]
  generalize groups (F := F) _ = g
  have h0 : (i 0).val < 64 := (i 0).isLt
  have h1 : (i 1).val < 8 := (i 1).isLt
  rw [View.readAt_apply, View.read_whole]
  refine shapeCast_apply _ _ _ _ ?_
  have e := congrFun (k0_off1_eq i) 0
  have e2 : k0_off1 i 0 = 8 * (i 0).val + (i 1).val := e
  rw [rowMajor_val1 (d := ![512]), rowMajor_val2 (d := ![64, 8]) _ 8 rfl]
  show (i 0).val * 8 + (i 1).val = k0_off1 i 0 + 1 * 0
  omega

/-- Under the precondition on the counts every point's word is at most 16. -/
theorem word_le (h : Cert.Pre_counts_fit.fn (F := F) (m (((0 : Dev nD) : Thread nD τ).loc main_arg0)) (m (((0 : Dev nD) : Thread nD τ).loc main_arg1))
      (m (((0 : Dev nD) : Thread nD τ).loc main_arg2)) (m (((0 : Dev nD) : Thread nD τ).loc main_arg3)) (m (((0 : Dev nD) : Thread nD τ).loc main_arg4))
      (m (((0 : Dev nD) : Thread nD τ).loc main_arg5)) (m (((0 : Dev nD) : Thread nD τ).loc main_arg6)) (m (((0 : Dev nD) : Thread nD τ).loc main_arg7))
      (m (((0 : Dev nD) : Thread nD τ).loc main_arg8)) = fun _ => 1#1) (i : grid0.Coords) :
    (word m i : BitVec 32).toNat ≤ 16 := by
  rw [word_eq_groups]
  exact groups_of_counts_fit _ _ _ _ _ _ _ _ _ h _

end Cert.KernelIdeal.Moe
-- ==== Proof.Cover.lean ====
/-
  Row windows written and read, and the walk over an expert's rows: pieces of 256 rows, then at most one of 128 and one of
  64, touch every row of its groups exactly once.
-/
module

public import proofs.«01_k».proof.Proof.Step
public import Idealize.ShloMosaic.Lib.ValueIdx

@[expose] public section

set_option maxRecDepth 16384

namespace Cert.KernelIdeal.Moe

open Idealize.ShloMosaic

section Walk
variable {I α : Type} (row : I → ℕ) (U : I → α → α)

/-- `op` applies `U` to the entries whose row lies in `[b, b + len)` and leaves the others. -/
def OnRows (op : (I → α) → I → α) (b len : ℕ) : Prop :=
  ∀ X j, op X j = if b ≤ row j ∧ row j < b + len then U j (X j) else X j

theorem loop_rows {K : ℕ} (op : Fin K → (I → α) → I → α) (h : ∀ k : Fin K, OnRows row U (op k) (256 * k.val) 256) (X : I → α) :
    ∀ q ≤ K, ∀ j, loopN op X q j = if row j < 256 * q then U j (X j) else X j
  | 0, _, j => by simp [loopN]
  | q + 1, hq, j => by
    rw [loopN, dif_pos (by omega), h, loop_rows op h X q (by omega) j]
    show (if 256 * q ≤ row j ∧ row j < 256 * q + 256 then _ else _) = _
    by_cases h1 : row j < 256 * q
    · rw [if_neg (by omega), if_pos h1, if_pos (by omega)]
    · by_cases h2 : row j < 256 * q + 256
      · rw [if_pos ⟨by omega, h2⟩, if_neg h1, if_pos (by omega)]
      · rw [if_neg (by omega), if_neg h1, if_neg (by omega)]

/-- The three kinds of pieces together apply `U` once to the first `64 n` rows. -/
theorem walk_rows (n : ℕ) {K : ℕ} (hK : K = n / 4) (op256 : Fin K → (I → α) → I → α) (op128 op64 : (I → α) → I → α)
    (h256 : ∀ k : Fin K, OnRows row U (op256 k) (256 * k.val) 256)
    (h128 : ∀ X, n / 2 % 2 = 0 → op128 X = X) (h128' : n / 2 % 2 = 1 → OnRows row U op128 (256 * (n / 4)) 128)
    (h64 : ∀ X, n % 2 = 0 → op64 X = X) (h64' : n % 2 = 1 → OnRows row U op64 (64 * (n - 1)) 64)
    (X : I → α) (j : I) :
    op64 (op128 (loopN op256 X K)) j = if row j < 64 * n then U j (X j) else X j := by
  have hl := loop_rows row U op256 h256 X K le_rfl j
  have e2 : op128 (loopN op256 X K) j = if row j < 256 * (n / 4) + 128 * (n / 2 % 2) then U j (X j) else X j := by
    rcases Nat.mod_two_eq_zero_or_one (n / 2) with h | h
    · rw [h128 _ h, hl, h, hK]; rfl
    · rw [h128' h, hl, h, hK]
      by_cases h1 : row j < 256 * (n / 4)
      · rw [if_neg (by omega), if_pos h1, if_pos (by omega)]
      · by_cases h2 : row j < 256 * (n / 4) + 128
        · rw [if_pos ⟨by omega, h2⟩, if_neg h1, if_pos (by omega)]
        · rw [if_neg (by omega), if_neg h1, if_neg (by omega)]
  rcases Nat.mod_two_eq_zero_or_one n with h | h
  · rw [h64 _ h, e2]
    have : 256 * (n / 4) + 128 * (n / 2 % 2) = 64 * n := by omega
    rw [this]
  · rw [h64' h, e2]
    have e : 256 * (n / 4) + 128 * (n / 2 % 2) = 64 * (n - 1) := by omega
    rw [e]
    by_cases h1 : row j < 64 * (n - 1)
    · rw [if_neg (by omega), if_pos h1, if_pos (by omega)]
    · by_cases h2 : row j < 64 * (n - 1) + 64
      · rw [if_pos ⟨by omega, h2⟩, if_neg h1, if_pos (by omega)]
      · rw [if_neg (by omega), if_neg h1, if_neg (by omega)]
end Walk

section Rows
variable {α : Type} {M N L L' : ℕ}

/-- A window of whole rows written at row `b`, at an index. -/
theorem put_rows (X : (⟨2, ![M, N]⟩ : Shape).Idx → α) (off : Fin 2 → ℕ) (b : ℕ) (hoff : off = ![b, 0])
    (w : (⟨2, ![L, N]⟩ : Shape).Idx → α) (r : Fin M) (d : Fin N) :
    VecWindow.put X off ![L, N] w (ValueIdx.ix2 r d)
      = if h : b ≤ r.val ∧ r.val < b + L then w (ValueIdx.ix2 ⟨r.val - b, by omega⟩ d) else X (ValueIdx.ix2 r d) := by
  subst hoff
  unfold VecWindow.put
  by_cases h : b ≤ r.val ∧ r.val < b + L
  · rw [dif_pos h, dif_pos (fun a => by
      refine Fin.cases ?_ (fun a => Fin.cases ?_ (fun a => a.elim0) a) a
      · exact h
      · exact ⟨Nat.zero_le _, by show d.val < 0 + N; omega⟩)]
    congr 1
    funext a
    refine Fin.cases ?_ (fun a => Fin.cases ?_ (fun a => a.elim0) a) a
    · exact Fin.ext rfl
    · exact Fin.ext rfl
  · rw [dif_neg h, dif_neg (fun h' => h (h' 0))]

/-- A window at row `b`, at an index. -/
theorem window_rows (X : (⟨2, ![M, N]⟩ : Shape).Idx → α) (off : Fin 2 → ℕ) (b : ℕ) (hoff : off = ![b, 0]) (inb)
    (r : Fin L) (d : Fin L') (hr : b + r.val < M) (hd : d.val < N) :
    VecWindow.window X off ![L, L'] inb (ValueIdx.ix2 r d) = X (ValueIdx.ix2 ⟨b + r.val, hr⟩ ⟨d.val, hd⟩) := by
  subst hoff
  unfold VecWindow.window
  congr 1
  funext a
  refine Fin.cases ?_ (fun a => Fin.cases ?_ (fun a => a.elim0) a) a
  · exact Fin.ext (show b + 1 * r.val = b + r.val by omega)
  · exact Fin.ext (show 0 + 1 * d.val = d.val by omega)
end Rows

end Cert.KernelIdeal.Moe
-- ==== Proof.Reads.lean ====
/-
  What each stored array of a point is at an index, over the extended reals, and where its windows lie, at a count of
  groups between 0 and 16.
-/
module

public import proofs.«01_k».proof.Proof.Cover
public import proofs.«01_k».proof.Proof.Checks
public import Idealize.ShloMosaic.Lib.Pointwise
public import Idealize.ShloMosaic.PureOps.Ideal

@[expose] public section

set_option maxRecDepth 16384

noncomputable section

namespace Cert.KernelIdeal.Moe

open Idealize.ShloMosaic Idealize.ShloMosaic.TcCoe Idealize.ShloMosaic.Tactic
open Cert.KernelIdeal Cert.KernelIdeal.Gen

/-! ## Where the windows lie and which branches run -/

theorem off3_nw : ∀ (n : Fin 17) (k : Fin (k0_t1_loop (nw n)).trips), k0_off3 (nw n) k = ![256 * k.val, 0] := by decide +kernel
theorem off4_nw : ∀ (n : Fin 17) (k : Fin (k0_t1_loop (nw n)).trips), k0_off4 (nw n) k = ![256 * k.val, 0] := by decide +kernel
theorem off11_nw : ∀ (n : Fin 17) (k : Fin (k0_t3_loop (nw n)).trips), k0_off11 (nw n) k = ![256 * k.val, 0] := by decide +kernel
theorem off12_nw : ∀ (n : Fin 17) (k : Fin (k0_t3_loop (nw n)).trips), k0_off12 (nw n) k = ![256 * k.val, 0] := by decide +kernel
theorem off13_nw : ∀ (n : Fin 17) (k : Fin (k0_t3_loop (nw n)).trips), k0_off13 (nw n) k = ![256 * k.val, 0] := by decide +kernel
theorem off14_nw : ∀ (n : Fin 17) (k : Fin (k0_t3_loop (nw n)).trips), k0_off14 (nw n) k = ![256 * k.val, 0] := by decide +kernel
theorem off27_nw : ∀ (n : Fin 17) (k : Fin (k0_t5_loop (nw n)).trips), k0_off27 (nw n) k = ![256 * k.val, 0] := by decide +kernel
theorem off7_nw : ∀ n : Fin 17, k0_off7 (nw n) = ![256 * (n.val / 4), 0] := by decide +kernel
theorem off8_nw : ∀ n : Fin 17, k0_off8 (nw n) = ![256 * (n.val / 4), 0] := by decide +kernel
theorem off19_nw : ∀ n : Fin 17, k0_off19 (nw n) = ![256 * (n.val / 4), 0] := by decide +kernel
theorem off20_nw : ∀ n : Fin 17, k0_off20 (nw n) = ![256 * (n.val / 4), 0] := by decide +kernel
theorem off21_nw : ∀ n : Fin 17, k0_off21 (nw n) = ![256 * (n.val / 4), 0] := by decide +kernel
theorem off22_nw : ∀ n : Fin 17, k0_off22 (nw n) = ![256 * (n.val / 4), 0] := by decide +kernel
theorem off29_nw : ∀ n : Fin 17, k0_off29 (nw n) = ![256 * (n.val / 4), 0] := by decide +kernel
theorem off9_nw : ∀ n : Fin 17, n.val % 2 = 1 → k0_off9 (nw n) = ![64 * (n.val - 1), 0] := by decide +kernel
theorem off10_nw : ∀ n : Fin 17, n.val % 2 = 1 → k0_off10 (nw n) = ![64 * (n.val - 1), 0] := by decide +kernel
theorem off23_nw : ∀ n : Fin 17, n.val % 2 = 1 → k0_off23 (nw n) = ![64 * (n.val - 1), 0] := by decide +kernel
theorem off24_nw : ∀ n : Fin 17, n.val % 2 = 1 → k0_off24 (nw n) = ![64 * (n.val - 1), 0] := by decide +kernel
theorem off25_nw : ∀ n : Fin 17, n.val % 2 = 1 → k0_off25 (nw n) = ![64 * (n.val - 1), 0] := by decide +kernel
theorem off26_nw : ∀ n : Fin 17, n.val % 2 = 1 → k0_off26 (nw n) = ![64 * (n.val - 1), 0] := by decide +kernel
theorem off30_nw : ∀ n : Fin 17, n.val % 2 = 1 → k0_off30 (nw n) = ![64 * (n.val - 1), 0] := by decide +kernel
theorem cond3_nw : ∀ n : Fin 17, k0_cond3 (nw n) = 1#1 ↔ n.val / 2 % 2 = 1 := by decide +kernel
theorem cond9_nw : ∀ n : Fin 17, k0_cond9 (nw n) = 1#1 ↔ n.val / 2 % 2 = 1 := by decide +kernel
theorem cond16_nw : ∀ n : Fin 17, k0_cond16 (nw n) = 1#1 ↔ n.val / 2 % 2 = 1 := by decide +kernel
theorem cond4_nw : ∀ n : Fin 17, k0_cond4 (nw n) = 1#1 ↔ n.val % 2 = 1 := by decide +kernel
theorem cond12_nw : ∀ n : Fin 17, k0_cond12 (nw n) = 1#1 ↔ n.val % 2 = 1 := by decide +kernel
theorem cond17_nw : ∀ n : Fin 17, k0_cond17 (nw n) = 1#1 ↔ n.val % 2 = 1 := by decide +kernel
theorem cond1_iff : ∀ i : grid0.Coords, k0_cond1 i = 1#1 ↔ (i 1).val = 0 ∧ (i 2).val = 0 := by decide +kernel
theorem cond18_iff : ∀ i : grid0.Coords, k0_cond18 i = 1#1 ↔ (i 1).val = 7 ∧ (i 2).val = 3 := by decide +kernel
theorem cond2_iff : ∀ i : grid0.Coords, k0_cond2 i = 1#1 ↔ (i 2).val = 0 := by decide +kernel
theorem cond5_iff : ∀ i : grid0.Coords, k0_cond5 i = 1#1 ↔ (i 2).val = 0 := by decide +kernel
theorem cond10_iff : ∀ i : grid0.Coords, k0_cond10 i = 1#1 ↔ (i 2).val = 0 := by decide +kernel
theorem cond13_iff : ∀ i : grid0.Coords, k0_cond13 i = 1#1 ↔ (i 2).val = 0 := by decide +kernel
theorem cond6_iff : ∀ i : grid0.Coords, k0_cond6 i = 1#1 ↔ (i 2).val ≠ 0 := by decide +kernel
theorem cond11_iff : ∀ i : grid0.Coords, k0_cond11 i = 1#1 ↔ (i 2).val ≠ 0 := by decide +kernel
theorem cond14_iff : ∀ i : grid0.Coords, k0_cond14 i = 1#1 ↔ (i 2).val ≠ 0 := by decide +kernel
theorem cond15_iff : ∀ i : grid0.Coords, k0_cond15 i = 1#1 ↔ (i 2).val = 3 := by decide +kernel

theorem word256 : ∀ k : Fin 4, (Scalar.muli (Scf.iv 0#32 1#32 k.val) 256#32).toNat = 256 * k.val := by decide +kernel
theorem word128 : ∀ n : Fin 17, (Scalar.muli (Scalar.shrsi (nw n) 2#32) 256#32).toNat = 256 * (n.val / 4) := by decide +kernel
theorem word64 : ∀ n : Fin 17, n.val % 2 = 1 → (Scalar.muli (Scalar.subi (nw n) 1#32) 64#32).toNat = 64 * (n.val - 1) := by decide +kernel

/-- A row number converted to a float is that natural number. -/
theorem slot_nat (r : ℕ) (w : BitVec 32) (b : ℕ) (hb : w.toNat = b) (hr : r < 1024) (hw : b ≤ 1024) :
    (FloatOps.sitofp (F := Ideal) FTy.f32 (IntOp.addi (BitVec.ofNat 32 r) w) : EReal) = ((b + r : ℕ) : EReal) := by
  have e : (IntOp.addi (BitVec.ofNat 32 r) w).toInt = ((b + r : ℕ) : ℤ) := by
    have e1 : (IntOp.addi (BitVec.ofNat 32 r) w).toNat = b + r := by
      show (BitVec.ofNat 32 r + w).toNat = _
      rw [BitVec.toNat_add, BitVec.toNat_ofNat, hb, Nat.mod_eq_of_lt (by omega : r < 2 ^ 32), Nat.mod_eq_of_lt (by omega)]
      omega
    rw [BitVec.toInt_eq_toNat_cond, e1, if_pos (by omega)]
  show (((IntOp.addi (BitVec.ofNat 32 r) w).toInt : ℝ) : EReal) = _
  rw [e]
  push_cast
  rfl

open Classical in
/-- 1 where the slot is the row, else 0. -/
def hot (q : EReal) (s : ℕ) : EReal := if q = (s : EReal) then 1 else 0

/-- Picking one lane out of 128 by a comparison with its number, then summing. -/
theorem pick_lane (e : ℕ) (he : e < 128) (g : Fin 128 → EReal) :
    ∑ x : Fin 128, Scalar.select (IntOp.cmpi CmpIPredicate.eq (BitVec.ofNat 32 x.val) (BitVec.ofNat 32 e)) (g x) 0 = g ⟨e, he⟩ := by
  rw [Finset.sum_eq_single (⟨e, he⟩ : Fin 128)]
  · have : IntOp.cmpi CmpIPredicate.eq (BitVec.ofNat 32 e) (BitVec.ofNat 32 e) = 1#1 := by simp [IntOp.cmpi]
    show Scalar.select (IntOp.cmpi CmpIPredicate.eq (BitVec.ofNat 32 e) (BitVec.ofNat 32 e)) _ _ = _
    rw [this]; rfl
  · intro x _ hx
    have : IntOp.cmpi CmpIPredicate.eq (BitVec.ofNat 32 x.val) (BitVec.ofNat 32 e) = 0#1 := by
      have hne : BitVec.ofNat 32 x.val ≠ BitVec.ofNat 32 e := fun h => hx (Fin.ext (by
        have := congrArg BitVec.toNat h
        have := x.isLt
        simp only [BitVec.toNat_ofNat] at *; omega))
      show BitVec.ofBool (BitVec.ofNat 32 x.val == BitVec.ofNat 32 e) = 0#1
      rw [beq_eq_false_iff_ne.2 hne]; rfl
    rw [this]; rfl
  · intro h; exact absurd (Finset.mem_univ _) h

/-! ## The arrays stored, at an index -/

/-- One hidden column of the expert's gated product for a row `a` with weight `w`. -/
def hidden (a : Fin 1024 → EReal) (wg wu : Fin 1024 → EReal) (w : EReal) : EReal :=
  (∑ x, a x * wg x) * Ideal.logistic (∑ x, a x * wg x) * (∑ x, a x * wu x) * w

theorem pay13_at (n : Fin 17) (v41 : Vec Ideal S1x1x1024 .f32) (k : Fin (k0_t1_loop (nw n)).trips) (xb : Vec Ideal S1024x1024 .bf16) (r : Fin 256) (d : Fin 1024) :
    k0_pay13 (F := Ideal) (nw n) v41 k xb (ValueIdx.ix2 r d) = ∑ x : Fin 1024, hot (v41 (ValueIdx.ix3 0 0 x)) (256 * k.val + r.val) * xb (ValueIdx.ix2 x d) := by
  have e := slot_nat r.val (Scalar.muli (Scf.iv 0#32 1#32 k.val) 256#32) (256 * k.val) (word256 ⟨k.val, by exact lt_of_lt_of_le k.isLt (by rw [t1_trips]; omega)⟩) (by omega) (by have hk := lt_of_lt_of_le k.isLt (show (k0_t1_loop (nw n)).trips ≤ 4 by rw [t1_trips]; omega); have := n.isLt; omega)
  unfold_payloads
  pointwise
  refine Finset.sum_congr rfl fun x _ => ?_
  unfold hot
  rw [← e]
  congr

theorem pay14_at (i : grid0.Coords) (n : Fin 17) (v35 : Vec Ideal S1024x128 .f32) (v41 : Vec Ideal S1x1x1024 .f32) (k : Fin (k0_t1_loop (nw n)).trips) (r : Fin 256) (d : Fin 128) (he : (i 1).val < 128) :
    k0_pay14 (F := Ideal) i (nw n) v35 v41 k (ValueIdx.ix2 r d)
      = ∑ x : Fin 1024, hot (v41 (ValueIdx.ix3 0 0 x)) (256 * k.val + r.val) * v35 (ValueIdx.ix2 x ⟨(i 1).val, he⟩)
        + ∑ x : Fin 1024, hot (v41 (ValueIdx.ix3 0 0 x)) (256 * k.val + r.val) * (v35 (ValueIdx.ix2 x ⟨(i 1).val, he⟩) - v35 (ValueIdx.ix2 x ⟨(i 1).val, he⟩)) := by
  have e := slot_nat r.val (Scalar.muli (Scf.iv 0#32 1#32 k.val) 256#32) (256 * k.val) (word256 ⟨k.val, by exact lt_of_lt_of_le k.isLt (by rw [t1_trips]; omega)⟩) (by omega) (by have hk := lt_of_lt_of_le k.isLt (show (k0_t1_loop (nw n)).trips ≤ 4 by rw [t1_trips]; omega); have := n.isLt; omega)
  unfold_payloads
  pointwise
  refine (pick_lane (i 1).val he _).trans ?_
  unfold hot
  rw [← e]
  congr

theorem pay25_at (v38 : Vec Ideal S256x1024 .bf16) (v39 v42 : Vec Ideal S1x1024x896 .bf16) (v49 : Vec Ideal S256x1 .f32) (v53 : Vec Ideal S1x896x1024 .bf16) (r : Fin 256) (d : Fin 1024) :
    k0_pay25 (F := Ideal) v38 v39 v42 v49 v53 (ValueIdx.ix2 r d)
      = ∑ x : Fin 896, hidden (fun y => v38 (ValueIdx.ix2 r y)) (fun y => v39 (ValueIdx.ix3 0 y x)) (fun y => v42 (ValueIdx.ix3 0 y x)) (v49 (ValueIdx.ix2 r 0)) * v53 (ValueIdx.ix3 0 x d) := by
  unfold_payloads
  pointwise
  rfl

theorem pay26_at (v38 : Vec Ideal S256x1024 .bf16) (v39 v42 : Vec Ideal S1x1024x896 .bf16) (v49 : Vec Ideal S256x1 .f32) (v53 : Vec Ideal S1x896x1024 .bf16) (v63 : Vec Ideal S256x1024 .f32) (r : Fin 256) (d : Fin 1024) :
    k0_pay26 (F := Ideal) v38 v39 v42 v49 v53 v63 (ValueIdx.ix2 r d)
      = v63 (ValueIdx.ix2 r d) + ∑ x : Fin 896, hidden (fun y => v38 (ValueIdx.ix2 r y)) (fun y => v39 (ValueIdx.ix3 0 y x)) (fun y => v42 (ValueIdx.ix3 0 y x)) (v49 (ValueIdx.ix2 r 0)) * v53 (ValueIdx.ix3 0 x d) := by
  unfold_payloads
  pointwise
  rfl

theorem pay2_at (e : ℕ) (he : e < 128) (n : Fin 17) (v35 : Vec Ideal S1024x128 .f32) (k : Fin (k0_t5_loop (nw n)).trips) (v70 : Vec Ideal S1024x1024 .f32) (v73 : Vec Ideal S256x1024 .f32) (r : Fin 1024) (d : Fin 1024) :
    k0_pay2 (F := Ideal) (BitVec.ofNat 32 e) (nw n) (iota .tc S1x128 32 [1] iota_S1x128_d1_w32) v35 k v70 v73 (ValueIdx.ix2 r d)
      = v70 (ValueIdx.ix2 r d) + ∑ x : Fin 256, hot (v35 (ValueIdx.ix2 r ⟨e, he⟩)) (256 * k.val + x.val) * v73 (ValueIdx.ix2 x d) := by
  have e0 := fun x : Fin 256 => slot_nat x.val (Scalar.muli (Scf.iv 0#32 1#32 k.val) 256#32) (256 * k.val) (word256 ⟨k.val, by exact lt_of_lt_of_le k.isLt (by rw [t5_trips]; omega)⟩) (by omega) (by have hk := lt_of_lt_of_le k.isLt (show (k0_t5_loop (nw n)).trips ≤ 4 by rw [t5_trips]; omega); have := n.isLt; omega)
  have e1 := pick_lane e he (fun x => v35 (ValueIdx.ix2 r x))
  unfold_payloads
  pointwise
  congr 1
  refine Finset.sum_congr rfl fun x _ => ?_
  unfold hot
  rw [← e0 x, ← e1]
  congr

theorem pay19_at (n : Fin 17) (v41 : Vec Ideal S1x1x1024 .f32) (xb : Vec Ideal S1024x1024 .bf16) (r : Fin 128) (d : Fin 1024) :
    k0_pay19 (F := Ideal) (nw n) v41 xb (ValueIdx.ix2 r d) = ∑ x : Fin 1024, hot (v41 (ValueIdx.ix3 0 0 x)) (256 * (n.val / 4) + r.val) * xb (ValueIdx.ix2 x d) := by
  have e := slot_nat r.val (Scalar.muli (Scalar.shrsi (nw n) 2#32) 256#32) (256 * (n.val / 4)) (word128 n) (by omega) (by have := n.isLt; omega)
  unfold_payloads
  pointwise
  refine Finset.sum_congr rfl fun x _ => ?_
  unfold hot
  rw [← e]
  congr

theorem pay20_at (i : grid0.Coords) (n : Fin 17) (v35 : Vec Ideal S1024x128 .f32) (v41 : Vec Ideal S1x1x1024 .f32) (r : Fin 128) (d : Fin 128) (he : (i 1).val < 128) :
    k0_pay20 (F := Ideal) i (nw n) v35 v41 (ValueIdx.ix2 r d)
      = ∑ x : Fin 1024, hot (v41 (ValueIdx.ix3 0 0 x)) (256 * (n.val / 4) + r.val) * v35 (ValueIdx.ix2 x ⟨(i 1).val, he⟩)
        + ∑ x : Fin 1024, hot (v41 (ValueIdx.ix3 0 0 x)) (256 * (n.val / 4) + r.val) * (v35 (ValueIdx.ix2 x ⟨(i 1).val, he⟩) - v35 (ValueIdx.ix2 x ⟨(i 1).val, he⟩)) := by
  have e := slot_nat r.val (Scalar.muli (Scalar.shrsi (nw n) 2#32) 256#32) (256 * (n.val / 4)) (word128 n) (by omega) (by have := n.isLt; omega)
  unfold_payloads
  pointwise
  refine (pick_lane (i 1).val he _).trans ?_
  unfold hot
  rw [← e]
  congr

theorem pay31_at (v38 : Vec Ideal S128x1024 .bf16) (v39 v42 : Vec Ideal S1x1024x896 .bf16) (v49 : Vec Ideal S128x1 .f32) (v53 : Vec Ideal S1x896x1024 .bf16) (r : Fin 128) (d : Fin 1024) :
    k0_pay31 (F := Ideal) v38 v39 v42 v49 v53 (ValueIdx.ix2 r d)
      = ∑ x : Fin 896, hidden (fun y => v38 (ValueIdx.ix2 r y)) (fun y => v39 (ValueIdx.ix3 0 y x)) (fun y => v42 (ValueIdx.ix3 0 y x)) (v49 (ValueIdx.ix2 r 0)) * v53 (ValueIdx.ix3 0 x d) := by
  unfold_payloads
  pointwise
  rfl

theorem pay32_at (v38 : Vec Ideal S128x1024 .bf16) (v39 v42 : Vec Ideal S1x1024x896 .bf16) (v49 : Vec Ideal S128x1 .f32) (v53 : Vec Ideal S1x896x1024 .bf16) (v63 : Vec Ideal S128x1024 .f32) (r : Fin 128) (d : Fin 1024) :
    k0_pay32 (F := Ideal) v38 v39 v42 v49 v53 v63 (ValueIdx.ix2 r d)
      = v63 (ValueIdx.ix2 r d) + ∑ x : Fin 896, hidden (fun y => v38 (ValueIdx.ix2 r y)) (fun y => v39 (ValueIdx.ix3 0 y x)) (fun y => v42 (ValueIdx.ix3 0 y x)) (v49 (ValueIdx.ix2 r 0)) * v53 (ValueIdx.ix3 0 x d) := by
  unfold_payloads
  pointwise
  rfl

theorem pay4_at (e : ℕ) (he : e < 128) (n : Fin 17) (v35 : Vec Ideal S1024x128 .f32) (v70 : Vec Ideal S1024x1024 .f32) (v73 : Vec Ideal S128x1024 .f32) (r : Fin 1024) (d : Fin 1024) :
    k0_pay4 (F := Ideal) (BitVec.ofNat 32 e) (nw n) (iota .tc S1x128 32 [1] iota_S1x128_d1_w32) v35 v70 v73 (ValueIdx.ix2 r d)
      = v70 (ValueIdx.ix2 r d) + ∑ x : Fin 128, hot (v35 (ValueIdx.ix2 r ⟨e, he⟩)) (256 * (n.val / 4) + x.val) * v73 (ValueIdx.ix2 x d) := by
  have e0 := fun x : Fin 128 => slot_nat x.val (Scalar.muli (Scalar.shrsi (nw n) 2#32) 256#32) (256 * (n.val / 4)) (word128 n) (by omega) (by have := n.isLt; omega)
  have e1 := pick_lane e he (fun x => v35 (ValueIdx.ix2 r x))
  unfold_payloads
  pointwise
  congr 1
  refine Finset.sum_congr rfl fun x _ => ?_
  unfold hot
  rw [← e0 x, ← e1]
  congr

theorem pay22_at (n : Fin 17) (hn : n.val % 2 = 1) (v41 : Vec Ideal S1x1x1024 .f32) (xb : Vec Ideal S1024x1024 .bf16) (r : Fin 64) (d : Fin 1024) :
    k0_pay22 (F := Ideal) (nw n) v41 xb (ValueIdx.ix2 r d) = ∑ x : Fin 1024, hot (v41 (ValueIdx.ix3 0 0 x)) (64 * (n.val - 1) + r.val) * xb (ValueIdx.ix2 x d) := by
  have e := slot_nat r.val (Scalar.muli (Scalar.subi (nw n) 1#32) 64#32) (64 * (n.val - 1)) (word64 n hn) (by omega) (by have := n.isLt; omega)
  unfold_payloads
  pointwise
  refine Finset.sum_congr rfl fun x _ => ?_
  unfold hot
  rw [← e]
  congr

theorem pay23_at (i : grid0.Coords) (n : Fin 17) (hn : n.val % 2 = 1) (v35 : Vec Ideal S1024x128 .f32) (v41 : Vec Ideal S1x1x1024 .f32) (r : Fin 64) (d : Fin 128) (he : (i 1).val < 128) :
    k0_pay23 (F := Ideal) i (nw n) v35 v41 (ValueIdx.ix2 r d)
      = ∑ x : Fin 1024, hot (v41 (ValueIdx.ix3 0 0 x)) (64 * (n.val - 1) + r.val) * v35 (ValueIdx.ix2 x ⟨(i 1).val, he⟩)
        + ∑ x : Fin 1024, hot (v41 (ValueIdx.ix3 0 0 x)) (64 * (n.val - 1) + r.val) * (v35 (ValueIdx.ix2 x ⟨(i 1).val, he⟩) - v35 (ValueIdx.ix2 x ⟨(i 1).val, he⟩)) := by
  have e := slot_nat r.val (Scalar.muli (Scalar.subi (nw n) 1#32) 64#32) (64 * (n.val - 1)) (word64 n hn) (by omega) (by have := n.isLt; omega)
  unfold_payloads
  pointwise
  refine (pick_lane (i 1).val he _).trans ?_
  unfold hot
  rw [← e]
  congr

theorem pay34_at (v38 : Vec Ideal S64x1024 .bf16) (v39 v42 : Vec Ideal S1x1024x896 .bf16) (v49 : Vec Ideal S64x1 .f32) (v53 : Vec Ideal S1x896x1024 .bf16) (r : Fin 64) (d : Fin 1024) :
    k0_pay34 (F := Ideal) v38 v39 v42 v49 v53 (ValueIdx.ix2 r d)
      = ∑ x : Fin 896, hidden (fun y => v38 (ValueIdx.ix2 r y)) (fun y => v39 (ValueIdx.ix3 0 y x)) (fun y => v42 (ValueIdx.ix3 0 y x)) (v49 (ValueIdx.ix2 r 0)) * v53 (ValueIdx.ix3 0 x d) := by
  unfold_payloads
  pointwise
  rfl

theorem pay35_at (v38 : Vec Ideal S64x1024 .bf16) (v39 v42 : Vec Ideal S1x1024x896 .bf16) (v49 : Vec Ideal S64x1 .f32) (v53 : Vec Ideal S1x896x1024 .bf16) (v63 : Vec Ideal S64x1024 .f32) (r : Fin 64) (d : Fin 1024) :
    k0_pay35 (F := Ideal) v38 v39 v42 v49 v53 v63 (ValueIdx.ix2 r d)
      = v63 (ValueIdx.ix2 r d) + ∑ x : Fin 896, hidden (fun y => v38 (ValueIdx.ix2 r y)) (fun y => v39 (ValueIdx.ix3 0 y x)) (fun y => v42 (ValueIdx.ix3 0 y x)) (v49 (ValueIdx.ix2 r 0)) * v53 (ValueIdx.ix3 0 x d) := by
  unfold_payloads
  pointwise
  rfl

theorem pay5_at (e : ℕ) (he : e < 128) (n : Fin 17) (hn : n.val % 2 = 1) (v35 : Vec Ideal S1024x128 .f32) (v70 : Vec Ideal S1024x1024 .f32) (v73 : Vec Ideal S64x1024 .f32) (r : Fin 1024) (d : Fin 1024) :
    k0_pay5 (F := Ideal) (BitVec.ofNat 32 e) (nw n) (iota .tc S1x128 32 [1] iota_S1x128_d1_w32) v35 v70 v73 (ValueIdx.ix2 r d)
      = v70 (ValueIdx.ix2 r d) + ∑ x : Fin 64, hot (v35 (ValueIdx.ix2 r ⟨e, he⟩)) (64 * (n.val - 1) + x.val) * v73 (ValueIdx.ix2 x d) := by
  have e0 := fun x : Fin 64 => slot_nat x.val (Scalar.muli (Scalar.subi (nw n) 1#32) 64#32) (64 * (n.val - 1)) (word64 n hn) (by omega) (by have := n.isLt; omega)
  have e1 := pick_lane e he (fun x => v35 (ValueIdx.ix2 r x))
  unfold_payloads
  pointwise
  congr 1
  refine Finset.sum_congr rfl fun x _ => ?_
  unfold hot
  rw [← e0 x, ← e1]
  congr

end Cert.KernelIdeal.Moe
-- ==== Proof.Expert.lean ====
/-
  What gathering an expert's rows, multiplying them and adding them to their tokens do, over the extended reals.
-/
module

public import proofs.«01_k».proof.Proof.Reads

@[expose] public section

set_option maxRecDepth 16384

noncomputable section

namespace Cert.KernelIdeal.Moe

open Idealize.ShloMosaic Idealize.ShloMosaic.TcCoe
open Cert.KernelIdeal Cert.KernelIdeal.Gen

theorem split2 {M N : ℕ} (j : (⟨2, ![M, N]⟩ : Shape).Idx) : j = ValueIdx.ix2 (j 0) (j 1) := by
  funext a
  refine Fin.cases ?_ (fun a => Fin.cases ?_ (fun a => a.elim0) a) a
  · rfl
  · rfl

/-- The row of an index. -/
abbrev rowOf {M N : ℕ} (j : (⟨2, ![M, N]⟩ : Shape).Idx) : ℕ := (j 0).val

theorem put_onRows {α : Type} {M N L : ℕ} (off : Fin 2 → ℕ) (b : ℕ) (hoff : off = ![b, 0])
    (w : ((⟨2, ![M, N]⟩ : Shape).Idx → α) → (⟨2, ![L, N]⟩ : Shape).Idx → α) (U : (⟨2, ![M, N]⟩ : Shape).Idx → α → α)
    (hw : ∀ X (r : Fin M) (d : Fin N) (q : Fin L), b + q.val = r.val → w X (ValueIdx.ix2 q d) = U (ValueIdx.ix2 r d) (X (ValueIdx.ix2 r d))) :
    OnRows rowOf U (fun X => VecWindow.put X off ![L, N] (w X)) b L := by
  intro X j
  obtain ⟨r, d, rfl⟩ : ∃ r d, j = ValueIdx.ix2 r d := ⟨j 0, j 1, split2 j⟩
  show VecWindow.put X off ![L, N] (w X) (ValueIdx.ix2 r d) = _
  rw [put_rows X off b hoff]
  by_cases h : b ≤ r.val ∧ r.val < b + L
  · rw [dif_pos h, if_pos (show b ≤ rowOf (ValueIdx.ix2 r d) ∧ rowOf (ValueIdx.ix2 r d) < b + L from h)]
    exact hw X r d _ (by show b + (r.val - b) = r.val; omega)
  · rw [dif_neg h, if_neg (show ¬(b ≤ rowOf (ValueIdx.ix2 r d) ∧ rowOf (ValueIdx.ix2 r d) < b + L) from h)]

/-! ## One-hot sums -/

theorem hot_nat (s s' : ℕ) : hot (s : EReal) s' = if s = s' then 1 else 0 := by
  unfold hot
  by_cases h : s = s'
  · rw [if_pos h, if_pos (by rw [h])]
  · rw [if_neg h, if_neg (by exact_mod_cast h)]

theorem hot_neg (s' : ℕ) : hot (-1) s' = 0 := by
  unfold hot
  refine if_neg fun h => ?_
  have h0 : (0 : EReal) ≤ (s' : EReal) := by exact_mod_cast Nat.zero_le s'
  rw [← h] at h0
  exact absurd h0 (by norm_num)

/-- A slot is the natural `s`, or it is -1 and `s` is 1024. -/
def SlotIs (q : EReal) (s : ℕ) : Prop := (q = (s : EReal) ∧ s < 1024) ∨ (q = -1 ∧ s = 1024)

theorem SlotIs.hot {q : EReal} {s : ℕ} (h : SlotIs q s) (s' : ℕ) (hs : s' < 1024) : Moe.hot q s' = if s = s' then 1 else 0 := by
  rcases h with ⟨rfl, _⟩ | ⟨rfl, rfl⟩
  · exact hot_nat s s'
  · rw [hot_neg, if_neg (by omega)]

theorem hot_sum {L : ℕ} (q : EReal) (s b : ℕ) (h : SlotIs q s) (hb : b + L ≤ 1024) (w : Fin L → EReal) :
    ∑ x : Fin L, hot q (b + x.val) * w x = if h : b ≤ s ∧ s < b + L then w ⟨s - b, by omega⟩ else 0 := by
  by_cases hs : b ≤ s ∧ s < b + L
  · rw [dif_pos hs, Finset.sum_eq_single (⟨s - b, by omega⟩ : Fin L)]
    · rw [h.hot _ (by show b + (s - b) < 1024; omega), if_pos (by show s = b + (s - b); omega), one_mul]
    · intro x _ hx
      have hlt := x.isLt
      rw [h.hot _ (by omega), if_neg (fun e => hx (Fin.ext (by show x.val = s - b; omega))), zero_mul]
    · intro hx; exact absurd (Finset.mem_univ _) hx
  · rw [dif_neg hs]
    refine Finset.sum_eq_zero fun x _ => ?_
    have hlt := x.isLt
    rw [h.hot _ (by omega), if_neg (by omega), zero_mul]

/-- The one token in a slot, picked out of the tile. -/
theorem pick_token (q : Fin 1024 → EReal) (sl : Fin 1024 → ℕ) (h : ∀ t, SlotIs (q t) (sl t)) (inj : ∀ t t', sl t < 1024 → sl t = sl t' → t = t')
    (t : Fin 1024) (ht : sl t < 1024) (w : Fin 1024 → EReal) : ∑ x, hot (q x) (sl t) * w x = w t := by
  rw [Finset.sum_eq_single t]
  · rw [(h t).hot _ ht, if_pos rfl, one_mul]
  · intro x _ hx
    rw [(h x).hot _ ht, if_neg (fun e => hx (inj t x ht e.symm).symm), zero_mul]
  · intro hx; exact absurd (Finset.mem_univ _) hx

/-! ## The gather -/

section Gather
variable (i : grid0.Coords) (n : Fin 17) (he : (i 1).val < 128) (v35 : Vec Ideal S1024x128 .f32) (v41 : Vec Ideal S1x1x1024 .f32) (xb : Vec Ideal S1024x1024 .bf16)

/-- What row `s` of the gathered rows is: the tokens whose slot is `s`, summed. -/
def rowX (s : ℕ) (d : Fin 1024) : EReal := ∑ x : Fin 1024, hot (v41 (ValueIdx.ix3 0 0 x)) s * xb (ValueIdx.ix2 x d)
/-- What row `s` of the weights is. -/
def rowG (s : ℕ) : EReal :=
  ∑ x : Fin 1024, hot (v41 (ValueIdx.ix3 0 0 x)) s * v35 (ValueIdx.ix2 x ⟨(i 1).val, he⟩)
    + ∑ x : Fin 1024, hot (v41 (ValueIdx.ix3 0 0 x)) s * (v35 (ValueIdx.ix2 x ⟨(i 1).val, he⟩) - v35 (ValueIdx.ix2 x ⟨(i 1).val, he⟩))

theorem gX_at (X : Vec Ideal S1024x1024 .bf16) (j : S1024x1024.Idx) :
    gX (F := Ideal) (nw n) v41 xb X j = if rowOf (M := 1024) (N := 1024) j < 64 * n.val then rowX v41 xb (rowOf (M := 1024) (N := 1024) j) (j 1) else X j := by
  refine walk_rows (rowOf (M := 1024) (N := 1024)) (fun j _ => rowX v41 xb (rowOf (M := 1024) (N := 1024) j) (j 1)) n.val (t1_trips n)
    (gX256 (F := Ideal) (nw n) v41 xb) (gX128 (F := Ideal) (nw n) v41 xb) (gX64 (F := Ideal) (nw n) v41 xb) ?_ ?_ ?_ ?_ ?_ X j
  · intro k
    refine put_onRows (M := 1024) (N := 1024) (L := 256) _ _ (off3_nw n k) (fun _ => k0_pay13 (nw n) v41 k xb) _ fun X r d q hq => ?_
    rw [pay13_at, hq]; rfl
  · intro X h; unfold gX128; rw [if_neg (fun h' => by have := (cond3_nw n).1 h'; omega)]
  · intro h
    have e : gX128 (F := Ideal) (nw n) v41 xb = fun X : Vec Ideal S1024x1024 .bf16 => VecWindow.put X (k0_off7 (nw n)) S128x1024.size (k0_pay19 (nw n) v41 xb) := by
      funext X; unfold gX128; rw [if_pos ((cond3_nw n).2 h)]
    rw [e]
    refine put_onRows (M := 1024) (N := 1024) (L := 128) _ _ (off7_nw n) (fun _ => k0_pay19 (nw n) v41 xb) _ fun X r d q hq => ?_
    rw [pay19_at, hq]; rfl
  · intro X h; unfold gX64; rw [if_neg (fun h' => by have := (cond4_nw n).1 h'; omega)]
  · intro h
    have e : gX64 (F := Ideal) (nw n) v41 xb = fun X : Vec Ideal S1024x1024 .bf16 => VecWindow.put X (k0_off9 (nw n)) S64x1024.size (k0_pay22 (nw n) v41 xb) := by
      funext X; unfold gX64; rw [if_pos ((cond4_nw n).2 h)]
    rw [e]
    refine put_onRows (M := 1024) (N := 1024) (L := 64) _ _ (off9_nw n h) (fun _ => k0_pay22 (nw n) v41 xb) _ fun X r d q hq => ?_
    rw [pay22_at n h, hq]; rfl

theorem gG_at (G : Vec Ideal S1024x128 .f32) (j : S1024x128.Idx) :
    gG (F := Ideal) i (nw n) v35 v41 G j = if rowOf (M := 1024) (N := 128) j < 64 * n.val then rowG i he v35 v41 (rowOf (M := 1024) (N := 128) j) else G j := by
  refine walk_rows (rowOf (M := 1024) (N := 128)) (fun j _ => rowG i he v35 v41 (rowOf (M := 1024) (N := 128) j)) n.val (t1_trips n)
    (gG256 (F := Ideal) i (nw n) v35 v41) (gG128 (F := Ideal) i (nw n) v35 v41) (gG64 (F := Ideal) i (nw n) v35 v41) ?_ ?_ ?_ ?_ ?_ G j
  · intro k
    refine put_onRows (M := 1024) (N := 128) (L := 256) _ _ (off4_nw n k) (fun _ => k0_pay14 i (nw n) v35 v41 k) _ fun X r d q hq => ?_
    rw [pay14_at i n v35 v41 k q d he, hq]; rfl
  · intro X h; unfold gG128; rw [if_neg (fun h' => by have := (cond3_nw n).1 h'; omega)]
  · intro h
    have e : gG128 (F := Ideal) i (nw n) v35 v41 = fun X : Vec Ideal S1024x128 .f32 => VecWindow.put X (k0_off8 (nw n)) S128x128.size (k0_pay20 i (nw n) v35 v41) := by
      funext X; unfold gG128; rw [if_pos ((cond3_nw n).2 h)]
    rw [e]
    refine put_onRows (M := 1024) (N := 128) (L := 128) _ _ (off8_nw n) (fun _ => k0_pay20 i (nw n) v35 v41) _ fun X r d q hq => ?_
    rw [pay20_at i n v35 v41 q d he, hq]; rfl
  · intro X h; unfold gG64; rw [if_neg (fun h' => by have := (cond4_nw n).1 h'; omega)]
  · intro h
    have e : gG64 (F := Ideal) i (nw n) v35 v41 = fun X : Vec Ideal S1024x128 .f32 => VecWindow.put X (k0_off10 (nw n)) S64x128.size (k0_pay23 i (nw n) v35 v41) := by
      funext X; unfold gG64; rw [if_pos ((cond4_nw n).2 h)]
    rw [e]
    refine put_onRows (M := 1024) (N := 128) (L := 64) _ _ (off10_nw n h) (fun _ => k0_pay23 i (nw n) v35 v41) _ fun X r d q hq => ?_
    rw [pay23_at i n h v35 v41 q d he, hq]; rfl
end Gather

/-! ## The product -/

section Product
variable (i : grid0.Coords) (n : Fin 17) (hw : k0_chk1 i (nw n)) (wg wu : Vec Ideal S1x1024x896 .bf16) (wd : Vec Ideal S1x896x1024 .bf16)
  (X : Vec Ideal S1024x1024 .bf16) (G : Vec Ideal S1024x128 .f32)

/-- Row `s` of one column block's product, for gathered rows `X` with weights `G`. -/
def prod (s : Fin 1024) (d : Fin 1024) : EReal :=
  ∑ x : Fin 896, hidden (fun y => X (ValueIdx.ix2 s y)) (fun y => wg (ValueIdx.ix3 0 y x)) (fun y => wu (ValueIdx.ix3 0 y x)) (G (ValueIdx.ix2 s 0)) * wd (ValueIdx.ix3 0 x d)

/-- What a column block does to an entry of the product: the first sets it, the others add to it. -/
def accum (j : S1024x1024.Idx) (y : EReal) : EReal := if (i 2).val = 0 then prod wg wu wd X G (j 0) (j 1) else y + prod wg wu wd X G (j 0) (j 1)

theorem prod_of {L : ℕ} (b : ℕ) (offX offG : Fin 2 → ℕ) (hX : offX = ![b, 0]) (hG : offG = ![b, 0]) (ix ig) (r : Fin 1024) (d : Fin 1024) (q : Fin L) (hq : b + q.val = r.val) :
    (∑ x : Fin 896, hidden (fun y => VecWindow.window (s := S1024x1024) X offX ![L, 1024] ix (ValueIdx.ix2 q y)) (fun y => wg (ValueIdx.ix3 0 y x)) (fun y => wu (ValueIdx.ix3 0 y x))
      (VecWindow.window (s := S1024x128) G offG ![L, 1] ig (ValueIdx.ix2 q 0)) * wd (ValueIdx.ix3 0 x d)) = prod wg wu wd X G r d := by
  have hr : b + q.val < 1024 := by have := r.isLt; omega
  have er : (⟨b + q.val, hr⟩ : Fin 1024) = r := Fin.ext hq
  have e1 : ∀ y : Fin 1024, VecWindow.window (s := S1024x1024) X offX ![L, 1024] ix (ValueIdx.ix2 q y) = X (ValueIdx.ix2 r y) := fun y => by
    refine (window_rows (M := 1024) (N := 1024) X offX b hX ix q y hr y.isLt).trans ?_
    rw [er]
  have e2 : VecWindow.window (s := S1024x128) G offG ![L, 1] ig (ValueIdx.ix2 q 0) = G (ValueIdx.ix2 r 0) := by
    refine (window_rows (M := 1024) (N := 128) G offG b hG ig q 0 hr (by decide)).trans ?_
    rw [er]; rfl
  rw [e2]
  simp only [e1]
  rfl

theorem fP_at (P : Vec Ideal S1024x1024 .f32) (j : S1024x1024.Idx) :
    fP (F := Ideal) i (nw n) hw wg wu wd X G P j = if rowOf (M := 1024) (N := 1024) j < 64 * n.val then accum i wg wu wd X G j (P j) else P j := by
  refine walk_rows (rowOf (M := 1024) (N := 1024)) (accum i wg wu wd X G) n.val (t3_trips n)
    (fP256 (F := Ideal) i (nw n) hw wg wu wd X G) (fP128 (F := Ideal) i (nw n) hw wg wu wd X G) (fP64 (F := Ideal) i (nw n) hw wg wu wd X G) ?_ ?_ ?_ ?_ ?_ P j
  · intro k
    by_cases hf : (i 2).val = 0
    · have e : fP256 (F := Ideal) i (nw n) hw wg wu wd X G k = fun P : Vec Ideal S1024x1024 .f32 => VecWindow.put P (k0_off13 (nw n) k) S256x1024.size
          (k0_pay25 (VecWindow.window X (k0_off11 (nw n) k) S256x1024.size (k0_off11_inb i (nw n) hw k)) wg wu (VecWindow.window G (k0_off12 (nw n) k) S256x1.size (k0_off12_inb i (nw n) hw k)) wd) := by
        funext P; unfold fP256; dsimp only; rw [dif_neg (fun h => (cond6_iff i).1 h hf), if_pos ((cond5_iff i).2 hf)]
      rw [e]
      refine put_onRows (M := 1024) (N := 1024) (L := 256) _ _ (off13_nw n k) (fun _ => _) _ fun P r d q hq => ?_
      refine (pay25_at _ _ _ _ _ q d).trans ((prod_of wg wu wd X G _ _ _ (off11_nw n k) (off12_nw n k) _ _ r d q hq).trans ?_)
      unfold accum; rw [if_pos hf]
    · have h6 := (cond6_iff i).2 hf
      have e : fP256 (F := Ideal) i (nw n) hw wg wu wd X G k = fun P : Vec Ideal S1024x1024 .f32 => VecWindow.put P (k0_off14 (nw n) k) S256x1024.size
          (k0_pay26 (VecWindow.window X (k0_off11 (nw n) k) S256x1024.size (k0_off11_inb i (nw n) hw k)) wg wu (VecWindow.window G (k0_off12 (nw n) k) S256x1.size (k0_off12_inb i (nw n) hw k)) wd
            (VecWindow.window P (k0_off14 (nw n) k) S256x1024.size (k0_off14_inb i (nw n) hw k h6))) := by
        funext P; unfold fP256; dsimp only; rw [dif_pos h6]
        simp only [if_neg (fun h => hf ((cond5_iff i).1 h))]
      rw [e]
      refine put_onRows (M := 1024) (N := 1024) (L := 256) _ _ (off14_nw n k) (fun P => _) _ fun P r d q hq => ?_
      refine (pay26_at _ _ _ _ _ _ q d).trans ?_
      unfold accum; rw [if_neg hf]
      refine congrArg₂ (· + ·) ?_ (prod_of wg wu wd X G _ _ _ (off11_nw n k) (off12_nw n k) _ _ r d q hq)
      refine (window_rows (M := 1024) (N := 1024) P _ _ (off14_nw n k) _ q d (by have := r.isLt; omega) d.isLt).trans ?_
      congr 2; exact Fin.ext hq
  · intro P h; unfold fP128; rw [dif_neg (fun h' => by have := (cond9_nw n).1 h'; omega)]
  · intro h
    have hc := (cond9_nw n).2 h
    by_cases hf : (i 2).val = 0
    · have e : fP128 (F := Ideal) i (nw n) hw wg wu wd X G = fun P : Vec Ideal S1024x1024 .f32 => VecWindow.put P (k0_off21 (nw n)) S128x1024.size
          (k0_pay31 (VecWindow.window X (k0_off19 (nw n)) S128x1024.size (k0_off19_inb i (nw n) hw hc)) wg wu (VecWindow.window G (k0_off20 (nw n)) S128x1.size (k0_off20_inb i (nw n) hw hc)) wd) := by
        funext P; unfold fP128; rw [dif_pos hc]; unfold fP128a fP128b; dsimp only; rw [dif_neg (fun h => (cond11_iff i).1 h hf), if_pos ((cond10_iff i).2 hf)]
      rw [e]
      refine put_onRows (M := 1024) (N := 1024) (L := 128) _ _ (off21_nw n) (fun _ => _) _ fun P r d q hq => ?_
      refine (pay31_at _ _ _ _ _ q d).trans ((prod_of wg wu wd X G _ _ _ (off19_nw n) (off20_nw n) _ _ r d q hq).trans ?_)
      unfold accum; rw [if_pos hf]
    · have h6 := (cond11_iff i).2 hf
      have e : fP128 (F := Ideal) i (nw n) hw wg wu wd X G = fun P : Vec Ideal S1024x1024 .f32 => VecWindow.put P (k0_off22 (nw n)) S128x1024.size
          (k0_pay32 (VecWindow.window X (k0_off19 (nw n)) S128x1024.size (k0_off19_inb i (nw n) hw hc)) wg wu (VecWindow.window G (k0_off20 (nw n)) S128x1.size (k0_off20_inb i (nw n) hw hc)) wd
            (VecWindow.window P (k0_off22 (nw n)) S128x1024.size (k0_off22_inb i (nw n) hw hc h6))) := by
        funext P; unfold fP128; rw [dif_pos hc]; unfold fP128a fP128b; dsimp only; rw [dif_pos h6]
        simp only [if_neg (fun h => hf ((cond10_iff i).1 h))]
      rw [e]
      refine put_onRows (M := 1024) (N := 1024) (L := 128) _ _ (off22_nw n) (fun P => _) _ fun P r d q hq => ?_
      refine (pay32_at _ _ _ _ _ _ q d).trans ?_
      unfold accum; rw [if_neg hf]
      refine congrArg₂ (· + ·) ?_ (prod_of wg wu wd X G _ _ _ (off19_nw n) (off20_nw n) _ _ r d q hq)
      refine (window_rows (M := 1024) (N := 1024) P _ _ (off22_nw n) _ q d (by have := r.isLt; omega) d.isLt).trans ?_
      congr 2; exact Fin.ext hq
  · intro P h; unfold fP64; rw [dif_neg (fun h' => by have := (cond12_nw n).1 h'; omega)]
  · intro h
    have hc := (cond12_nw n).2 h
    by_cases hf : (i 2).val = 0
    · have e : fP64 (F := Ideal) i (nw n) hw wg wu wd X G = fun P : Vec Ideal S1024x1024 .f32 => VecWindow.put P (k0_off25 (nw n)) S64x1024.size
          (k0_pay34 (VecWindow.window X (k0_off23 (nw n)) S64x1024.size (k0_off23_inb i (nw n) hw hc)) wg wu (VecWindow.window G (k0_off24 (nw n)) S64x1.size (k0_off24_inb i (nw n) hw hc)) wd) := by
        funext P; unfold fP64; rw [dif_pos hc]; unfold fP64a fP64b; dsimp only; rw [dif_neg (fun h => (cond14_iff i).1 h hf), if_pos ((cond13_iff i).2 hf)]
      rw [e]
      refine put_onRows (M := 1024) (N := 1024) (L := 64) _ _ (off25_nw n h) (fun _ => _) _ fun P r d q hq => ?_
      refine (pay34_at _ _ _ _ _ q d).trans ((prod_of wg wu wd X G _ _ _ (off23_nw n h) (off24_nw n h) _ _ r d q hq).trans ?_)
      unfold accum; rw [if_pos hf]
    · have h6 := (cond14_iff i).2 hf
      have e : fP64 (F := Ideal) i (nw n) hw wg wu wd X G = fun P : Vec Ideal S1024x1024 .f32 => VecWindow.put P (k0_off26 (nw n)) S64x1024.size
          (k0_pay35 (VecWindow.window X (k0_off23 (nw n)) S64x1024.size (k0_off23_inb i (nw n) hw hc)) wg wu (VecWindow.window G (k0_off24 (nw n)) S64x1.size (k0_off24_inb i (nw n) hw hc)) wd
            (VecWindow.window P (k0_off26 (nw n)) S64x1024.size (k0_off26_inb i (nw n) hw hc h6))) := by
        funext P; unfold fP64; rw [dif_pos hc]; unfold fP64a fP64b; dsimp only; rw [dif_pos h6]
        simp only [if_neg (fun h => hf ((cond13_iff i).1 h))]
      rw [e]
      refine put_onRows (M := 1024) (N := 1024) (L := 64) _ _ (off26_nw n h) (fun P => _) _ fun P r d q hq => ?_
      refine (pay35_at _ _ _ _ _ _ q d).trans ?_
      unfold accum; rw [if_neg hf]
      refine congrArg₂ (· + ·) ?_ (prod_of wg wu wd X G _ _ _ (off23_nw n h) (off24_nw n h) _ _ r d q hq)
      refine (window_rows (M := 1024) (N := 1024) P _ _ (off26_nw n h) _ q d (by have := r.isLt; omega) d.isLt).trans ?_
      congr 2; exact Fin.ext hq
end Product

/-! ## The scatter -/

section Scatter
variable (i : grid0.Coords) (e : ℕ) (he : e < 128) (n : Fin 17) (hw : k0_chk1 i (nw n)) (h15 : k0_cond15 i = 1#1)
  (p : Vec Ideal S1024x128 .f32) (P : Vec Ideal S1024x1024 .f32) (sl : Fin 1024 → ℕ) (hsl : ∀ t, SlotIs (p (ValueIdx.ix2 t ⟨e, he⟩)) (sl t))

/-- Entry `d` of the product's row `s`, 0 outside the product. -/
def rowP (s : ℕ) (d : Fin 1024) : EReal := if h : s < 1024 then P (ValueIdx.ix2 ⟨s, h⟩ d) else 0

/-- A token's slot, as the row that an entry of the running sum draws from. -/
abbrev slotRow (j : S1024x1024.Idx) : ℕ := sl (j 0)

theorem piece_sum {L : ℕ} (b : ℕ) (off : Fin 2 → ℕ) (ho : off = ![b, 0]) (inb) (hb : b + L ≤ 1024) (O : Vec Ideal S1024x1024 .f32) (r d : Fin 1024) (q : EReal) (hq : SlotIs q (sl r)) :
    O (ValueIdx.ix2 r d) + ∑ x : Fin L, hot q (b + x.val) * VecWindow.window (s := S1024x1024) P off ![L, 1024] inb (ValueIdx.ix2 x d)
      = if b ≤ sl r ∧ sl r < b + L then O (ValueIdx.ix2 r d) + rowP P (sl r) d else O (ValueIdx.ix2 r d) := by
  rw [hot_sum q (sl r) b hq hb]
  by_cases h : b ≤ sl r ∧ sl r < b + L
  · rw [dif_pos h, if_pos h]
    congr 1
    unfold rowP
    rw [dif_pos (by omega)]
    refine (window_rows (M := 1024) (N := 1024) P off b ho inb _ d (by show b + (sl r - b) < 1024; omega) d.isLt).trans ?_
    congr 2; exact Fin.ext (by show b + (sl r - b) = sl r; omega)
  · rw [dif_neg h, if_neg h, add_zero]

include hsl in
theorem sO_at (O : Vec Ideal S1024x1024 .f32) (j : S1024x1024.Idx) :
    sO (F := Ideal) i (BitVec.ofNat 32 e) (nw n) hw (iota .tc S1x128 32 [1] iota_S1x128_d1_w32) h15 p P O j
      = if sl (j 0) < 64 * n.val then O j + rowP P (sl (j 0)) (j 1) else O j := by
  have hn := n.isLt
  refine walk_rows (slotRow sl) (fun j y => y + rowP P (sl (j 0)) (j 1)) n.val (t5_trips n)
    (sO256 (F := Ideal) i (BitVec.ofNat 32 e) (nw n) hw _ h15 p P) (sO128 (F := Ideal) i (BitVec.ofNat 32 e) (nw n) hw _ h15 p P) (sO64 (F := Ideal) i (BitVec.ofNat 32 e) (nw n) hw _ h15 p P) ?_ ?_ ?_ ?_ ?_ O j
  · intro k O j
    obtain ⟨r, d, rfl⟩ : ∃ r d, j = ValueIdx.ix2 r d := ⟨j 0, j 1, split2 j⟩
    have hk := lt_of_lt_of_le k.isLt (show (k0_t5_loop (nw n)).trips ≤ 4 by rw [t5_trips]; omega)
    unfold sO256
    refine (pay2_at e he n p k O _ r d).trans ?_
    exact piece_sum P sl _ _ (off27_nw n k) _ (by omega) O r d _ (hsl r)
  · intro O h; unfold sO128; rw [dif_neg (fun h' => by have := (cond16_nw n).1 h'; omega)]
  · intro h O j
    obtain ⟨r, d, rfl⟩ : ∃ r d, j = ValueIdx.ix2 r d := ⟨j 0, j 1, split2 j⟩
    unfold sO128
    rw [dif_pos ((cond16_nw n).2 h)]
    refine (pay4_at e he n p O _ r d).trans ?_
    exact piece_sum P sl _ _ (off29_nw n) _ (by omega) O r d _ (hsl r)
  · intro O h; unfold sO64; rw [dif_neg (fun h' => by have := (cond17_nw n).1 h'; omega)]
  · intro h O j
    obtain ⟨r, d, rfl⟩ : ∃ r d, j = ValueIdx.ix2 r d := ⟨j 0, j 1, split2 j⟩
    unfold sO64
    rw [dif_pos ((cond17_nw n).2 h)]
    refine (pay5_at e he n h p O _ r d).trans ?_
    exact piece_sum P sl _ _ (off30_nw n h) _ (by omega) O r d _ (hsl r)
end Scatter

end Cert.KernelIdeal.Moe
-- ==== Proof.Tile.lean ====
/-
  One tile of tokens through its 32 points: what the arrays the kernel keeps hold after each, over the extended reals.
-/
module

public import proofs.«01_k».proof.Proof.Expert

@[expose] public section

set_option maxRecDepth 16384

noncomputable section

namespace Cert.KernelIdeal.Moe

open Idealize.ShloMosaic Idealize.ShloMosaic.TcCoe
open Cert.KernelIdeal Cert.KernelIdeal.Gen

/-- What the kernel reads for one tile: tokens, weights, slots by token and by slot, scale and shift; by expert and
    column block the three matrices; by expert the count of groups and each token's slot (1024 if it has none). -/
structure Tile where
  x : Vec Ideal S1024x1024 .f32
  cw : Vec Ideal S1024x128 .f32
  p : Vec Ideal S1024x128 .f32
  pt : Vec Ideal S1x8x1024 .f32
  g : Vec Ideal S1x1024 .f32
  b : Vec Ideal S1x1024 .f32
  wg : Fin 8 → ℕ → Vec Ideal S1x1024x896 .bf16
  wu : Fin 8 → ℕ → Vec Ideal S1x1024x896 .bf16
  wd : Fin 8 → ℕ → Vec Ideal S1x896x1024 .bf16
  n : Fin 8 → Fin 17
  sl : Fin 8 → Fin 1024 → ℕ

/-- Expert `e`'s column among the 128 lanes of a token's row. -/
abbrev lane (e : Fin 8) : Fin 128 := ⟨e.val, by omega⟩

/-- The routing of a tile is sound: each token has a slot among its expert's groups, or none and weight 0; no two share
    a slot; the two tables of slots agree; every weight is finite. -/
structure Tile.Good (T : Tile) : Prop where
  slot : ∀ e t, (T.p (ValueIdx.ix2 t (lane e)) = (T.sl e t : EReal) ∧ T.sl e t < 64 * (T.n e).val)
    ∨ (T.p (ValueIdx.ix2 t (lane e)) = -1 ∧ T.sl e t = 1024 ∧ T.cw (ValueIdx.ix2 t (lane e)) = 0)
  by_slot : ∀ e t, T.pt (ValueIdx.ix3 0 e t) = T.p (ValueIdx.ix2 t (lane e))
  inj : ∀ e t t', T.sl e t < 1024 → T.sl e t = T.sl e t' → t = t'
  fin : ∀ e t, T.cw (ValueIdx.ix2 t (lane e)) - T.cw (ValueIdx.ix2 t (lane e)) = 0

namespace Tile
variable (T : Tile)

/-- Column block `f`'s part of expert `e`'s output for token `t`. -/
def part (e : Fin 8) (f : ℕ) (t d : Fin 1024) : EReal :=
  ∑ x : Fin 896, hidden (fun y => T.x (ValueIdx.ix2 t y)) (fun y => T.wg e f (ValueIdx.ix3 0 y x)) (fun y => T.wu e f (ValueIdx.ix3 0 y x)) (T.cw (ValueIdx.ix2 t (lane e)))
    * T.wd e f (ValueIdx.ix3 0 x d)

/-- The first `f` column blocks of expert `e` for token `t`. -/
def partsTo (e : Fin 8) (f : ℕ) (t d : Fin 1024) : EReal := ∑ f' ∈ Finset.range f, T.part e f' t d

/-- The first `e` experts, summed. -/
def upto (e : ℕ) (t d : Fin 1024) : EReal := ∑ e' ∈ Finset.range e, if h : e' < 8 then T.partsTo ⟨e', h⟩ 4 t d else 0

theorem upto_succ (e : Fin 8) (t d : Fin 1024) : T.upto (e.val + 1) t d = T.upto e.val t d + T.partsTo e 4 t d := by
  unfold upto; rw [Finset.sum_range_succ, dif_pos e.isLt]

/-- The tile of the result. -/
def out : Vec Ideal S1024x1024 .f32 := k0_pay6 T.x (fun j => T.upto 8 (j 0) (j 1)) T.g T.b

variable {T} (H : T.Good)
include H

theorem Good.slotIs (e : Fin 8) (t : Fin 1024) : SlotIs (T.p (ValueIdx.ix2 t (lane e))) (T.sl e t) := by
  rcases H.slot e t with ⟨h, h'⟩ | ⟨h, h', _⟩
  · exact Or.inl ⟨h, by have := (T.n e).isLt; omega⟩
  · exact Or.inr ⟨h, h'⟩

theorem Good.placed_of (e : Fin 8) (t : Fin 1024) (h : T.sl e t < 1024) : T.sl e t < 64 * (T.n e).val := by
  rcases H.slot e t with ⟨_, h'⟩ | ⟨_, h', _⟩
  · exact h'
  · omega

/-- A token with no slot at an expert gets nothing from it. -/
theorem Good.absent (e : Fin 8) (t : Fin 1024) (h : ¬T.sl e t < 64 * (T.n e).val) (f : ℕ) (d : Fin 1024) : T.partsTo e f t d = 0 := by
  have hc : T.cw (ValueIdx.ix2 t (lane e)) = 0 := by
    rcases H.slot e t with ⟨_, h'⟩ | ⟨_, _, hc⟩
    · exact absurd h' h
    · exact hc
  unfold partsTo
  refine Finset.sum_eq_zero fun f' _ => ?_
  unfold part
  refine Finset.sum_eq_zero fun x _ => ?_
  unfold hidden
  rw [hc, mul_zero, zero_mul]
end Tile

theorem off2_eq : ∀ i : grid0.Coords, k0_off2 i = ![0, (i 1).val, 0] := by decide +kernel

theorem pt_window (i : grid0.Coords) (he : (i 1).val < 8) (pt : Vec Ideal S1x8x1024 .f32) (inb) (x : Fin 1024) :
    VecWindow.window (s := S1x8x1024) pt (k0_off2 i) S1x1x1024.size inb (ValueIdx.ix3 0 0 x) = pt (ValueIdx.ix3 0 ⟨(i 1).val, he⟩ x) := by
  unfold VecWindow.window
  congr 1
  funext a
  refine Fin.cases ?_ (fun a => Fin.cases ?_ (fun a => Fin.cases ?_ (fun a => a.elim0) a) a) a
  · exact Fin.ext (show k0_off2 i 0 + 1 * 0 = 0 by rw [off2_eq]; rfl)
  · exact Fin.ext (show k0_off2 i 1 + 1 * 0 = (i 1).val by rw [off2_eq]; rfl)
  · exact Fin.ext (show k0_off2 i 2 + 1 * x.val = x.val by rw [off2_eq]; show 0 + 1 * x.val = x.val; omega)

theorem pay7_at (j : S1024x1024.Idx) : k0_pay7 (F := Ideal) j = 0 := by unfold_payloads; pointwise
theorem pay8_eq (x : Vec Ideal S1024x1024 .f32) : k0_pay8 (F := Ideal) x = x := by
  funext j
  obtain ⟨r, d, rfl⟩ : ∃ r d, j = ValueIdx.ix2 r d := ⟨j 0, j 1, split2 j⟩
  unfold_payloads
  pointwise

/-- What a tile's kept arrays hold before column block `f` of expert `e`: the tile; past the first point the sum of the
    experts before; past the expert's first block, in the rows of its tokens, their entries, weights and parts so far. -/
structure Tile.Mid (T : Tile) (e : Fin 8) (f : ℕ) (xb X : Vec Ideal S1024x1024 .bf16) (G : Vec Ideal S1024x128 .f32) (P : Vec Ideal S1024x1024 .f32) : Prop where
  tile : ¬(e.val = 0 ∧ f = 0) → xb = T.x
  rows : f ≠ 0 → ∀ (t : Fin 1024) (h : T.sl e t < 1024) (y : Fin 1024), X (ValueIdx.ix2 ⟨T.sl e t, h⟩ y) = T.x (ValueIdx.ix2 t y)
  weights : f ≠ 0 → ∀ (t : Fin 1024) (h : T.sl e t < 1024), G (ValueIdx.ix2 ⟨T.sl e t, h⟩ 0) = T.cw (ValueIdx.ix2 t (lane e))
  parts : f ≠ 0 → ∀ (t : Fin 1024) (h : T.sl e t < 1024) (d : Fin 1024), P (ValueIdx.ix2 ⟨T.sl e t, h⟩ d) = T.partsTo e f t d

section Step
variable {T : Tile} (H : T.Good) (i : grid0.Coords) (e : Fin 8) (f : ℕ) (he : (i 1).val = e.val) (hf : (i 2).val = f)
  (hw : k0_chk1 i (nw (T.n e))) (I : Ins Ideal)
  (hI : I = ⟨T.x, T.cw, T.p, T.pt, T.wg e f, T.wu e f, T.wd e f, T.g, T.b⟩)
  (S : St Ideal) (hS : T.Mid e f S.xb S.X S.G S.P) (hO : ¬(e.val = 0 ∧ f = 0) → S.O = fun j => T.upto e.val (j 0) (j 1))
include H he hf hI hS hO

theorem init_ok : (stInit i I S).xb = T.x ∧ ((stInit i I S).O = fun j => T.upto e.val (j 0) (j 1))
    ∧ (stInit i I S).X = S.X ∧ (stInit i I S).G = S.G ∧ (stInit i I S).P = S.P := by
  unfold stInit
  by_cases h : e.val = 0 ∧ f = 0
  · rw [if_pos ((cond1_iff i).2 ⟨by omega, by omega⟩)]
    refine ⟨?_, ?_, rfl, rfl, rfl⟩
    · show k0_pay8 I.x = T.x
      rw [pay8_eq, hI]
    · funext j
      show k0_pay7 (F := Ideal) j = _
      rw [pay7_at, h.1]
      unfold Tile.upto
      rw [Finset.sum_range_zero]
  · rw [if_neg (fun hc => h ⟨by have := ((cond1_iff i).1 hc).1; omega, by have := ((cond1_iff i).1 hc).2; omega⟩)]
    exact ⟨hS.tile h, hO h, rfl, rfl, rfl⟩

theorem gather_ok : ∀ S', S' = stGather i (nw (T.n e)) I (stInit i I S) →
    S'.xb = T.x ∧ (S'.O = fun j => T.upto e.val (j 0) (j 1)) ∧ S'.P = S.P
    ∧ (∀ (t : Fin 1024) (h : T.sl e t < 1024) (y : Fin 1024), S'.X (ValueIdx.ix2 ⟨T.sl e t, h⟩ y) = T.x (ValueIdx.ix2 t y))
    ∧ (∀ (t : Fin 1024) (h : T.sl e t < 1024), S'.G (ValueIdx.ix2 ⟨T.sl e t, h⟩ 0) = T.cw (ValueIdx.ix2 t (lane e))) := by
  obtain ⟨h1, h2, h3, h4, h5⟩ := init_ok H i e f he hf I hI S hS hO
  rintro S' rfl
  have he8 : (i 1).val < 8 := by have := e.isLt; omega
  have ee : (⟨(i 1).val, he8⟩ : Fin 8) = e := Fin.ext he
  by_cases hf0 : f = 0
  · have hc := (cond2_iff i).2 (hf.trans hf0)
    unfold stGather
    rw [dif_pos hc]
    have hpt : ∀ x : Fin 1024, VecWindow.window I.pt (k0_off2 i) S1x1x1024.size (k0_off2_inb i hc) (ValueIdx.ix3 0 0 x) = T.p (ValueIdx.ix2 x (lane e)) := fun x => by
      rw [pt_window i he8, ee, hI]; exact H.by_slot e x
    have el : (⟨(i 1).val, by omega⟩ : Fin 128) = lane e := Fin.ext he
    refine ⟨h1, h2, h5, fun t h y => ?_, fun t h => ?_⟩
    · show gX (nw (T.n e)) (VecWindow.window I.pt (k0_off2 i) S1x1x1024.size (k0_off2_inb i hc)) (stInit i I S).xb (stInit i I S).X (ValueIdx.ix2 ⟨T.sl e t, h⟩ y) = _
      rw [gX_at, if_pos (show T.sl e t < 64 * (T.n e).val from H.placed_of e t h), h1]
      show rowX _ T.x (T.sl e t) y = _
      unfold rowX
      simp only [hpt]
      exact pick_token (fun x => T.p (ValueIdx.ix2 x (lane e))) (T.sl e) (H.slotIs e) (H.inj e) t h (fun x => T.x (ValueIdx.ix2 x y))
    · show gG i (nw (T.n e)) I.cw (VecWindow.window I.pt (k0_off2 i) S1x1x1024.size (k0_off2_inb i hc)) (stInit i I S).G (ValueIdx.ix2 ⟨T.sl e t, h⟩ 0) = _
      rw [gG_at i (T.n e) (by omega), if_pos (show T.sl e t < 64 * (T.n e).val from H.placed_of e t h)]
      show rowG i _ I.cw _ (T.sl e t) = _
      unfold rowG
      simp only [hpt, el]
      rw [hI]
      rw [pick_token (fun x => T.p (ValueIdx.ix2 x (lane e))) (T.sl e) (H.slotIs e) (H.inj e) t h (fun x => T.cw (ValueIdx.ix2 x (lane e))),
        pick_token (fun x => T.p (ValueIdx.ix2 x (lane e))) (T.sl e) (H.slotIs e) (H.inj e) t h (fun x => T.cw (ValueIdx.ix2 x (lane e)) - T.cw (ValueIdx.ix2 x (lane e))),
        H.fin, add_zero]
  · unfold stGather
    rw [dif_neg (fun hc => hf0 (hf.symm.trans ((cond2_iff i).1 hc)))]
    refine ⟨h1, h2, h5, fun t h y => ?_, fun t h => ?_⟩
    · rw [h3]; exact hS.rows hf0 t h y
    · rw [h4]; exact hS.weights hf0 t h

theorem product_ok : ∀ S', S' = stProduct i (nw (T.n e)) hw I (stGather i (nw (T.n e)) I (stInit i I S)) →
    S'.xb = T.x ∧ (S'.O = fun j => T.upto e.val (j 0) (j 1))
    ∧ (∀ (t : Fin 1024) (h : T.sl e t < 1024) (y : Fin 1024), S'.X (ValueIdx.ix2 ⟨T.sl e t, h⟩ y) = T.x (ValueIdx.ix2 t y))
    ∧ (∀ (t : Fin 1024) (h : T.sl e t < 1024), S'.G (ValueIdx.ix2 ⟨T.sl e t, h⟩ 0) = T.cw (ValueIdx.ix2 t (lane e)))
    ∧ (∀ (t : Fin 1024) (h : T.sl e t < 1024) (d : Fin 1024), S'.P (ValueIdx.ix2 ⟨T.sl e t, h⟩ d) = T.partsTo e (f + 1) t d) := by
  obtain ⟨h1, h2, h3, h4, h5⟩ := gather_ok H i e f he hf I hI S hS hO _ rfl
  rintro S' rfl
  generalize stGather i (nw (T.n e)) I (stInit i I S) = S1 at *
  refine ⟨h1, h2, h4, h5, fun t h d => ?_⟩
  show fP i (nw (T.n e)) hw I.wg I.wu I.wd S1.X S1.G S1.P (ValueIdx.ix2 ⟨T.sl e t, h⟩ d) = _
  rw [fP_at, if_pos (show T.sl e t < 64 * (T.n e).val from H.placed_of e t h), hI]
  have hp : prod (T.wg e f) (T.wu e f) (T.wd e f) S1.X S1.G ⟨T.sl e t, h⟩ d = T.part e f t d := by
    unfold prod Tile.part
    rw [h5 t h]
    simp only [h4 t h]
  unfold Tile.partsTo
  rw [Finset.sum_range_succ]
  unfold accum
  show (if (i 2).val = 0 then prod (T.wg e f) (T.wu e f) (T.wd e f) S1.X S1.G ⟨T.sl e t, h⟩ d
    else S1.P (ValueIdx.ix2 ⟨T.sl e t, h⟩ d) + prod (T.wg e f) (T.wu e f) (T.wd e f) S1.X S1.G ⟨T.sl e t, h⟩ d) = _
  rw [hp]
  by_cases hf0 : f = 0
  · rw [if_pos (hf.trans hf0), hf0, Finset.sum_range_zero, zero_add]
  · rw [if_neg (fun h => hf0 (hf.symm.trans h)), h3, hS.parts hf0 t h d]
    rfl

/-- One point: the invariant goes from one column block to the next, from one expert to the next, and at the last point
    the output holds the tile of the result. -/
theorem step_ok : ∀ S', S' = step i (nw (T.n e)) hw I S →
    S'.xb = T.x
    ∧ (f ≠ 3 → (S'.O = fun j => T.upto e.val (j 0) (j 1)) ∧ T.Mid e (f + 1) S'.xb S'.X S'.G S'.P)
    ∧ (f = 3 → e.val ≠ 7 → S'.O = fun j => T.upto (e.val + 1) (j 0) (j 1))
    ∧ (f = 3 → e.val = 7 → S'.O = T.out) := by
  obtain ⟨h1, h2, h3, h4, h5⟩ := product_ok H i e f he hf hw I hI S hS hO _ rfl
  rintro S' rfl
  unfold step
  generalize stProduct i (nw (T.n e)) hw I (stGather i (nw (T.n e)) I (stInit i I S)) = S1 at *
  by_cases hf3 : f = 3
  · have hc := (cond15_iff i).2 (hf.trans hf3)
    have hOs : (stScatter i (nw (T.n e)) hw I S1).O = fun j => T.upto (e.val + 1) (j 0) (j 1) := by
      unfold stScatter
      rw [dif_pos hc]
      funext j
      obtain ⟨r, d, rfl⟩ : ∃ r d, j = ValueIdx.ix2 r d := ⟨j 0, j 1, split2 j⟩
      show sO i (BitVec.ofNat 32 (i 1).val) (nw (T.n e)) hw (iota .tc S1x128 32 [1] iota_S1x128_d1_w32) hc I.p S1.P S1.O (ValueIdx.ix2 r d) = T.upto (e.val + 1) r d
      rw [he, sO_at i e.val (by omega) (T.n e) hw hc I.p S1.P (T.sl e) (fun t => by rw [hI]; exact H.slotIs e t), h2, T.upto_succ]
      show (if T.sl e r < 64 * (T.n e).val then T.upto e.val r d + rowP S1.P (T.sl e r) d else T.upto e.val r d) = _
      by_cases hp : T.sl e r < 64 * (T.n e).val
      · have hlt : T.sl e r < 1024 := by have := (T.n e).isLt; omega
        rw [if_pos hp]
        unfold rowP
        rw [dif_pos hlt, h5 r hlt d, hf3]
      · rw [if_neg hp, H.absent e r hp, add_zero]
    have hxs : (stScatter i (nw (T.n e)) hw I S1).xb = T.x := by
      unfold stScatter; rw [dif_pos hc]; exact h1
    generalize stScatter i (nw (T.n e)) hw I S1 = S2 at *
    refine ⟨?_, fun h => absurd hf3 h, fun _ h7 => ?_, fun _ h7 => ?_⟩
    · unfold stNorm; split
      · exact hxs
      · exact hxs
    · unfold stNorm
      rw [if_neg (fun h => h7 (he.symm.trans ((cond18_iff i).1 h).1))]
      exact hOs
    · unfold stNorm
      rw [if_pos ((cond18_iff i).2 ⟨he.trans h7, hf.trans hf3⟩)]
      show k0_pay6 I.x S2.O I.g I.b = T.out
      rw [hOs, hI, h7]
      rfl
  · have e1 : stNorm i I (stScatter i (nw (T.n e)) hw I S1) = S1 := by
      unfold stNorm stScatter
      rw [dif_neg (fun h => hf3 (hf.symm.trans ((cond15_iff i).1 h))), if_neg (fun h => hf3 (hf.symm.trans ((cond18_iff i).1 h).2))]
    rw [e1]
    exact ⟨h1, fun _ => ⟨h2, ⟨fun _ => h1, fun _ => h3, fun _ => h4, fun _ => h5⟩⟩, fun h => absurd h hf3, fun h => absurd h hf3⟩
end Step

end Cert.KernelIdeal.Moe
-- ==== Proof.Routing.lean ====
/-
  What the precondition on the routing tables says of each tile, over the extended reals.
-/
module

public import proofs.«01_k».proof.Proof.Tile
public import proofs.«01_k».proof.Proof.Counts

@[expose] public section

set_option maxRecDepth 16384

noncomputable section

namespace Cert.KernelIdeal.Moe

open Idealize.ShloMosaic Idealize.ShloMosaic.TcCoe Idealize.ShloMosaic.Tactic
open Cert.KernelIdeal Cert.KernelIdeal.Gen

theorem ofBool_one (p : Prop) [Decidable p] : BitVec.ofBool (decide p) = 1#1 ↔ p := by
  by_cases h : p <;> simp [h]
theorem ori_one (a b : BitVec 1) : IntOp.ori a b = 1#1 ↔ a = 1#1 ∨ b = 1#1 := by revert a b; decide
theorem noti_one (a : BitVec 1) : ~~~a = 1#1 ↔ ¬a = 1#1 := by revert a; decide

theorem neg_one_bits : Ideal.ofBits .f32 0xBF800000#32 = -1 := IdealRules.sign_bit.ideal_negOnePat .f32
theorem inf_bits : Ideal.ofBits .f32 0x7F800000#32 = ⊤ := by simp [Ideal.ofBits, Ideal.ieee]

/-- The table row of token `t` of tile `a`. -/
abbrev tok (a : Fin 64) (t : Fin 1024) : Fin 65536 := ⟨a.val * 1024 + t.val, by omega⟩

theorem groups_at (a4 : FVec Ideal S512x128 .f32) (a : Fin 64) (e : Fin 8) :
    groups a4 (ValueIdx.ix2 a e) = FloatOps.fptosi (F := Ideal) (φ := .f32) 32 (Ideal.liftRound Int.ceil
      (Ideal.div (a4 (ValueIdx.ix2 ⟨a.val * 8, by omega⟩ (lane e))) (Ideal.ofBits FTy.f32 1115684864#32))) := by
  unfold groups
  pointwise
  rfl

theorem routing_split (a0 a1 a2 a3 a4 a5 a6 a7 a8)
    (h : Cert.Pre_routing_tables.fn (F := Ideal) a0 a1 a2 a3 a4 a5 a6 a7 a8 = fun _ => 1#1) :
    (∀ i : S64x8.Idx, (groups a4 i).toNat ≤ 16)
    ∧ (∀ (a : Fin 64) (t : Fin 1024) (e : Fin 8),
      ((a2 (ValueIdx.ix2 (tok a t) (lane e)) = Ideal.liftRound Int.floor (a2 (ValueIdx.ix2 (tok a t) (lane e))) ∧ 0 ≤ a2 (ValueIdx.ix2 (tok a t) (lane e)))
        ∧ a2 (ValueIdx.ix2 (tok a t) (lane e)) < FloatOps.sitofp (F := Ideal) FTy.f32 (IntOp.muli (groups a4 (ValueIdx.ix2 a e)) 64#32))
      ∨ (a2 (ValueIdx.ix2 (tok a t) (lane e)) = -1 ∧ a1 (ValueIdx.ix2 (tok a t) (lane e)) = 0))
    ∧ (∀ (a : Fin 64) (t : Fin 1024) (e : Fin 8), FloatOps.absf (F := Ideal) (φ := .f32) (a1 (ValueIdx.ix2 (tok a t) (lane e))) < (⊤ : EReal))
    ∧ (∀ (a : Fin 64) (t : Fin 1024) (e : Fin 8), a3 (ValueIdx.ix3 a e t) = a2 (ValueIdx.ix2 (tok a t) (lane e)))
    ∧ (∀ (a : Fin 64) (t t' : Fin 1024) (e : Fin 8), t ≠ t' → a2 (ValueIdx.ix2 (tok a t) (lane e)) = a2 (ValueIdx.ix2 (tok a t') (lane e)) →
      ¬(0 ≤ a2 (ValueIdx.ix2 (tok a t) (lane e)))) := by
  have h1 := congrFun h ValueIdx.ix0
  obtain ⟨h1, h5⟩ := (andi_one _ _).1 h1
  obtain ⟨h1, h4⟩ := (andi_one _ _).1 h1
  obtain ⟨h1, h3⟩ := (andi_one _ _).1 h1
  obtain ⟨h1, h2⟩ := (andi_one _ _).1 h1
  refine ⟨fun i => le_of_between _ (Host.reduce_andi_all _ _ _ _ _ h1 i), fun a t e => ?_, fun a t e => ?_, fun a t e => ?_, fun a t t' e => ?_⟩
  · have := Host.reduce_andi_all _ _ _ _ _ h2 (ValueIdx.ix3 a t e)
    pointwise at this
    rw [groups_at]
    refine ((ori_one _ _).1 this).imp (fun h => ?_) (fun h => ?_)
    · obtain ⟨h, hc⟩ := (andi_one _ _).1 h
      obtain ⟨ha, hb⟩ := (andi_one _ _).1 h
      exact ⟨⟨(ofBool_one _).1 ha, (ofBool_one _).1 hb⟩, (ofBool_one _).1 hc⟩
    · obtain ⟨ha, hb⟩ := (andi_one _ _).1 h
      exact ⟨((ofBool_one _).1 ha).trans neg_one_bits, (ofBool_one _).1 hb⟩
  · have := Host.reduce_andi_all _ _ _ _ _ h3 (ValueIdx.ix3 a t e)
    pointwise at this
    rw [← inf_bits]
    exact (ofBool_one _).1 this
  · have := Host.reduce_andi_all _ _ _ _ _ h4 (ValueIdx.ix3 a e t)
    pointwise at this
    exact (ofBool_one _).1 this
  · intro hne heq h0
    have := Host.reduce_andi_all _ _ _ _ _ h5 (ValueIdx.ix4 a t t' e)
    pointwise at this
    refine (noti_one _).1 this ((andi_one _ _).2 ⟨(andi_one _ _).2 ⟨?_, (ofBool_one _).2 heq⟩, (ofBool_one _).2 h0⟩)
    refine IntOp.cmpi_ne.2 fun hb => hne (Fin.ext ?_)
    have e1 := congrArg BitVec.toNat hb
    rw [BitVec.toNat_ofNat, BitVec.toNat_ofNat, Nat.mod_eq_of_lt (by omega), Nat.mod_eq_of_lt (by omega)] at e1
    exact e1

/-! ## Slots as naturals -/

open Classical in
/-- The natural a slot is, 1024 if it is none. -/
def slotOf (q : EReal) : ℕ := if h : ∃ k : ℕ, q = (k : EReal) then h.choose else 1024

theorem slotOf_nat (k : ℕ) : slotOf (k : EReal) = k := by
  have h : ∃ k' : ℕ, (k : EReal) = (k' : EReal) := ⟨k, rfl⟩
  unfold slotOf
  rw [dif_pos h]
  exact_mod_cast h.choose_spec.symm

theorem slotOf_neg : slotOf (-1) = 1024 := by
  unfold slotOf
  refine dif_neg fun ⟨k, h⟩ => ?_
  have h0 : (0 : EReal) ≤ (k : EReal) := by exact_mod_cast Nat.zero_le k
  rw [← h] at h0
  exact absurd h0 (by norm_num)

theorem nat_of_floor (q : EReal) (N : ℕ) (hf : q = Ideal.liftRound Int.floor q) (h0 : 0 ≤ q) (hN : q < (N : EReal)) :
    ∃ k : ℕ, q = (k : EReal) ∧ k < N := by
  induction q with
  | bot => exact absurd h0 (by simp)
  | top => exact absurd hN (by simp)
  | coe r =>
    have hr : r = ((⌊r⌋ : ℤ) : ℝ) := by
      have : (r : EReal) = (((⌊r⌋ : ℤ) : ℝ) : EReal) := hf
      exact_mod_cast this
    have h0' : (0 : ℝ) ≤ r := by exact_mod_cast h0
    have hz : 0 ≤ ⌊r⌋ := Int.floor_nonneg.2 h0'
    have hk : r = ((⌊r⌋.toNat : ℕ) : ℝ) := by
      rw [hr]; conv_rhs => rw [← hr]
      exact_mod_cast (Int.toNat_of_nonneg hz).symm
    refine ⟨⌊r⌋.toNat, ?_, ?_⟩
    · have e : (r : EReal) = (((⌊r⌋.toNat : ℕ) : ℝ) : EReal) := congrArg _ hk
      exact e.trans (by norm_cast)
    have hN' : (r : EReal) < ((N : ℝ) : EReal) := by exact_mod_cast hN
    have hN'' : r < (N : ℝ) := by exact_mod_cast hN'
    rw [hk] at hN''
    exact_mod_cast hN''

theorem top_word (v : BitVec 32) (h : v.toNat ≤ 16) :
    FloatOps.sitofp (F := Ideal) FTy.f32 (IntOp.muli v 64#32) = ((64 * v.toNat : ℕ) : EReal) := by
  have e : (IntOp.muli v 64#32).toInt = ((64 * v.toNat : ℕ) : ℤ) := by
    have : IntOp.muli v 64#32 = v * 64#32 := rfl
    have e0 : (v * 64#32).toNat = 64 * v.toNat := by
      rw [BitVec.toNat_mul]; show v.toNat * 64 % 2 ^ 32 = _; omega
    rw [this, BitVec.toInt_eq_toNat_cond]
    split <;> omega
  show (((IntOp.muli v 64#32).toInt : ℝ) : EReal) = _
  rw [e]
  norm_cast

theorem sub_self_of_abs (q : EReal) (h : FloatOps.absf (F := Ideal) (φ := .f32) q < (⊤ : EReal)) : q - q = 0 := by
  induction q with
  | bot => exact absurd h (by show ¬(max (⊥ : EReal) (-⊥) < ⊤); simp)
  | top => exact absurd h (by show ¬(max (⊤ : EReal) (-⊤) < ⊤); simp)
  | coe r => rw [← EReal.coe_sub, sub_self]; rfl

end Cert.KernelIdeal.Moe
-- ==== Proof.Tiles.lean ====
/-
  What each window shows at a point, as entries of the argument arrays, and the tile of the arguments that the precondition
  on the routing tables makes sound.
-/
module

public import proofs.«01_k».proof.Proof.Routing

@[expose] public section

set_option maxRecDepth 16384

noncomputable section

namespace Cert.KernelIdeal.Moe

open Idealize.ShloMosaic Idealize.ShloMosaic.TcCoe Idealize.ShloMosaic.Tactic
open Cert.KernelIdeal Cert.KernelIdeal.Gen

variable (m : (ℓ : Loc nD τ sig) → Buf (Elt Ideal) ℓ) (c : Dev nD)

/-- Tile `a` of the arguments. -/
def tileOf (a : Fin 64) : Tile where
  x := fun j => m ((c : Thread nD τ).loc main_arg0) (ValueIdx.ix2 (tok a (j 0)) (j 1))
  cw := fun j => m ((c : Thread nD τ).loc main_arg1) (ValueIdx.ix2 (tok a (j 0)) (j 1))
  p := fun j => m ((c : Thread nD τ).loc main_arg2) (ValueIdx.ix2 (tok a (j 0)) (j 1))
  pt := fun j => m ((c : Thread nD τ).loc main_arg3) (ValueIdx.ix3 a (j 1) (j 2))
  g := fun j => m ((c : Thread nD τ).loc main_arg7) (ValueIdx.ix1 (j 1))
  b := fun j => m ((c : Thread nD τ).loc main_arg8) (ValueIdx.ix1 (j 1))
  wg := fun e f j => m ((c : Thread nD τ).loc main_arg5) (ValueIdx.ix3 e (j 1) (Fin.ofNat 7168 (f * 896 + (j 2).val)))
  wu := fun e f j => m ((c : Thread nD τ).loc main_arg5) (ValueIdx.ix3 e (j 1) (Fin.ofNat 7168 ((f + 4) * 896 + (j 2).val)))
  wd := fun e f j => m ((c : Thread nD τ).loc main_arg6) (ValueIdx.ix3 e (Fin.ofNat 3584 (f * 896 + (j 1).val)) (j 2))
  n := fun e => ⟨min (groups (F := Ideal) (m ((c : Thread nD τ).loc main_arg4)) (ValueIdx.ix2 a e)).toNat 16, Nat.lt_succ_of_le (Nat.min_le_right _ _)⟩
  sl := fun e t => slotOf (m ((c : Thread nD τ).loc main_arg2) (ValueIdx.ix2 (tok a t) (lane e)))

theorem tr0 : ∀ i : grid0.Coords, cc0_transform_0 i = ![(i 0).val, 0] := by decide +kernel
theorem tr1 : ∀ i : grid0.Coords, cc0_transform_1 i = ![(i 0).val, 0] := by decide +kernel
theorem tr2 : ∀ i : grid0.Coords, cc0_transform_2 i = ![(i 0).val, 0] := by decide +kernel
theorem tr3 : ∀ i : grid0.Coords, cc0_transform_3 i = ![(i 0).val, 0, 0] := by decide +kernel
theorem tr4 : ∀ i : grid0.Coords, cc0_transform_4 i = ![(i 1).val, 0, (i 2).val] := by decide +kernel
theorem tr5 : ∀ i : grid0.Coords, cc0_transform_5 i = ![(i 1).val, 0, (i 2).val + 4] := by decide +kernel
theorem tr6 : ∀ i : grid0.Coords, cc0_transform_6 i = ![(i 1).val, (i 2).val, 0] := by decide +kernel
theorem tr7 : ∀ i : grid0.Coords, cc0_transform_7 i = ![0, 0] := by decide +kernel
theorem tr8 : ∀ i : grid0.Coords, cc0_transform_8 i = ![0, 0] := by decide +kernel

theorem iblk0 (t : Fin (cfgM m).N) : iblk m c 0 t = (tileOf m c (grid0.coords t 0)).x := by
  refine funext fun (j : (⟨2, ![1024, 1024]⟩ : Shape).Idx) => ?_
  show V m c main_arg0 _ = m ((c : Thread nD τ).loc main_arg0) _
  rw [V_kept m c main_arg0 (by decide)]
  congr 1
  funext a
  refine Fin.cases ?_ (fun a => Fin.cases ?_ (fun a => a.elim0) a) a
  · refine Fin.ext ?_
    show cc0_transform_0 (grid0.coords t) 0 * 1024 + 1 * (j 0).val = (grid0.coords t 0).val * 1024 + (j 0).val
    rw [tr0]
    show ((grid0.coords t 0).val) * 1024 + 1 * (j 0).val = (grid0.coords t 0).val * 1024 + (j 0).val
    omega
  · refine Fin.ext ?_
    show cc0_transform_0 (grid0.coords t) 1 * 1024 + 1 * (j 1).val = (j 1).val
    rw [tr0]
    show (0) * 1024 + 1 * (j 1).val = (j 1).val
    omega

theorem iblk1 (t : Fin (cfgM m).N) : iblk m c 1 t = (tileOf m c (grid0.coords t 0)).cw := by
  refine funext fun (j : (⟨2, ![1024, 128]⟩ : Shape).Idx) => ?_
  show V m c main_arg1 _ = m ((c : Thread nD τ).loc main_arg1) _
  rw [V_kept m c main_arg1 (by decide)]
  congr 1
  funext a
  refine Fin.cases ?_ (fun a => Fin.cases ?_ (fun a => a.elim0) a) a
  · refine Fin.ext ?_
    show cc0_transform_1 (grid0.coords t) 0 * 1024 + 1 * (j 0).val = (grid0.coords t 0).val * 1024 + (j 0).val
    rw [tr1]
    show ((grid0.coords t 0).val) * 1024 + 1 * (j 0).val = (grid0.coords t 0).val * 1024 + (j 0).val
    omega
  · refine Fin.ext ?_
    show cc0_transform_1 (grid0.coords t) 1 * 128 + 1 * (j 1).val = (j 1).val
    rw [tr1]
    show (0) * 128 + 1 * (j 1).val = (j 1).val
    omega

theorem iblk2 (t : Fin (cfgM m).N) : iblk m c 2 t = (tileOf m c (grid0.coords t 0)).p := by
  refine funext fun (j : (⟨2, ![1024, 128]⟩ : Shape).Idx) => ?_
  show V m c main_arg2 _ = m ((c : Thread nD τ).loc main_arg2) _
  rw [V_kept m c main_arg2 (by decide)]
  congr 1
  funext a
  refine Fin.cases ?_ (fun a => Fin.cases ?_ (fun a => a.elim0) a) a
  · refine Fin.ext ?_
    show cc0_transform_2 (grid0.coords t) 0 * 1024 + 1 * (j 0).val = (grid0.coords t 0).val * 1024 + (j 0).val
    rw [tr2]
    show ((grid0.coords t 0).val) * 1024 + 1 * (j 0).val = (grid0.coords t 0).val * 1024 + (j 0).val
    omega
  · refine Fin.ext ?_
    show cc0_transform_2 (grid0.coords t) 1 * 128 + 1 * (j 1).val = (j 1).val
    rw [tr2]
    show (0) * 128 + 1 * (j 1).val = (j 1).val
    omega

theorem iblk3 (t : Fin (cfgM m).N) : iblk m c 3 t = (tileOf m c (grid0.coords t 0)).pt := by
  refine funext fun (j : (⟨3, ![1, 8, 1024]⟩ : Shape).Idx) => ?_
  show V m c main_arg3 _ = m ((c : Thread nD τ).loc main_arg3) _
  rw [V_kept m c main_arg3 (by decide)]
  have h0 : (j 0).val < 1 := (j 0).isLt
  congr 1
  funext a
  refine Fin.cases ?_ (fun a => Fin.cases ?_ (fun a => Fin.cases ?_ (fun a => a.elim0) a) a) a
  · refine Fin.ext ?_
    show cc0_transform_3 (grid0.coords t) 0 * 1 + 1 * (j 0).val = (grid0.coords t 0).val
    rw [tr3]
    show ((grid0.coords t 0).val) * 1 + 1 * (j 0).val = (grid0.coords t 0).val
    omega
  · refine Fin.ext ?_
    show cc0_transform_3 (grid0.coords t) 1 * 8 + 1 * (j 1).val = (j 1).val
    rw [tr3]
    show (0) * 8 + 1 * (j 1).val = (j 1).val
    omega
  · refine Fin.ext ?_
    show cc0_transform_3 (grid0.coords t) 2 * 1024 + 1 * (j 2).val = (j 2).val
    rw [tr3]
    show (0) * 1024 + 1 * (j 2).val = (j 2).val
    omega

theorem iblk4 (t : Fin (cfgM m).N) : iblk m c 4 t = (tileOf m c (grid0.coords t 0)).wg (grid0.coords t 1) (grid0.coords t 2).val := by
  refine funext fun (j : (⟨3, ![1, 1024, 896]⟩ : Shape).Idx) => ?_
  show V m c main_v0 _ = m ((c : Thread nD τ).loc main_arg5) _
  entry_read
  show m ((c : Thread nD τ).loc main_arg5) _ = _
  have h0 : (j 0).val < 1 := (j 0).isLt
  have h2 : (j 2).val < 896 := (j 2).isLt
  have hf : (grid0.coords t 2).val < 4 := (grid0.coords t 2).isLt
  congr 1
  funext a
  refine Fin.cases ?_ (fun a => Fin.cases ?_ (fun a => Fin.cases ?_ (fun a => a.elim0) a) a) a
  · refine Fin.ext ?_
    show cc0_transform_4 (grid0.coords t) 0 * 1 + 1 * (j 0).val = (grid0.coords t 1).val
    rw [tr4]
    show ((grid0.coords t 1).val) * 1 + 1 * (j 0).val = (grid0.coords t 1).val
    omega
  · refine Fin.ext ?_
    show cc0_transform_4 (grid0.coords t) 1 * 1024 + 1 * (j 1).val = (j 1).val
    rw [tr4]
    show (0) * 1024 + 1 * (j 1).val = (j 1).val
    omega
  · refine Fin.ext ?_
    show cc0_transform_4 (grid0.coords t) 2 * 896 + 1 * (j 2).val = ((grid0.coords t 2).val * 896 + (j 2).val) % 7168
    rw [tr4]
    show ((grid0.coords t 2).val) * 896 + 1 * (j 2).val = ((grid0.coords t 2).val * 896 + (j 2).val) % 7168
    omega

theorem iblk5 (t : Fin (cfgM m).N) : iblk m c 5 t = (tileOf m c (grid0.coords t 0)).wu (grid0.coords t 1) (grid0.coords t 2).val := by
  refine funext fun (j : (⟨3, ![1, 1024, 896]⟩ : Shape).Idx) => ?_
  show V m c main_v0 _ = m ((c : Thread nD τ).loc main_arg5) _
  entry_read
  show m ((c : Thread nD τ).loc main_arg5) _ = _
  have h0 : (j 0).val < 1 := (j 0).isLt
  have h2 : (j 2).val < 896 := (j 2).isLt
  have hf : (grid0.coords t 2).val < 4 := (grid0.coords t 2).isLt
  congr 1
  funext a
  refine Fin.cases ?_ (fun a => Fin.cases ?_ (fun a => Fin.cases ?_ (fun a => a.elim0) a) a) a
  · refine Fin.ext ?_
    show cc0_transform_5 (grid0.coords t) 0 * 1 + 1 * (j 0).val = (grid0.coords t 1).val
    rw [tr5]
    show ((grid0.coords t 1).val) * 1 + 1 * (j 0).val = (grid0.coords t 1).val
    omega
  · refine Fin.ext ?_
    show cc0_transform_5 (grid0.coords t) 1 * 1024 + 1 * (j 1).val = (j 1).val
    rw [tr5]
    show (0) * 1024 + 1 * (j 1).val = (j 1).val
    omega
  · refine Fin.ext ?_
    show cc0_transform_5 (grid0.coords t) 2 * 896 + 1 * (j 2).val = (((grid0.coords t 2).val + 4) * 896 + (j 2).val) % 7168
    rw [tr5]
    show ((grid0.coords t 2).val + 4) * 896 + 1 * (j 2).val = (((grid0.coords t 2).val + 4) * 896 + (j 2).val) % 7168
    omega

theorem iblk6 (t : Fin (cfgM m).N) : iblk m c 6 t = (tileOf m c (grid0.coords t 0)).wd (grid0.coords t 1) (grid0.coords t 2).val := by
  refine funext fun (j : (⟨3, ![1, 896, 1024]⟩ : Shape).Idx) => ?_
  show V m c main_v1 _ = m ((c : Thread nD τ).loc main_arg6) _
  entry_read
  show m ((c : Thread nD τ).loc main_arg6) _ = _
  have h0 : (j 0).val < 1 := (j 0).isLt
  have h2 : (j 1).val < 896 := (j 1).isLt
  have hf : (grid0.coords t 2).val < 4 := (grid0.coords t 2).isLt
  congr 1
  funext a
  refine Fin.cases ?_ (fun a => Fin.cases ?_ (fun a => Fin.cases ?_ (fun a => a.elim0) a) a) a
  · refine Fin.ext ?_
    show cc0_transform_6 (grid0.coords t) 0 * 1 + 1 * (j 0).val = (grid0.coords t 1).val
    rw [tr6]
    show ((grid0.coords t 1).val) * 1 + 1 * (j 0).val = (grid0.coords t 1).val
    omega
  · refine Fin.ext ?_
    show cc0_transform_6 (grid0.coords t) 1 * 896 + 1 * (j 1).val = ((grid0.coords t 2).val * 896 + (j 1).val) % 3584
    rw [tr6]
    show ((grid0.coords t 2).val) * 896 + 1 * (j 1).val = ((grid0.coords t 2).val * 896 + (j 1).val) % 3584
    omega
  · refine Fin.ext ?_
    show cc0_transform_6 (grid0.coords t) 2 * 1024 + 1 * (j 2).val = (j 2).val
    rw [tr6]
    show (0) * 1024 + 1 * (j 2).val = (j 2).val
    omega

theorem iblk7 (t : Fin (cfgM m).N) : iblk m c 7 t = (tileOf m c (grid0.coords t 0)).g := by
  refine funext fun (j : (⟨2, ![1, 1024]⟩ : Shape).Idx) => ?_
  have h0 : (j 0).val < 1 := (j 0).isLt
  show V m c main_v10 _ = m ((c : Thread nD τ).loc main_arg7) (ValueIdx.ix1 (j 1))
  entry_read
  refine shapeCast_apply _ _ _ _ ?_
  refine (rowMajor_val1 (d := ![1024]) _).trans (Eq.trans ?_ (rowMajor_val2 (d := ![1, 1024]) _ 1024 rfl).symm)
  show (j 1).val = (cc0_transform_7 (grid0.coords t) 0 * 1 + 1 * (j 0).val) * 1024 + (cc0_transform_7 (grid0.coords t) 1 * 1024 + 1 * (j 1).val)
  rw [tr7]
  show (j 1).val = (0 * 1 + 1 * (j 0).val) * 1024 + (0 * 1024 + 1 * (j 1).val)
  omega

theorem iblk8 (t : Fin (cfgM m).N) : iblk m c 8 t = (tileOf m c (grid0.coords t 0)).b := by
  refine funext fun (j : (⟨2, ![1, 1024]⟩ : Shape).Idx) => ?_
  have h0 : (j 0).val < 1 := (j 0).isLt
  show V m c main_v11 _ = m ((c : Thread nD τ).loc main_arg8) (ValueIdx.ix1 (j 1))
  entry_read
  refine shapeCast_apply _ _ _ _ ?_
  refine (rowMajor_val1 (d := ![1024]) _).trans (Eq.trans ?_ (rowMajor_val2 (d := ![1, 1024]) _ 1024 rfl).symm)
  show (j 1).val = (cc0_transform_8 (grid0.coords t) 0 * 1 + 1 * (j 0).val) * 1024 + (cc0_transform_8 (grid0.coords t) 1 * 1024 + 1 * (j 1).val)
  rw [tr8]
  show (j 1).val = (0 * 1 + 1 * (j 0).val) * 1024 + (0 * 1024 + 1 * (j 1).val)
  omega

theorem insAt_eq (t : Fin (cfgM m).N) (e : Fin 8) (f : ℕ) (he : grid0.coords t 1 = e) (hf : (grid0.coords t 2).val = f) (a : Fin 64) (ha : grid0.coords t 0 = a) :
    insAt m c t = ⟨(tileOf m c a).x, (tileOf m c a).cw, (tileOf m c a).p, (tileOf m c a).pt, (tileOf m c a).wg e f, (tileOf m c a).wu e f, (tileOf m c a).wd e f,
      (tileOf m c a).g, (tileOf m c a).b⟩ := by
  subst he hf ha
  unfold insAt
  rw [iblk0, iblk1, iblk2, iblk3, iblk4, iblk5, iblk6, iblk7, iblk8]

/-- The precondition on the routing tables makes every tile sound. -/
theorem good_of_tables (h : Cert.Pre_routing_tables.fn (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7))
      (m ((c : Thread nD τ).loc main_arg8)) = fun _ => 1#1) :
    (∀ i : S64x8.Idx, (groups (F := Ideal) (m ((c : Thread nD τ).loc main_arg4)) i).toNat ≤ 16) ∧ ∀ a, (tileOf m c a).Good := by
  obtain ⟨h1, h2, h3, h4, h5⟩ := routing_split _ _ _ _ _ _ _ _ _ h
  refine ⟨h1, fun a => ⟨fun e t => ?_, fun e t => h4 a t e, fun e t t' hlt heq => ?_, fun e t => sub_self_of_abs _ (h3 a t e)⟩⟩
  · rcases h2 a t e with ⟨⟨hf, h0⟩, hN⟩ | ⟨hq, hc⟩
    · rw [top_word _ (h1 _)] at hN
      obtain ⟨k, hk, hlt⟩ := nat_of_floor _ _ hf h0 hN
      have e1 : (tileOf m c a).sl e t = k := by
        show slotOf (m ((c : Thread nD τ).loc main_arg2) (ValueIdx.ix2 (tok a t) (lane e))) = k
        rw [hk, slotOf_nat]
      have e2 : ((tileOf m c a).n e).val = min (groups (F := Ideal) (m ((c : Thread nD τ).loc main_arg4)) (ValueIdx.ix2 a e)).toNat 16 := rfl
      have := h1 (ValueIdx.ix2 a e)
      rw [e1]
      exact Or.inl ⟨hk, by omega⟩
    · refine Or.inr ⟨hq, ?_, hc⟩
      show slotOf (m ((c : Thread nD τ).loc main_arg2) (ValueIdx.ix2 (tok a t) (lane e))) = 1024
      rw [hq, slotOf_neg]
  · by_contra hne
    have hs : ∀ t, (tileOf m c a).sl e t < 1024 → ∃ k : ℕ, m ((c : Thread nD τ).loc main_arg2) (ValueIdx.ix2 (tok a t) (lane e)) = (k : EReal) ∧ (tileOf m c a).sl e t = k := fun t hlt => by
      rcases h2 a t e with ⟨⟨hf, h0⟩, hN⟩ | ⟨hq, hc⟩
      · rw [top_word _ (h1 _)] at hN
        obtain ⟨k, hk, _⟩ := nat_of_floor _ _ hf h0 hN
        refine ⟨k, hk, ?_⟩
        show slotOf (m ((c : Thread nD τ).loc main_arg2) (ValueIdx.ix2 (tok a t) (lane e))) = k
        rw [hk, slotOf_nat]
      · have e1 : (tileOf m c a).sl e t = 1024 := by
          show slotOf (m ((c : Thread nD τ).loc main_arg2) (ValueIdx.ix2 (tok a t) (lane e))) = 1024
          rw [hq, slotOf_neg]
        omega
    obtain ⟨k, hk, ek⟩ := hs t hlt
    obtain ⟨k', hk', ek'⟩ := hs t' (heq ▸ hlt)
    have ekk : k = k' := by omega
    subst ekk
    refine h5 a t t' e hne (hk.trans hk'.symm) ?_
    rw [hk]
    exact_mod_cast Nat.zero_le k

/-- A point's word is its tile's count for its expert. -/
theorem word_eq_n (h1 : ∀ i : S64x8.Idx, (groups (F := Ideal) (m ((c : Thread nD τ).loc main_arg4)) i).toNat ≤ 16) (i : grid0.Coords) (a : Fin 64) (ha : i 0 = a) (e : Fin 8) (he : i 1 = e) :
    word m i = nw ((tileOf m c a).n e) := by
  obtain rfl : c = 0 := Subsingleton.elim _ _
  subst ha he
  rw [word_eq_groups]
  have h := h1 (ValueIdx.ix2 (i 0) (i 1))
  have e2 : ((tileOf m 0 (i 0)).n (i 1)).val = min (groups (F := Ideal) (m (((0 : Dev nD) : Thread nD τ).loc main_arg4)) (ValueIdx.ix2 (i 0) (i 1))).toNat 16 := rfl
  refine BitVec.eq_of_toNat_eq ?_
  show _ = (BitVec.ofNat 32 ((tileOf m 0 (i 0)).n (i 1)).val).toNat
  rw [BitVec.toNat_ofNat, e2, Nat.mod_eq_of_lt (by omega), Nat.min_eq_left h]

end Cert.KernelIdeal.Moe
-- ==== Proof.Value.lean ====
/-
  The value of the run, over the extended reals: every point keeps the invariant, and the result array ends holding the
  tiles of the result.
-/
module

public import proofs.«01_k».proof.Proof.Tiles
public import proofs.«01_k».proof.Proof.Run
public import Idealize.ShloMosaic.Lib.Pipeline.ArrRel

@[expose] public section

set_option maxRecDepth 16384

noncomputable section

namespace Cert.KernelIdeal.Moe

open Idealize.ShloMosaic Idealize.ShloMosaic.TcCoe Idealize.ShloMosaic.Tactic
open Idealize.SL.Sem
open Cert.KernelIdeal Cert.KernelIdeal.Gen
open Idealize.ShloMosaic.Pipeline (RDat Cfg Window)

variable (m : (ℓ : Loc nD τ sig) → Buf (Elt Ideal) ℓ) (ρ : Dev nD → PrngReg) (c : Dev nD)

theorem at0 (t : Fin (cfgM m).N) : (grid0.coords t 0).val = t.val / 32 % 64 := Pipeline.Grid.coords_val (G := grid0) t 0 (by decide) (by decide)
theorem at1 (t : Fin (cfgM m).N) : (grid0.coords t 1).val = t.val / 4 % 8 := Pipeline.Grid.coords_val (G := grid0) t 1 (by decide) (by decide)
theorem at2 (t : Fin (cfgM m).N) : (grid0.coords t 2).val = t.val / 1 % 4 := Pipeline.Grid.coords_val (G := grid0) t 2 (by decide) (by decide)

/-- The tile and the expert of the point numbered `k`. -/
abbrev tileNo (k : ℕ) : Fin 64 := ⟨k / 32 % 64, by omega⟩
abbrev expertNo (k : ℕ) : Fin 8 := ⟨k / 4 % 8, by omega⟩

/-- What the output holds after the point numbered `k`. -/
def outInv (k : ℕ) (O : S1024x1024.Idx → Elt Ideal .f32) : Prop :=
  (k % 32 = 31 → O = (tileOf m c (tileNo k)).out)
  ∧ (k % 32 ≠ 31 → O = fun j => (tileOf m c (tileNo k)).upto ((k % 32 + 1) / 4) (j 0) (j 1))

/-- What the kernel's own arrays hold before the point numbered `k`. -/
def keptInv (k : ℕ) (xb X : S1024x1024.Idx → Elt Ideal .bf16) (G : S1024x128.Idx → Elt Ideal .f32) (P : S1024x1024.Idx → Elt Ideal .f32) : Prop :=
  k % 32 ≠ 0 → (tileOf m c (tileNo k)).Mid (expertNo k) (k % 4) xb X G P

theorem keeps (h1 : ∀ i : S64x8.Idx, (groups (F := Ideal) (m ((c : Thread nD τ).loc main_arg4)) i).toNat ≤ 16) (hg : ∀ a, (tileOf m c a).Good) :
    Keeps m (outInv m c) (keptInv m c) c := by
  intro t hw S hS hO
  have e0 : grid0.coords t 0 = tileNo t.val := Fin.ext (at0 m t)
  have e1 : grid0.coords t 1 = expertNo t.val := Fin.ext (at1 m t)
  have e2 : (grid0.coords t 2).val = t.val % 4 := by have := at2 m t; omega
  have hwd : word m (grid0.coords t) = nw ((tileOf m c (tileNo t.val)).n (expertNo t.val)) := word_eq_n m c h1 _ _ e0 _ e1
  show outInv m c t.val (step (grid0.coords t) (word m (grid0.coords t)) hw (insAt m c t) S).O
    ∧ keptInv m c (t.val + 1) (step (grid0.coords t) (word m (grid0.coords t)) hw (insAt m c t) S).xb
        (step (grid0.coords t) (word m (grid0.coords t)) hw (insAt m c t) S).X
        (step (grid0.coords t) (word m (grid0.coords t)) hw (insAt m c t) S).G
        (step (grid0.coords t) (word m (grid0.coords t)) hw (insAt m c t) S).P
  revert hw
  rw [hwd]
  intro hw
  have hMid : (tileOf m c (tileNo t.val)).Mid (expertNo t.val) (t.val % 4) S.xb S.X S.G S.P := by
    by_cases h : t.val % 32 = 0
    · exact ⟨fun hn => absurd ⟨by show t.val / 4 % 8 = 0; omega, by omega⟩ hn, fun hn => absurd (by omega) hn, fun hn => absurd (by omega) hn, fun hn => absurd (by omega) hn⟩
    · exact hS h
  have hOut : ¬((expertNo t.val).val = 0 ∧ t.val % 4 = 0) → S.O = fun j => (tileOf m c (tileNo t.val)).upto (expertNo t.val).val (j 0) (j 1) := by
    intro h
    have h32 : t.val % 32 ≠ 0 := fun h' => h ⟨by show t.val / 4 % 8 = 0; omega, by omega⟩
    have ht : tileNo (t.val - 1) = tileNo t.val := Fin.ext (by show (t.val - 1) / 32 % 64 = t.val / 32 % 64; omega)
    have he : ((t.val - 1) % 32 + 1) / 4 = (expertNo t.val).val := by show _ = t.val / 4 % 8; omega
    have := (hO h32).2 (by omega)
    rw [ht, he] at this
    exact this
  obtain ⟨r1, r2, r3, r4⟩ := step_ok (hg (tileNo t.val)) (grid0.coords t) (expertNo t.val) (t.val % 4) (congrArg Fin.val e1) e2 hw (insAt m c t)
    (insAt_eq m c t _ _ e1 e2 _ e0) S hMid hOut _ rfl
  generalize step (grid0.coords t) (nw ((tileOf m c (tileNo t.val)).n (expertNo t.val))) hw (insAt m c t) S = S' at *
  have ev : (expertNo t.val).val = t.val / 4 % 8 := rfl
  refine ⟨⟨fun h => r4 (by omega) (by omega), fun h => ?_⟩, fun h => ?_⟩
  · by_cases h3 : t.val % 4 = 3
    · rw [show (t.val % 32 + 1) / 4 = (expertNo t.val).val + 1 by omega]
      exact r3 h3 (by omega)
    · rw [show (t.val % 32 + 1) / 4 = (expertNo t.val).val by omega]
      exact (r2 h3).1
  · have ht : tileNo (t.val + 1) = tileNo t.val := Fin.ext (by show (t.val + 1) / 32 % 64 = t.val / 32 % 64; omega)
    rw [ht]
    by_cases h3 : t.val % 4 = 3
    · have h4 : (t.val + 1) % 4 = 0 := by omega
      exact ⟨fun _ => r1, fun hn => absurd h4 hn, fun hn => absurd h4 hn, fun hn => absurd h4 hn⟩
    · have he : expertNo (t.val + 1) = expertNo t.val := Fin.ext (by show (t.val + 1) / 4 % 8 = t.val / 4 % 8; omega)
      rw [he, show (t.val + 1) % 4 = t.val % 4 + 1 by omega]
      exact (r2 h3).2

theorem tr9 : ∀ i : grid0.Coords, cc0_transform_9 i = ![(i 0).val, 0] := by decide +kernel

/-- The result: every tile of it. -/
def result : S65536x1024.Idx → EReal := fun i =>
  (tileOf m c ⟨(i 0).val / 1024, by have h : (i 0).val < 65536 := (i 0).isLt; omega⟩).out (ValueIdx.ix2 ⟨(i 0).val % 1024, Nat.mod_lt _ (by decide)⟩ (i 1))

theorem emb9 (t : Fin (cfgM m).N) (y : S1024x1024.Idx) :
    (((cfgM m).win 9).blk t).view.emb y = (ValueIdx.ix2 ⟨t.val / 32 % 64 * 1024 + (y 0).val, by have h : (y 0).val < 1024 := (y 0).isLt; omega⟩ (y 1) : S65536x1024.Idx) := by
  funext a
  refine Fin.cases ?_ (fun a => Fin.cases ?_ (fun a => a.elim0) a) a
  · refine Fin.ext ?_
    show cc0_transform_9 (grid0.coords t) 0 * 1024 + 1 * (y 0).val = t.val / 32 % 64 * 1024 + (y 0).val
    rw [tr9]; show (grid0.coords t 0).val * 1024 + 1 * (y 0).val = _
    rw [at0]; omega
  · refine Fin.ext ?_
    show cc0_transform_9 (grid0.coords t) 1 * 1024 + 1 * (y 1).val = (y 1).val
    rw [tr9]; show 0 * 1024 + 1 * (y 1).val = (y 1).val
    omega

theorem final (r : PUnit × MemSt nD τ sig (Elt Ideal)) (h : RDat.FramePost (cfgM m) (fun c' => rdat m (outInv m c) (keptInv m c) c') (V m) r) :
    r.2.mem ((c.tc : Thread nD τ).loc main_v12) = result m c := by
  obtain ⟨after, hL, hA⟩ := RDat.FramePost.exists_exact h c
  refine (hA 9).trans ?_
  refine Pipeline.Dat.arrAt_eq_of_emb ((rdat m (outInv m c) (keptInv m c) c).withAfter after) (9 : Fin 10) (result m c) (fun t hf y => ?_) (fun (i : S65536x1024.Idx) => ?_)
  · have h31 := (out_flush m t).1 hf
    obtain ⟨Y, hY, hXY⟩ := hL 9 t hf
    have hO : outInv m c t.val (after 9 t) := hXY.2 _ rfl HEq.rfl
    show after 9 t y = _
    rw [hO.1 h31]
    refine Eq.trans ?_ (congrArg (result m c) (emb9 m t y)).symm
    have h0 : (y 0).val < 1024 := (y 0).isLt
    show (tileOf m c (tileNo t.val)).out y = (tileOf m c ⟨(t.val / 32 % 64 * 1024 + (y 0).val) / 1024, _⟩).out (ValueIdx.ix2 ⟨(t.val / 32 % 64 * 1024 + (y 0).val) % 1024, _⟩ (y 1))
    have ea : (⟨(t.val / 32 % 64 * 1024 + (y 0).val) / 1024, by omega⟩ : Fin 64) = tileNo t.val := Fin.ext (by show (t.val / 32 % 64 * 1024 + (y 0).val) / 1024 = t.val / 32 % 64; omega)
    have er : (⟨(t.val / 32 % 64 * 1024 + (y 0).val) % 1024, Nat.mod_lt _ (by decide)⟩ : Fin 1024) = y 0 := Fin.ext (by show (t.val / 32 % 64 * 1024 + (y 0).val) % 1024 = (y 0).val; omega)
    rw [ea, er]
    exact congrArg _ (split2 (M := 1024) (N := 1024) y)
  · have h0 : (i 0).val < 65536 := (i 0).isLt
    have hN : (cfgM m).N = 2048 := by show grid0.N = 2048; decide
    let t : Fin (cfgM m).N := ⟨(i 0).val / 1024 * 32 + 31, by omega⟩
    refine ⟨t, (out_flush m t).2 (by show ((i 0).val / 1024 * 32 + 31) % 32 = 31; omega), ?_⟩
    have e : (((cfgM m).win 9).blk t).view.emb (ValueIdx.ix2 ⟨(i 0).val % 1024, Nat.mod_lt _ (by decide)⟩ (i 1) : S1024x1024.Idx) = i := by
      rw [emb9]
      funext a
      refine Fin.cases ?_ (fun a => Fin.cases ?_ (fun a => a.elim0) a) a
      · refine Fin.ext ?_
        show ((i 0).val / 1024 * 32 + 31) / 32 % 64 * 1024 + (i 0).val % 1024 = (i 0).val
        omega
      · rfl
    rw [← e]
    exact View.emb_mem_set _ _

end Cert.KernelIdeal.Moe
-- ==== Proof.Whole.lean ====
/-
  The kernel's run under the precondition on the routing tables: its result, its arguments and its semaphores.
-/
module

public import proofs.«01_k».proof.Proof.Value

@[expose] public section

set_option maxRecDepth 16384

namespace Cert.KernelIdeal.Moe

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- The run: the result is `result`, the arguments stay, the semaphores end at zero. -/
theorem whole (c : Dev nD) (h : Cert.Pre_routing_tables.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) = fun _ => 1#1) :
    θ_run defs (onTc (τ := τ) (main (F := Ideal))) ⟨m, fun _ => 0, ρ⟩ (fun r => (∀ c : Dev nD,
      r.2.mem ((c.tc : Thread nD τ).loc main_v12) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) := by
  obtain ⟨h1, hg⟩ := good_of_tables m c h
  have hn : ∀ i, (word m i : BitVec 32).toNat ≤ 16 := fun i => by
    obtain rfl : c = 0 := Subsingleton.elim _ _
    rw [word_eq_groups]
    exact h1 _
  refine (θ_run defs _ _).mono (fun r hr => ⟨fun c' => ?_, hr.2⟩)
    (run m ρ (outInv m c) (keptInv m c) (fun _ _ _ _ hk => absurd rfl hk) (fun c' => ?_) hn)
  · obtain rfl : c' = c := Subsingleton.elim _ _
    exact ⟨final m c' r hr.1, args_of m _ _ r hr.1 c'⟩
  · obtain rfl : c' = c := Subsingleton.elim _ _
    exact keeps m c' h1 hg

end Cert.KernelIdeal.Moe
-- ==== Proof.Ref.lean ====
/-
  The reference read at a token and a coordinate: the layer norm of the residual plus the sum, over the experts and their
  hidden columns, of the gated product times the down projection.
-/
module

public import proofs.«01_k».proof.Proof.Gen.ReferenceIdeal.Run
public import Idealize.ShloMosaic.Lib.ValueIdx
public import Idealize.ShloMosaic.Lib.Pointwise

@[expose] public section

set_option maxRecDepth 16384

noncomputable section

namespace Cert.ReferenceIdeal.Moe

open Idealize.ShloMosaic Idealize.ShloMosaic.TcCoe Idealize.ShloMosaic.Tactic
open Cert.ReferenceIdeal Cert.ReferenceIdeal.Gen

/-- Every token times every expert's input weights. -/
def inner (x : FVec Ideal S65536x1024 .f32) (w : FVec Ideal S8x1024x7168 .f32) : FVec Ideal S65536x8x7168 .f32 :=
  Host.dotGeneral dot_S65536x1024_S8x1024x7168_S65536x8x7168_1_1_0_02_n_n none x w

/-- The hidden columns: the gate's half, its logistic, the other half, and the expert's weight for the token. -/
def act (x : FVec Ideal S65536x1024 .f32) (cw : FVec Ideal S65536x128 .f32) (w : FVec Ideal S8x1024x7168 .f32) : FVec Ideal S65536x8x3584 .f32 :=
  (mulf (mulf (mulf (extractStridedSlice S65536x8x3584 ![0, 0, 0] (inner x w) slices_S65536x8x7168_S65536x8x3584_0_0_0) (Host.divf (broadcastInDim S65536x8x3584 ![] bcast_S_S65536x8x3584 (constant S_ .f32 0x3F800000#32)) (addf (broadcastInDim S65536x8x3584 ![] bcast_S_S65536x8x3584 (constant S_ .f32 0x3F800000#32)) (Host.exp (Host.negf (extractStridedSlice S65536x8x3584 ![0, 0, 0] (inner x w) slices_S65536x8x7168_S65536x8x3584_0_0_0)))))) (extractStridedSlice S65536x8x3584 ![0, 0, 3584] (inner x w) slices_S65536x8x7168_S65536x8x3584_0_0_3584)) (broadcastInDim S65536x8x3584 ![0, 1, 2] bcast_S65536x8x1_S65536x8x3584_0_1_2 (broadcastInDim S65536x8x1 ![0, 1] bcast_S65536x8_S65536x8x1_0_1 (extractStridedSlice S65536x8 ![0, 0] cw slices_S65536x128_S65536x8_0_0))))

/-- The experts' weighted sum. -/
def mixed (x : FVec Ideal S65536x1024 .f32) (cw : FVec Ideal S65536x128 .f32) (w : FVec Ideal S8x1024x7168 .f32) (wd : FVec Ideal S8x3584x1024 .f32) : FVec Ideal S65536x1024 .f32 :=
  Host.dotGeneral dot_S65536x8x3584_S8x3584x1024_S65536x1024_12_01_0_2_n_n none (act x cw w) wd

/-- The residual. -/
def resid (x f : FVec Ideal S65536x1024 .f32) : FVec Ideal S65536x1024 .f32 :=
  addf (mulf (broadcastInDim S65536x1024 ![] bcast_S_S65536x1024 (constant S_ .f32 0x3FD744FD#32)) x) f

/-- An array less its rows' means. -/
def centred (y : FVec Ideal S65536x1024 .f32) : FVec Ideal S65536x1024 .f32 :=
  subf y (broadcastInDim S65536x1024 ![0, 1] bcast_S65536x1_S65536x1024_0_1 (Host.divf (broadcastInDim S65536x1 ![0] bcast_S65536_S65536x1_0 (Host.reduceAdd y (constant S_ .f32 0x00000000#32) reducesTo_S65536x1024_S65536_d1 h_S_)) (broadcastInDim S65536x1 ![] bcast_S_S65536x1 (constant S_ .f32 0x44800000#32))))

/-- The layer norm. -/
def normed (y : FVec Ideal S65536x1024 .f32) (g b : FVec Ideal S1024 .f32) : FVec Ideal S65536x1024 .f32 :=
  addf (mulf (mulf (centred y) (broadcastInDim S65536x1024 ![0, 1] bcast_S65536x1_S65536x1024_0_1 (Host.rsqrt (addf (Host.divf (broadcastInDim S65536x1 ![0] bcast_S65536_S65536x1_0 (Host.reduceAdd (mulf (centred y) (centred y)) (constant S_ .f32 0x00000000#32) reducesTo_S65536x1024_S65536_d1 h_S_)) (broadcastInDim S65536x1 ![] bcast_S_S65536x1 (constant S_ .f32 0x44800000#32))) (broadcastInDim S65536x1 ![] bcast_S_S65536x1 (constant S_ .f32 0x3727C5AC#32)))))) (broadcastInDim S65536x1024 ![0, 1] bcast_S1x1024_S65536x1024_0_1 (broadcastInDim S1x1024 ![1] bcast_S1024_S1x1024_1 g))) (broadcastInDim S65536x1024 ![0, 1] bcast_S1x1024_S65536x1024_0_1 (broadcastInDim S1x1024 ![1] bcast_S1024_S1x1024_1 b))

theorem res_eq (m : (ℓ : Loc nD τ sig) → Buf (Elt Ideal) ℓ) (c : Dev nD) :
    Value.res_main_v36 m c = normed (resid (m ((c.tc : Thread nD τ).loc main_arg0))
      (mixed (m ((c.tc : Thread nD τ).loc main_arg0)) (m ((c.tc : Thread nD τ).loc main_arg1)) (m ((c.tc : Thread nD τ).loc main_arg5)) (m ((c.tc : Thread nD τ).loc main_arg6))))
      (m ((c.tc : Thread nD τ).loc main_arg7)) (m ((c.tc : Thread nD τ).loc main_arg8)) := rfl

theorem inner_at (x : FVec Ideal S65536x1024 .f32) (w : FVec Ideal S8x1024x7168 .f32) (s : Fin 65536) (e : Fin 8) (f : Fin 7168) :
    inner x w (ValueIdx.ix3 s e f) = ∑ y : Fin 1024, x (ValueIdx.ix2 s y) * w (ValueIdx.ix3 e y f) := by
  unfold inner
  pointwise
  rfl

theorem act_at (x : FVec Ideal S65536x1024 .f32) (cw : FVec Ideal S65536x128 .f32) (w : FVec Ideal S8x1024x7168 .f32) (s : Fin 65536) (e : Fin 8) (f : Fin 3584) :
    act x cw w (ValueIdx.ix3 s e f)
      = inner x w (ValueIdx.ix3 s e ⟨f.val, by omega⟩) * Ideal.logistic (inner x w (ValueIdx.ix3 s e ⟨f.val, by omega⟩))
        * inner x w (ValueIdx.ix3 s e ⟨3584 + f.val, by omega⟩) * cw (ValueIdx.ix2 s ⟨e.val, by omega⟩) := by
  unfold act
  pointwise
  rfl

theorem mixed_at (x : FVec Ideal S65536x1024 .f32) (cw : FVec Ideal S65536x128 .f32) (w : FVec Ideal S8x1024x7168 .f32) (wd : FVec Ideal S8x3584x1024 .f32) (s : Fin 65536) (d : Fin 1024) :
    mixed x cw w wd (ValueIdx.ix2 s d) = ∑ e : Fin 8, ∑ f : Fin 3584, act x cw w (ValueIdx.ix3 s e f) * wd (ValueIdx.ix3 e f d) := by
  unfold mixed
  pointwise
  rfl

/-- A row's layer norm, at one coordinate. -/
def lnRow (y g b : Fin 1024 → EReal) (d : Fin 1024) : EReal :=
  (y d - Ideal.div (∑ k, y k) (Ideal.ofBits FTy.f32 1149239296#32))
    * Ideal.rsqrt (Ideal.div (∑ k, (y k - Ideal.div (∑ k, y k) (Ideal.ofBits FTy.f32 1149239296#32)) * (y k - Ideal.div (∑ k, y k) (Ideal.ofBits FTy.f32 1149239296#32)))
        (Ideal.ofBits FTy.f32 1149239296#32) + Ideal.ofBits FTy.f32 925353388#32) * g d + b d

theorem centred_at (y : FVec Ideal S65536x1024 .f32) (s : Fin 65536) (d : Fin 1024) :
    centred y (ValueIdx.ix2 s d) = y (ValueIdx.ix2 s d) - Ideal.div (∑ k, y (ValueIdx.ix2 s k)) (Ideal.ofBits FTy.f32 1149239296#32) := by
  unfold centred
  pointwise
  rfl

theorem normed_at (y : FVec Ideal S65536x1024 .f32) (g b : FVec Ideal S1024 .f32) (s : Fin 65536) (d : Fin 1024) :
    normed y g b (ValueIdx.ix2 s d) = lnRow (fun k => y (ValueIdx.ix2 s k)) (fun k => g (ValueIdx.ix1 k)) (fun k => b (ValueIdx.ix1 k)) d := by
  unfold lnRow
  simp only [← centred_at]
  unfold normed
  pointwise
  rfl

theorem resid_at (x f : FVec Ideal S65536x1024 .f32) (s : Fin 65536) (d : Fin 1024) :
    resid x f (ValueIdx.ix2 s d) = Ideal.ofBits FTy.f32 1071072509#32 * x (ValueIdx.ix2 s d) + f (ValueIdx.ix2 s d) := by
  unfold resid
  pointwise

/-- The reference's result at a token and a coordinate. -/
theorem result_at (m : (ℓ : Loc nD τ sig) → Buf (Elt Ideal) ℓ) (c : Dev nD) (s : Fin 65536) (d : Fin 1024) :
    Value.res_main_v36 m c (ValueIdx.ix2 s d)
      = lnRow (fun k => Ideal.ofBits FTy.f32 1071072509#32 * m ((c.tc : Thread nD τ).loc main_arg0) (ValueIdx.ix2 s k)
          + ∑ e : Fin 8, ∑ f : Fin 3584, act (m ((c.tc : Thread nD τ).loc main_arg0)) (m ((c.tc : Thread nD τ).loc main_arg1)) (m ((c.tc : Thread nD τ).loc main_arg5)) (ValueIdx.ix3 s e f)
              * m ((c.tc : Thread nD τ).loc main_arg6) (ValueIdx.ix3 e f k))
        (fun k => m ((c.tc : Thread nD τ).loc main_arg7) (ValueIdx.ix1 k)) (fun k => m ((c.tc : Thread nD τ).loc main_arg8) (ValueIdx.ix1 k)) d := by
  rw [res_eq, normed_at]
  simp only [resid_at, mixed_at]

end Cert.ReferenceIdeal.Moe
-- ==== Proof.Answer.lean ====
/-
  The kernel's result is the reference's: the sum over the experts, column block by column block, is the sum over the
  experts and all their columns, and both ends take the same layer norm.
-/
module

public import proofs.«01_k».proof.Proof.Tiles
public import proofs.«01_k».proof.Proof.Ref

@[expose] public section

set_option maxRecDepth 16384

noncomputable section

namespace Cert.KernelIdeal.Moe

open Idealize.ShloMosaic Idealize.ShloMosaic.TcCoe Idealize.ShloMosaic.Tactic
open Cert.KernelIdeal Cert.KernelIdeal.Gen
open Cert.ReferenceIdeal.Moe (lnRow act act_at inner inner_at)

theorem pay6_at (x O : Vec Ideal S1024x1024 .f32) (g b : Vec Ideal S1x1024 .f32) (t d : Fin 1024) :
    k0_pay6 x O g b (ValueIdx.ix2 t d)
      = lnRow (fun k => Ideal.ofBits FTy.f32 1071072509#32 * x (ValueIdx.ix2 t k) + O (ValueIdx.ix2 t k))
        (fun k => g (ValueIdx.ix2 0 k)) (fun k => b (ValueIdx.ix2 0 k)) d := by
  unfold lnRow
  unfold_payloads
  pointwise
  rfl

/-- A sum over 3584 columns, block by block. -/
theorem sum_blocks (f : Fin 3584 → EReal) : ∑ k, f k = ∑ a : Fin 4, ∑ x : Fin 896, f ⟨a.val * 896 + x.val, by omega⟩ := by
  rw [← Fintype.sum_prod_type']
  refine (Fintype.sum_equiv (finProdFinEquiv (m := 4) (n := 896)) _ _ fun p => congrArg f (Fin.ext ?_)).symm
  show p.1.val * 896 + p.2.val = p.2.val + 896 * p.1.val
  omega

variable (m : (ℓ : Loc nD τ sig) → Buf (Elt Ideal) ℓ) (c : Dev nD)

/-- The tile's sum over the experts is the reference's. -/
theorem upto_all (a : Fin 64) (t d : Fin 1024) :
    (tileOf m c a).upto 8 t d
      = ∑ e : Fin 8, ∑ f : Fin 3584, act (m ((c : Thread nD τ).loc main_arg0)) (m ((c : Thread nD τ).loc main_arg1)) (m ((c : Thread nD τ).loc main_arg5)) (ValueIdx.ix3 (tok a t) e f)
          * m ((c : Thread nD τ).loc main_arg6) (ValueIdx.ix3 e f d) := by
  unfold Tile.upto
  rw [Finset.sum_range]
  refine Finset.sum_congr rfl fun e _ => ?_
  rw [dif_pos e.isLt, sum_blocks]
  unfold Tile.partsTo
  rw [Finset.sum_range]
  refine Finset.sum_congr rfl fun f _ => ?_
  unfold Tile.part
  refine Finset.sum_congr rfl fun x _ => ?_
  rw [act_at, inner_at, inner_at]
  have hg : Fin.ofNat 7168 (f.val * 896 + x.val) = ⟨f.val * 896 + x.val, by omega⟩ := Fin.ext (Nat.mod_eq_of_lt (by omega))
  have hu : Fin.ofNat 7168 ((f.val + 4) * 896 + x.val) = ⟨3584 + (f.val * 896 + x.val), by omega⟩ :=
    Fin.ext ((Nat.mod_eq_of_lt (by omega)).trans (by show (f.val + 4) * 896 + x.val = 3584 + (f.val * 896 + x.val); omega))
  have hd : Fin.ofNat 3584 (f.val * 896 + x.val) = ⟨f.val * 896 + x.val, by omega⟩ := Fin.ext (Nat.mod_eq_of_lt (by omega))
  rw [← hg, ← hu, ← hd]
  rfl

/-- A tile of the result, at a token and a coordinate. -/
theorem out_at (a : Fin 64) (t d : Fin 1024) :
    (tileOf m c a).out (ValueIdx.ix2 t d)
      = lnRow (fun k => Ideal.ofBits FTy.f32 1071072509#32 * m ((c : Thread nD τ).loc main_arg0) (ValueIdx.ix2 (tok a t) k)
          + ∑ e : Fin 8, ∑ f : Fin 3584, act (m ((c : Thread nD τ).loc main_arg0)) (m ((c : Thread nD τ).loc main_arg1)) (m ((c : Thread nD τ).loc main_arg5)) (ValueIdx.ix3 (tok a t) e f)
              * m ((c : Thread nD τ).loc main_arg6) (ValueIdx.ix3 e f k))
        (fun k => m ((c : Thread nD τ).loc main_arg7) (ValueIdx.ix1 k)) (fun k => m ((c : Thread nD τ).loc main_arg8) (ValueIdx.ix1 k)) d := by
  simp only [← upto_all]
  exact pay6_at _ _ _ _ t d

end Cert.KernelIdeal.Moe
-- ==== Proof.SameBody.lean ====
/-
  The kernel's body as printed and as printed for reading over the reals is one program: no operation was rewritten, so
  with every definition opened the two texts are the same.
-/
module

public import proofs.«01_k».proof.Proof.Gen.Kernel
public import proofs.«01_k».proof.Proof.Gen.KernelIdeal

@[expose] public section

set_option maxRecDepth 16384

namespace Cert.KernelIdeal.Moe

open Idealize.ShloMosaic Idealize.SL.Sem

variable {F : FTy → Type} [FloatOps F]

set_option maxHeartbeats 16000000 in
theorem body_same : Kernel.cc0_moe_ln (F := F) = KernelIdeal.cc0_moe_ln (F := F) := by
  repeat delta
            Kernel.S65536x1024 KernelIdeal.S65536x1024 Kernel.S65536x128 KernelIdeal.S65536x128 Kernel.S64x8x1024 KernelIdeal.S64x8x1024 Kernel.S512x128
            KernelIdeal.S512x128 Kernel.S8x1024x7168 KernelIdeal.S8x1024x7168 Kernel.S8x3584x1024 KernelIdeal.S8x3584x1024 Kernel.S1024
            KernelIdeal.S1024 Kernel.S64x8x128 KernelIdeal.S64x8x128 Kernel.S64x1x8 KernelIdeal.S64x1x8 Kernel.S64x8 KernelIdeal.S64x8 Kernel.S_
            KernelIdeal.S_ Kernel.S512 KernelIdeal.S512 Kernel.S1x1024 KernelIdeal.S1x1024 Kernel.S1024x1024 KernelIdeal.S1024x1024 Kernel.S1024x128
            KernelIdeal.S1024x128 Kernel.S1x8x1024 KernelIdeal.S1x8x1024 Kernel.S1x1024x896 KernelIdeal.S1x1024x896 Kernel.S1x896x1024
            KernelIdeal.S1x896x1024 Kernel.S1 KernelIdeal.S1 Kernel.S1x128 KernelIdeal.S1x128 Kernel.S1x1x1024 KernelIdeal.S1x1x1024 Kernel.S256x1024
            KernelIdeal.S256x1024 Kernel.S256x128 KernelIdeal.S256x128 Kernel.S256 KernelIdeal.S256 Kernel.S256x1 KernelIdeal.S256x1 Kernel.S128x1024
            KernelIdeal.S128x1024 Kernel.S128x128 KernelIdeal.S128x128 Kernel.S128 KernelIdeal.S128 Kernel.S128x1 KernelIdeal.S128x1 Kernel.S64x1024
            KernelIdeal.S64x1024 Kernel.S64x128 KernelIdeal.S64x128 Kernel.S64 KernelIdeal.S64 Kernel.S64x1 KernelIdeal.S64x1 Kernel.S1024x896
            KernelIdeal.S1024x896 Kernel.S256x896 KernelIdeal.S256x896 Kernel.S896x1024 KernelIdeal.S896x1024 Kernel.S128x896 KernelIdeal.S128x896
            Kernel.S64x896 KernelIdeal.S64x896 Kernel.S1024x1 KernelIdeal.S1024x1 Kernel.S1024x256 KernelIdeal.S1024x256 Kernel.S1024x64
            KernelIdeal.S1024x64 Kernel.nBuf KernelIdeal.nBuf Kernel.bufTy KernelIdeal.bufTy Kernel.bufScoped KernelIdeal.bufScoped Kernel.semScoped
            KernelIdeal.semScoped Kernel.dmaSemScoped KernelIdeal.dmaSemScoped Kernel.sig KernelIdeal.sig Kernel.main_arg0 KernelIdeal.main_arg0
            Kernel.main_arg1 KernelIdeal.main_arg1 Kernel.main_arg2 KernelIdeal.main_arg2 Kernel.main_arg3 KernelIdeal.main_arg3 Kernel.main_arg4
            KernelIdeal.main_arg4 Kernel.main_arg5 KernelIdeal.main_arg5 Kernel.main_arg6 KernelIdeal.main_arg6 Kernel.main_arg7 KernelIdeal.main_arg7
            Kernel.main_arg8 KernelIdeal.main_arg8 Kernel.main_v0 KernelIdeal.main_v0 Kernel.main_v1 KernelIdeal.main_v1 Kernel.main_v2
            KernelIdeal.main_v2 Kernel.main_v3 KernelIdeal.main_v3 Kernel.main_v4 KernelIdeal.main_v4 Kernel.main_cst KernelIdeal.main_cst
            Kernel.main_v5 KernelIdeal.main_v5 Kernel.main_v6 KernelIdeal.main_v6 Kernel.main_v7 KernelIdeal.main_v7 Kernel.main_v8 KernelIdeal.main_v8
            Kernel.main_v10 KernelIdeal.main_v10 Kernel.main_v11 KernelIdeal.main_v11 Kernel.main_v12 KernelIdeal.main_v12 Kernel.main_v9
            KernelIdeal.main_v9 Kernel.cc0_stg0_0 KernelIdeal.cc0_stg0_0 Kernel.cc0_stg0_1 KernelIdeal.cc0_stg0_1 Kernel.cc0_stg1_0
            KernelIdeal.cc0_stg1_0 Kernel.cc0_stg1_1 KernelIdeal.cc0_stg1_1 Kernel.cc0_stg2_0 KernelIdeal.cc0_stg2_0 Kernel.cc0_stg2_1
            KernelIdeal.cc0_stg2_1 Kernel.cc0_stg3_0 KernelIdeal.cc0_stg3_0 Kernel.cc0_stg3_1 KernelIdeal.cc0_stg3_1 Kernel.cc0_stg4_0
            KernelIdeal.cc0_stg4_0 Kernel.cc0_stg4_1 KernelIdeal.cc0_stg4_1 Kernel.cc0_stg5_0 KernelIdeal.cc0_stg5_0 Kernel.cc0_stg5_1
            KernelIdeal.cc0_stg5_1 Kernel.cc0_stg6_0 KernelIdeal.cc0_stg6_0 Kernel.cc0_stg6_1 KernelIdeal.cc0_stg6_1 Kernel.cc0_stg7_0
            KernelIdeal.cc0_stg7_0 Kernel.cc0_stg8_0 KernelIdeal.cc0_stg8_0 Kernel.cc0_stg9_0 KernelIdeal.cc0_stg9_0 Kernel.cc0_stg9_1
            KernelIdeal.cc0_stg9_1 Kernel.cc0_scratch0 KernelIdeal.cc0_scratch0 Kernel.cc0_scratch1 KernelIdeal.cc0_scratch1 Kernel.cc0_scratch2
            KernelIdeal.cc0_scratch2 Kernel.cc0_scratch3 KernelIdeal.cc0_scratch3 Kernel.cc0_sem0_0 KernelIdeal.cc0_sem0_0 Kernel.cc0_sem0_1
            KernelIdeal.cc0_sem0_1 Kernel.cc0_sem1_0 KernelIdeal.cc0_sem1_0 Kernel.cc0_sem1_1 KernelIdeal.cc0_sem1_1 Kernel.cc0_sem2_0
            KernelIdeal.cc0_sem2_0 Kernel.cc0_sem2_1 KernelIdeal.cc0_sem2_1 Kernel.cc0_sem3_0 KernelIdeal.cc0_sem3_0 Kernel.cc0_sem3_1
            KernelIdeal.cc0_sem3_1 Kernel.cc0_sem4_0 KernelIdeal.cc0_sem4_0 Kernel.cc0_sem4_1 KernelIdeal.cc0_sem4_1 Kernel.cc0_sem5_0
            KernelIdeal.cc0_sem5_0 Kernel.cc0_sem5_1 KernelIdeal.cc0_sem5_1 Kernel.cc0_sem6_0 KernelIdeal.cc0_sem6_0 Kernel.cc0_sem6_1
            KernelIdeal.cc0_sem6_1 Kernel.cc0_sem7_0 KernelIdeal.cc0_sem7_0 Kernel.cc0_sem8_0 KernelIdeal.cc0_sem8_0 Kernel.cc0_sem9_0
            KernelIdeal.cc0_sem9_0 Kernel.cc0_sem9_1 KernelIdeal.cc0_sem9_1 Kernel.nD KernelIdeal.nD Kernel.τ KernelIdeal.τ Kernel.grid0
            KernelIdeal.grid0 Kernel.pre0 KernelIdeal.pre0 Kernel.k0_off1 KernelIdeal.k0_off1 Kernel.k0_cond2 KernelIdeal.k0_cond2 Kernel.k0_off2
            KernelIdeal.k0_off2 Kernel.k0_mult1 KernelIdeal.k0_mult1 Kernel.k0_off3 KernelIdeal.k0_off3 Kernel.k0_off4 KernelIdeal.k0_off4
            Kernel.k0_mult2 KernelIdeal.k0_mult2 Kernel.k0_off5 KernelIdeal.k0_off5 Kernel.k0_off6 KernelIdeal.k0_off6 Kernel.k0_mult3
            KernelIdeal.k0_mult3 Kernel.k0_cond3 KernelIdeal.k0_cond3 Kernel.k0_off7 KernelIdeal.k0_off7 Kernel.k0_off8 KernelIdeal.k0_off8
            Kernel.k0_mult4 KernelIdeal.k0_mult4 Kernel.k0_cond4 KernelIdeal.k0_cond4 Kernel.k0_off9 KernelIdeal.k0_off9 Kernel.k0_off10
            KernelIdeal.k0_off10 Kernel.k0_mult5 KernelIdeal.k0_mult5 Kernel.k0_off11 KernelIdeal.k0_off11 Kernel.k0_off12 KernelIdeal.k0_off12
            Kernel.k0_cond5 KernelIdeal.k0_cond5 Kernel.k0_off13 KernelIdeal.k0_off13 Kernel.k0_cond6 KernelIdeal.k0_cond6 Kernel.k0_off14
            KernelIdeal.k0_off14 Kernel.k0_mult6 KernelIdeal.k0_mult6 Kernel.k0_off15 KernelIdeal.k0_off15 Kernel.k0_off16 KernelIdeal.k0_off16
            Kernel.k0_cond7 KernelIdeal.k0_cond7 Kernel.k0_off17 KernelIdeal.k0_off17 Kernel.k0_cond8 KernelIdeal.k0_cond8 Kernel.k0_off18
            KernelIdeal.k0_off18 Kernel.k0_mult7 KernelIdeal.k0_mult7 Kernel.k0_cond9 KernelIdeal.k0_cond9 Kernel.k0_off19 KernelIdeal.k0_off19
            Kernel.k0_off20 KernelIdeal.k0_off20 Kernel.k0_cond10 KernelIdeal.k0_cond10 Kernel.k0_off21 KernelIdeal.k0_off21 Kernel.k0_cond11
            KernelIdeal.k0_cond11 Kernel.k0_off22 KernelIdeal.k0_off22 Kernel.k0_mult8 KernelIdeal.k0_mult8 Kernel.k0_cond12 KernelIdeal.k0_cond12
            Kernel.k0_off23 KernelIdeal.k0_off23 Kernel.k0_off24 KernelIdeal.k0_off24 Kernel.k0_cond13 KernelIdeal.k0_cond13 Kernel.k0_off25
            KernelIdeal.k0_off25 Kernel.k0_cond14 KernelIdeal.k0_cond14 Kernel.k0_off26 KernelIdeal.k0_off26 Kernel.k0_cond15 KernelIdeal.k0_cond15
            Kernel.k0_mult9 KernelIdeal.k0_mult9 Kernel.k0_off27 KernelIdeal.k0_off27 Kernel.k0_mult10 KernelIdeal.k0_mult10 Kernel.k0_off28
            KernelIdeal.k0_off28 Kernel.k0_mult11 KernelIdeal.k0_mult11 Kernel.k0_cond16 KernelIdeal.k0_cond16 Kernel.k0_off29 KernelIdeal.k0_off29
            Kernel.k0_mult12 KernelIdeal.k0_mult12 Kernel.k0_cond17 KernelIdeal.k0_cond17 Kernel.k0_off30 KernelIdeal.k0_off30 Kernel.k0_chk1_0
            KernelIdeal.k0_chk1_0 Kernel.k0_chk1_1 KernelIdeal.k0_chk1_1 Kernel.k0_chk1 KernelIdeal.k0_chk1 Kernel.k0_cond1 KernelIdeal.k0_cond1
            Kernel.k0_cond18 KernelIdeal.k0_cond18 Kernel.cc0_transform_0 KernelIdeal.cc0_transform_0 Kernel.cc0_transform_1 KernelIdeal.cc0_transform_1
            Kernel.cc0_transform_2 KernelIdeal.cc0_transform_2 Kernel.cc0_transform_3 KernelIdeal.cc0_transform_3 Kernel.cc0_transform_4
            KernelIdeal.cc0_transform_4 Kernel.cc0_transform_5 KernelIdeal.cc0_transform_5 Kernel.cc0_transform_6 KernelIdeal.cc0_transform_6
            Kernel.cc0_transform_7 KernelIdeal.cc0_transform_7 Kernel.cc0_transform_8 KernelIdeal.cc0_transform_8 Kernel.cc0_transform_9
            KernelIdeal.cc0_transform_9 Kernel.stage0_0 KernelIdeal.stage0_0 Kernel.sem0_0 KernelIdeal.sem0_0 Kernel.reads0_0 KernelIdeal.reads0_0
            Kernel.stage0_1 KernelIdeal.stage0_1 Kernel.sem0_1 KernelIdeal.sem0_1 Kernel.reads0_1 KernelIdeal.reads0_1 Kernel.stage0_2
            KernelIdeal.stage0_2 Kernel.sem0_2 KernelIdeal.sem0_2 Kernel.reads0_2 KernelIdeal.reads0_2 Kernel.stage0_3 KernelIdeal.stage0_3
            Kernel.sem0_3 KernelIdeal.sem0_3 Kernel.reads0_3 KernelIdeal.reads0_3 Kernel.stage0_4 KernelIdeal.stage0_4 Kernel.sem0_4 KernelIdeal.sem0_4
            Kernel.reads0_4 KernelIdeal.reads0_4 Kernel.stage0_5 KernelIdeal.stage0_5 Kernel.sem0_5 KernelIdeal.sem0_5 Kernel.reads0_5
            KernelIdeal.reads0_5 Kernel.stage0_6 KernelIdeal.stage0_6 Kernel.sem0_6 KernelIdeal.sem0_6 Kernel.reads0_6 KernelIdeal.reads0_6
            Kernel.stage0_7 KernelIdeal.stage0_7 Kernel.sem0_7 KernelIdeal.sem0_7 Kernel.reads0_7 KernelIdeal.reads0_7 Kernel.stage0_8
            KernelIdeal.stage0_8 Kernel.sem0_8 KernelIdeal.sem0_8 Kernel.reads0_8 KernelIdeal.reads0_8 Kernel.stage0_9 KernelIdeal.stage0_9
            Kernel.sem0_9 KernelIdeal.sem0_9 Kernel.reads0_9 KernelIdeal.reads0_9 Kernel.dot_S256x1024_S1024x1024_S256x1024_1_0_0_1_n_n
            KernelIdeal.dot_S256x1024_S1024x1024_S256x1024_1_0_0_1_n_n Kernel.dot_S256x1024_S1024x128_S256x128_1_0_0_1_n_n
            KernelIdeal.dot_S256x1024_S1024x128_S256x128_1_0_0_1_n_n Kernel.dot_S128x1024_S1024x1024_S128x1024_1_0_0_1_n_n
            KernelIdeal.dot_S128x1024_S1024x1024_S128x1024_1_0_0_1_n_n Kernel.dot_S128x1024_S1024x128_S128x128_1_0_0_1_n_n
            KernelIdeal.dot_S128x1024_S1024x128_S128x128_1_0_0_1_n_n Kernel.dot_S64x1024_S1024x1024_S64x1024_1_0_0_1_n_n
            KernelIdeal.dot_S64x1024_S1024x1024_S64x1024_1_0_0_1_n_n Kernel.dot_S64x1024_S1024x128_S64x128_1_0_0_1_n_n
            KernelIdeal.dot_S64x1024_S1024x128_S64x128_1_0_0_1_n_n Kernel.dot_S256x1024_S1024x896_S256x896_1_0_0_1_n_n
            KernelIdeal.dot_S256x1024_S1024x896_S256x896_1_0_0_1_n_n Kernel.dot_S256x896_S896x1024_S256x1024_1_0_0_1_n_n
            KernelIdeal.dot_S256x896_S896x1024_S256x1024_1_0_0_1_n_n Kernel.dot_S128x1024_S1024x896_S128x896_1_0_0_1_n_n
            KernelIdeal.dot_S128x1024_S1024x896_S128x896_1_0_0_1_n_n Kernel.dot_S128x896_S896x1024_S128x1024_1_0_0_1_n_n
            KernelIdeal.dot_S128x896_S896x1024_S128x1024_1_0_0_1_n_n Kernel.dot_S64x1024_S1024x896_S64x896_1_0_0_1_n_n
            KernelIdeal.dot_S64x1024_S1024x896_S64x896_1_0_0_1_n_n Kernel.dot_S64x896_S896x1024_S64x1024_1_0_0_1_n_n
            KernelIdeal.dot_S64x896_S896x1024_S64x1024_1_0_0_1_n_n Kernel.dot_S1024x256_S256x1024_S1024x1024_1_0_0_1_n_n
            KernelIdeal.dot_S1024x256_S256x1024_S1024x1024_1_0_0_1_n_n Kernel.dot_S1024x128_S128x1024_S1024x1024_1_0_0_1_n_n
            KernelIdeal.dot_S1024x128_S128x1024_S1024x1024_1_0_0_1_n_n Kernel.dot_S1024x64_S64x1024_S1024x1024_1_0_0_1_n_n
            KernelIdeal.dot_S1024x64_S64x1024_S1024x1024_1_0_0_1_n_n Kernel.spec0_0 KernelIdeal.spec0_0 Kernel.spec0_1 KernelIdeal.spec0_1
            Kernel.spec0_2 KernelIdeal.spec0_2 Kernel.spec0_3 KernelIdeal.spec0_3 Kernel.spec0_4 KernelIdeal.spec0_4 Kernel.spec0_5 KernelIdeal.spec0_5
            Kernel.spec0_6 KernelIdeal.spec0_6 Kernel.spec0_7 KernelIdeal.spec0_7 Kernel.spec0_8 KernelIdeal.spec0_8 Kernel.spec0_9 KernelIdeal.spec0_9
            Kernel.spec0 KernelIdeal.spec0 Kernel.ix0 KernelIdeal.ix0 Kernel.ok0 KernelIdeal.ok0 Kernel.idle0 KernelIdeal.idle0 Kernel.Λ₀ KernelIdeal.Λ₀
            Kernel.k0_part1 KernelIdeal.k0_part1 Kernel.cc0_moe_ln KernelIdeal.cc0_moe_ln Kernel.defs₀ KernelIdeal.defs₀ Kernel.pcfg0 KernelIdeal.pcfg0
            Kernel.cfg0 KernelIdeal.cfg0 Kernel.win0 KernelIdeal.win0 Kernel.pcfgs KernelIdeal.pcfgs Kernel.defs KernelIdeal.defs Kernel.main
            KernelIdeal.main
  rfl

end Cert.KernelIdeal.Moe
-- ==== Proof.SameMain.lean ====
/-
  The host program around the kernel as printed and as printed for reading over the reals is one program.
-/
module

public import proofs.«01_k».proof.Proof.Gen.Kernel
public import proofs.«01_k».proof.Proof.Gen.KernelIdeal

@[expose] public section

set_option maxRecDepth 16384

namespace Cert.KernelIdeal.Moe

open Idealize.ShloMosaic Idealize.SL.Sem

variable {F : FTy → Type} [FloatOps F]

set_option maxHeartbeats 16000000 in
theorem main_same : Kernel.main (F := F) = KernelIdeal.main (F := F) := by
  repeat delta
            Kernel.S65536x1024 KernelIdeal.S65536x1024 Kernel.S65536x128 KernelIdeal.S65536x128 Kernel.S64x8x1024 KernelIdeal.S64x8x1024 Kernel.S512x128
            KernelIdeal.S512x128 Kernel.S8x1024x7168 KernelIdeal.S8x1024x7168 Kernel.S8x3584x1024 KernelIdeal.S8x3584x1024 Kernel.S1024
            KernelIdeal.S1024 Kernel.S64x8x128 KernelIdeal.S64x8x128 Kernel.S64x1x8 KernelIdeal.S64x1x8 Kernel.S64x8 KernelIdeal.S64x8 Kernel.S_
            KernelIdeal.S_ Kernel.S512 KernelIdeal.S512 Kernel.S1x1024 KernelIdeal.S1x1024 Kernel.S1024x1024 KernelIdeal.S1024x1024 Kernel.S1024x128
            KernelIdeal.S1024x128 Kernel.S1x8x1024 KernelIdeal.S1x8x1024 Kernel.S1x1024x896 KernelIdeal.S1x1024x896 Kernel.S1x896x1024
            KernelIdeal.S1x896x1024 Kernel.S1 KernelIdeal.S1 Kernel.S1x128 KernelIdeal.S1x128 Kernel.S1x1x1024 KernelIdeal.S1x1x1024 Kernel.S256x1024
            KernelIdeal.S256x1024 Kernel.S256x128 KernelIdeal.S256x128 Kernel.S256 KernelIdeal.S256 Kernel.S256x1 KernelIdeal.S256x1 Kernel.S128x1024
            KernelIdeal.S128x1024 Kernel.S128x128 KernelIdeal.S128x128 Kernel.S128 KernelIdeal.S128 Kernel.S128x1 KernelIdeal.S128x1 Kernel.S64x1024
            KernelIdeal.S64x1024 Kernel.S64x128 KernelIdeal.S64x128 Kernel.S64 KernelIdeal.S64 Kernel.S64x1 KernelIdeal.S64x1 Kernel.S1024x896
            KernelIdeal.S1024x896 Kernel.S256x896 KernelIdeal.S256x896 Kernel.S896x1024 KernelIdeal.S896x1024 Kernel.S128x896 KernelIdeal.S128x896
            Kernel.S64x896 KernelIdeal.S64x896 Kernel.S1024x1 KernelIdeal.S1024x1 Kernel.S1024x256 KernelIdeal.S1024x256 Kernel.S1024x64
            KernelIdeal.S1024x64 Kernel.nBuf KernelIdeal.nBuf Kernel.bufTy KernelIdeal.bufTy Kernel.bufScoped KernelIdeal.bufScoped Kernel.semScoped
            KernelIdeal.semScoped Kernel.dmaSemScoped KernelIdeal.dmaSemScoped Kernel.sig KernelIdeal.sig Kernel.main_arg0 KernelIdeal.main_arg0
            Kernel.main_arg1 KernelIdeal.main_arg1 Kernel.main_arg2 KernelIdeal.main_arg2 Kernel.main_arg3 KernelIdeal.main_arg3 Kernel.main_arg4
            KernelIdeal.main_arg4 Kernel.main_arg5 KernelIdeal.main_arg5 Kernel.main_arg6 KernelIdeal.main_arg6 Kernel.main_arg7 KernelIdeal.main_arg7
            Kernel.main_arg8 KernelIdeal.main_arg8 Kernel.main_v0 KernelIdeal.main_v0 Kernel.main_v1 KernelIdeal.main_v1 Kernel.main_v2
            KernelIdeal.main_v2 Kernel.main_v3 KernelIdeal.main_v3 Kernel.main_v4 KernelIdeal.main_v4 Kernel.main_cst KernelIdeal.main_cst
            Kernel.main_v5 KernelIdeal.main_v5 Kernel.main_v6 KernelIdeal.main_v6 Kernel.main_v7 KernelIdeal.main_v7 Kernel.main_v8 KernelIdeal.main_v8
            Kernel.main_v10 KernelIdeal.main_v10 Kernel.main_v11 KernelIdeal.main_v11 Kernel.main_v12 KernelIdeal.main_v12 Kernel.main_v9
            KernelIdeal.main_v9 Kernel.cc0_stg0_0 KernelIdeal.cc0_stg0_0 Kernel.cc0_stg0_1 KernelIdeal.cc0_stg0_1 Kernel.cc0_stg1_0
            KernelIdeal.cc0_stg1_0 Kernel.cc0_stg1_1 KernelIdeal.cc0_stg1_1 Kernel.cc0_stg2_0 KernelIdeal.cc0_stg2_0 Kernel.cc0_stg2_1
            KernelIdeal.cc0_stg2_1 Kernel.cc0_stg3_0 KernelIdeal.cc0_stg3_0 Kernel.cc0_stg3_1 KernelIdeal.cc0_stg3_1 Kernel.cc0_stg4_0
            KernelIdeal.cc0_stg4_0 Kernel.cc0_stg4_1 KernelIdeal.cc0_stg4_1 Kernel.cc0_stg5_0 KernelIdeal.cc0_stg5_0 Kernel.cc0_stg5_1
            KernelIdeal.cc0_stg5_1 Kernel.cc0_stg6_0 KernelIdeal.cc0_stg6_0 Kernel.cc0_stg6_1 KernelIdeal.cc0_stg6_1 Kernel.cc0_stg7_0
            KernelIdeal.cc0_stg7_0 Kernel.cc0_stg8_0 KernelIdeal.cc0_stg8_0 Kernel.cc0_stg9_0 KernelIdeal.cc0_stg9_0 Kernel.cc0_stg9_1
            KernelIdeal.cc0_stg9_1 Kernel.cc0_scratch0 KernelIdeal.cc0_scratch0 Kernel.cc0_scratch1 KernelIdeal.cc0_scratch1 Kernel.cc0_scratch2
            KernelIdeal.cc0_scratch2 Kernel.cc0_scratch3 KernelIdeal.cc0_scratch3 Kernel.cc0_sem0_0 KernelIdeal.cc0_sem0_0 Kernel.cc0_sem0_1
            KernelIdeal.cc0_sem0_1 Kernel.cc0_sem1_0 KernelIdeal.cc0_sem1_0 Kernel.cc0_sem1_1 KernelIdeal.cc0_sem1_1 Kernel.cc0_sem2_0
            KernelIdeal.cc0_sem2_0 Kernel.cc0_sem2_1 KernelIdeal.cc0_sem2_1 Kernel.cc0_sem3_0 KernelIdeal.cc0_sem3_0 Kernel.cc0_sem3_1
            KernelIdeal.cc0_sem3_1 Kernel.cc0_sem4_0 KernelIdeal.cc0_sem4_0 Kernel.cc0_sem4_1 KernelIdeal.cc0_sem4_1 Kernel.cc0_sem5_0
            KernelIdeal.cc0_sem5_0 Kernel.cc0_sem5_1 KernelIdeal.cc0_sem5_1 Kernel.cc0_sem6_0 KernelIdeal.cc0_sem6_0 Kernel.cc0_sem6_1
            KernelIdeal.cc0_sem6_1 Kernel.cc0_sem7_0 KernelIdeal.cc0_sem7_0 Kernel.cc0_sem8_0 KernelIdeal.cc0_sem8_0 Kernel.cc0_sem9_0
            KernelIdeal.cc0_sem9_0 Kernel.cc0_sem9_1 KernelIdeal.cc0_sem9_1 Kernel.nD KernelIdeal.nD Kernel.τ KernelIdeal.τ Kernel.grid0
            KernelIdeal.grid0 Kernel.pre0 KernelIdeal.pre0 Kernel.k0_off1 KernelIdeal.k0_off1 Kernel.k0_cond2 KernelIdeal.k0_cond2 Kernel.k0_off2
            KernelIdeal.k0_off2 Kernel.k0_mult1 KernelIdeal.k0_mult1 Kernel.k0_off3 KernelIdeal.k0_off3 Kernel.k0_off4 KernelIdeal.k0_off4
            Kernel.k0_mult2 KernelIdeal.k0_mult2 Kernel.k0_off5 KernelIdeal.k0_off5 Kernel.k0_off6 KernelIdeal.k0_off6 Kernel.k0_mult3
            KernelIdeal.k0_mult3 Kernel.k0_cond3 KernelIdeal.k0_cond3 Kernel.k0_off7 KernelIdeal.k0_off7 Kernel.k0_off8 KernelIdeal.k0_off8
            Kernel.k0_mult4 KernelIdeal.k0_mult4 Kernel.k0_cond4 KernelIdeal.k0_cond4 Kernel.k0_off9 KernelIdeal.k0_off9 Kernel.k0_off10
            KernelIdeal.k0_off10 Kernel.k0_mult5 KernelIdeal.k0_mult5 Kernel.k0_off11 KernelIdeal.k0_off11 Kernel.k0_off12 KernelIdeal.k0_off12
            Kernel.k0_cond5 KernelIdeal.k0_cond5 Kernel.k0_off13 KernelIdeal.k0_off13 Kernel.k0_cond6 KernelIdeal.k0_cond6 Kernel.k0_off14
            KernelIdeal.k0_off14 Kernel.k0_mult6 KernelIdeal.k0_mult6 Kernel.k0_off15 KernelIdeal.k0_off15 Kernel.k0_off16 KernelIdeal.k0_off16
            Kernel.k0_cond7 KernelIdeal.k0_cond7 Kernel.k0_off17 KernelIdeal.k0_off17 Kernel.k0_cond8 KernelIdeal.k0_cond8 Kernel.k0_off18
            KernelIdeal.k0_off18 Kernel.k0_mult7 KernelIdeal.k0_mult7 Kernel.k0_cond9 KernelIdeal.k0_cond9 Kernel.k0_off19 KernelIdeal.k0_off19
            Kernel.k0_off20 KernelIdeal.k0_off20 Kernel.k0_cond10 KernelIdeal.k0_cond10 Kernel.k0_off21 KernelIdeal.k0_off21 Kernel.k0_cond11
            KernelIdeal.k0_cond11 Kernel.k0_off22 KernelIdeal.k0_off22 Kernel.k0_mult8 KernelIdeal.k0_mult8 Kernel.k0_cond12 KernelIdeal.k0_cond12
            Kernel.k0_off23 KernelIdeal.k0_off23 Kernel.k0_off24 KernelIdeal.k0_off24 Kernel.k0_cond13 KernelIdeal.k0_cond13 Kernel.k0_off25
            KernelIdeal.k0_off25 Kernel.k0_cond14 KernelIdeal.k0_cond14 Kernel.k0_off26 KernelIdeal.k0_off26 Kernel.k0_cond15 KernelIdeal.k0_cond15
            Kernel.k0_mult9 KernelIdeal.k0_mult9 Kernel.k0_off27 KernelIdeal.k0_off27 Kernel.k0_mult10 KernelIdeal.k0_mult10 Kernel.k0_off28
            KernelIdeal.k0_off28 Kernel.k0_mult11 KernelIdeal.k0_mult11 Kernel.k0_cond16 KernelIdeal.k0_cond16 Kernel.k0_off29 KernelIdeal.k0_off29
            Kernel.k0_mult12 KernelIdeal.k0_mult12 Kernel.k0_cond17 KernelIdeal.k0_cond17 Kernel.k0_off30 KernelIdeal.k0_off30 Kernel.k0_chk1_0
            KernelIdeal.k0_chk1_0 Kernel.k0_chk1_1 KernelIdeal.k0_chk1_1 Kernel.k0_chk1 KernelIdeal.k0_chk1 Kernel.k0_cond1 KernelIdeal.k0_cond1
            Kernel.k0_cond18 KernelIdeal.k0_cond18 Kernel.cc0_transform_0 KernelIdeal.cc0_transform_0 Kernel.cc0_transform_1 KernelIdeal.cc0_transform_1
            Kernel.cc0_transform_2 KernelIdeal.cc0_transform_2 Kernel.cc0_transform_3 KernelIdeal.cc0_transform_3 Kernel.cc0_transform_4
            KernelIdeal.cc0_transform_4 Kernel.cc0_transform_5 KernelIdeal.cc0_transform_5 Kernel.cc0_transform_6 KernelIdeal.cc0_transform_6
            Kernel.cc0_transform_7 KernelIdeal.cc0_transform_7 Kernel.cc0_transform_8 KernelIdeal.cc0_transform_8 Kernel.cc0_transform_9
            KernelIdeal.cc0_transform_9 Kernel.stage0_0 KernelIdeal.stage0_0 Kernel.sem0_0 KernelIdeal.sem0_0 Kernel.reads0_0 KernelIdeal.reads0_0
            Kernel.stage0_1 KernelIdeal.stage0_1 Kernel.sem0_1 KernelIdeal.sem0_1 Kernel.reads0_1 KernelIdeal.reads0_1 Kernel.stage0_2
            KernelIdeal.stage0_2 Kernel.sem0_2 KernelIdeal.sem0_2 Kernel.reads0_2 KernelIdeal.reads0_2 Kernel.stage0_3 KernelIdeal.stage0_3
            Kernel.sem0_3 KernelIdeal.sem0_3 Kernel.reads0_3 KernelIdeal.reads0_3 Kernel.stage0_4 KernelIdeal.stage0_4 Kernel.sem0_4 KernelIdeal.sem0_4
            Kernel.reads0_4 KernelIdeal.reads0_4 Kernel.stage0_5 KernelIdeal.stage0_5 Kernel.sem0_5 KernelIdeal.sem0_5 Kernel.reads0_5
            KernelIdeal.reads0_5 Kernel.stage0_6 KernelIdeal.stage0_6 Kernel.sem0_6 KernelIdeal.sem0_6 Kernel.reads0_6 KernelIdeal.reads0_6
            Kernel.stage0_7 KernelIdeal.stage0_7 Kernel.sem0_7 KernelIdeal.sem0_7 Kernel.reads0_7 KernelIdeal.reads0_7 Kernel.stage0_8
            KernelIdeal.stage0_8 Kernel.sem0_8 KernelIdeal.sem0_8 Kernel.reads0_8 KernelIdeal.reads0_8 Kernel.stage0_9 KernelIdeal.stage0_9
            Kernel.sem0_9 KernelIdeal.sem0_9 Kernel.reads0_9 KernelIdeal.reads0_9 Kernel.dot_S256x1024_S1024x1024_S256x1024_1_0_0_1_n_n
            KernelIdeal.dot_S256x1024_S1024x1024_S256x1024_1_0_0_1_n_n Kernel.dot_S256x1024_S1024x128_S256x128_1_0_0_1_n_n
            KernelIdeal.dot_S256x1024_S1024x128_S256x128_1_0_0_1_n_n Kernel.dot_S128x1024_S1024x1024_S128x1024_1_0_0_1_n_n
            KernelIdeal.dot_S128x1024_S1024x1024_S128x1024_1_0_0_1_n_n Kernel.dot_S128x1024_S1024x128_S128x128_1_0_0_1_n_n
            KernelIdeal.dot_S128x1024_S1024x128_S128x128_1_0_0_1_n_n Kernel.dot_S64x1024_S1024x1024_S64x1024_1_0_0_1_n_n
            KernelIdeal.dot_S64x1024_S1024x1024_S64x1024_1_0_0_1_n_n Kernel.dot_S64x1024_S1024x128_S64x128_1_0_0_1_n_n
            KernelIdeal.dot_S64x1024_S1024x128_S64x128_1_0_0_1_n_n Kernel.dot_S256x1024_S1024x896_S256x896_1_0_0_1_n_n
            KernelIdeal.dot_S256x1024_S1024x896_S256x896_1_0_0_1_n_n Kernel.dot_S256x896_S896x1024_S256x1024_1_0_0_1_n_n
            KernelIdeal.dot_S256x896_S896x1024_S256x1024_1_0_0_1_n_n Kernel.dot_S128x1024_S1024x896_S128x896_1_0_0_1_n_n
            KernelIdeal.dot_S128x1024_S1024x896_S128x896_1_0_0_1_n_n Kernel.dot_S128x896_S896x1024_S128x1024_1_0_0_1_n_n
            KernelIdeal.dot_S128x896_S896x1024_S128x1024_1_0_0_1_n_n Kernel.dot_S64x1024_S1024x896_S64x896_1_0_0_1_n_n
            KernelIdeal.dot_S64x1024_S1024x896_S64x896_1_0_0_1_n_n Kernel.dot_S64x896_S896x1024_S64x1024_1_0_0_1_n_n
            KernelIdeal.dot_S64x896_S896x1024_S64x1024_1_0_0_1_n_n Kernel.dot_S1024x256_S256x1024_S1024x1024_1_0_0_1_n_n
            KernelIdeal.dot_S1024x256_S256x1024_S1024x1024_1_0_0_1_n_n Kernel.dot_S1024x128_S128x1024_S1024x1024_1_0_0_1_n_n
            KernelIdeal.dot_S1024x128_S128x1024_S1024x1024_1_0_0_1_n_n Kernel.dot_S1024x64_S64x1024_S1024x1024_1_0_0_1_n_n
            KernelIdeal.dot_S1024x64_S64x1024_S1024x1024_1_0_0_1_n_n Kernel.spec0_0 KernelIdeal.spec0_0 Kernel.spec0_1 KernelIdeal.spec0_1
            Kernel.spec0_2 KernelIdeal.spec0_2 Kernel.spec0_3 KernelIdeal.spec0_3 Kernel.spec0_4 KernelIdeal.spec0_4 Kernel.spec0_5 KernelIdeal.spec0_5
            Kernel.spec0_6 KernelIdeal.spec0_6 Kernel.spec0_7 KernelIdeal.spec0_7 Kernel.spec0_8 KernelIdeal.spec0_8 Kernel.spec0_9 KernelIdeal.spec0_9
            Kernel.spec0 KernelIdeal.spec0 Kernel.ix0 KernelIdeal.ix0 Kernel.ok0 KernelIdeal.ok0 Kernel.idle0 KernelIdeal.idle0 Kernel.Λ₀ KernelIdeal.Λ₀
            Kernel.k0_part1 KernelIdeal.k0_part1 Kernel.cc0_moe_ln KernelIdeal.cc0_moe_ln Kernel.defs₀ KernelIdeal.defs₀ Kernel.pcfg0 KernelIdeal.pcfg0
            Kernel.cfg0 KernelIdeal.cfg0 Kernel.win0 KernelIdeal.win0 Kernel.pcfgs KernelIdeal.pcfgs Kernel.defs KernelIdeal.defs Kernel.main
            KernelIdeal.main
  rfl

end Cert.KernelIdeal.Moe
-- ==== Proof.Same.lean ====
/-
  The whole program as printed and as printed for reading over the reals is one program, so a run of the one is a run of
  the other.
-/
module

public import proofs.«01_k».proof.Proof.SameBody
public import proofs.«01_k».proof.Proof.SameMain

@[expose] public section

set_option maxRecDepth 16384

namespace Cert.KernelIdeal.Moe

open Idealize.ShloMosaic Idealize.SL.Sem

variable {F : FTy → Type} [FloatOps F]

set_option maxHeartbeats 4000000 in
theorem defs₀_same : Kernel.defs₀ (F := F) = KernelIdeal.defs₀ (F := F) := by
  unfold Kernel.defs₀ KernelIdeal.defs₀
  rw [body_same]
  refine congrArg Defs.onTc (funext fun l => funext fun a => ?_)
  match l, a with
  | 0, (t, s) => rfl
  | ⟨_ + 1, h⟩, _ => exact absurd h (Nat.not_lt.2 (Nat.le_add_left _ _))

set_option maxHeartbeats 4000000 in
theorem pcfg_same : Kernel.pcfg0 (F := F) = KernelIdeal.pcfg0 (F := F) := by
  repeat delta
            Kernel.S65536x1024 KernelIdeal.S65536x1024 Kernel.S65536x128 KernelIdeal.S65536x128 Kernel.S64x8x1024 KernelIdeal.S64x8x1024 Kernel.S512x128
            KernelIdeal.S512x128 Kernel.S8x1024x7168 KernelIdeal.S8x1024x7168 Kernel.S8x3584x1024 KernelIdeal.S8x3584x1024 Kernel.S1024
            KernelIdeal.S1024 Kernel.S64x8x128 KernelIdeal.S64x8x128 Kernel.S64x1x8 KernelIdeal.S64x1x8 Kernel.S64x8 KernelIdeal.S64x8 Kernel.S_
            KernelIdeal.S_ Kernel.S512 KernelIdeal.S512 Kernel.S1x1024 KernelIdeal.S1x1024 Kernel.S1024x1024 KernelIdeal.S1024x1024 Kernel.S1024x128
            KernelIdeal.S1024x128 Kernel.S1x8x1024 KernelIdeal.S1x8x1024 Kernel.S1x1024x896 KernelIdeal.S1x1024x896 Kernel.S1x896x1024
            KernelIdeal.S1x896x1024 Kernel.S1 KernelIdeal.S1 Kernel.S1x128 KernelIdeal.S1x128 Kernel.S1x1x1024 KernelIdeal.S1x1x1024 Kernel.S256x1024
            KernelIdeal.S256x1024 Kernel.S256x128 KernelIdeal.S256x128 Kernel.S256 KernelIdeal.S256 Kernel.S256x1 KernelIdeal.S256x1 Kernel.S128x1024
            KernelIdeal.S128x1024 Kernel.S128x128 KernelIdeal.S128x128 Kernel.S128 KernelIdeal.S128 Kernel.S128x1 KernelIdeal.S128x1 Kernel.S64x1024
            KernelIdeal.S64x1024 Kernel.S64x128 KernelIdeal.S64x128 Kernel.S64 KernelIdeal.S64 Kernel.S64x1 KernelIdeal.S64x1 Kernel.S1024x896
            KernelIdeal.S1024x896 Kernel.S256x896 KernelIdeal.S256x896 Kernel.S896x1024 KernelIdeal.S896x1024 Kernel.S128x896 KernelIdeal.S128x896
            Kernel.S64x896 KernelIdeal.S64x896 Kernel.S1024x1 KernelIdeal.S1024x1 Kernel.S1024x256 KernelIdeal.S1024x256 Kernel.S1024x64
            KernelIdeal.S1024x64 Kernel.nBuf KernelIdeal.nBuf Kernel.bufTy KernelIdeal.bufTy Kernel.bufScoped KernelIdeal.bufScoped Kernel.semScoped
            KernelIdeal.semScoped Kernel.dmaSemScoped KernelIdeal.dmaSemScoped Kernel.sig KernelIdeal.sig Kernel.main_arg0 KernelIdeal.main_arg0
            Kernel.main_arg1 KernelIdeal.main_arg1 Kernel.main_arg2 KernelIdeal.main_arg2 Kernel.main_arg3 KernelIdeal.main_arg3 Kernel.main_arg4
            KernelIdeal.main_arg4 Kernel.main_arg5 KernelIdeal.main_arg5 Kernel.main_arg6 KernelIdeal.main_arg6 Kernel.main_arg7 KernelIdeal.main_arg7
            Kernel.main_arg8 KernelIdeal.main_arg8 Kernel.main_v0 KernelIdeal.main_v0 Kernel.main_v1 KernelIdeal.main_v1 Kernel.main_v2
            KernelIdeal.main_v2 Kernel.main_v3 KernelIdeal.main_v3 Kernel.main_v4 KernelIdeal.main_v4 Kernel.main_cst KernelIdeal.main_cst
            Kernel.main_v5 KernelIdeal.main_v5 Kernel.main_v6 KernelIdeal.main_v6 Kernel.main_v7 KernelIdeal.main_v7 Kernel.main_v8 KernelIdeal.main_v8
            Kernel.main_v10 KernelIdeal.main_v10 Kernel.main_v11 KernelIdeal.main_v11 Kernel.main_v12 KernelIdeal.main_v12 Kernel.main_v9
            KernelIdeal.main_v9 Kernel.cc0_stg0_0 KernelIdeal.cc0_stg0_0 Kernel.cc0_stg0_1 KernelIdeal.cc0_stg0_1 Kernel.cc0_stg1_0
            KernelIdeal.cc0_stg1_0 Kernel.cc0_stg1_1 KernelIdeal.cc0_stg1_1 Kernel.cc0_stg2_0 KernelIdeal.cc0_stg2_0 Kernel.cc0_stg2_1
            KernelIdeal.cc0_stg2_1 Kernel.cc0_stg3_0 KernelIdeal.cc0_stg3_0 Kernel.cc0_stg3_1 KernelIdeal.cc0_stg3_1 Kernel.cc0_stg4_0
            KernelIdeal.cc0_stg4_0 Kernel.cc0_stg4_1 KernelIdeal.cc0_stg4_1 Kernel.cc0_stg5_0 KernelIdeal.cc0_stg5_0 Kernel.cc0_stg5_1
            KernelIdeal.cc0_stg5_1 Kernel.cc0_stg6_0 KernelIdeal.cc0_stg6_0 Kernel.cc0_stg6_1 KernelIdeal.cc0_stg6_1 Kernel.cc0_stg7_0
            KernelIdeal.cc0_stg7_0 Kernel.cc0_stg8_0 KernelIdeal.cc0_stg8_0 Kernel.cc0_stg9_0 KernelIdeal.cc0_stg9_0 Kernel.cc0_stg9_1
            KernelIdeal.cc0_stg9_1 Kernel.cc0_scratch0 KernelIdeal.cc0_scratch0 Kernel.cc0_scratch1 KernelIdeal.cc0_scratch1 Kernel.cc0_scratch2
            KernelIdeal.cc0_scratch2 Kernel.cc0_scratch3 KernelIdeal.cc0_scratch3 Kernel.cc0_sem0_0 KernelIdeal.cc0_sem0_0 Kernel.cc0_sem0_1
            KernelIdeal.cc0_sem0_1 Kernel.cc0_sem1_0 KernelIdeal.cc0_sem1_0 Kernel.cc0_sem1_1 KernelIdeal.cc0_sem1_1 Kernel.cc0_sem2_0
            KernelIdeal.cc0_sem2_0 Kernel.cc0_sem2_1 KernelIdeal.cc0_sem2_1 Kernel.cc0_sem3_0 KernelIdeal.cc0_sem3_0 Kernel.cc0_sem3_1
            KernelIdeal.cc0_sem3_1 Kernel.cc0_sem4_0 KernelIdeal.cc0_sem4_0 Kernel.cc0_sem4_1 KernelIdeal.cc0_sem4_1 Kernel.cc0_sem5_0
            KernelIdeal.cc0_sem5_0 Kernel.cc0_sem5_1 KernelIdeal.cc0_sem5_1 Kernel.cc0_sem6_0 KernelIdeal.cc0_sem6_0 Kernel.cc0_sem6_1
            KernelIdeal.cc0_sem6_1 Kernel.cc0_sem7_0 KernelIdeal.cc0_sem7_0 Kernel.cc0_sem8_0 KernelIdeal.cc0_sem8_0 Kernel.cc0_sem9_0
            KernelIdeal.cc0_sem9_0 Kernel.cc0_sem9_1 KernelIdeal.cc0_sem9_1 Kernel.nD KernelIdeal.nD Kernel.τ KernelIdeal.τ Kernel.grid0
            KernelIdeal.grid0 Kernel.pre0 KernelIdeal.pre0 Kernel.k0_off1 KernelIdeal.k0_off1 Kernel.k0_cond2 KernelIdeal.k0_cond2 Kernel.k0_off2
            KernelIdeal.k0_off2 Kernel.k0_mult1 KernelIdeal.k0_mult1 Kernel.k0_off3 KernelIdeal.k0_off3 Kernel.k0_off4 KernelIdeal.k0_off4
            Kernel.k0_mult2 KernelIdeal.k0_mult2 Kernel.k0_off5 KernelIdeal.k0_off5 Kernel.k0_off6 KernelIdeal.k0_off6 Kernel.k0_mult3
            KernelIdeal.k0_mult3 Kernel.k0_cond3 KernelIdeal.k0_cond3 Kernel.k0_off7 KernelIdeal.k0_off7 Kernel.k0_off8 KernelIdeal.k0_off8
            Kernel.k0_mult4 KernelIdeal.k0_mult4 Kernel.k0_cond4 KernelIdeal.k0_cond4 Kernel.k0_off9 KernelIdeal.k0_off9 Kernel.k0_off10
            KernelIdeal.k0_off10 Kernel.k0_mult5 KernelIdeal.k0_mult5 Kernel.k0_off11 KernelIdeal.k0_off11 Kernel.k0_off12 KernelIdeal.k0_off12
            Kernel.k0_cond5 KernelIdeal.k0_cond5 Kernel.k0_off13 KernelIdeal.k0_off13 Kernel.k0_cond6 KernelIdeal.k0_cond6 Kernel.k0_off14
            KernelIdeal.k0_off14 Kernel.k0_mult6 KernelIdeal.k0_mult6 Kernel.k0_off15 KernelIdeal.k0_off15 Kernel.k0_off16 KernelIdeal.k0_off16
            Kernel.k0_cond7 KernelIdeal.k0_cond7 Kernel.k0_off17 KernelIdeal.k0_off17 Kernel.k0_cond8 KernelIdeal.k0_cond8 Kernel.k0_off18
            KernelIdeal.k0_off18 Kernel.k0_mult7 KernelIdeal.k0_mult7 Kernel.k0_cond9 KernelIdeal.k0_cond9 Kernel.k0_off19 KernelIdeal.k0_off19
            Kernel.k0_off20 KernelIdeal.k0_off20 Kernel.k0_cond10 KernelIdeal.k0_cond10 Kernel.k0_off21 KernelIdeal.k0_off21 Kernel.k0_cond11
            KernelIdeal.k0_cond11 Kernel.k0_off22 KernelIdeal.k0_off22 Kernel.k0_mult8 KernelIdeal.k0_mult8 Kernel.k0_cond12 KernelIdeal.k0_cond12
            Kernel.k0_off23 KernelIdeal.k0_off23 Kernel.k0_off24 KernelIdeal.k0_off24 Kernel.k0_cond13 KernelIdeal.k0_cond13 Kernel.k0_off25
            KernelIdeal.k0_off25 Kernel.k0_cond14 KernelIdeal.k0_cond14 Kernel.k0_off26 KernelIdeal.k0_off26 Kernel.k0_cond15 KernelIdeal.k0_cond15
            Kernel.k0_mult9 KernelIdeal.k0_mult9 Kernel.k0_off27 KernelIdeal.k0_off27 Kernel.k0_mult10 KernelIdeal.k0_mult10 Kernel.k0_off28
            KernelIdeal.k0_off28 Kernel.k0_mult11 KernelIdeal.k0_mult11 Kernel.k0_cond16 KernelIdeal.k0_cond16 Kernel.k0_off29 KernelIdeal.k0_off29
            Kernel.k0_mult12 KernelIdeal.k0_mult12 Kernel.k0_cond17 KernelIdeal.k0_cond17 Kernel.k0_off30 KernelIdeal.k0_off30 Kernel.k0_chk1_0
            KernelIdeal.k0_chk1_0 Kernel.k0_chk1_1 KernelIdeal.k0_chk1_1 Kernel.k0_chk1 KernelIdeal.k0_chk1 Kernel.k0_cond1 KernelIdeal.k0_cond1
            Kernel.k0_cond18 KernelIdeal.k0_cond18 Kernel.cc0_transform_0 KernelIdeal.cc0_transform_0 Kernel.cc0_transform_1 KernelIdeal.cc0_transform_1
            Kernel.cc0_transform_2 KernelIdeal.cc0_transform_2 Kernel.cc0_transform_3 KernelIdeal.cc0_transform_3 Kernel.cc0_transform_4
            KernelIdeal.cc0_transform_4 Kernel.cc0_transform_5 KernelIdeal.cc0_transform_5 Kernel.cc0_transform_6 KernelIdeal.cc0_transform_6
            Kernel.cc0_transform_7 KernelIdeal.cc0_transform_7 Kernel.cc0_transform_8 KernelIdeal.cc0_transform_8 Kernel.cc0_transform_9
            KernelIdeal.cc0_transform_9 Kernel.stage0_0 KernelIdeal.stage0_0 Kernel.sem0_0 KernelIdeal.sem0_0 Kernel.reads0_0 KernelIdeal.reads0_0
            Kernel.stage0_1 KernelIdeal.stage0_1 Kernel.sem0_1 KernelIdeal.sem0_1 Kernel.reads0_1 KernelIdeal.reads0_1 Kernel.stage0_2
            KernelIdeal.stage0_2 Kernel.sem0_2 KernelIdeal.sem0_2 Kernel.reads0_2 KernelIdeal.reads0_2 Kernel.stage0_3 KernelIdeal.stage0_3
            Kernel.sem0_3 KernelIdeal.sem0_3 Kernel.reads0_3 KernelIdeal.reads0_3 Kernel.stage0_4 KernelIdeal.stage0_4 Kernel.sem0_4 KernelIdeal.sem0_4
            Kernel.reads0_4 KernelIdeal.reads0_4 Kernel.stage0_5 KernelIdeal.stage0_5 Kernel.sem0_5 KernelIdeal.sem0_5 Kernel.reads0_5
            KernelIdeal.reads0_5 Kernel.stage0_6 KernelIdeal.stage0_6 Kernel.sem0_6 KernelIdeal.sem0_6 Kernel.reads0_6 KernelIdeal.reads0_6
            Kernel.stage0_7 KernelIdeal.stage0_7 Kernel.sem0_7 KernelIdeal.sem0_7 Kernel.reads0_7 KernelIdeal.reads0_7 Kernel.stage0_8
            KernelIdeal.stage0_8 Kernel.sem0_8 KernelIdeal.sem0_8 Kernel.reads0_8 KernelIdeal.reads0_8 Kernel.stage0_9 KernelIdeal.stage0_9
            Kernel.sem0_9 KernelIdeal.sem0_9 Kernel.reads0_9 KernelIdeal.reads0_9 Kernel.dot_S256x1024_S1024x1024_S256x1024_1_0_0_1_n_n
            KernelIdeal.dot_S256x1024_S1024x1024_S256x1024_1_0_0_1_n_n Kernel.dot_S256x1024_S1024x128_S256x128_1_0_0_1_n_n
            KernelIdeal.dot_S256x1024_S1024x128_S256x128_1_0_0_1_n_n Kernel.dot_S128x1024_S1024x1024_S128x1024_1_0_0_1_n_n
            KernelIdeal.dot_S128x1024_S1024x1024_S128x1024_1_0_0_1_n_n Kernel.dot_S128x1024_S1024x128_S128x128_1_0_0_1_n_n
            KernelIdeal.dot_S128x1024_S1024x128_S128x128_1_0_0_1_n_n Kernel.dot_S64x1024_S1024x1024_S64x1024_1_0_0_1_n_n
            KernelIdeal.dot_S64x1024_S1024x1024_S64x1024_1_0_0_1_n_n Kernel.dot_S64x1024_S1024x128_S64x128_1_0_0_1_n_n
            KernelIdeal.dot_S64x1024_S1024x128_S64x128_1_0_0_1_n_n Kernel.dot_S256x1024_S1024x896_S256x896_1_0_0_1_n_n
            KernelIdeal.dot_S256x1024_S1024x896_S256x896_1_0_0_1_n_n Kernel.dot_S256x896_S896x1024_S256x1024_1_0_0_1_n_n
            KernelIdeal.dot_S256x896_S896x1024_S256x1024_1_0_0_1_n_n Kernel.dot_S128x1024_S1024x896_S128x896_1_0_0_1_n_n
            KernelIdeal.dot_S128x1024_S1024x896_S128x896_1_0_0_1_n_n Kernel.dot_S128x896_S896x1024_S128x1024_1_0_0_1_n_n
            KernelIdeal.dot_S128x896_S896x1024_S128x1024_1_0_0_1_n_n Kernel.dot_S64x1024_S1024x896_S64x896_1_0_0_1_n_n
            KernelIdeal.dot_S64x1024_S1024x896_S64x896_1_0_0_1_n_n Kernel.dot_S64x896_S896x1024_S64x1024_1_0_0_1_n_n
            KernelIdeal.dot_S64x896_S896x1024_S64x1024_1_0_0_1_n_n Kernel.dot_S1024x256_S256x1024_S1024x1024_1_0_0_1_n_n
            KernelIdeal.dot_S1024x256_S256x1024_S1024x1024_1_0_0_1_n_n Kernel.dot_S1024x128_S128x1024_S1024x1024_1_0_0_1_n_n
            KernelIdeal.dot_S1024x128_S128x1024_S1024x1024_1_0_0_1_n_n Kernel.dot_S1024x64_S64x1024_S1024x1024_1_0_0_1_n_n
            KernelIdeal.dot_S1024x64_S64x1024_S1024x1024_1_0_0_1_n_n Kernel.spec0_0 KernelIdeal.spec0_0 Kernel.spec0_1 KernelIdeal.spec0_1
            Kernel.spec0_2 KernelIdeal.spec0_2 Kernel.spec0_3 KernelIdeal.spec0_3 Kernel.spec0_4 KernelIdeal.spec0_4 Kernel.spec0_5 KernelIdeal.spec0_5
            Kernel.spec0_6 KernelIdeal.spec0_6 Kernel.spec0_7 KernelIdeal.spec0_7 Kernel.spec0_8 KernelIdeal.spec0_8 Kernel.spec0_9 KernelIdeal.spec0_9
            Kernel.spec0 KernelIdeal.spec0 Kernel.ix0 KernelIdeal.ix0 Kernel.ok0 KernelIdeal.ok0 Kernel.idle0 KernelIdeal.idle0 Kernel.Λ₀ KernelIdeal.Λ₀
            Kernel.k0_part1 KernelIdeal.k0_part1 Kernel.cc0_moe_ln KernelIdeal.cc0_moe_ln Kernel.defs₀ KernelIdeal.defs₀ Kernel.pcfg0 KernelIdeal.pcfg0
            Kernel.cfg0 KernelIdeal.cfg0 Kernel.win0 KernelIdeal.win0 Kernel.pcfgs KernelIdeal.pcfgs Kernel.defs KernelIdeal.defs Kernel.main
            KernelIdeal.main
  rfl

set_option maxHeartbeats 4000000 in
/-- A run of the one is a run of the other. -/
theorem same_run (m : (ℓ : Loc KernelIdeal.nD KernelIdeal.τ KernelIdeal.sig) → Buf (Elt F) ℓ) (ρ : Dev KernelIdeal.nD → PrngReg)
    (post : _ → Prop)
    (h : θ_run (KernelIdeal.defs (F := F)) (onTc (τ := KernelIdeal.τ) (KernelIdeal.main (F := F))) ⟨m, fun _ => 0, ρ⟩ post) :
    θ_run (Kernel.defs (F := F)) (onTc (τ := Kernel.τ) (Kernel.main (F := F))) ⟨m, fun _ => 0, ρ⟩ post := by
  rw [main_same]
  unfold Kernel.defs
  rw [defs₀_same]
  exact h

end Cert.KernelIdeal.Moe
-- ==== Proof.DenseBody.lean ====
/-
  The dense call's two kinds of grid point: the first column block starts the sum, the second completes it and takes the
  layer norm.
-/
module

public import proofs.«01_k».proof.Proof.Gen.Kernel2Ideal.Value
public import proofs.«01_k».proof.Proof.Ref
public import Idealize.ShloMosaic.Lib.ValueIdx
public import Idealize.ShloMosaic.Lib.Pointwise
public import Idealize.ShloMosaic.PureOps.Ideal

@[expose] public section

set_option maxRecDepth 16384

noncomputable section

namespace Cert.Kernel2Ideal.Ffn

open Idealize.ShloMosaic Idealize.ShloMosaic.TcCoe Idealize.ShloMosaic.Tactic
open Cert.Kernel2Ideal Cert.Kernel2Ideal.Gen
open Cert.ReferenceIdeal.Moe (lnRow)

section
variable {F : FTy → Type} [FloatOps F]

theorem zeros2 : (![0, 0] : Fin 2 → Nat) = fun _ => 0 := funext fun a => by fin_cases a <;> rfl

variable (c : Dev nD) (i : grid0.Coords) (a2 : Memref sig .tc .vmem S512x1024 .f32) (h2 : a2.IsWhole) (a3 : Memref sig .tc .vmem S1024x1408 .bf16) (h3 : a3.IsWhole)
  (a4 : Memref sig .tc .vmem S1024x1408 .bf16) (h4 : a4.IsWhole) (a5 : Memref sig .tc .vmem S1408x1024 .bf16) (h5 : a5.IsWhole) (a6 : Memref sig .tc .vmem S1x1024 .f32) (h6 : a6.IsWhole)
  (a7 : Memref sig .tc .vmem S1x1024 .f32) (h7 : a7.IsWhole) (a8 : Memref sig .tc .vmem S512x1024 .f32) (h8 : a8.IsWhole) (a9 : Memref sig .tc .vmem S512x1024 .f32) (h9 : a9.IsWhole)
  (x0 : Vec F S512x1024 .f32) (x1 : Vec F S1024x1408 .bf16) (x2 : Vec F S1024x1408 .bf16) (x3 : Vec F S1408x1024 .bf16) (x4 : Vec F S1x1024 .f32) (x5 : Vec F S1x1024 .f32) (xs : Vec F S512x1024 .f32)

/-- The first block leaves its product, added to zero, in the sum. -/
theorem first_sum (hc0 : cond0_0 i) (hc1 : ¬cond0_1 i) :
    sout0_A_0 c i a2 h2 a3 h3 a4 h4 a5 h5 a6 h6 a7 h7 a8 h8 a9 h9 hc0 hc1 x0 x1 x2 x3 x4 x5 = k0_pay2 x0 x1 x2 (k0_pay1 (F := F)) x3 := by
  unfold sout0_A_0
  rw [View.read_writes_eq_canon _ _ _ (scover0_A_0 c i a2 h2 a3 h3 a4 h4 a5 h5 a6 h6 a7 h7 a8 h8 a9 h9 hc0 hc1 x0 x1 x2 x3 x4 x5)]
  unfold kernelRun0_A
  dsimp only
  sl_unfold_words
  rw [View.canon_cons_unit_zero (S := S512x1024) zeros2]
  simp only [View.readCov_unit_zero (S := S512x1024) _ zeros2, View.readAt_eq_ld, h2.read_unread, h3.read_unread, h4.read_unread, h5.read_unread,
    View.ld_unit_zero (S := S512x1024) zeros2, View.ld_unit_zero (S := S1024x1408) zeros2, View.ld_unit_zero (S := S1408x1024) zeros2]

/-- The last block writes the layer norm of the residual and the completed sum. -/
theorem last_out (hc0 : ¬cond0_0 i) (hc1 : cond0_1 i) :
    out0_B_6 c i a2 h2 a3 h3 a4 h4 a5 h5 a6 h6 a7 h7 a8 h8 a9 h9 hc0 hc1 x0 x1 x2 x3 x4 x5 xs = k0_pay3 x0 (k0_pay2 x0 x1 x2 xs x3) x4 x5 := by
  unfold out0_B_6
  rw [View.read_writes_eq_canon _ _ _ (cover0_B_6 c i a2 h2 a3 h3 a4 h4 a5 h5 a6 h6 a7 h7 a8 h8 a9 h9 hc0 hc1 x0 x1 x2 x3 x4 x5 xs)]
  unfold kernelRun0_B
  dsimp only
  sl_unfold_words
  rw [View.canon_unit_zero zeros2]
  simp only [View.readCov_unit_zero (S := S512x1024) _ zeros2, View.readAt_eq_ld, h2.read_unread, h3.read_unread, h4.read_unread, h5.read_unread, h6.read_unread, h7.read_unread, h9.read_unread,
    View.ld_unit_zero (S := S512x1024) zeros2, View.ld_unit_zero (S := S1024x1408) zeros2, View.ld_unit_zero (S := S1408x1024) zeros2, View.ld_unit_zero (S := S1x1024) zeros2]
end

/-- A token's hidden column: the gate, its logistic, and the other product. -/
def hid (x : Vec Ideal S512x1024 .f32) (wg wu : Vec Ideal S1024x1408 .bf16) (t : Fin 512) (f : Fin 1408) : EReal :=
  (∑ y : Fin 1024, x (ValueIdx.ix2 t y) * wg (ValueIdx.ix2 y f)) * Ideal.logistic (∑ y : Fin 1024, x (ValueIdx.ix2 t y) * wg (ValueIdx.ix2 y f))
    * (∑ y : Fin 1024, x (ValueIdx.ix2 t y) * wu (ValueIdx.ix2 y f))

theorem start_at (t : Fin 512) (d : Fin 1024) : k0_pay1 (F := Ideal) (ValueIdx.ix2 t d) = 0 := by
  unfold_payloads
  pointwise

theorem sum_at (x acc : Vec Ideal S512x1024 .f32) (wg wu : Vec Ideal S1024x1408 .bf16) (wd : Vec Ideal S1408x1024 .bf16) (t : Fin 512) (d : Fin 1024) :
    k0_pay2 x wg wu acc wd (ValueIdx.ix2 t d) = acc (ValueIdx.ix2 t d) + ∑ f : Fin 1408, hid x wg wu t f * wd (ValueIdx.ix2 f d) := by
  unfold hid
  unfold_payloads
  pointwise
  rfl

theorem norm_at (x O : Vec Ideal S512x1024 .f32) (g b : Vec Ideal S1x1024 .f32) (t : Fin 512) (d : Fin 1024) :
    k0_pay3 x O g b (ValueIdx.ix2 t d)
      = lnRow (fun k => Ideal.ofBits FTy.f32 1071072509#32 * x (ValueIdx.ix2 t k) + O (ValueIdx.ix2 t k))
        (fun k => g (ValueIdx.ix2 0 k)) (fun k => b (ValueIdx.ix2 0 k)) d := by
  unfold lnRow
  unfold_payloads
  pointwise
  rfl

end Cert.Kernel2Ideal.Ffn
-- ==== Proof.DenseRef.lean ====
/-
  The dense reference read at a token and a coordinate: the layer norm of the residual plus the gated product's sum over the
  hidden columns.
-/
module

public import proofs.«01_k».proof.Proof.Gen.Reference2Ideal.Run
public import proofs.«01_k».proof.Proof.Ref

@[expose] public section

set_option maxRecDepth 16384

noncomputable section

namespace Cert.Reference2Ideal.Ffn

open Idealize.ShloMosaic Idealize.ShloMosaic.TcCoe Idealize.ShloMosaic.Tactic
open Cert.Reference2Ideal Cert.Reference2Ideal.Gen
open Cert.ReferenceIdeal.Moe (normed normed_at resid resid_at lnRow)

/-- Every token times the input weights. -/
def inner (x : FVec Ideal S65536x1024 .f32) (w : FVec Ideal S1024x5632 .f32) : FVec Ideal S65536x5632 .f32 :=
  Host.dotGeneral dot_S65536x1024_S1024x5632_S65536x5632_1_0_0_1_n_n none x w

/-- The hidden columns: the gate's half, its logistic, and the other half. -/
def act (x : FVec Ideal S65536x1024 .f32) (w : FVec Ideal S1024x5632 .f32) : FVec Ideal S65536x2816 .f32 :=
  mulf (mulf (extractStridedSlice S65536x2816 ![0, 0] (inner x w) slices_S65536x5632_S65536x2816_0_0) (Host.divf (broadcastInDim S65536x2816 ![] bcast_S_S65536x2816 (constant S_ .f32 0x3F800000#32)) (addf (broadcastInDim S65536x2816 ![] bcast_S_S65536x2816 (constant S_ .f32 0x3F800000#32)) (Host.exp (Host.negf (extractStridedSlice S65536x2816 ![0, 0] (inner x w) slices_S65536x5632_S65536x2816_0_0)))))) (extractStridedSlice S65536x2816 ![0, 2816] (inner x w) slices_S65536x5632_S65536x2816_0_2816)

/-- The hidden columns times the output weights. -/
def dense (x : FVec Ideal S65536x1024 .f32) (w : FVec Ideal S1024x5632 .f32) (wd : FVec Ideal S2816x1024 .f32) : FVec Ideal S65536x1024 .f32 :=
  Host.dotGeneral dot_S65536x2816_S2816x1024_S65536x1024_1_0_0_1_n_n none (act x w) wd

theorem res_eq (m : (ℓ : Loc nD τ sig) → Buf (Elt Ideal) ℓ) (c : Dev nD) :
    Value.res_main_v32 m c = normed (resid (m ((c.tc : Thread nD τ).loc main_arg0))
      (dense (m ((c.tc : Thread nD τ).loc main_arg0)) (m ((c.tc : Thread nD τ).loc main_arg1)) (m ((c.tc : Thread nD τ).loc main_arg2))))
      (m ((c.tc : Thread nD τ).loc main_arg3)) (m ((c.tc : Thread nD τ).loc main_arg4)) := rfl

theorem inner_at (x : FVec Ideal S65536x1024 .f32) (w : FVec Ideal S1024x5632 .f32) (s : Fin 65536) (f : Fin 5632) :
    inner x w (ValueIdx.ix2 s f) = ∑ y : Fin 1024, x (ValueIdx.ix2 s y) * w (ValueIdx.ix2 y f) := by
  unfold inner
  pointwise
  try rfl

theorem act_at (x : FVec Ideal S65536x1024 .f32) (w : FVec Ideal S1024x5632 .f32) (s : Fin 65536) (f : Fin 2816) :
    act x w (ValueIdx.ix2 s f)
      = inner x w (ValueIdx.ix2 s ⟨f.val, by omega⟩) * Ideal.logistic (inner x w (ValueIdx.ix2 s ⟨f.val, by omega⟩))
        * inner x w (ValueIdx.ix2 s ⟨2816 + f.val, by omega⟩) := by
  unfold act
  pointwise
  try rfl

theorem dense_at (x : FVec Ideal S65536x1024 .f32) (w : FVec Ideal S1024x5632 .f32) (wd : FVec Ideal S2816x1024 .f32) (s : Fin 65536) (d : Fin 1024) :
    dense x w wd (ValueIdx.ix2 s d) = ∑ f : Fin 2816, act x w (ValueIdx.ix2 s f) * wd (ValueIdx.ix2 f d) := by
  unfold dense
  pointwise
  try rfl

/-- The dense reference's result at a token and a coordinate. -/
theorem result_at (m : (ℓ : Loc nD τ sig) → Buf (Elt Ideal) ℓ) (c : Dev nD) (s : Fin 65536) (d : Fin 1024) :
    Value.res_main_v32 m c (ValueIdx.ix2 s d)
      = lnRow (fun k => Ideal.ofBits FTy.f32 1071072509#32 * m ((c.tc : Thread nD τ).loc main_arg0) (ValueIdx.ix2 s k)
          + ∑ f : Fin 2816, act (m ((c.tc : Thread nD τ).loc main_arg0)) (m ((c.tc : Thread nD τ).loc main_arg1)) (ValueIdx.ix2 s f)
              * m ((c.tc : Thread nD τ).loc main_arg2) (ValueIdx.ix2 f k))
        (fun k => m ((c.tc : Thread nD τ).loc main_arg3) (ValueIdx.ix1 k)) (fun k => m ((c.tc : Thread nD τ).loc main_arg4) (ValueIdx.ix1 k)) d := by
  rw [res_eq]
  refine (normed_at _ _ _ s d).trans ?_
  simp only [resid_at]
  refine congrArg (fun y => lnRow y _ _ d) (funext fun k => congrArg (_ + ·) (dense_at _ _ _ s k))

end Cert.Reference2Ideal.Ffn
-- ==== Proof.Dense.lean ====
/-
  The dense call's result: each block of 512 tokens is the layer norm of the residual and the two column blocks' sums, and
  those are the reference's one sum.
-/
module

public import proofs.«01_k».proof.Proof.DenseBody
public import proofs.«01_k».proof.Proof.DenseRef
public import Idealize.ShloMosaic.Lib.Claim

@[expose] public section

set_option maxRecDepth 16384

noncomputable section

namespace Cert.Kernel2Ideal.Ffn

open Idealize.ShloMosaic Idealize.ShloMosaic.TcCoe Idealize.ShloMosaic.Tactic
open Cert.Kernel2Ideal Cert.Kernel2Ideal.Gen
open Cert.ReferenceIdeal.Moe (lnRow)
open Cert.Reference2Ideal.Ffn (inner inner_at act act_at)

variable (m : (ℓ : Loc nD τ sig) → Buf (Elt Ideal) ℓ) (c : Dev nD)

theorem tr0 : ∀ t : Fin grid0.N, cc0_transform_0 (grid0.coords t) = ![t.val / 2, 0] := by decide +kernel
theorem tr1 : ∀ t : Fin grid0.N, cc0_transform_1 (grid0.coords t) = ![0, t.val % 2] := by decide +kernel
theorem tr2 : ∀ t : Fin grid0.N, cc0_transform_2 (grid0.coords t) = ![0, t.val % 2 + 2] := by decide +kernel
theorem tr3 : ∀ t : Fin grid0.N, cc0_transform_3 (grid0.coords t) = ![t.val % 2, 0] := by decide +kernel
theorem tr4 : ∀ t : Fin grid0.N, cc0_transform_4 (grid0.coords t) = ![0, 0] := by decide +kernel
theorem tr5 : ∀ t : Fin grid0.N, cc0_transform_5 (grid0.coords t) = ![0, 0] := by decide +kernel

/-- The token window: 512 rows of the tokens. -/
theorem tokens_at (t : Fin cfg0.N) (r : Fin 512) (k : Fin 1024) (s : Fin 65536) (hs : s.val = t.val / 2 * 512 + r.val) :
    iblk m c 0 t (ValueIdx.ix2 r k) = m ((c : Thread nD τ).loc main_arg0) (ValueIdx.ix2 s k) := by
  show V m c main_arg0 _ = m ((c : Thread nD τ).loc main_arg0) _
  rw [V_main_arg0]
  congr 1
  funext a
  refine Fin.cases ?_ (fun a => Fin.cases ?_ (fun a => a.elim0) a) a
  · refine Fin.ext ?_
    show cc0_transform_0 (grid0.coords t) 0 * 512 + 1 * r.val = s.val
    rw [tr0]
    show t.val / 2 * 512 + 1 * r.val = s.val
    omega
  · refine Fin.ext ?_
    show cc0_transform_0 (grid0.coords t) 1 * 1024 + 1 * k.val = k.val
    rw [tr0]
    show 0 * 1024 + 1 * k.val = k.val
    omega

/-- The gate's columns. -/
theorem gate_at (t : Fin cfg0.N) (y : Fin 1024) (f : Fin 1408) (q : Fin 5632) (hq : q.val = t.val % 2 * 1408 + f.val) :
    iblk m c 1 t (ValueIdx.ix2 y f) = m ((c : Thread nD τ).loc main_arg1) (ValueIdx.ix2 y q) := by
  show V m c main_v0 _ = m ((c : Thread nD τ).loc main_arg1) _
  entry_read
  show m ((c : Thread nD τ).loc main_arg1) _ = _
  congr 1
  funext a
  refine Fin.cases ?_ (fun a => Fin.cases ?_ (fun a => a.elim0) a) a
  · refine Fin.ext ?_
    show cc0_transform_1 (grid0.coords t) 0 * 1024 + 1 * y.val = y.val
    rw [tr1]
    show 0 * 1024 + 1 * y.val = y.val
    omega
  · refine Fin.ext ?_
    show cc0_transform_1 (grid0.coords t) 1 * 1408 + 1 * f.val = q.val
    rw [tr1]
    show t.val % 2 * 1408 + 1 * f.val = q.val
    omega

/-- The other half's columns. -/
theorem up_at (t : Fin cfg0.N) (y : Fin 1024) (f : Fin 1408) (q : Fin 5632) (hq : q.val = 2816 + (t.val % 2 * 1408 + f.val)) :
    iblk m c 2 t (ValueIdx.ix2 y f) = m ((c : Thread nD τ).loc main_arg1) (ValueIdx.ix2 y q) := by
  show V m c main_v0 _ = m ((c : Thread nD τ).loc main_arg1) _
  entry_read
  show m ((c : Thread nD τ).loc main_arg1) _ = _
  congr 1
  funext a
  refine Fin.cases ?_ (fun a => Fin.cases ?_ (fun a => a.elim0) a) a
  · refine Fin.ext ?_
    show cc0_transform_2 (grid0.coords t) 0 * 1024 + 1 * y.val = y.val
    rw [tr2]
    show 0 * 1024 + 1 * y.val = y.val
    omega
  · refine Fin.ext ?_
    show cc0_transform_2 (grid0.coords t) 1 * 1408 + 1 * f.val = q.val
    rw [tr2]
    show (t.val % 2 + 2) * 1408 + 1 * f.val = q.val
    omega

/-- The output weights' rows. -/
theorem down_at (t : Fin cfg0.N) (f : Fin 1408) (k : Fin 1024) (q : Fin 2816) (hq : q.val = t.val % 2 * 1408 + f.val) :
    iblk m c 3 t (ValueIdx.ix2 f k) = m ((c : Thread nD τ).loc main_arg2) (ValueIdx.ix2 q k) := by
  show V m c main_v1 _ = m ((c : Thread nD τ).loc main_arg2) _
  entry_read
  show m ((c : Thread nD τ).loc main_arg2) _ = _
  congr 1
  funext a
  refine Fin.cases ?_ (fun a => Fin.cases ?_ (fun a => a.elim0) a) a
  · refine Fin.ext ?_
    show cc0_transform_3 (grid0.coords t) 0 * 1408 + 1 * f.val = q.val
    rw [tr3]
    show t.val % 2 * 1408 + 1 * f.val = q.val
    omega
  · refine Fin.ext ?_
    show cc0_transform_3 (grid0.coords t) 1 * 1024 + 1 * k.val = k.val
    rw [tr3]
    show 0 * 1024 + 1 * k.val = k.val
    omega

/-- The norm's gain. -/
theorem gain_at (t : Fin cfg0.N) (k : Fin 1024) :
    iblk m c 4 t (ValueIdx.ix2 0 k) = m ((c : Thread nD τ).loc main_arg3) (ValueIdx.ix1 k) := by
  show V m c main_v2 _ = m ((c : Thread nD τ).loc main_arg3) _
  entry_read
  refine shapeCast_apply _ _ _ _ ?_
  refine (rowMajor_val1 (d := ![1024]) _).trans (Eq.trans ?_ (rowMajor_val2 (d := ![1, 1024]) _ 1024 rfl).symm)
  show k.val = (cc0_transform_4 (grid0.coords t) 0 * 1 + 1 * 0) * 1024 + (cc0_transform_4 (grid0.coords t) 1 * 1024 + 1 * k.val)
  rw [tr4]
  show k.val = (0 * 1 + 1 * 0) * 1024 + (0 * 1024 + 1 * k.val)
  omega

/-- The norm's offset. -/
theorem offset_at (t : Fin cfg0.N) (k : Fin 1024) :
    iblk m c 5 t (ValueIdx.ix2 0 k) = m ((c : Thread nD τ).loc main_arg4) (ValueIdx.ix1 k) := by
  show V m c main_v3 _ = m ((c : Thread nD τ).loc main_arg4) _
  entry_read
  refine shapeCast_apply _ _ _ _ ?_
  refine (rowMajor_val1 (d := ![1024]) _).trans (Eq.trans ?_ (rowMajor_val2 (d := ![1, 1024]) _ 1024 rfl).symm)
  show k.val = (cc0_transform_5 (grid0.coords t) 0 * 1 + 1 * 0) * 1024 + (cc0_transform_5 (grid0.coords t) 1 * 1024 + 1 * k.val)
  rw [tr5]
  show k.val = (0 * 1 + 1 * 0) * 1024 + (0 * 1024 + 1 * k.val)
  omega

/-- A token's sum over one of the two column blocks. -/
def half (s : Fin 65536) (a : Fin 2) (k : Fin 1024) : EReal :=
  ∑ f : Fin 1408, act (m ((c : Thread nD τ).loc main_arg0)) (m ((c : Thread nD τ).loc main_arg1)) (ValueIdx.ix2 s ⟨a.val * 1408 + f.val, by omega⟩)
    * m ((c : Thread nD τ).loc main_arg2) (ValueIdx.ix2 ⟨a.val * 1408 + f.val, by omega⟩ k)

/-- What a point adds to the sum is its column block's part. -/
theorem part_at (t : Fin cfg0.N) (r : Fin 512) (k : Fin 1024) (s : Fin 65536) (hs : s.val = t.val / 2 * 512 + r.val) (a : Fin 2) (ha : t.val % 2 = a.val) :
    ∑ f : Fin 1408, hid (iblk m c 0 t) (iblk m c 1 t) (iblk m c 2 t) r f * iblk m c 3 t (ValueIdx.ix2 f k) = half m c s a k := by
  unfold half
  refine Finset.sum_congr rfl fun f _ => ?_
  rw [act_at, inner_at, inner_at, down_at m c t f k ⟨a.val * 1408 + f.val, by omega⟩ (by rw [ha])]
  refine congrArg (· * _) ?_
  unfold hid
  refine congrArg₂ (fun g u : EReal => g * Ideal.logistic g * u)
    (Finset.sum_congr rfl fun y _ => congrArg₂ (fun v w : EReal => v * w) (tokens_at m c t r y s hs) (gate_at m c t y f _ ?_))
    (Finset.sum_congr rfl fun y _ => congrArg₂ (fun v w : EReal => v * w) (tokens_at m c t r y s hs) (up_at m c t y f _ ?_))
  · rw [ha]
  · rw [ha]

/-- The two column blocks make up the whole sum. -/
theorem halves (s : Fin 65536) (k : Fin 1024) : half m c s 0 k + half m c s 1 k
    = ∑ f : Fin 2816, act (m ((c : Thread nD τ).loc main_arg0)) (m ((c : Thread nD τ).loc main_arg1)) (ValueIdx.ix2 s f)
        * m ((c : Thread nD τ).loc main_arg2) (ValueIdx.ix2 f k) := by
  rw [← Fin.sum_univ_two (fun a => half m c s a k)]
  unfold half
  rw [← Fintype.sum_prod_type' (f := fun (a : Fin 2) (f : Fin 1408) => act (m ((c : Thread nD τ).loc main_arg0)) (m ((c : Thread nD τ).loc main_arg1)) (ValueIdx.ix2 s ⟨a.val * 1408 + f.val, by omega⟩)
    * m ((c : Thread nD τ).loc main_arg2) (ValueIdx.ix2 ⟨a.val * 1408 + f.val, by omega⟩ k))]
  refine Fintype.sum_equiv (finProdFinEquiv (m := 2) (n := 1408)) _ _ fun p => ?_
  have e : (⟨p.1.val * 1408 + p.2.val, by omega⟩ : Fin 2816) = finProdFinEquiv (m := 2) (n := 1408) p :=
    Fin.ext (by show p.1.val * 1408 + p.2.val = p.2.val + 1408 * p.1.val; omega)
  rw [e]

/-- The sum after a tile's first point. -/
theorem after_first (t : Fin cfg0.N) (h0 : t.val % 2 = 0) (r : Fin 512) (k : Fin 1024) (s : Fin 65536) (hs : s.val = t.val / 2 * 512 + r.val) :
    (outsAt0 m c t.val t.isLt).2 (ValueIdx.ix2 r k) = half m c s 0 k := by
  rw [outsAt0_A m c t h0 (by omega)]
  dsimp only
  rw [first_sum]
  refine (sum_at _ _ _ _ _ r k).trans ?_
  rw [start_at, zero_add]
  exact part_at m c t r k s hs 0 h0

/-- What a tile's last point leaves in the output window. -/
theorem after_last (t : Fin cfg0.N) (h1 : t.val % 2 = 1) (r : Fin 512) (d : Fin 1024) (s : Fin 65536) (hs : s.val = t.val / 2 * 512 + r.val) :
    (outsAt0 m c t.val t.isLt).1 (ValueIdx.ix2 r d)
      = lnRow (fun k => Ideal.ofBits FTy.f32 1071072509#32 * m ((c : Thread nD τ).loc main_arg0) (ValueIdx.ix2 s k)
          + ∑ f : Fin 2816, act (m ((c : Thread nD τ).loc main_arg0)) (m ((c : Thread nD τ).loc main_arg1)) (ValueIdx.ix2 s f)
              * m ((c : Thread nD τ).loc main_arg2) (ValueIdx.ix2 f k))
        (fun k => m ((c : Thread nD τ).loc main_arg3) (ValueIdx.ix1 k)) (fun k => m ((c : Thread nD τ).loc main_arg4) (ValueIdx.ix1 k)) d := by
  rw [outsAt0_B m c t (by omega) h1]
  dsimp only
  rw [last_out]
  refine (norm_at _ _ _ _ r d).trans ?_
  have hy : (fun k : Fin 1024 => Ideal.ofBits FTy.f32 1071072509#32 * iblk m c 0 t (ValueIdx.ix2 r k)
        + k0_pay2 (iblk m c 0 t) (iblk m c 1 t) (iblk m c 2 t) (outsAt0 m c (t.val - 1) (Nat.lt_of_le_of_lt (Nat.sub_le _ _) t.isLt)).2 (iblk m c 3 t) (ValueIdx.ix2 r k))
      = fun k => Ideal.ofBits FTy.f32 1071072509#32 * m ((c : Thread nD τ).loc main_arg0) (ValueIdx.ix2 s k)
          + ∑ f : Fin 2816, act (m ((c : Thread nD τ).loc main_arg0)) (m ((c : Thread nD τ).loc main_arg1)) (ValueIdx.ix2 s f)
              * m ((c : Thread nD τ).loc main_arg2) (ValueIdx.ix2 f k) := funext fun k => by
    rw [tokens_at m c t r k s hs]
    refine congrArg (_ + ·) ((sum_at _ _ _ _ _ r k).trans ?_)
    rw [part_at m c t r k s hs 1 h1, ← halves]
    refine congrArg (· + _) ?_
    exact after_first m c ⟨t.val - 1, Nat.lt_of_le_of_lt (Nat.sub_le _ _) t.isLt⟩ (by show (t.val - 1) % 2 = 0; omega) r k s
      (by show s.val = (t.val - 1) / 2 * 512 + r.val; omega)
  have hg : (fun k : Fin 1024 => iblk m c 4 t (ValueIdx.ix2 0 k)) = fun k => m ((c : Thread nD τ).loc main_arg3) (ValueIdx.ix1 k) := funext fun k => gain_at m c t k
  have hb : (fun k : Fin 1024 => iblk m c 5 t (ValueIdx.ix2 0 k)) = fun k => m ((c : Thread nD τ).loc main_arg4) (ValueIdx.ix1 k) := funext fun k => offset_at m c t k
  exact (congrArg (fun y => lnRow y _ _ d) hy).trans ((congrArg (fun g => lnRow _ g _ d) hg).trans (congrArg (fun b => lnRow _ _ b d) hb))

/-- The result array at a token and a coordinate. -/
theorem out_at (s : Fin 65536) (d : Fin 1024) :
    Value.G6 m c (ValueIdx.ix2 s d)
      = lnRow (fun k => Ideal.ofBits FTy.f32 1071072509#32 * m ((c : Thread nD τ).loc main_arg0) (ValueIdx.ix2 s k)
          + ∑ f : Fin 2816, act (m ((c : Thread nD τ).loc main_arg0)) (m ((c : Thread nD τ).loc main_arg1)) (ValueIdx.ix2 s f)
              * m ((c : Thread nD τ).loc main_arg2) (ValueIdx.ix2 f k))
        (fun k => m ((c : Thread nD τ).loc main_arg3) (ValueIdx.ix1 k)) (fun k => m ((c : Thread nD τ).loc main_arg4) (ValueIdx.ix1 k)) d := by
  have hN : cfg0.N = 256 := N_0
  have hp : Value.pt6Of (ValueIdx.ix2 s d) = 2 * (s.val / 512) + 1 := by
    show 2 * (1 * (s.val / 512 - 0) + 1 * (d.val / 1024 - 0)) + 1 = _
    omega
  have hlt : 2 * (s.val / 512) + 1 < cfg0.N := by omega
  unfold Value.G6
  rw [dif_pos (by rw [hp]; exact hlt), Value.fold0_congr m c _ _ (2 * (s.val / 512) + 1) (by omega) hp, ← Value.outsAt0_sweep m c _ hlt]
  have hl : Value.loc6Of (ValueIdx.ix2 s d) = ValueIdx.ix2 ⟨s.val % 512, Nat.mod_lt _ (by decide)⟩ d := by
    funext a
    refine Fin.cases ?_ (fun a => Fin.cases ?_ (fun a => a.elim0) a) a
    · rfl
    · exact Fin.ext (Nat.mod_eq_of_lt d.isLt)
  rw [hl]
  exact after_last m c ⟨2 * (s.val / 512) + 1, hlt⟩ (by show (2 * (s.val / 512) + 1) % 2 = 1; omega) _ d s
    (by show s.val = (2 * (s.val / 512) + 1) / 2 * 512 + s.val % 512; omega)

end Cert.Kernel2Ideal.Ffn
-- ==== Proof.OddIn.lean ====
/-
  The odd layers' input projection: each block of 256 tokens times three blocks of the weights' columns.
-/
module

public import proofs.«01_k».proof.Proof.Gen.Kernel3Ideal.Value
public import proofs.«01_k».proof.Proof.Gen.Reference3Ideal.Run
public import Idealize.ShloMosaic.Lib.ValueIdx
public import Idealize.ShloMosaic.Lib.Pointwise
public import Idealize.ShloMosaic.PureOps.Ideal
public import Idealize.ShloMosaic.Lib.Claim

@[expose] public section

set_option maxRecDepth 16384

noncomputable section

namespace Cert.Kernel3Ideal.Proj

open Idealize.ShloMosaic Idealize.ShloMosaic.TcCoe Idealize.ShloMosaic.Tactic
open Cert.Kernel3Ideal Cert.Kernel3Ideal.Gen

/-- An index of the result arrays is its token and its column. -/
theorem split2 {a b : ℕ} (j : Shape.Idx ⟨2, ![a, b]⟩) : j = ValueIdx.ix2 (j 0) (j 1) :=
  funext fun k => Fin.cases rfl (fun k => Fin.cases rfl (fun k => k.elim0) k) k

theorem zeros2 : (![0, 0] : Fin 2 → Nat) = fun _ => 0 := funext fun a => by fin_cases a <;> rfl

/-- A block of the weights' columns, read at an index. -/
theorem cols_at (w : Vec Ideal S1024x3072 .bf16) (o : ℕ) (h : ∀ a, (![0, o] : Fin 2 → Nat) a + S1024x1024.size a ≤ S1024x3072.size a) (y d : Fin 1024) (q : Fin 3072) (hq : q.val = o + d.val) :
    View.ld w (Rect.unit (s := S1024x3072) ![0, o] S1024x1024.size h) (ValueIdx.ix2 y d) = w (ValueIdx.ix2 y q) := by
  show w _ = w _
  congr 1
  funext a
  refine Fin.cases ?_ (fun a => Fin.cases ?_ (fun a => a.elim0) a) a
  · refine Fin.ext ?_
    show 0 + 1 * y.val = y.val
    omega
  · refine Fin.ext ?_
    show o + 1 * d.val = q.val
    omega

theorem pay2_at (x : Vec Ideal S256x1024 .f32) (w : Vec Ideal S1024x1024 .bf16) (r : Fin 256) (d : Fin 1024) :
    k0_pay2 x w (ValueIdx.ix2 r d) = ∑ y : Fin 1024, x (ValueIdx.ix2 r y) * w (ValueIdx.ix2 y d) := by
  unfold_payloads
  pointwise
  try rfl

theorem pay3_at (x : Vec Ideal S256x1024 .f32) (w : Vec Ideal S1024x1024 .bf16) (r : Fin 256) (d : Fin 1024) :
    k0_pay3 x w (ValueIdx.ix2 r d) = ∑ y : Fin 1024, x (ValueIdx.ix2 r y) * w (ValueIdx.ix2 y d) := by
  unfold_payloads
  pointwise
  try rfl

theorem pay4_at (x : Vec Ideal S256x1024 .f32) (w : Vec Ideal S1024x1024 .bf16) (r : Fin 256) (d : Fin 1024) :
    k0_pay4 x w (ValueIdx.ix2 r d) = ∑ y : Fin 1024, x (ValueIdx.ix2 r y) * w (ValueIdx.ix2 y d) := by
  unfold_payloads
  pointwise
  try rfl

theorem out2_at (x : Vec Ideal S256x1024 .f32) (w : Vec Ideal S1024x3072 .bf16) (r : Fin 256) (d : Fin 1024) (q : Fin 3072) (hq : q.val = 0 + d.val) :
    out0_2 x w (ValueIdx.ix2 r d) = ∑ y : Fin 1024, x (ValueIdx.ix2 r y) * w (ValueIdx.ix2 y q) := by
  unfold out0_2
  rw [View.canon_unit_zero zeros2, View.ld_unit_zero (S := S256x1024) zeros2]
  refine (pay2_at _ _ r d).trans (Finset.sum_congr rfl fun y _ => congrArg (_ * ·) (cols_at w 0 _ y d q hq))

theorem out3_at (x : Vec Ideal S256x1024 .f32) (w : Vec Ideal S1024x3072 .bf16) (r : Fin 256) (d : Fin 1024) (q : Fin 3072) (hq : q.val = 1024 + d.val) :
    out0_3 x w (ValueIdx.ix2 r d) = ∑ y : Fin 1024, x (ValueIdx.ix2 r y) * w (ValueIdx.ix2 y q) := by
  unfold out0_3
  rw [View.canon_unit_zero zeros2, View.ld_unit_zero (S := S256x1024) zeros2]
  refine (pay3_at _ _ r d).trans (Finset.sum_congr rfl fun y _ => congrArg (_ * ·) (cols_at w 1024 _ y d q hq))

theorem out4_at (x : Vec Ideal S256x1024 .f32) (w : Vec Ideal S1024x3072 .bf16) (r : Fin 256) (d : Fin 1024) (q : Fin 3072) (hq : q.val = 2048 + d.val) :
    out0_4 x w (ValueIdx.ix2 r d) = ∑ y : Fin 1024, x (ValueIdx.ix2 r y) * w (ValueIdx.ix2 y q) := by
  unfold out0_4
  rw [View.canon_unit_zero zeros2, View.ld_unit_zero (S := S256x1024) zeros2]
  refine (pay4_at _ _ r d).trans (Finset.sum_congr rfl fun y _ => congrArg (_ * ·) (cols_at w 2048 _ y d q hq))

variable (m : (ℓ : Loc nD τ sig) → Buf (Elt Ideal) ℓ) (c : Dev nD)

theorem tr0 : ∀ t : Fin grid0.N, cc0_transform_0 (grid0.coords t) = ![t.val, 0] := by decide +kernel
theorem tr1 : ∀ t : Fin grid0.N, cc0_transform_1 (grid0.coords t) = ![0, 0] := by decide +kernel
theorem tr2 : ∀ t : Fin grid0.N, cc0_transform_2 (grid0.coords t) = ![t.val, 0] := by decide +kernel
theorem tr3 : ∀ t : Fin grid0.N, cc0_transform_3 (grid0.coords t) = ![t.val, 0] := by decide +kernel
theorem tr4 : ∀ t : Fin grid0.N, cc0_transform_4 (grid0.coords t) = ![t.val, 0] := by decide +kernel
theorem fl2 : ∀ t : Fin cfg0.N, (cfg0.win 2).flush t = true := by decide +kernel
theorem fl3 : ∀ t : Fin cfg0.N, (cfg0.win 3).flush t = true := by decide +kernel
theorem fl4 : ∀ t : Fin cfg0.N, (cfg0.win 4).flush t = true := by decide +kernel

/-- The token window: 256 rows of the tokens. -/
theorem tokens_at (t : Fin cfg0.N) (r : Fin 256) (k : Fin 1024) (s : Fin 65536) (hs : s.val = t.val * 256 + r.val) :
    iblk m c 0 t (ValueIdx.ix2 r k) = m ((c : Thread nD τ).loc main_arg0) (ValueIdx.ix2 s k) := by
  show V m c main_arg0 _ = m ((c : Thread nD τ).loc main_arg0) _
  rw [V_main_arg0]
  congr 1
  funext a
  refine Fin.cases ?_ (fun a => Fin.cases ?_ (fun a => a.elim0) a) a
  · refine Fin.ext ?_
    show cc0_transform_0 (grid0.coords t) 0 * 256 + 1 * r.val = s.val
    rw [tr0]
    show t.val * 256 + 1 * r.val = s.val
    omega
  · refine Fin.ext ?_
    show cc0_transform_0 (grid0.coords t) 1 * 1024 + 1 * k.val = k.val
    rw [tr0]
    show 0 * 1024 + 1 * k.val = k.val
    omega

/-- The weights' window: all of them. -/
theorem weights_at (t : Fin cfg0.N) (y : Fin 1024) (q : Fin 3072) :
    iblk m c 1 t (ValueIdx.ix2 y q) = m ((c : Thread nD τ).loc main_arg1) (ValueIdx.ix2 y q) := by
  show V m c main_v0 _ = m ((c : Thread nD τ).loc main_arg1) _
  entry_read
  show m ((c : Thread nD τ).loc main_arg1) _ = _
  congr 1
  funext a
  refine Fin.cases ?_ (fun a => Fin.cases ?_ (fun a => a.elim0) a) a
  · refine Fin.ext ?_
    show cc0_transform_1 (grid0.coords t) 0 * 1024 + 1 * y.val = y.val
    rw [tr1]
    show 0 * 1024 + 1 * y.val = y.val
    omega
  · refine Fin.ext ?_
    show cc0_transform_1 (grid0.coords t) 1 * 3072 + 1 * q.val = q.val
    rw [tr1]
    show 0 * 3072 + 1 * q.val = q.val
    omega

/-- A token's product with a column of the weights. -/
def col (x : FVec Ideal S65536x1024 .f32) (w : FVec Ideal S1024x3072 .f32) (s : Fin 65536) (q : Fin 3072) : EReal :=
  ∑ y : Fin 1024, x (ValueIdx.ix2 s y) * w (ValueIdx.ix2 y q)

theorem prod_at (t : Fin cfg0.N) (r : Fin 256) (q : Fin 3072) (s : Fin 65536) (hs : s.val = t.val * 256 + r.val)
    (x : Vec Ideal S256x1024 .f32) (w : Vec Ideal S1024x3072 .bf16) (hx : x = iblk m c 0 t) (hw : w = iblk m c 1 t) :
    ∑ y : Fin 1024, x (ValueIdx.ix2 r y) * w (ValueIdx.ix2 y q)
      = col (m ((c : Thread nD τ).loc main_arg0)) (m ((c : Thread nD τ).loc main_arg1)) s q := by
  subst hx hw
  exact Finset.sum_congr rfl fun y _ => congrArg₂ (fun v w : EReal => v * w) (tokens_at m c t r y s hs) (weights_at m c t y q)

/-- The point that computes a token, and the token's row there. -/
def pt (s : Fin 65536) : Fin cfg0.N := ⟨s.val / 256, by have hN : cfg0.N = 256 := N_0; omega⟩
def row (s : Fin 65536) : Fin 256 := ⟨s.val % 256, Nat.mod_lt _ (by decide)⟩
theorem pt_row (s : Fin 65536) : s.val = (pt s).val * 256 + (row s).val := by
  show s.val = s.val / 256 * 256 + s.val % 256
  omega

theorem res2_at (s : Fin 65536) (d : Fin 1024) (q : Fin 3072) (hq : q.val = 0 + d.val) :
    (dats m 0 c).arrAt 2 cfg0.N (ValueIdx.ix2 s d) = col (m ((c : Thread nD τ).loc main_arg0)) (m ((c : Thread nD τ).loc main_arg1)) s q := by
  have h := congrFun ((Value.blocks2 m c (pt s) (fl2 _)).trans (Value.flushed2 m c (pt s))) (ValueIdx.ix2 (row s) d)
  have e : ((cfg0.win 2).blk (pt s)).view.emb (ValueIdx.ix2 (row s) d) = ValueIdx.ix2 s d := by
    funext a
    refine Fin.cases ?_ (fun a => Fin.cases ?_ (fun a => a.elim0) a) a
    · refine Fin.ext ?_
      show cc0_transform_2 (grid0.coords (pt s)) 0 * 256 + 1 * (row s).val = s.val
      rw [tr2]
      show (pt s).val * 256 + 1 * (row s).val = s.val
      have := pt_row s
      omega
    · refine Fin.ext ?_
      show cc0_transform_2 (grid0.coords (pt s)) 1 * 1024 + 1 * d.val = d.val
      rw [tr2]
      show 0 * 1024 + 1 * d.val = d.val
      omega
  refine (congrArg ((dats m 0 c).arrAt 2 cfg0.N) e.symm).trans (h.trans ?_)
  exact (out2_at _ _ (row s) d q hq).trans (prod_at m c (pt s) (row s) q s (pt_row s) _ _ rfl rfl)

theorem res3_at (s : Fin 65536) (d : Fin 1024) (q : Fin 3072) (hq : q.val = 1024 + d.val) :
    (dats m 0 c).arrAt 3 cfg0.N (ValueIdx.ix2 s d) = col (m ((c : Thread nD τ).loc main_arg0)) (m ((c : Thread nD τ).loc main_arg1)) s q := by
  have h := congrFun ((Value.blocks3 m c (pt s) (fl3 _)).trans (Value.flushed3 m c (pt s))) (ValueIdx.ix2 (row s) d)
  have e : ((cfg0.win 3).blk (pt s)).view.emb (ValueIdx.ix2 (row s) d) = ValueIdx.ix2 s d := by
    funext a
    refine Fin.cases ?_ (fun a => Fin.cases ?_ (fun a => a.elim0) a) a
    · refine Fin.ext ?_
      show cc0_transform_3 (grid0.coords (pt s)) 0 * 256 + 1 * (row s).val = s.val
      rw [tr3]
      show (pt s).val * 256 + 1 * (row s).val = s.val
      have := pt_row s
      omega
    · refine Fin.ext ?_
      show cc0_transform_3 (grid0.coords (pt s)) 1 * 1024 + 1 * d.val = d.val
      rw [tr3]
      show 0 * 1024 + 1 * d.val = d.val
      omega
  refine (congrArg ((dats m 0 c).arrAt 3 cfg0.N) e.symm).trans (h.trans ?_)
  exact (out3_at _ _ (row s) d q hq).trans (prod_at m c (pt s) (row s) q s (pt_row s) _ _ rfl rfl)

theorem res4_at (s : Fin 65536) (d : Fin 1024) (q : Fin 3072) (hq : q.val = 2048 + d.val) :
    (dats m 0 c).arrAt 4 cfg0.N (ValueIdx.ix2 s d) = col (m ((c : Thread nD τ).loc main_arg0)) (m ((c : Thread nD τ).loc main_arg1)) s q := by
  have h := congrFun ((Value.blocks4 m c (pt s) (fl4 _)).trans (Value.flushed4 m c (pt s))) (ValueIdx.ix2 (row s) d)
  have e : ((cfg0.win 4).blk (pt s)).view.emb (ValueIdx.ix2 (row s) d) = ValueIdx.ix2 s d := by
    funext a
    refine Fin.cases ?_ (fun a => Fin.cases ?_ (fun a => a.elim0) a) a
    · refine Fin.ext ?_
      show cc0_transform_4 (grid0.coords (pt s)) 0 * 256 + 1 * (row s).val = s.val
      rw [tr4]
      show (pt s).val * 256 + 1 * (row s).val = s.val
      have := pt_row s
      omega
    · refine Fin.ext ?_
      show cc0_transform_4 (grid0.coords (pt s)) 1 * 1024 + 1 * d.val = d.val
      rw [tr4]
      show 0 * 1024 + 1 * d.val = d.val
      omega
  refine (congrArg ((dats m 0 c).arrAt 4 cfg0.N) e.symm).trans (h.trans ?_)
  exact (out4_at _ _ (row s) d q hq).trans (prod_at m c (pt s) (row s) q s (pt_row s) _ _ rfl rfl)

end Cert.Kernel3Ideal.Proj

namespace Cert.Reference3Ideal.Proj

open Idealize.ShloMosaic Idealize.ShloMosaic.TcCoe Idealize.ShloMosaic.Tactic
open Cert.Reference3Ideal Cert.Reference3Ideal.Gen

/-- Every token times the weights. -/
def prod (x : FVec Ideal S65536x1024 .f32) (w : FVec Ideal S1024x3072 .f32) : FVec Ideal S65536x3072 .f32 :=
  Host.dotGeneral dot_S65536x1024_S1024x3072_S65536x3072_1_0_0_1_n_n none x w

theorem prod_at (x : FVec Ideal S65536x1024 .f32) (w : FVec Ideal S1024x3072 .f32) (s : Fin 65536) (q : Fin 3072) :
    prod x w (ValueIdx.ix2 s q) = ∑ y : Fin 1024, x (ValueIdx.ix2 s y) * w (ValueIdx.ix2 y q) := by
  unfold prod
  pointwise
  try rfl

theorem part2_at (p : FVec Ideal S65536x3072 .f32) (s : Fin 65536) (d : Fin 1024) :
    (truncf .bf16 (extractStridedSlice S65536x1024 ![0, 0] p slices_S65536x3072_S65536x1024_0_0) bitsLt_bf16_f32 : FVec Ideal S65536x1024 .bf16) (ValueIdx.ix2 s d)
      = p (ValueIdx.ix2 s ⟨0 + d.val, by omega⟩) := by
  pointwise
  try rfl

theorem same2 (m : (ℓ : Loc Kernel3Ideal.nD Kernel3Ideal.τ Kernel3Ideal.sig) → Buf (Elt Ideal) ℓ) (c : Dev Kernel3Ideal.nD)
    (x : FVec Ideal S65536x1024 .f32) (w : FVec Ideal S1024x3072 .f32)
    (hx : x = m ((c : Thread Kernel3Ideal.nD Kernel3Ideal.τ).loc Kernel3Ideal.main_arg0)) (hw : w = m ((c : Thread Kernel3Ideal.nD Kernel3Ideal.τ).loc Kernel3Ideal.main_arg1)) :
    (truncf .bf16 (extractStridedSlice S65536x1024 ![0, 0] (Host.dotGeneral dot_S65536x1024_S1024x3072_S65536x3072_1_0_0_1_n_n none x w) slices_S65536x3072_S65536x1024_0_0) bitsLt_bf16_f32 : FVec Ideal S65536x1024 .bf16)
      = (Kernel3Ideal.Gen.dats m 0 c).arrAt 2 Kernel3Ideal.cfg0.N := by
  subst hx hw
  refine funext fun (j : S65536x1024.Idx) => ?_
  obtain ⟨s, d, rfl⟩ : ∃ (s : Fin 65536) (d : Fin 1024), j = ValueIdx.ix2 s d := ⟨j 0, j 1, Kernel3Ideal.Proj.split2 j⟩
  exact ((part2_at _ s d).trans (prod_at _ _ s _)).trans (Kernel3Ideal.Proj.res2_at m c s d _ rfl).symm

theorem part3_at (p : FVec Ideal S65536x3072 .f32) (s : Fin 65536) (d : Fin 1024) :
    (truncf .bf16 (extractStridedSlice S65536x1024 ![0, 1024] p slices_S65536x3072_S65536x1024_0_1024) bitsLt_bf16_f32 : FVec Ideal S65536x1024 .bf16) (ValueIdx.ix2 s d)
      = p (ValueIdx.ix2 s ⟨1024 + d.val, by omega⟩) := by
  pointwise
  try rfl

theorem same3 (m : (ℓ : Loc Kernel3Ideal.nD Kernel3Ideal.τ Kernel3Ideal.sig) → Buf (Elt Ideal) ℓ) (c : Dev Kernel3Ideal.nD)
    (x : FVec Ideal S65536x1024 .f32) (w : FVec Ideal S1024x3072 .f32)
    (hx : x = m ((c : Thread Kernel3Ideal.nD Kernel3Ideal.τ).loc Kernel3Ideal.main_arg0)) (hw : w = m ((c : Thread Kernel3Ideal.nD Kernel3Ideal.τ).loc Kernel3Ideal.main_arg1)) :
    (truncf .bf16 (extractStridedSlice S65536x1024 ![0, 1024] (Host.dotGeneral dot_S65536x1024_S1024x3072_S65536x3072_1_0_0_1_n_n none x w) slices_S65536x3072_S65536x1024_0_1024) bitsLt_bf16_f32 : FVec Ideal S65536x1024 .bf16)
      = (Kernel3Ideal.Gen.dats m 0 c).arrAt 3 Kernel3Ideal.cfg0.N := by
  subst hx hw
  refine funext fun (j : S65536x1024.Idx) => ?_
  obtain ⟨s, d, rfl⟩ : ∃ (s : Fin 65536) (d : Fin 1024), j = ValueIdx.ix2 s d := ⟨j 0, j 1, Kernel3Ideal.Proj.split2 j⟩
  exact ((part3_at _ s d).trans (prod_at _ _ s _)).trans (Kernel3Ideal.Proj.res3_at m c s d _ rfl).symm

theorem part4_at (p : FVec Ideal S65536x3072 .f32) (s : Fin 65536) (d : Fin 1024) :
    (truncf .bf16 (extractStridedSlice S65536x1024 ![0, 2048] p slices_S65536x3072_S65536x1024_0_2048) bitsLt_bf16_f32 : FVec Ideal S65536x1024 .bf16) (ValueIdx.ix2 s d)
      = p (ValueIdx.ix2 s ⟨2048 + d.val, by omega⟩) := by
  pointwise
  try rfl

theorem same4 (m : (ℓ : Loc Kernel3Ideal.nD Kernel3Ideal.τ Kernel3Ideal.sig) → Buf (Elt Ideal) ℓ) (c : Dev Kernel3Ideal.nD)
    (x : FVec Ideal S65536x1024 .f32) (w : FVec Ideal S1024x3072 .f32)
    (hx : x = m ((c : Thread Kernel3Ideal.nD Kernel3Ideal.τ).loc Kernel3Ideal.main_arg0)) (hw : w = m ((c : Thread Kernel3Ideal.nD Kernel3Ideal.τ).loc Kernel3Ideal.main_arg1)) :
    (truncf .bf16 (extractStridedSlice S65536x1024 ![0, 2048] (Host.dotGeneral dot_S65536x1024_S1024x3072_S65536x3072_1_0_0_1_n_n none x w) slices_S65536x3072_S65536x1024_0_2048) bitsLt_bf16_f32 : FVec Ideal S65536x1024 .bf16)
      = (Kernel3Ideal.Gen.dats m 0 c).arrAt 4 Kernel3Ideal.cfg0.N := by
  subst hx hw
  refine funext fun (j : S65536x1024.Idx) => ?_
  obtain ⟨s, d, rfl⟩ : ∃ (s : Fin 65536) (d : Fin 1024), j = ValueIdx.ix2 s d := ⟨j 0, j 1, Kernel3Ideal.Proj.split2 j⟩
  exact ((part4_at _ s d).trans (prod_at _ _ s _)).trans (Kernel3Ideal.Proj.res4_at m c s d _ rfl).symm

end Cert.Reference3Ideal.Proj
-- ==== Proof.OddOut.lean ====
/-
  The odd layers' output projection: each block of 512 tokens times the weights, the residual and the layer norm.
-/
module

public import proofs.«01_k».proof.Proof.Gen.Kernel4Ideal.Value
public import proofs.«01_k».proof.Proof.Gen.Reference4Ideal.Run
public import proofs.«01_k».proof.Proof.Ref
public import Idealize.ShloMosaic.Lib.ValueIdx
public import Idealize.ShloMosaic.Lib.Pointwise
public import Idealize.ShloMosaic.PureOps.Ideal
public import Idealize.ShloMosaic.Lib.Claim

@[expose] public section

set_option maxRecDepth 16384

noncomputable section

namespace Cert.Kernel4Ideal.Proj

open Idealize.ShloMosaic Idealize.ShloMosaic.TcCoe Idealize.ShloMosaic.Tactic
open Cert.Kernel4Ideal Cert.Kernel4Ideal.Gen
open Cert.ReferenceIdeal.Moe (lnRow)

/-- An index of the result array is its token and its coordinate. -/
theorem split2 {a b : ℕ} (j : Shape.Idx ⟨2, ![a, b]⟩) : j = ValueIdx.ix2 (j 0) (j 1) :=
  funext fun k => Fin.cases rfl (fun k => Fin.cases rfl (fun k => k.elim0) k) k

theorem zeros2 : (![0, 0] : Fin 2 → Nat) = fun _ => 0 := funext fun a => by fin_cases a <;> rfl

theorem pay_at (a : Vec Ideal S512x1024 .bf16) (w : Vec Ideal S1024x1024 .bf16) (x : Vec Ideal S512x1024 .f32) (g b : Vec Ideal S1x1024 .f32) (r : Fin 512) (d : Fin 1024) :
    k0_pay1 a w x g b (ValueIdx.ix2 r d)
      = lnRow (fun k => Ideal.ofBits FTy.f32 1071072509#32 * x (ValueIdx.ix2 r k) + ∑ y : Fin 1024, a (ValueIdx.ix2 r y) * w (ValueIdx.ix2 y k))
        (fun k => g (ValueIdx.ix2 0 k)) (fun k => b (ValueIdx.ix2 0 k)) d := by
  unfold lnRow
  unfold_payloads
  pointwise
  rfl

theorem out_at (a : Vec Ideal S512x1024 .bf16) (w : Vec Ideal S1024x1024 .bf16) (x : Vec Ideal S512x1024 .f32) (g b : Vec Ideal S1x1024 .f32) (r : Fin 512) (d : Fin 1024)
    (A X : Fin 1024 → EReal) (W : Fin 1024 → Fin 1024 → EReal) (G B : Fin 1024 → EReal) (ha : ∀ y, a (ValueIdx.ix2 r y) = A y) (hw : ∀ y k, w (ValueIdx.ix2 y k) = W y k)
    (hx : ∀ k, x (ValueIdx.ix2 r k) = X k) (hg : ∀ k, g (ValueIdx.ix2 0 k) = G k) (hb : ∀ k, b (ValueIdx.ix2 0 k) = B k) :
    out0_5 a w x g b (ValueIdx.ix2 r d) = lnRow (fun k => Ideal.ofBits FTy.f32 1071072509#32 * X k + ∑ y : Fin 1024, A y * W y k) G B d := by
  unfold out0_5
  rw [View.canon_unit_zero zeros2, View.ld_unit_zero (S := S512x1024) zeros2, View.ld_unit_zero (S := S1024x1024) zeros2,
    View.ld_unit_zero (S := S512x1024) zeros2, View.ld_unit_zero (S := S1x1024) zeros2, View.ld_unit_zero (S := S1x1024) zeros2]
  refine (pay_at _ _ _ _ _ r d).trans ?_
  simp only [ha, hw, hx, hg, hb]

variable (m : (ℓ : Loc nD τ sig) → Buf (Elt Ideal) ℓ) (c : Dev nD)

theorem tr0 : ∀ t : Fin grid0.N, cc0_transform_0 (grid0.coords t) = ![t.val, 0] := by decide +kernel
theorem tr1 : ∀ t : Fin grid0.N, cc0_transform_1 (grid0.coords t) = ![0, 0] := by decide +kernel
theorem tr2 : ∀ t : Fin grid0.N, cc0_transform_2 (grid0.coords t) = ![t.val, 0] := by decide +kernel
theorem tr3 : ∀ t : Fin grid0.N, cc0_transform_3 (grid0.coords t) = ![0, 0] := by decide +kernel
theorem tr4 : ∀ t : Fin grid0.N, cc0_transform_4 (grid0.coords t) = ![0, 0] := by decide +kernel
theorem tr5 : ∀ t : Fin grid0.N, cc0_transform_5 (grid0.coords t) = ![t.val, 0] := by decide +kernel
theorem fl5 : ∀ t : Fin cfg0.N, (cfg0.win 5).flush t = true := by decide +kernel

/-- The mixer's output: 512 rows of it. -/
theorem merged_at (t : Fin cfg0.N) (r : Fin 512) (k : Fin 1024) (s : Fin 65536) (hs : s.val = t.val * 512 + r.val) :
    iblk m c 0 t (ValueIdx.ix2 r k) = m ((c : Thread nD τ).loc main_arg0) (ValueIdx.ix2 s k) := by
  show V m c main_arg0 _ = m ((c : Thread nD τ).loc main_arg0) _
  rw [V_main_arg0]
  congr 1
  funext a
  refine Fin.cases ?_ (fun a => Fin.cases ?_ (fun a => a.elim0) a) a
  · refine Fin.ext ?_
    show cc0_transform_0 (grid0.coords t) 0 * 512 + 1 * r.val = s.val
    rw [tr0]
    show t.val * 512 + 1 * r.val = s.val
    omega
  · refine Fin.ext ?_
    show cc0_transform_0 (grid0.coords t) 1 * 1024 + 1 * k.val = k.val
    rw [tr0]
    show 0 * 1024 + 1 * k.val = k.val
    omega

/-- The weights' window: all of them. -/
theorem weights_at (t : Fin cfg0.N) (y : Fin 1024) (k : Fin 1024) (q : Fin 1024) (hq : q.val = 0 + y.val) :
    iblk m c 1 t (ValueIdx.ix2 y k) = m ((c : Thread nD τ).loc main_arg1) (ValueIdx.ix2 q k) := by
  show V m c main_v0 _ = m ((c : Thread nD τ).loc main_arg1) _
  entry_read
  show m ((c : Thread nD τ).loc main_arg1) _ = _
  congr 1
  funext a
  refine Fin.cases ?_ (fun a => Fin.cases ?_ (fun a => a.elim0) a) a
  · refine Fin.ext ?_
    show cc0_transform_1 (grid0.coords t) 0 * 1024 + 1 * y.val = q.val
    rw [tr1]
    show 0 * 1024 + 1 * y.val = q.val
    omega
  · refine Fin.ext ?_
    show cc0_transform_1 (grid0.coords t) 1 * 1024 + 1 * k.val = k.val
    rw [tr1]
    show 0 * 1024 + 1 * k.val = k.val
    omega

/-- The token window: 512 rows of the tokens. -/
theorem tokens_at (t : Fin cfg0.N) (r : Fin 512) (k : Fin 1024) (s : Fin 65536) (hs : s.val = t.val * 512 + r.val) :
    iblk m c 2 t (ValueIdx.ix2 r k) = m ((c : Thread nD τ).loc main_arg2) (ValueIdx.ix2 s k) := by
  show V m c main_arg2 _ = m ((c : Thread nD τ).loc main_arg2) _
  rw [V_main_arg2]
  congr 1
  funext a
  refine Fin.cases ?_ (fun a => Fin.cases ?_ (fun a => a.elim0) a) a
  · refine Fin.ext ?_
    show cc0_transform_2 (grid0.coords t) 0 * 512 + 1 * r.val = s.val
    rw [tr2]
    show t.val * 512 + 1 * r.val = s.val
    omega
  · refine Fin.ext ?_
    show cc0_transform_2 (grid0.coords t) 1 * 1024 + 1 * k.val = k.val
    rw [tr2]
    show 0 * 1024 + 1 * k.val = k.val
    omega

/-- The norm's gain. -/
theorem gain_at (t : Fin cfg0.N) (k : Fin 1024) :
    iblk m c 3 t (ValueIdx.ix2 0 k) = m ((c : Thread nD τ).loc main_arg3) (ValueIdx.ix1 k) := by
  show V m c main_v1 _ = m ((c : Thread nD τ).loc main_arg3) _
  entry_read
  refine shapeCast_apply _ _ _ _ ?_
  refine (rowMajor_val1 (d := ![1024]) _).trans (Eq.trans ?_ (rowMajor_val2 (d := ![1, 1024]) _ 1024 rfl).symm)
  show k.val = (cc0_transform_3 (grid0.coords t) 0 * 1 + 1 * 0) * 1024 + (cc0_transform_3 (grid0.coords t) 1 * 1024 + 1 * k.val)
  rw [tr3]
  show k.val = (0 * 1 + 1 * 0) * 1024 + (0 * 1024 + 1 * k.val)
  omega

/-- The norm's offset. -/
theorem offset_at (t : Fin cfg0.N) (k : Fin 1024) :
    iblk m c 4 t (ValueIdx.ix2 0 k) = m ((c : Thread nD τ).loc main_arg4) (ValueIdx.ix1 k) := by
  show V m c main_v2 _ = m ((c : Thread nD τ).loc main_arg4) _
  entry_read
  refine shapeCast_apply _ _ _ _ ?_
  refine (rowMajor_val1 (d := ![1024]) _).trans (Eq.trans ?_ (rowMajor_val2 (d := ![1, 1024]) _ 1024 rfl).symm)
  show k.val = (cc0_transform_4 (grid0.coords t) 0 * 1 + 1 * 0) * 1024 + (cc0_transform_4 (grid0.coords t) 1 * 1024 + 1 * k.val)
  rw [tr4]
  show k.val = (0 * 1 + 1 * 0) * 1024 + (0 * 1024 + 1 * k.val)
  omega

/-- The layer norm's row of a token. -/
def line (a : FVec Ideal S65536x1024 .bf16) (w : FVec Ideal S1024x1024 .f32) (x : FVec Ideal S65536x1024 .f32) (g b : FVec Ideal S1024 .f32) (s : Fin 65536) : Fin 1024 → EReal :=
  lnRow (fun k => Ideal.ofBits FTy.f32 1071072509#32 * x (ValueIdx.ix2 s k) + ∑ y : Fin 1024, a (ValueIdx.ix2 s y) * w (ValueIdx.ix2 y k))
    (fun k => g (ValueIdx.ix1 k)) (fun k => b (ValueIdx.ix1 k))

theorem point_at (t : Fin cfg0.N) (r : Fin 512) (d : Fin 1024) (s : Fin 65536) (hs : s.val = t.val * 512 + r.val) :
    out0_5 (iblk m c 0 t) (iblk m c 1 t) (iblk m c 2 t) (iblk m c 3 t) (iblk m c 4 t) (ValueIdx.ix2 r d) = line (m ((c : Thread nD τ).loc main_arg0)) (m ((c : Thread nD τ).loc main_arg1)) (m ((c : Thread nD τ).loc main_arg2)) (m ((c : Thread nD τ).loc main_arg3)) (m ((c : Thread nD τ).loc main_arg4)) s d :=
  out_at _ _ _ _ _ r d _ _ _ _ _ (fun y => merged_at m c t r y s hs) (fun y k => weights_at m c t y k y (by omega)) (fun k => tokens_at m c t r k s hs)
    (fun k => gain_at m c t k) (fun k => offset_at m c t k)

/-- The point that computes a token, and the token's row there. -/
def pt (s : Fin 65536) : Fin cfg0.N := ⟨s.val / 512, by have hN : cfg0.N = 128 := N_0; omega⟩
def row (s : Fin 65536) : Fin 512 := ⟨s.val % 512, Nat.mod_lt _ (by decide)⟩
theorem pt_row (s : Fin 65536) : s.val = (pt s).val * 512 + (row s).val := by
  show s.val = s.val / 512 * 512 + s.val % 512
  omega

/-- The result array at a token and a coordinate. -/
theorem res_at (s : Fin 65536) (d : Fin 1024) :
    (dats m 0 c).arrAt 5 cfg0.N (ValueIdx.ix2 s d) = line (m ((c : Thread nD τ).loc main_arg0)) (m ((c : Thread nD τ).loc main_arg1)) (m ((c : Thread nD τ).loc main_arg2)) (m ((c : Thread nD τ).loc main_arg3)) (m ((c : Thread nD τ).loc main_arg4)) s d := by
  have h := congrFun ((Value.blocks5 m c (pt s) (fl5 _)).trans (Value.flushed5 m c (pt s))) (ValueIdx.ix2 (row s) d)
  have e : ((cfg0.win 5).blk (pt s)).view.emb (ValueIdx.ix2 (row s) d) = ValueIdx.ix2 s d := by
    have := pt_row s
    generalize pt s = t at this ⊢
    generalize row s = r at this ⊢
    funext a
    refine Fin.cases ?_ (fun a => Fin.cases ?_ (fun a => a.elim0) a) a
    · refine Fin.ext ?_
      show cc0_transform_5 (grid0.coords t) 0 * 512 + 1 * r.val = s.val
      rw [tr5]
      show t.val * 512 + 1 * r.val = s.val
      omega
    · refine Fin.ext ?_
      show cc0_transform_5 (grid0.coords t) 1 * 1024 + 1 * d.val = d.val
      rw [tr5]
      show 0 * 1024 + 1 * d.val = d.val
      omega

  refine (congrArg ((dats m 0 c).arrAt 5 cfg0.N) e.symm).trans (h.trans ?_)
  exact point_at m c (pt s) (row s) d s (pt_row s)

end Cert.Kernel4Ideal.Proj

namespace Cert.Reference4Ideal.Proj

open Idealize.ShloMosaic Idealize.ShloMosaic.TcCoe Idealize.ShloMosaic.Tactic
open Cert.Reference4Ideal Cert.Reference4Ideal.Gen
open Cert.ReferenceIdeal.Moe (normed normed_at resid resid_at lnRow)
open Cert.Kernel4Ideal.Proj (line)

/-- Every token times the weights. -/
def prod (a : FVec Ideal S65536x1024 .bf16) (w : FVec Ideal S1024x1024 .f32) : FVec Ideal S65536x1024 .f32 :=
  Host.dotGeneral dot_S65536x1024_S1024x1024_S65536x1024_1_0_0_1_n_n none a w

theorem prod_at (a : FVec Ideal S65536x1024 .bf16) (w : FVec Ideal S1024x1024 .f32) (s : Fin 65536) (k : Fin 1024) :
    prod a w (ValueIdx.ix2 s k) = ∑ y : Fin 1024, a (ValueIdx.ix2 s y) * w (ValueIdx.ix2 y k) := by
  unfold prod
  pointwise
  try rfl

theorem result_at (a : FVec Ideal S65536x1024 .bf16) (w : FVec Ideal S1024x1024 .f32) (x : FVec Ideal S65536x1024 .f32) (g b : FVec Ideal S1024 .f32) (s : Fin 65536) (d : Fin 1024) :
    normed (resid x (prod a w)) g b (ValueIdx.ix2 s d) = line a w x g b s d := by
  refine (normed_at _ _ _ s d).trans ?_
  simp only [resid_at]
  exact congrArg (fun y => lnRow y _ _ d) (funext fun k => congrArg (_ + ·) (prod_at _ _ s k))

theorem same (m : (ℓ : Loc Kernel4Ideal.nD Kernel4Ideal.τ Kernel4Ideal.sig) → Buf (Elt Ideal) ℓ) (c : Dev Kernel4Ideal.nD) :
    normed (resid (m ((c : Thread Kernel4Ideal.nD Kernel4Ideal.τ).loc Kernel4Ideal.main_arg2)) (prod (m ((c : Thread Kernel4Ideal.nD Kernel4Ideal.τ).loc Kernel4Ideal.main_arg0)) (m ((c : Thread Kernel4Ideal.nD Kernel4Ideal.τ).loc Kernel4Ideal.main_arg1)))) (m ((c : Thread Kernel4Ideal.nD Kernel4Ideal.τ).loc Kernel4Ideal.main_arg3)) (m ((c : Thread Kernel4Ideal.nD Kernel4Ideal.τ).loc Kernel4Ideal.main_arg4)) = (Kernel4Ideal.Gen.dats m 0 c).arrAt 5 Kernel4Ideal.cfg0.N := by
  refine funext fun (j : S65536x1024.Idx) => ?_
  obtain ⟨s, d, rfl⟩ : ∃ (s : Fin 65536) (d : Fin 1024), j = ValueIdx.ix2 s d := ⟨j 0, j 1, Kernel4Ideal.Proj.split2 j⟩
  exact (result_at _ _ _ _ _ s d).trans (Kernel4Ideal.Proj.res_at m c s d).symm

end Cert.Reference4Ideal.Proj
-- ==== Proof.EvenOut.lean ====
/-
  The even layers' output projection: each block of 512 tokens, the two mixers' outputs times their rows of the weights, the
  residual and the layer norm.
-/
module

public import proofs.«01_k».proof.Proof.Gen.Kernel5Ideal.Value
public import proofs.«01_k».proof.Proof.Gen.Reference5Ideal.Run
public import proofs.«01_k».proof.Proof.Ref
public import Idealize.ShloMosaic.Lib.ValueIdx
public import Idealize.ShloMosaic.Lib.Pointwise
public import Idealize.ShloMosaic.PureOps.Ideal
public import Idealize.ShloMosaic.Lib.Claim

@[expose] public section

set_option maxRecDepth 16384

noncomputable section

namespace Cert.Kernel5Ideal.Proj

open Idealize.ShloMosaic Idealize.ShloMosaic.TcCoe Idealize.ShloMosaic.Tactic
open Cert.Kernel5Ideal Cert.Kernel5Ideal.Gen
open Cert.ReferenceIdeal.Moe (lnRow)

/-- An index of the result array is its token and its coordinate. -/
theorem split2 {a b : ℕ} (j : Shape.Idx ⟨2, ![a, b]⟩) : j = ValueIdx.ix2 (j 0) (j 1) :=
  funext fun k => Fin.cases rfl (fun k => Fin.cases rfl (fun k => k.elim0) k) k

theorem zeros2 : (![0, 0] : Fin 2 → Nat) = fun _ => 0 := funext fun a => by fin_cases a <;> rfl

theorem pay_at (a : Vec Ideal S512x512 .bf16) (wa : Vec Ideal S512x1024 .bf16) (u : Vec Ideal S512x1024 .bf16) (wu : Vec Ideal S1024x1024 .bf16) (x : Vec Ideal S512x1024 .f32) (g b : Vec Ideal S1x1024 .f32)
    (r : Fin 512) (d : Fin 1024) :
    k0_pay1 a wa u wu x g b (ValueIdx.ix2 r d)
      = lnRow (fun k => Ideal.ofBits FTy.f32 1071072509#32 * x (ValueIdx.ix2 r k)
          + (∑ y : Fin 512, a (ValueIdx.ix2 r y) * wa (ValueIdx.ix2 y k) + ∑ y : Fin 1024, u (ValueIdx.ix2 r y) * wu (ValueIdx.ix2 y k)))
        (fun k => g (ValueIdx.ix2 0 k)) (fun k => b (ValueIdx.ix2 0 k)) d := by
  unfold lnRow
  unfold_payloads
  pointwise
  rfl

theorem out_at (a : Vec Ideal S512x512 .bf16) (u wa : Vec Ideal S512x1024 .bf16) (wu : Vec Ideal S1024x1024 .bf16) (x : Vec Ideal S512x1024 .f32) (g b : Vec Ideal S1x1024 .f32) (r : Fin 512) (d : Fin 1024)
    (A : Fin 512 → EReal) (U X : Fin 1024 → EReal) (WA : Fin 512 → Fin 1024 → EReal) (WU : Fin 1024 → Fin 1024 → EReal) (G B : Fin 1024 → EReal)
    (ha : ∀ y, a (ValueIdx.ix2 r y) = A y) (hu : ∀ y, u (ValueIdx.ix2 r y) = U y) (hwa : ∀ y k, wa (ValueIdx.ix2 y k) = WA y k) (hwu : ∀ y k, wu (ValueIdx.ix2 y k) = WU y k)
    (hx : ∀ k, x (ValueIdx.ix2 r k) = X k) (hg : ∀ k, g (ValueIdx.ix2 0 k) = G k) (hb : ∀ k, b (ValueIdx.ix2 0 k) = B k) :
    out0_7 a u wa wu x g b (ValueIdx.ix2 r d)
      = lnRow (fun k => Ideal.ofBits FTy.f32 1071072509#32 * X k + (∑ y : Fin 512, A y * WA y k + ∑ y : Fin 1024, U y * WU y k)) G B d := by
  unfold out0_7
  rw [View.canon_unit_zero zeros2]
  simp only [View.ld_unit_zero (S := S512x512) zeros2, View.ld_unit_zero (S := S512x1024) zeros2, View.ld_unit_zero (S := S1024x1024) zeros2, View.ld_unit_zero (S := S1x1024) zeros2]
  refine (pay_at _ _ _ _ _ _ _ r d).trans ?_
  simp only [ha, hu, hwa, hwu, hx, hg, hb]

variable (m : (ℓ : Loc nD τ sig) → Buf (Elt Ideal) ℓ) (c : Dev nD)

theorem tr0 : ∀ t : Fin grid0.N, cc0_transform_0 (grid0.coords t) = ![t.val, 0] := by decide +kernel
theorem tr1 : ∀ t : Fin grid0.N, cc0_transform_1 (grid0.coords t) = ![t.val, 0] := by decide +kernel
theorem tr2 : ∀ t : Fin grid0.N, cc0_transform_2 (grid0.coords t) = ![0, 0] := by decide +kernel
theorem tr3 : ∀ t : Fin grid0.N, cc0_transform_3 (grid0.coords t) = ![0, 0] := by decide +kernel
theorem tr4 : ∀ t : Fin grid0.N, cc0_transform_4 (grid0.coords t) = ![t.val, 0] := by decide +kernel
theorem tr5 : ∀ t : Fin grid0.N, cc0_transform_5 (grid0.coords t) = ![0, 0] := by decide +kernel
theorem tr6 : ∀ t : Fin grid0.N, cc0_transform_6 (grid0.coords t) = ![0, 0] := by decide +kernel
theorem tr7 : ∀ t : Fin grid0.N, cc0_transform_7 (grid0.coords t) = ![t.val, 0] := by decide +kernel
theorem fl7 : ∀ t : Fin cfg0.N, (cfg0.win 7).flush t = true := by decide +kernel

/-- The attention's output: 512 rows of it. -/
theorem attn_at (t : Fin cfg0.N) (r : Fin 512) (k : Fin 512) (s : Fin 65536) (hs : s.val = t.val * 512 + r.val) :
    iblk m c 0 t (ValueIdx.ix2 r k) = m ((c : Thread nD τ).loc main_arg0) (ValueIdx.ix2 s k) := by
  show V m c main_arg0 _ = m ((c : Thread nD τ).loc main_arg0) _
  rw [V_main_arg0]
  congr 1
  funext a
  refine Fin.cases ?_ (fun a => Fin.cases ?_ (fun a => a.elim0) a) a
  · refine Fin.ext ?_
    show cc0_transform_0 (grid0.coords t) 0 * 512 + 1 * r.val = s.val
    rw [tr0]
    show t.val * 512 + 1 * r.val = s.val
    omega
  · refine Fin.ext ?_
    show cc0_transform_0 (grid0.coords t) 1 * 512 + 1 * k.val = k.val
    rw [tr0]
    show 0 * 512 + 1 * k.val = k.val
    omega

/-- The scan's output: 512 rows of it. -/
theorem ssm_at (t : Fin cfg0.N) (r : Fin 512) (k : Fin 1024) (s : Fin 65536) (hs : s.val = t.val * 512 + r.val) :
    iblk m c 1 t (ValueIdx.ix2 r k) = m ((c : Thread nD τ).loc main_arg1) (ValueIdx.ix2 s k) := by
  show V m c main_arg1 _ = m ((c : Thread nD τ).loc main_arg1) _
  rw [V_main_arg1]
  congr 1
  funext a
  refine Fin.cases ?_ (fun a => Fin.cases ?_ (fun a => a.elim0) a) a
  · refine Fin.ext ?_
    show cc0_transform_1 (grid0.coords t) 0 * 512 + 1 * r.val = s.val
    rw [tr1]
    show t.val * 512 + 1 * r.val = s.val
    omega
  · refine Fin.ext ?_
    show cc0_transform_1 (grid0.coords t) 1 * 1024 + 1 * k.val = k.val
    rw [tr1]
    show 0 * 1024 + 1 * k.val = k.val
    omega

/-- The attention's rows of the weights. -/
theorem upper_at (t : Fin cfg0.N) (y : Fin 512) (k : Fin 1024) (q : Fin 1536) (hq : q.val = 0 + y.val) :
    iblk m c 2 t (ValueIdx.ix2 y k) = m ((c : Thread nD τ).loc main_arg2) (ValueIdx.ix2 q k) := by
  show V m c main_v1 _ = m ((c : Thread nD τ).loc main_arg2) _
  entry_read
  show m ((c : Thread nD τ).loc main_arg2) _ = _
  congr 1
  funext a
  refine Fin.cases ?_ (fun a => Fin.cases ?_ (fun a => a.elim0) a) a
  · refine Fin.ext ?_
    show 0 + (cc0_transform_2 (grid0.coords t) 0 * 512 + 1 * y.val) = q.val
    rw [tr2]
    show 0 + (0 * 512 + 1 * y.val) = q.val
    omega
  · refine Fin.ext ?_
    show 0 + (cc0_transform_2 (grid0.coords t) 1 * 1024 + 1 * k.val) = k.val
    rw [tr2]
    show 0 + (0 * 1024 + 1 * k.val) = k.val
    omega

/-- The scan's rows of the weights. -/
theorem lower_at (t : Fin cfg0.N) (y : Fin 1024) (k : Fin 1024) (q : Fin 1536) (hq : q.val = 512 + y.val) :
    iblk m c 3 t (ValueIdx.ix2 y k) = m ((c : Thread nD τ).loc main_arg2) (ValueIdx.ix2 q k) := by
  show V m c main_v2 _ = m ((c : Thread nD τ).loc main_arg2) _
  entry_read
  show m ((c : Thread nD τ).loc main_arg2) _ = _
  congr 1
  funext a
  refine Fin.cases ?_ (fun a => Fin.cases ?_ (fun a => a.elim0) a) a
  · refine Fin.ext ?_
    show 512 + (cc0_transform_3 (grid0.coords t) 0 * 1024 + 1 * y.val) = q.val
    rw [tr3]
    show 512 + (0 * 1024 + 1 * y.val) = q.val
    omega
  · refine Fin.ext ?_
    show 0 + (cc0_transform_3 (grid0.coords t) 1 * 1024 + 1 * k.val) = k.val
    rw [tr3]
    show 0 + (0 * 1024 + 1 * k.val) = k.val
    omega

/-- The token window: 512 rows of the tokens. -/
theorem tokens_at (t : Fin cfg0.N) (r : Fin 512) (k : Fin 1024) (s : Fin 65536) (hs : s.val = t.val * 512 + r.val) :
    iblk m c 4 t (ValueIdx.ix2 r k) = m ((c : Thread nD τ).loc main_arg3) (ValueIdx.ix2 s k) := by
  show V m c main_arg3 _ = m ((c : Thread nD τ).loc main_arg3) _
  rw [V_main_arg3]
  congr 1
  funext a
  refine Fin.cases ?_ (fun a => Fin.cases ?_ (fun a => a.elim0) a) a
  · refine Fin.ext ?_
    show cc0_transform_4 (grid0.coords t) 0 * 512 + 1 * r.val = s.val
    rw [tr4]
    show t.val * 512 + 1 * r.val = s.val
    omega
  · refine Fin.ext ?_
    show cc0_transform_4 (grid0.coords t) 1 * 1024 + 1 * k.val = k.val
    rw [tr4]
    show 0 * 1024 + 1 * k.val = k.val
    omega

/-- The norm's gain. -/
theorem gain_at (t : Fin cfg0.N) (k : Fin 1024) :
    iblk m c 5 t (ValueIdx.ix2 0 k) = m ((c : Thread nD τ).loc main_arg4) (ValueIdx.ix1 k) := by
  show V m c main_v3 _ = m ((c : Thread nD τ).loc main_arg4) _
  entry_read
  refine shapeCast_apply _ _ _ _ ?_
  refine (rowMajor_val1 (d := ![1024]) _).trans (Eq.trans ?_ (rowMajor_val2 (d := ![1, 1024]) _ 1024 rfl).symm)
  show k.val = (cc0_transform_5 (grid0.coords t) 0 * 1 + 1 * 0) * 1024 + (cc0_transform_5 (grid0.coords t) 1 * 1024 + 1 * k.val)
  rw [tr5]
  show k.val = (0 * 1 + 1 * 0) * 1024 + (0 * 1024 + 1 * k.val)
  omega

/-- The norm's offset. -/
theorem offset_at (t : Fin cfg0.N) (k : Fin 1024) :
    iblk m c 6 t (ValueIdx.ix2 0 k) = m ((c : Thread nD τ).loc main_arg5) (ValueIdx.ix1 k) := by
  show V m c main_v4 _ = m ((c : Thread nD τ).loc main_arg5) _
  entry_read
  refine shapeCast_apply _ _ _ _ ?_
  refine (rowMajor_val1 (d := ![1024]) _).trans (Eq.trans ?_ (rowMajor_val2 (d := ![1, 1024]) _ 1024 rfl).symm)
  show k.val = (cc0_transform_6 (grid0.coords t) 0 * 1 + 1 * 0) * 1024 + (cc0_transform_6 (grid0.coords t) 1 * 1024 + 1 * k.val)
  rw [tr6]
  show k.val = (0 * 1 + 1 * 0) * 1024 + (0 * 1024 + 1 * k.val)
  omega

/-- A token's two products with the weights. -/
def both (a : FVec Ideal S65536x512 .bf16) (u : FVec Ideal S65536x1024 .bf16) (w : FVec Ideal S1536x1024 .f32) (s : Fin 65536) (k : Fin 1024) : EReal :=
  ∑ y : Fin 512, a (ValueIdx.ix2 s y) * w (ValueIdx.ix2 ⟨0 + y.val, by omega⟩ k) + ∑ y : Fin 1024, u (ValueIdx.ix2 s y) * w (ValueIdx.ix2 ⟨512 + y.val, by omega⟩ k)

/-- The layer norm's row of a token. -/
def line (a : FVec Ideal S65536x512 .bf16) (u : FVec Ideal S65536x1024 .bf16) (w : FVec Ideal S1536x1024 .f32) (x : FVec Ideal S65536x1024 .f32) (g b : FVec Ideal S1024 .f32) (s : Fin 65536) : Fin 1024 → EReal :=
  lnRow (fun k => Ideal.ofBits FTy.f32 1071072509#32 * x (ValueIdx.ix2 s k) + both a u w s k) (fun k => g (ValueIdx.ix1 k)) (fun k => b (ValueIdx.ix1 k))

theorem point_at (t : Fin cfg0.N) (r : Fin 512) (d : Fin 1024) (s : Fin 65536) (hs : s.val = t.val * 512 + r.val) :
    out0_7 (iblk m c 0 t) (iblk m c 1 t) (iblk m c 2 t) (iblk m c 3 t) (iblk m c 4 t) (iblk m c 5 t) (iblk m c 6 t) (ValueIdx.ix2 r d) = line (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) s d :=
  out_at _ _ _ _ _ _ _ r d _ _ _ _ _ _ _ (fun y => attn_at m c t r y s hs) (fun y => ssm_at m c t r y s hs)
    (fun y k => upper_at m c t y k ⟨0 + y.val, by omega⟩ rfl) (fun y k => lower_at m c t y k ⟨512 + y.val, by omega⟩ rfl) (fun k => tokens_at m c t r k s hs)
    (fun k => gain_at m c t k) (fun k => offset_at m c t k)

/-- The point that computes a token, and the token's row there. -/
def pt (s : Fin 65536) : Fin cfg0.N := ⟨s.val / 512, by have hN : cfg0.N = 128 := N_0; omega⟩
def row (s : Fin 65536) : Fin 512 := ⟨s.val % 512, Nat.mod_lt _ (by decide)⟩
theorem pt_row (s : Fin 65536) : s.val = (pt s).val * 512 + (row s).val := by
  show s.val = s.val / 512 * 512 + s.val % 512
  omega

/-- The result array at a token and a coordinate. -/
theorem res_at (s : Fin 65536) (d : Fin 1024) :
    (dats m 0 c).arrAt 7 cfg0.N (ValueIdx.ix2 s d) = line (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) s d := by
  have h := congrFun ((Value.blocks7 m c (pt s) (fl7 _)).trans (Value.flushed7 m c (pt s))) (ValueIdx.ix2 (row s) d)
  have e : ((cfg0.win 7).blk (pt s)).view.emb (ValueIdx.ix2 (row s) d) = ValueIdx.ix2 s d := by
    have := pt_row s
    generalize pt s = t at this ⊢
    generalize row s = r at this ⊢
    funext a
    refine Fin.cases ?_ (fun a => Fin.cases ?_ (fun a => a.elim0) a) a
    · refine Fin.ext ?_
      show cc0_transform_7 (grid0.coords t) 0 * 512 + 1 * r.val = s.val
      rw [tr7]
      show t.val * 512 + 1 * r.val = s.val
      omega
    · refine Fin.ext ?_
      show cc0_transform_7 (grid0.coords t) 1 * 1024 + 1 * d.val = d.val
      rw [tr7]
      show 0 * 1024 + 1 * d.val = d.val
      omega

  refine (congrArg ((dats m 0 c).arrAt 7 cfg0.N) e.symm).trans (h.trans ?_)
  exact point_at m c (pt s) (row s) d s (pt_row s)

end Cert.Kernel5Ideal.Proj

namespace Cert.Reference5Ideal.Proj

open Idealize.ShloMosaic Idealize.ShloMosaic.TcCoe Idealize.ShloMosaic.Tactic
open Cert.Reference5Ideal Cert.Reference5Ideal.Gen
open Cert.ReferenceIdeal.Moe (normed normed_at resid resid_at lnRow)
open Cert.Kernel5Ideal.Proj (line both)

/-- The two mixers' outputs side by side. -/
def joined (a : FVec Ideal S65536x512 .bf16) (u : FVec Ideal S65536x1024 .bf16) : FVec Ideal S65536x1536 .bf16 :=
  concatenate S65536x1536 1 [⟨S65536x512, a⟩, ⟨S65536x1024, u⟩] concatenates_S65536x512_S65536x1024_S65536x1536_d1

/-- Every token times the weights. -/
def prod (a : FVec Ideal S65536x512 .bf16) (u : FVec Ideal S65536x1024 .bf16) (w : FVec Ideal S1536x1024 .f32) : FVec Ideal S65536x1024 .f32 :=
  Host.dotGeneral dot_S65536x1536_S1536x1024_S65536x1024_1_0_0_1_n_n none (joined a u) w

theorem left_at (a : FVec Ideal S65536x512 .bf16) (u : FVec Ideal S65536x1024 .bf16) (s : Fin 65536) (y : Fin 512) (q : Fin 1536) (hq : q.val = y.val) :
    joined a u (ValueIdx.ix2 s q) = a (ValueIdx.ix2 s y) := by
  unfold joined
  pointwise
  refine (dif_pos (show q.val < 512 by omega)).trans ?_
  exact congrArg (fun k => a (ValueIdx.ix2 s k)) (Fin.ext hq)

theorem right_at (a : FVec Ideal S65536x512 .bf16) (u : FVec Ideal S65536x1024 .bf16) (s : Fin 65536) (y : Fin 1024) (q : Fin 1536) (hq : q.val = 512 + y.val) :
    joined a u (ValueIdx.ix2 s q) = u (ValueIdx.ix2 s y) := by
  unfold joined
  pointwise
  refine (dif_neg (show ¬ q.val < 512 by omega)).trans ?_
  exact congrArg (fun k => u (ValueIdx.ix2 s k)) (Fin.ext (by show q.val - 512 = y.val; omega))

theorem whole_at (a : FVec Ideal S65536x512 .bf16) (u : FVec Ideal S65536x1024 .bf16) (w : FVec Ideal S1536x1024 .f32) (s : Fin 65536) (k : Fin 1024) :
    prod a u w (ValueIdx.ix2 s k) = ∑ y : Fin 1536, joined a u (ValueIdx.ix2 s y) * w (ValueIdx.ix2 y k) := by
  unfold prod
  pointwise
  try rfl

theorem prod_at (a : FVec Ideal S65536x512 .bf16) (u : FVec Ideal S65536x1024 .bf16) (w : FVec Ideal S1536x1024 .f32) (s : Fin 65536) (k : Fin 1024) :
    prod a u w (ValueIdx.ix2 s k) = both a u w s k := by
  rw [whole_at]
  refine (Fin.sum_univ_add (a := 512) (b := 1024) fun y => joined a u (ValueIdx.ix2 s y) * w (ValueIdx.ix2 y k)).trans ?_
  unfold both
  refine congrArg₂ (fun v z : EReal => v + z) (Finset.sum_congr rfl fun y _ => ?_) (Finset.sum_congr rfl fun y _ => ?_)
  · rw [left_at a u s y _ rfl]
    exact congrArg (fun q => a (ValueIdx.ix2 s y) * w (ValueIdx.ix2 q k)) (Fin.ext (by show y.val = 0 + y.val; omega))
  · rw [right_at a u s y _ rfl]
    rfl

theorem result_at (a : FVec Ideal S65536x512 .bf16) (u : FVec Ideal S65536x1024 .bf16) (w : FVec Ideal S1536x1024 .f32) (x : FVec Ideal S65536x1024 .f32) (g b : FVec Ideal S1024 .f32) (s : Fin 65536) (d : Fin 1024) :
    normed (resid x (prod a u w)) g b (ValueIdx.ix2 s d) = line a u w x g b s d := by
  refine (normed_at _ _ _ s d).trans ?_
  simp only [resid_at]
  exact congrArg (fun y => lnRow y _ _ d) (funext fun k => congrArg (_ + ·) (prod_at _ _ _ s k))

theorem same (m : (ℓ : Loc Kernel5Ideal.nD Kernel5Ideal.τ Kernel5Ideal.sig) → Buf (Elt Ideal) ℓ) (c : Dev Kernel5Ideal.nD) :
    normed (resid (m ((c : Thread Kernel5Ideal.nD Kernel5Ideal.τ).loc Kernel5Ideal.main_arg3)) (prod (m ((c : Thread Kernel5Ideal.nD Kernel5Ideal.τ).loc Kernel5Ideal.main_arg0)) (m ((c : Thread Kernel5Ideal.nD Kernel5Ideal.τ).loc Kernel5Ideal.main_arg1)) (m ((c : Thread Kernel5Ideal.nD Kernel5Ideal.τ).loc Kernel5Ideal.main_arg2)))) (m ((c : Thread Kernel5Ideal.nD Kernel5Ideal.τ).loc Kernel5Ideal.main_arg4)) (m ((c : Thread Kernel5Ideal.nD Kernel5Ideal.τ).loc Kernel5Ideal.main_arg5)) = (Kernel5Ideal.Gen.dats m 0 c).arrAt 7 Kernel5Ideal.cfg0.N := by
  refine funext fun (j : S65536x1024.Idx) => ?_
  obtain ⟨s, d, rfl⟩ : ∃ (s : Fin 65536) (d : Fin 1024), j = ValueIdx.ix2 s d := ⟨j 0, j 1, Kernel5Ideal.Proj.split2 j⟩
  exact (result_at _ _ _ _ _ _ s d).trans (Kernel5Ideal.Proj.res_at m c s d).symm

end Cert.Reference5Ideal.Proj
-- ==== Proof.EvenIn.lean ====
/-
  The even layers' input projection: each block of 256 tokens times six blocks of the weights' columns, the last of which is
  filled with zeros.
-/
module

public import proofs.«01_k».proof.Proof.Gen.Kernel6Ideal.Value
public import proofs.«01_k».proof.Proof.Gen.Reference6Ideal.Run
public import Idealize.ShloMosaic.Lib.ValueIdx
public import Idealize.ShloMosaic.Lib.Pointwise
public import Idealize.ShloMosaic.PureOps.Ideal
public import Idealize.ShloMosaic.Lib.Claim

@[expose] public section

set_option maxRecDepth 16384

noncomputable section

namespace Cert.Kernel6Ideal.Proj

open Idealize.ShloMosaic Idealize.ShloMosaic.TcCoe Idealize.ShloMosaic.Tactic
open Cert.Kernel6Ideal Cert.Kernel6Ideal.Gen

/-- An index of the result arrays is its token and its column. -/
theorem split2 {a b : ℕ} (j : Shape.Idx ⟨2, ![a, b]⟩) : j = ValueIdx.ix2 (j 0) (j 1) :=
  funext fun k => Fin.cases rfl (fun k => Fin.cases rfl (fun k => k.elim0) k) k

theorem zeros2 : (![0, 0] : Fin 2 → Nat) = fun _ => 0 := funext fun a => by fin_cases a <;> rfl

/-- A block of the weights' columns, read at an index. -/
theorem cols_at (w : Vec Ideal S1024x4736 .bf16) (o n : ℕ) (h : ∀ a, (![0, o] : Fin 2 → Nat) a + (![1024, n] : Fin 2 → Nat) a ≤ S1024x4736.size a) (y : Fin 1024) (d : Fin n) (q : Fin 4736) (hq : q.val = o + d.val) :
    View.ld w (Rect.unit (s := S1024x4736) ![0, o] ![1024, n] h) (ValueIdx.ix2 y d) = w (ValueIdx.ix2 y q) := by
  show w _ = w _
  congr 1
  funext a
  refine Fin.cases ?_ (fun a => Fin.cases ?_ (fun a => a.elim0) a) a
  · refine Fin.ext ?_
    show 0 + 1 * y.val = y.val
    omega
  · refine Fin.ext ?_
    show o + 1 * d.val = q.val
    omega

theorem pay2_at (x : Vec Ideal S256x1024 .f32) (w : Vec Ideal S1024x512 .bf16) (r : Fin 256) (d : Fin 512) :
    k0_pay3 x w (ValueIdx.ix2 r d) = ∑ y : Fin 1024, x (ValueIdx.ix2 r y) * w (ValueIdx.ix2 y d) := by
  unfold_payloads
  pointwise
  try rfl

theorem out2_at (x : Vec Ideal S256x1024 .f32) (w : Vec Ideal S1024x4736 .bf16) (r : Fin 256) (d : Fin 512) (q : Fin 4736) (hq : q.val = 0 + d.val) :
    out0_2 x w (ValueIdx.ix2 r d) = ∑ y : Fin 1024, x (ValueIdx.ix2 r y) * w (ValueIdx.ix2 y q) := by
  unfold out0_2
  rw [View.canon_unit_zero zeros2, View.ld_unit_zero (S := S256x1024) zeros2]
  refine (pay2_at _ _ r d).trans (Finset.sum_congr rfl fun y _ => congrArg (_ * ·) (cols_at w 0 512 _ y d q hq))

theorem pay3_at (x : Vec Ideal S256x1024 .f32) (w : Vec Ideal S1024x512 .bf16) (r : Fin 256) (d : Fin 512) :
    k0_pay4 x w (ValueIdx.ix2 r d) = ∑ y : Fin 1024, x (ValueIdx.ix2 r y) * w (ValueIdx.ix2 y d) := by
  unfold_payloads
  pointwise
  try rfl

theorem out3_at (x : Vec Ideal S256x1024 .f32) (w : Vec Ideal S1024x4736 .bf16) (r : Fin 256) (d : Fin 512) (q : Fin 4736) (hq : q.val = 512 + d.val) :
    out0_3 x w (ValueIdx.ix2 r d) = ∑ y : Fin 1024, x (ValueIdx.ix2 r y) * w (ValueIdx.ix2 y q) := by
  unfold out0_3
  rw [View.canon_unit_zero zeros2, View.ld_unit_zero (S := S256x1024) zeros2]
  refine (pay3_at _ _ r d).trans (Finset.sum_congr rfl fun y _ => congrArg (_ * ·) (cols_at w 512 512 _ y d q hq))

theorem pay4_at (x : Vec Ideal S256x1024 .f32) (w : Vec Ideal S1024x512 .bf16) (r : Fin 256) (d : Fin 512) :
    k0_pay5 x w (ValueIdx.ix2 r d) = ∑ y : Fin 1024, x (ValueIdx.ix2 r y) * w (ValueIdx.ix2 y d) := by
  unfold_payloads
  pointwise
  try rfl

theorem out4_at (x : Vec Ideal S256x1024 .f32) (w : Vec Ideal S1024x4736 .bf16) (r : Fin 256) (d : Fin 512) (q : Fin 4736) (hq : q.val = 1024 + d.val) :
    out0_4 x w (ValueIdx.ix2 r d) = ∑ y : Fin 1024, x (ValueIdx.ix2 r y) * w (ValueIdx.ix2 y q) := by
  unfold out0_4
  rw [View.canon_unit_zero zeros2, View.ld_unit_zero (S := S256x1024) zeros2]
  refine (pay4_at _ _ r d).trans (Finset.sum_congr rfl fun y _ => congrArg (_ * ·) (cols_at w 1024 512 _ y d q hq))

theorem pay5_at (x : Vec Ideal S256x1024 .f32) (w : Vec Ideal S1024x1024 .bf16) (r : Fin 256) (d : Fin 1024) :
    k0_pay6 x w (ValueIdx.ix2 r d) = ∑ y : Fin 1024, x (ValueIdx.ix2 r y) * w (ValueIdx.ix2 y d) := by
  unfold_payloads
  pointwise
  try rfl

theorem out5_at (x : Vec Ideal S256x1024 .f32) (w : Vec Ideal S1024x4736 .bf16) (r : Fin 256) (d : Fin 1024) (q : Fin 4736) (hq : q.val = 1536 + d.val) :
    out0_5 x w (ValueIdx.ix2 r d) = ∑ y : Fin 1024, x (ValueIdx.ix2 r y) * w (ValueIdx.ix2 y q) := by
  unfold out0_5
  rw [View.canon_unit_zero zeros2, View.ld_unit_zero (S := S256x1024) zeros2]
  refine (pay5_at _ _ r d).trans (Finset.sum_congr rfl fun y _ => congrArg (_ * ·) (cols_at w 1536 1024 _ y d q hq))

theorem pay6_at (x : Vec Ideal S256x1024 .f32) (w : Vec Ideal S1024x2048 .bf16) (r : Fin 256) (d : Fin 2048) :
    k0_pay7 x w (ValueIdx.ix2 r d) = ∑ y : Fin 1024, x (ValueIdx.ix2 r y) * w (ValueIdx.ix2 y d) := by
  unfold_payloads
  pointwise
  try rfl

theorem out6_at (x : Vec Ideal S256x1024 .f32) (w : Vec Ideal S1024x4736 .bf16) (r : Fin 256) (d : Fin 2048) (q : Fin 4736) (hq : q.val = 2560 + d.val) :
    out0_6 x w (ValueIdx.ix2 r d) = ∑ y : Fin 1024, x (ValueIdx.ix2 r y) * w (ValueIdx.ix2 y q) := by
  unfold out0_6
  rw [View.canon_unit_zero zeros2, View.ld_unit_zero (S := S256x1024) zeros2]
  refine (pay6_at _ _ r d).trans (Finset.sum_congr rfl fun y _ => congrArg (_ * ·) (cols_at w 2560 2048 _ y d q hq))

theorem pay7_at (x : Vec Ideal S256x1024 .f32) (w : Vec Ideal S1024x128 .bf16) (r : Fin 256) (d : Fin 128) :
    k0_pay1 (k0_pay2 x) w (ValueIdx.ix2 r d) = ∑ y : Fin 1024, x (ValueIdx.ix2 r y) * w (ValueIdx.ix2 y d) := by
  unfold_payloads
  pointwise
  try rfl

theorem out7_at (x : Vec Ideal S256x1024 .f32) (w : Vec Ideal S1024x4736 .bf16) (r : Fin 256) (d : Fin 128) (q : Fin 4736) (hq : q.val = 4608 + d.val) :
    out0_7 x w (ValueIdx.ix2 r d) = ∑ y : Fin 1024, x (ValueIdx.ix2 r y) * w (ValueIdx.ix2 y q) := by
  unfold out0_7
  rw [View.canon_unit_zero zeros2, View.ld_unit_zero (S := S256x1024) zeros2]
  refine (pay7_at _ _ r d).trans (Finset.sum_congr rfl fun y _ => congrArg (_ * ·) (cols_at w 4608 128 _ y d q hq))

variable (m : (ℓ : Loc nD τ sig) → Buf (Elt Ideal) ℓ) (c : Dev nD)

theorem tr0 : ∀ t : Fin grid0.N, cc0_transform_0 (grid0.coords t) = ![t.val, 0] := by decide +kernel
theorem tr1 : ∀ t : Fin grid0.N, cc0_transform_1 (grid0.coords t) = ![0, 0] := by decide +kernel
theorem tr2 : ∀ t : Fin grid0.N, cc0_transform_2 (grid0.coords t) = ![t.val, 0] := by decide +kernel
theorem fl2 : ∀ t : Fin cfg0.N, (cfg0.win 2).flush t = true := by decide +kernel
theorem tr3 : ∀ t : Fin grid0.N, cc0_transform_3 (grid0.coords t) = ![t.val, 0] := by decide +kernel
theorem fl3 : ∀ t : Fin cfg0.N, (cfg0.win 3).flush t = true := by decide +kernel
theorem tr4 : ∀ t : Fin grid0.N, cc0_transform_4 (grid0.coords t) = ![t.val, 0] := by decide +kernel
theorem fl4 : ∀ t : Fin cfg0.N, (cfg0.win 4).flush t = true := by decide +kernel
theorem tr5 : ∀ t : Fin grid0.N, cc0_transform_5 (grid0.coords t) = ![t.val, 0] := by decide +kernel
theorem fl5 : ∀ t : Fin cfg0.N, (cfg0.win 5).flush t = true := by decide +kernel
theorem tr6 : ∀ t : Fin grid0.N, cc0_transform_6 (grid0.coords t) = ![t.val, 0] := by decide +kernel
theorem fl6 : ∀ t : Fin cfg0.N, (cfg0.win 6).flush t = true := by decide +kernel
theorem tr7 : ∀ t : Fin grid0.N, cc0_transform_7 (grid0.coords t) = ![t.val, 0] := by decide +kernel
theorem fl7 : ∀ t : Fin cfg0.N, (cfg0.win 7).flush t = true := by decide +kernel

/-- The token window: 256 rows of the tokens. -/
theorem tokens_at (t : Fin cfg0.N) (r : Fin 256) (k : Fin 1024) (s : Fin 65536) (hs : s.val = t.val * 256 + r.val) :
    iblk m c 0 t (ValueIdx.ix2 r k) = m ((c : Thread nD τ).loc main_arg0) (ValueIdx.ix2 s k) := by
  show V m c main_arg0 _ = m ((c : Thread nD τ).loc main_arg0) _
  rw [V_main_arg0]
  congr 1
  funext a
  refine Fin.cases ?_ (fun a => Fin.cases ?_ (fun a => a.elim0) a) a
  · refine Fin.ext ?_
    show cc0_transform_0 (grid0.coords t) 0 * 256 + 1 * r.val = s.val
    rw [tr0]
    show t.val * 256 + 1 * r.val = s.val
    omega
  · refine Fin.ext ?_
    show cc0_transform_0 (grid0.coords t) 1 * 1024 + 1 * k.val = k.val
    rw [tr0]
    show 0 * 1024 + 1 * k.val = k.val
    omega

theorem zero_int : (FloatOps.sitofp (F := Ideal) FTy.f32 (0#32) : EReal) = 0 := by
  show (((0#32 : BitVec 32).toInt : ℝ) : EReal) = 0
  simp

/-- The weights' columns, and zeros after them. -/
def wcat (w : FVec Ideal S1024x4624 .f32) (y : Fin 1024) (q : Fin 4736) : EReal :=
  if h : q.val < 4624 then w (ValueIdx.ix2 y ⟨q.val, h⟩) else 0

theorem joined_at (w : FVec Ideal S1024x4624 .f32) (y : Fin 1024) (q : Fin 4736) :
    (truncf .bf16 (concatenate S1024x4736 1 [⟨S1024x4608, extractStridedSlice S1024x4608 ![0, 0] w slices_S1024x4624_S1024x4608_0_0⟩,
      ⟨S1024x128, pad S1024x128 ![0, 0] ![0, 112] ![0, 0] (extractStridedSlice S1024x16 ![0, 4608] w slices_S1024x4624_S1024x16_0_4608) (sitofp .f32 (constantI S_ 32 0#32)) pads_S1024x16_S1024x128_000_01120 h_S_⟩]
      concatenates_S1024x4608_S1024x128_S1024x4736_d1) bitsLt_bf16_f32 : FVec Ideal S1024x4736 .bf16) (ValueIdx.ix2 y q) = wcat w y q := by
  unfold wcat
  pointwise
  show (if h : q.val < 4608 then w (ValueIdx.ix2 y ⟨q.val, by omega⟩)
    else if h1 : q.val - 4608 < 16 then w (ValueIdx.ix2 y ⟨4608 + (q.val - 4608), by omega⟩) else FloatOps.sitofp (F := Ideal) FTy.f32 0#32) = _
  by_cases h : q.val < 4608
  · rw [dif_pos h, dif_pos (by omega)]
  · rw [dif_neg h]
    by_cases h1 : q.val - 4608 < 16
    · rw [dif_pos h1, dif_pos (by omega)]
      exact congrArg (fun k => w (ValueIdx.ix2 y k)) (Fin.ext (by show 4608 + (q.val - 4608) = q.val; omega))
    · rw [dif_neg h1, dif_neg (by omega)]
      exact zero_int

/-- The weights' window: all of them. -/
theorem weights_at (t : Fin cfg0.N) (y : Fin 1024) (q : Fin 4736) :
    iblk m c 1 t (ValueIdx.ix2 y q) = wcat (m ((c : Thread nD τ).loc main_arg1)) y q := by
  refine Eq.trans ?_ (joined_at _ y q)
  show V m c main_v4 (((cfg0.win 1).blk t).view.emb (ValueIdx.ix2 y q)) = _
  have e : ((cfg0.win 1).blk t).view.emb (ValueIdx.ix2 y q) = ValueIdx.ix2 y q := by
    funext a
    refine Fin.cases ?_ (fun a => Fin.cases ?_ (fun a => a.elim0) a) a
    · refine Fin.ext ?_
      show cc0_transform_1 (grid0.coords t) 0 * 1024 + 1 * y.val = y.val
      rw [tr1]
      show 0 * 1024 + 1 * y.val = y.val
      omega
    · refine Fin.ext ?_
      show cc0_transform_1 (grid0.coords t) 1 * 4736 + 1 * q.val = q.val
      rw [tr1]
      show 0 * 4736 + 1 * q.val = q.val
      omega
  refine (congrArg (V m c main_v4) e).trans (congrFun ?_ _)
  show StableHlo.after _ _ _ = _
  simp only [hostOps0, hostOps0_1, hostOps0_2, List.flatten_cons, List.flatten_nil, List.append_nil, List.cons_append, List.nil_append,
    StableHlo.TRef.binary, StableHlo.TRef.unary, StableHlo.TRef.toBuf, StableHlo.TRef.ofBuf, cast_eq]
  after_results

/-- A token's product with a column of the weights. -/
def col (x : FVec Ideal S65536x1024 .f32) (w : FVec Ideal S1024x4624 .f32) (s : Fin 65536) (q : Fin 4736) : EReal :=
  ∑ y : Fin 1024, x (ValueIdx.ix2 s y) * wcat w y q

theorem prod_at (t : Fin cfg0.N) (r : Fin 256) (q : Fin 4736) (s : Fin 65536) (hs : s.val = t.val * 256 + r.val)
    (x : Vec Ideal S256x1024 .f32) (w : Vec Ideal S1024x4736 .bf16) (hx : x = iblk m c 0 t) (hw : w = iblk m c 1 t) :
    ∑ y : Fin 1024, x (ValueIdx.ix2 r y) * w (ValueIdx.ix2 y q)
      = col (m ((c : Thread nD τ).loc main_arg0)) (m ((c : Thread nD τ).loc main_arg1)) s q := by
  subst hx hw
  exact Finset.sum_congr rfl fun y _ => congrArg₂ (fun v w : EReal => v * w) (tokens_at m c t r y s hs) (weights_at m c t y q)

/-- The point that computes a token, and the token's row there. -/
def pt (s : Fin 65536) : Fin cfg0.N := ⟨s.val / 256, by have hN : cfg0.N = 256 := N_0; omega⟩
def row (s : Fin 65536) : Fin 256 := ⟨s.val % 256, Nat.mod_lt _ (by decide)⟩
theorem pt_row (s : Fin 65536) : s.val = (pt s).val * 256 + (row s).val := by
  show s.val = s.val / 256 * 256 + s.val % 256
  omega

theorem res2_at (s : Fin 65536) (d : Fin 512) (q : Fin 4736) (hq : q.val = 0 + d.val) :
    (dats m 0 c).arrAt 2 cfg0.N (ValueIdx.ix2 s d) = col (m ((c : Thread nD τ).loc main_arg0)) (m ((c : Thread nD τ).loc main_arg1)) s q := by
  have h := congrFun ((Value.blocks2 m c (pt s) (fl2 _)).trans (Value.flushed2 m c (pt s))) (ValueIdx.ix2 (row s) d)
  have e : ((cfg0.win 2).blk (pt s)).view.emb (ValueIdx.ix2 (row s) d) = ValueIdx.ix2 s d := by
    funext a
    refine Fin.cases ?_ (fun a => Fin.cases ?_ (fun a => a.elim0) a) a
    · refine Fin.ext ?_
      show cc0_transform_2 (grid0.coords (pt s)) 0 * 256 + 1 * (row s).val = s.val
      rw [tr2]
      show (pt s).val * 256 + 1 * (row s).val = s.val
      have := pt_row s
      omega
    · refine Fin.ext ?_
      show cc0_transform_2 (grid0.coords (pt s)) 1 * 512 + 1 * d.val = d.val
      rw [tr2]
      show 0 * 512 + 1 * d.val = d.val
      omega
  refine (congrArg ((dats m 0 c).arrAt 2 cfg0.N) e.symm).trans (h.trans ?_)
  exact (out2_at _ _ (row s) d q hq).trans (prod_at m c (pt s) (row s) q s (pt_row s) _ _ rfl rfl)

theorem res3_at (s : Fin 65536) (d : Fin 512) (q : Fin 4736) (hq : q.val = 512 + d.val) :
    (dats m 0 c).arrAt 3 cfg0.N (ValueIdx.ix2 s d) = col (m ((c : Thread nD τ).loc main_arg0)) (m ((c : Thread nD τ).loc main_arg1)) s q := by
  have h := congrFun ((Value.blocks3 m c (pt s) (fl3 _)).trans (Value.flushed3 m c (pt s))) (ValueIdx.ix2 (row s) d)
  have e : ((cfg0.win 3).blk (pt s)).view.emb (ValueIdx.ix2 (row s) d) = ValueIdx.ix2 s d := by
    funext a
    refine Fin.cases ?_ (fun a => Fin.cases ?_ (fun a => a.elim0) a) a
    · refine Fin.ext ?_
      show cc0_transform_3 (grid0.coords (pt s)) 0 * 256 + 1 * (row s).val = s.val
      rw [tr3]
      show (pt s).val * 256 + 1 * (row s).val = s.val
      have := pt_row s
      omega
    · refine Fin.ext ?_
      show cc0_transform_3 (grid0.coords (pt s)) 1 * 512 + 1 * d.val = d.val
      rw [tr3]
      show 0 * 512 + 1 * d.val = d.val
      omega
  refine (congrArg ((dats m 0 c).arrAt 3 cfg0.N) e.symm).trans (h.trans ?_)
  exact (out3_at _ _ (row s) d q hq).trans (prod_at m c (pt s) (row s) q s (pt_row s) _ _ rfl rfl)

theorem res4_at (s : Fin 65536) (d : Fin 512) (q : Fin 4736) (hq : q.val = 1024 + d.val) :
    (dats m 0 c).arrAt 4 cfg0.N (ValueIdx.ix2 s d) = col (m ((c : Thread nD τ).loc main_arg0)) (m ((c : Thread nD τ).loc main_arg1)) s q := by
  have h := congrFun ((Value.blocks4 m c (pt s) (fl4 _)).trans (Value.flushed4 m c (pt s))) (ValueIdx.ix2 (row s) d)
  have e : ((cfg0.win 4).blk (pt s)).view.emb (ValueIdx.ix2 (row s) d) = ValueIdx.ix2 s d := by
    funext a
    refine Fin.cases ?_ (fun a => Fin.cases ?_ (fun a => a.elim0) a) a
    · refine Fin.ext ?_
      show cc0_transform_4 (grid0.coords (pt s)) 0 * 256 + 1 * (row s).val = s.val
      rw [tr4]
      show (pt s).val * 256 + 1 * (row s).val = s.val
      have := pt_row s
      omega
    · refine Fin.ext ?_
      show cc0_transform_4 (grid0.coords (pt s)) 1 * 512 + 1 * d.val = d.val
      rw [tr4]
      show 0 * 512 + 1 * d.val = d.val
      omega
  refine (congrArg ((dats m 0 c).arrAt 4 cfg0.N) e.symm).trans (h.trans ?_)
  exact (out4_at _ _ (row s) d q hq).trans (prod_at m c (pt s) (row s) q s (pt_row s) _ _ rfl rfl)

theorem res5_at (s : Fin 65536) (d : Fin 1024) (q : Fin 4736) (hq : q.val = 1536 + d.val) :
    (dats m 0 c).arrAt 5 cfg0.N (ValueIdx.ix2 s d) = col (m ((c : Thread nD τ).loc main_arg0)) (m ((c : Thread nD τ).loc main_arg1)) s q := by
  have h := congrFun ((Value.blocks5 m c (pt s) (fl5 _)).trans (Value.flushed5 m c (pt s))) (ValueIdx.ix2 (row s) d)
  have e : ((cfg0.win 5).blk (pt s)).view.emb (ValueIdx.ix2 (row s) d) = ValueIdx.ix2 s d := by
    funext a
    refine Fin.cases ?_ (fun a => Fin.cases ?_ (fun a => a.elim0) a) a
    · refine Fin.ext ?_
      show cc0_transform_5 (grid0.coords (pt s)) 0 * 256 + 1 * (row s).val = s.val
      rw [tr5]
      show (pt s).val * 256 + 1 * (row s).val = s.val
      have := pt_row s
      omega
    · refine Fin.ext ?_
      show cc0_transform_5 (grid0.coords (pt s)) 1 * 1024 + 1 * d.val = d.val
      rw [tr5]
      show 0 * 1024 + 1 * d.val = d.val
      omega
  refine (congrArg ((dats m 0 c).arrAt 5 cfg0.N) e.symm).trans (h.trans ?_)
  exact (out5_at _ _ (row s) d q hq).trans (prod_at m c (pt s) (row s) q s (pt_row s) _ _ rfl rfl)

theorem res6_at (s : Fin 65536) (d : Fin 2048) (q : Fin 4736) (hq : q.val = 2560 + d.val) :
    (dats m 0 c).arrAt 6 cfg0.N (ValueIdx.ix2 s d) = col (m ((c : Thread nD τ).loc main_arg0)) (m ((c : Thread nD τ).loc main_arg1)) s q := by
  have h := congrFun ((Value.blocks6 m c (pt s) (fl6 _)).trans (Value.flushed6 m c (pt s))) (ValueIdx.ix2 (row s) d)
  have e : ((cfg0.win 6).blk (pt s)).view.emb (ValueIdx.ix2 (row s) d) = ValueIdx.ix2 s d := by
    funext a
    refine Fin.cases ?_ (fun a => Fin.cases ?_ (fun a => a.elim0) a) a
    · refine Fin.ext ?_
      show cc0_transform_6 (grid0.coords (pt s)) 0 * 256 + 1 * (row s).val = s.val
      rw [tr6]
      show (pt s).val * 256 + 1 * (row s).val = s.val
      have := pt_row s
      omega
    · refine Fin.ext ?_
      show cc0_transform_6 (grid0.coords (pt s)) 1 * 2048 + 1 * d.val = d.val
      rw [tr6]
      show 0 * 2048 + 1 * d.val = d.val
      omega
  refine (congrArg ((dats m 0 c).arrAt 6 cfg0.N) e.symm).trans (h.trans ?_)
  exact (out6_at _ _ (row s) d q hq).trans (prod_at m c (pt s) (row s) q s (pt_row s) _ _ rfl rfl)

theorem res7_at (s : Fin 65536) (d : Fin 128) (q : Fin 4736) (hq : q.val = 4608 + d.val) :
    (dats m 0 c).arrAt 7 cfg0.N (ValueIdx.ix2 s d) = col (m ((c : Thread nD τ).loc main_arg0)) (m ((c : Thread nD τ).loc main_arg1)) s q := by
  have h := congrFun ((Value.blocks7 m c (pt s) (fl7 _)).trans (Value.flushed7 m c (pt s))) (ValueIdx.ix2 (row s) d)
  have e : ((cfg0.win 7).blk (pt s)).view.emb (ValueIdx.ix2 (row s) d) = ValueIdx.ix2 s d := by
    funext a
    refine Fin.cases ?_ (fun a => Fin.cases ?_ (fun a => a.elim0) a) a
    · refine Fin.ext ?_
      show cc0_transform_7 (grid0.coords (pt s)) 0 * 256 + 1 * (row s).val = s.val
      rw [tr7]
      show (pt s).val * 256 + 1 * (row s).val = s.val
      have := pt_row s
      omega
    · refine Fin.ext ?_
      show cc0_transform_7 (grid0.coords (pt s)) 1 * 128 + 1 * d.val = d.val
      rw [tr7]
      show 0 * 128 + 1 * d.val = d.val
      omega
  refine (congrArg ((dats m 0 c).arrAt 7 cfg0.N) e.symm).trans (h.trans ?_)
  exact (out7_at _ _ (row s) d q hq).trans (prod_at m c (pt s) (row s) q s (pt_row s) _ _ rfl rfl)

end Cert.Kernel6Ideal.Proj

namespace Cert.Reference6Ideal.Proj

open Idealize.ShloMosaic Idealize.ShloMosaic.TcCoe Idealize.ShloMosaic.Tactic
open Cert.Reference6Ideal Cert.Reference6Ideal.Gen
open Cert.Kernel6Ideal.Proj (wcat)

/-- Every token times the weights. -/
def prod (x : FVec Ideal S65536x1024 .f32) (w : FVec Ideal S1024x4624 .f32) : FVec Ideal S65536x4624 .f32 :=
  Host.dotGeneral dot_S65536x1024_S1024x4624_S65536x4624_1_0_0_1_n_n none x w

theorem prod_at (x : FVec Ideal S65536x1024 .f32) (w : FVec Ideal S1024x4624 .f32) (s : Fin 65536) (q : Fin 4624) (p : Fin 4736) (hp : p.val = q.val) :
    prod x w (ValueIdx.ix2 s q) = ∑ y : Fin 1024, x (ValueIdx.ix2 s y) * wcat w y p := by
  have hw : ∀ y, wcat w y p = w (ValueIdx.ix2 y q) := fun y => by
    unfold wcat
    rw [dif_pos (by omega)]
    exact congrArg (fun k => w (ValueIdx.ix2 y k)) (Fin.ext hp)
  simp only [hw]
  unfold prod
  pointwise
  try rfl

theorem part2_at (p : FVec Ideal S65536x4624 .f32) (s : Fin 65536) (d : Fin 512) :
    (truncf .bf16 (extractStridedSlice S65536x512 ![0, 0] p slices_S65536x4624_S65536x512_0_0) bitsLt_bf16_f32 : FVec Ideal S65536x512 .bf16) (ValueIdx.ix2 s d)
      = p (ValueIdx.ix2 s ⟨0 + d.val, by omega⟩) := by
  pointwise
  try rfl

theorem same2 (m : (ℓ : Loc Kernel6Ideal.nD Kernel6Ideal.τ Kernel6Ideal.sig) → Buf (Elt Ideal) ℓ) (c : Dev Kernel6Ideal.nD)
    (x : FVec Ideal S65536x1024 .f32) (w : FVec Ideal S1024x4624 .f32)
    (hx : x = m ((c : Thread Kernel6Ideal.nD Kernel6Ideal.τ).loc Kernel6Ideal.main_arg0)) (hw : w = m ((c : Thread Kernel6Ideal.nD Kernel6Ideal.τ).loc Kernel6Ideal.main_arg1)) :
    (truncf .bf16 (extractStridedSlice S65536x512 ![0, 0] (Host.dotGeneral dot_S65536x1024_S1024x4624_S65536x4624_1_0_0_1_n_n none x w) slices_S65536x4624_S65536x512_0_0) bitsLt_bf16_f32 : FVec Ideal S65536x512 .bf16)
      = (Kernel6Ideal.Gen.dats m 0 c).arrAt 2 Kernel6Ideal.cfg0.N := by
  subst hx hw
  refine funext fun (j : S65536x512.Idx) => ?_
  obtain ⟨s, d, rfl⟩ : ∃ (s : Fin 65536) (d : Fin 512), j = ValueIdx.ix2 s d := ⟨j 0, j 1, Kernel6Ideal.Proj.split2 j⟩
  exact ((part2_at _ s d).trans (prod_at _ _ s _ ⟨0 + d.val, by omega⟩ rfl)).trans (Kernel6Ideal.Proj.res2_at m c s d _ rfl).symm

theorem part3_at (p : FVec Ideal S65536x4624 .f32) (s : Fin 65536) (d : Fin 512) :
    (truncf .bf16 (extractStridedSlice S65536x512 ![0, 512] p slices_S65536x4624_S65536x512_0_512) bitsLt_bf16_f32 : FVec Ideal S65536x512 .bf16) (ValueIdx.ix2 s d)
      = p (ValueIdx.ix2 s ⟨512 + d.val, by omega⟩) := by
  pointwise
  try rfl

theorem same3 (m : (ℓ : Loc Kernel6Ideal.nD Kernel6Ideal.τ Kernel6Ideal.sig) → Buf (Elt Ideal) ℓ) (c : Dev Kernel6Ideal.nD)
    (x : FVec Ideal S65536x1024 .f32) (w : FVec Ideal S1024x4624 .f32)
    (hx : x = m ((c : Thread Kernel6Ideal.nD Kernel6Ideal.τ).loc Kernel6Ideal.main_arg0)) (hw : w = m ((c : Thread Kernel6Ideal.nD Kernel6Ideal.τ).loc Kernel6Ideal.main_arg1)) :
    (truncf .bf16 (extractStridedSlice S65536x512 ![0, 512] (Host.dotGeneral dot_S65536x1024_S1024x4624_S65536x4624_1_0_0_1_n_n none x w) slices_S65536x4624_S65536x512_0_512) bitsLt_bf16_f32 : FVec Ideal S65536x512 .bf16)
      = (Kernel6Ideal.Gen.dats m 0 c).arrAt 3 Kernel6Ideal.cfg0.N := by
  subst hx hw
  refine funext fun (j : S65536x512.Idx) => ?_
  obtain ⟨s, d, rfl⟩ : ∃ (s : Fin 65536) (d : Fin 512), j = ValueIdx.ix2 s d := ⟨j 0, j 1, Kernel6Ideal.Proj.split2 j⟩
  exact ((part3_at _ s d).trans (prod_at _ _ s _ ⟨512 + d.val, by omega⟩ rfl)).trans (Kernel6Ideal.Proj.res3_at m c s d _ rfl).symm

theorem part4_at (p : FVec Ideal S65536x4624 .f32) (s : Fin 65536) (d : Fin 512) :
    (truncf .bf16 (extractStridedSlice S65536x512 ![0, 1024] p slices_S65536x4624_S65536x512_0_1024) bitsLt_bf16_f32 : FVec Ideal S65536x512 .bf16) (ValueIdx.ix2 s d)
      = p (ValueIdx.ix2 s ⟨1024 + d.val, by omega⟩) := by
  pointwise
  try rfl

theorem same4 (m : (ℓ : Loc Kernel6Ideal.nD Kernel6Ideal.τ Kernel6Ideal.sig) → Buf (Elt Ideal) ℓ) (c : Dev Kernel6Ideal.nD)
    (x : FVec Ideal S65536x1024 .f32) (w : FVec Ideal S1024x4624 .f32)
    (hx : x = m ((c : Thread Kernel6Ideal.nD Kernel6Ideal.τ).loc Kernel6Ideal.main_arg0)) (hw : w = m ((c : Thread Kernel6Ideal.nD Kernel6Ideal.τ).loc Kernel6Ideal.main_arg1)) :
    (truncf .bf16 (extractStridedSlice S65536x512 ![0, 1024] (Host.dotGeneral dot_S65536x1024_S1024x4624_S65536x4624_1_0_0_1_n_n none x w) slices_S65536x4624_S65536x512_0_1024) bitsLt_bf16_f32 : FVec Ideal S65536x512 .bf16)
      = (Kernel6Ideal.Gen.dats m 0 c).arrAt 4 Kernel6Ideal.cfg0.N := by
  subst hx hw
  refine funext fun (j : S65536x512.Idx) => ?_
  obtain ⟨s, d, rfl⟩ : ∃ (s : Fin 65536) (d : Fin 512), j = ValueIdx.ix2 s d := ⟨j 0, j 1, Kernel6Ideal.Proj.split2 j⟩
  exact ((part4_at _ s d).trans (prod_at _ _ s _ ⟨1024 + d.val, by omega⟩ rfl)).trans (Kernel6Ideal.Proj.res4_at m c s d _ rfl).symm

theorem part5_at (p : FVec Ideal S65536x4624 .f32) (s : Fin 65536) (d : Fin 1024) :
    (extractStridedSlice S65536x1024 ![0, 1536] p slices_S65536x4624_S65536x1024_0_1536 : FVec Ideal S65536x1024 .f32) (ValueIdx.ix2 s d)
      = p (ValueIdx.ix2 s ⟨1536 + d.val, by omega⟩) := by
  pointwise
  try rfl

theorem same5 (m : (ℓ : Loc Kernel6Ideal.nD Kernel6Ideal.τ Kernel6Ideal.sig) → Buf (Elt Ideal) ℓ) (c : Dev Kernel6Ideal.nD)
    (x : FVec Ideal S65536x1024 .f32) (w : FVec Ideal S1024x4624 .f32)
    (hx : x = m ((c : Thread Kernel6Ideal.nD Kernel6Ideal.τ).loc Kernel6Ideal.main_arg0)) (hw : w = m ((c : Thread Kernel6Ideal.nD Kernel6Ideal.τ).loc Kernel6Ideal.main_arg1)) :
    (extractStridedSlice S65536x1024 ![0, 1536] (Host.dotGeneral dot_S65536x1024_S1024x4624_S65536x4624_1_0_0_1_n_n none x w) slices_S65536x4624_S65536x1024_0_1536 : FVec Ideal S65536x1024 .f32)
      = (Kernel6Ideal.Gen.dats m 0 c).arrAt 5 Kernel6Ideal.cfg0.N := by
  subst hx hw
  refine funext fun (j : S65536x1024.Idx) => ?_
  obtain ⟨s, d, rfl⟩ : ∃ (s : Fin 65536) (d : Fin 1024), j = ValueIdx.ix2 s d := ⟨j 0, j 1, Kernel6Ideal.Proj.split2 j⟩
  exact ((part5_at _ s d).trans (prod_at _ _ s _ ⟨1536 + d.val, by omega⟩ rfl)).trans (Kernel6Ideal.Proj.res5_at m c s d _ rfl).symm

theorem part6_at (p : FVec Ideal S65536x4624 .f32) (s : Fin 65536) (d : Fin 2048) :
    (extractStridedSlice S65536x2048 ![0, 2560] p slices_S65536x4624_S65536x2048_0_2560 : FVec Ideal S65536x2048 .f32) (ValueIdx.ix2 s d)
      = p (ValueIdx.ix2 s ⟨2560 + d.val, by omega⟩) := by
  pointwise
  try rfl

theorem same6 (m : (ℓ : Loc Kernel6Ideal.nD Kernel6Ideal.τ Kernel6Ideal.sig) → Buf (Elt Ideal) ℓ) (c : Dev Kernel6Ideal.nD)
    (x : FVec Ideal S65536x1024 .f32) (w : FVec Ideal S1024x4624 .f32)
    (hx : x = m ((c : Thread Kernel6Ideal.nD Kernel6Ideal.τ).loc Kernel6Ideal.main_arg0)) (hw : w = m ((c : Thread Kernel6Ideal.nD Kernel6Ideal.τ).loc Kernel6Ideal.main_arg1)) :
    (extractStridedSlice S65536x2048 ![0, 2560] (Host.dotGeneral dot_S65536x1024_S1024x4624_S65536x4624_1_0_0_1_n_n none x w) slices_S65536x4624_S65536x2048_0_2560 : FVec Ideal S65536x2048 .f32)
      = (Kernel6Ideal.Gen.dats m 0 c).arrAt 6 Kernel6Ideal.cfg0.N := by
  subst hx hw
  refine funext fun (j : S65536x2048.Idx) => ?_
  obtain ⟨s, d, rfl⟩ : ∃ (s : Fin 65536) (d : Fin 2048), j = ValueIdx.ix2 s d := ⟨j 0, j 1, Kernel6Ideal.Proj.split2 j⟩
  exact ((part6_at _ s d).trans (prod_at _ _ s _ ⟨2560 + d.val, by omega⟩ rfl)).trans (Kernel6Ideal.Proj.res6_at m c s d _ rfl).symm

/-- Past the weights' columns the product is with zeros. -/
theorem part7_at (x : FVec Ideal S65536x1024 .f32) (w : FVec Ideal S1024x4624 .f32) (s : Fin 65536) (d : Fin 128) :
    (pad S65536x128 ![0, 0] ![0, 112] ![0, 0] (extractStridedSlice S65536x16 ![0, 4608] (prod x w) slices_S65536x4624_S65536x16_0_4608) (sitofp .f32 (constantI S_ 32 0#32)) pads_S65536x16_S65536x128_000_01120 h_S_ : FVec Ideal S65536x128 .f32) (ValueIdx.ix2 s d)
      = ∑ y : Fin 1024, x (ValueIdx.ix2 s y) * wcat w y ⟨4608 + d.val, by omega⟩ := by
  pointwise
  show (if h : d.val < 16 then prod x w (ValueIdx.ix2 s ⟨4608 + d.val, by omega⟩) else FloatOps.sitofp (F := Ideal) FTy.f32 0#32) = _
  by_cases h : d.val < 16
  · rw [dif_pos h]
    exact prod_at x w s _ _ rfl
  · rw [dif_neg h]
    refine Eq.trans Kernel6Ideal.Proj.zero_int (Eq.symm (Finset.sum_eq_zero fun y _ => ?_))
    unfold wcat
    rw [dif_neg (by show ¬ 4608 + d.val < 4624; omega), mul_zero]

theorem same7 (m : (ℓ : Loc Kernel6Ideal.nD Kernel6Ideal.τ Kernel6Ideal.sig) → Buf (Elt Ideal) ℓ) (c : Dev Kernel6Ideal.nD)
    (x : FVec Ideal S65536x1024 .f32) (w : FVec Ideal S1024x4624 .f32)
    (hx : x = m ((c : Thread Kernel6Ideal.nD Kernel6Ideal.τ).loc Kernel6Ideal.main_arg0)) (hw : w = m ((c : Thread Kernel6Ideal.nD Kernel6Ideal.τ).loc Kernel6Ideal.main_arg1)) :
    (pad S65536x128 ![0, 0] ![0, 112] ![0, 0] (extractStridedSlice S65536x16 ![0, 4608] (Host.dotGeneral dot_S65536x1024_S1024x4624_S65536x4624_1_0_0_1_n_n none x w) slices_S65536x4624_S65536x16_0_4608) (sitofp .f32 (constantI S_ 32 0#32)) pads_S65536x16_S65536x128_000_01120 h_S_ : FVec Ideal S65536x128 .f32)
      = (Kernel6Ideal.Gen.dats m 0 c).arrAt 7 Kernel6Ideal.cfg0.N := by
  subst hx hw
  refine funext fun (j : S65536x128.Idx) => ?_
  obtain ⟨s, d, rfl⟩ : ∃ (s : Fin 65536) (d : Fin 128), j = ValueIdx.ix2 s d := ⟨j 0, j 1, Kernel6Ideal.Proj.split2 j⟩
  exact (part7_at _ _ s d).trans (Kernel6Ideal.Proj.res7_at m c s d _ rfl).symm

end Cert.Reference6Ideal.Proj
-- ==== Proof.Projections.lean ====
/-
  The four projections' claims: the frames and, over the reals, the references' results.
-/
module

public import proofs.«01_k».proof.Defs
public import proofs.«01_k».proof.Proof.Gen.Kernel3.Frame
public import proofs.«01_k».proof.Proof.Gen.Kernel4.Frame
public import proofs.«01_k».proof.Proof.Gen.Kernel5.Frame
public import proofs.«01_k».proof.Proof.Gen.Kernel6.Frame
public import proofs.«01_k».proof.Proof.OddIn
public import proofs.«01_k».proof.Proof.OddOut
public import proofs.«01_k».proof.Proof.EvenOut
public import proofs.«01_k».proof.Proof.EvenIn
public import Idealize.ShloMosaic.Lib.Quiescent

@[expose] public section

set_option maxRecDepth 16384

namespace Cert.Proof

open Idealize.ShloMosaic Idealize.ShloMosaic.TcCoe Idealize.SL.Sem

theorem frame_kernel3 : Cert.quiescent_Kernel3 := fun m ρ _ => Cert.Kernel3.Gen.frame (F := Bits) m ρ

theorem frame_ideal3 : Cert.quiescent_Kernel3Ideal := fun m ρ _ => Cert.Kernel3Ideal.Gen.frame (F := Ideal) m ρ

theorem frame_reference3 : Cert.quiescent_Reference3Ideal := fun m ρ _ =>
  (θ_run Cert.Reference3Ideal.defs _ _).mono (fun r hr => ⟨fun c => (hr c).2.2.2, sem_eq_zero_of_no_sems (by decide) r.2⟩)
    (Cert.Reference3Ideal.Value.run (F := Ideal) m ρ)

theorem algebraic3 : Cert.algebraic_Kernel3Ideal_Reference3Ideal := by
  intro m ρ m' ρ' _ hag
  exact ⟨fun c => (Kernel3Ideal.Gen.dats m 0 c).arrAt 2 Kernel3Ideal.cfg0.N, fun c => (Kernel3Ideal.Gen.dats m 0 c).arrAt 3 Kernel3Ideal.cfg0.N, fun c => (Kernel3Ideal.Gen.dats m 0 c).arrAt 4 Kernel3Ideal.cfg0.N,
    Kernel3Ideal.Value.run_blocks (F := Ideal) m ρ,
    (θ_run Cert.Reference3Ideal.defs _ _).mono (fun r hr c => ⟨(hr c).1.trans (Reference3Ideal.Proj.same2 m c _ _ (hag c).1 (hag c).2), (hr c).2.1.trans (Reference3Ideal.Proj.same3 m c _ _ (hag c).1 (hag c).2), (hr c).2.2.1.trans (Reference3Ideal.Proj.same4 m c _ _ (hag c).1 (hag c).2), (hr c).2.2.2⟩) (Reference3Ideal.Value.run (F := Ideal) m' ρ')⟩

theorem frame_kernel4 : Cert.quiescent_Kernel4 := fun m ρ _ => Cert.Kernel4.Gen.frame (F := Bits) m ρ

theorem frame_ideal4 : Cert.quiescent_Kernel4Ideal := fun m ρ _ => Cert.Kernel4Ideal.Gen.frame (F := Ideal) m ρ

theorem frame_reference4 : Cert.quiescent_Reference4Ideal := fun m ρ _ =>
  (θ_run Cert.Reference4Ideal.defs _ _).mono (fun r hr => ⟨fun c => (hr c).2, sem_eq_zero_of_no_sems (by decide) r.2⟩)
    (Cert.Reference4Ideal.Value.run (F := Ideal) m ρ)

theorem algebraic4 : Cert.algebraic_Kernel4Ideal_Reference4Ideal := by
  intro m ρ m' ρ' _ hag
  refine ⟨fun c => (Kernel4Ideal.Gen.dats m 0 c).arrAt 5 Kernel4Ideal.cfg0.N,
    Kernel4Ideal.Value.run_blocks (F := Ideal) m ρ,
    (θ_run Cert.Reference4Ideal.defs _ _).mono (fun r hr c => ⟨(hr c).1.trans ?_, (hr c).2⟩) (Reference4Ideal.Value.run (F := Ideal) m' ρ')⟩
  refine Eq.trans ?_ (Reference4Ideal.Proj.same m c)
  obtain ⟨h0, h1, h2, h3, h4⟩ := hag c
  rw [← h0, ← h1, ← h2, ← h3, ← h4]
  rfl

theorem frame_kernel5 : Cert.quiescent_Kernel5 := fun m ρ _ => Cert.Kernel5.Gen.frame (F := Bits) m ρ

theorem frame_ideal5 : Cert.quiescent_Kernel5Ideal := fun m ρ _ => Cert.Kernel5Ideal.Gen.frame (F := Ideal) m ρ

theorem frame_reference5 : Cert.quiescent_Reference5Ideal := fun m ρ _ =>
  (θ_run Cert.Reference5Ideal.defs _ _).mono (fun r hr => ⟨fun c => (hr c).2, sem_eq_zero_of_no_sems (by decide) r.2⟩)
    (Cert.Reference5Ideal.Value.run (F := Ideal) m ρ)

theorem algebraic5 : Cert.algebraic_Kernel5Ideal_Reference5Ideal := by
  intro m ρ m' ρ' _ hag
  refine ⟨fun c => (Kernel5Ideal.Gen.dats m 0 c).arrAt 7 Kernel5Ideal.cfg0.N,
    Kernel5Ideal.Value.run_blocks (F := Ideal) m ρ,
    (θ_run Cert.Reference5Ideal.defs _ _).mono (fun r hr c => ⟨(hr c).1.trans ?_, (hr c).2⟩) (Reference5Ideal.Value.run (F := Ideal) m' ρ')⟩
  refine Eq.trans ?_ (Reference5Ideal.Proj.same m c)
  obtain ⟨h0, h1, h2, h3, h4, h5⟩ := hag c
  rw [← h0, ← h1, ← h2, ← h3, ← h4, ← h5]
  rfl

theorem frame_kernel6 : Cert.quiescent_Kernel6 := fun m ρ _ => Cert.Kernel6.Gen.frame (F := Bits) m ρ

theorem frame_ideal6 : Cert.quiescent_Kernel6Ideal := fun m ρ _ => Cert.Kernel6Ideal.Gen.frame (F := Ideal) m ρ

theorem frame_reference6 : Cert.quiescent_Reference6Ideal := fun m ρ _ =>
  (θ_run Cert.Reference6Ideal.defs _ _).mono (fun r hr => ⟨fun c => (hr c).2.2.2.2.2.2, sem_eq_zero_of_no_sems (by decide) r.2⟩)
    (Cert.Reference6Ideal.Value.run (F := Ideal) m ρ)

theorem algebraic6 : Cert.algebraic_Kernel6Ideal_Reference6Ideal := by
  intro m ρ m' ρ' _ hag
  exact ⟨fun c => (Kernel6Ideal.Gen.dats m 0 c).arrAt 2 Kernel6Ideal.cfg0.N, fun c => (Kernel6Ideal.Gen.dats m 0 c).arrAt 3 Kernel6Ideal.cfg0.N, fun c => (Kernel6Ideal.Gen.dats m 0 c).arrAt 4 Kernel6Ideal.cfg0.N, fun c => (Kernel6Ideal.Gen.dats m 0 c).arrAt 5 Kernel6Ideal.cfg0.N, fun c => (Kernel6Ideal.Gen.dats m 0 c).arrAt 6 Kernel6Ideal.cfg0.N, fun c => (Kernel6Ideal.Gen.dats m 0 c).arrAt 7 Kernel6Ideal.cfg0.N,
    Kernel6Ideal.Value.run_blocks (F := Ideal) m ρ,
    (θ_run Cert.Reference6Ideal.defs _ _).mono (fun r hr c => ⟨(hr c).1.trans (Reference6Ideal.Proj.same2 m c _ _ (hag c).1 (hag c).2), (hr c).2.1.trans (Reference6Ideal.Proj.same3 m c _ _ (hag c).1 (hag c).2), (hr c).2.2.1.trans (Reference6Ideal.Proj.same4 m c _ _ (hag c).1 (hag c).2), (hr c).2.2.2.1.trans (Reference6Ideal.Proj.same5 m c _ _ (hag c).1 (hag c).2), (hr c).2.2.2.2.1.trans (Reference6Ideal.Proj.same6 m c _ _ (hag c).1 (hag c).2), (hr c).2.2.2.2.2.1.trans (Reference6Ideal.Proj.same7 m c _ _ (hag c).1 (hag c).2), (hr c).2.2.2.2.2.2⟩) (Reference6Ideal.Value.run (F := Ideal) m' ρ')⟩

end Cert.Proof
-- ==== Proof.lean ====
/-
  The certificate: the two programs' runs and the claims read off them.
-/
module

public import proofs.«01_k».proof.Defs
public import proofs.«01_k».proof.Proof.Gen.Kernel.Launch
public import proofs.«01_k».proof.Proof.Run
public import proofs.«01_k».proof.Proof.Counts
public import proofs.«01_k».proof.Proof.Whole
public import proofs.«01_k».proof.Proof.Answer
public import proofs.«01_k».proof.Proof.Same
public import proofs.«01_k».proof.Proof.Gen.ReferenceIdeal.Run
public import proofs.«01_k».proof.Proof.Gen.Kernel2.Frame
public import proofs.«01_k».proof.Proof.Dense
public import proofs.«01_k».proof.Proof.Projections
public import Idealize.ShloMosaic.Lib.Quiescent

@[expose] public section

set_option maxRecDepth 16384

namespace Cert.Proof

open Idealize.ShloMosaic Idealize.ShloMosaic.TcCoe Idealize.SL.Sem

set_option maxHeartbeats 4000000 in
/-- The kernel as printed: the run of its reading over the reals, taken at the machine's floats. -/
theorem frame_kernel : Cert.quiescent_Kernel :=
  fun m ρ h => Cert.KernelIdeal.Moe.same_run (F := Bits) m ρ _ (Cert.KernelIdeal.Moe.frame (F := Bits) m ρ (Cert.KernelIdeal.Moe.word_le m (h 0)))

theorem frame_ideal : Cert.quiescent_KernelIdeal :=
  fun m ρ h => Cert.KernelIdeal.Moe.frame (F := Ideal) m ρ (Cert.KernelIdeal.Moe.word_le m (h 0))

theorem frame_ideal_tables : Cert.quiescent_KernelIdeal_pre_routing_tables :=
  fun m ρ h => (θ_run Cert.KernelIdeal.defs _ _).mono (fun r hr => ⟨fun c => (hr.1 c).2, hr.2⟩) (Cert.KernelIdeal.Moe.whole m ρ 0 (h 0))

/-- The reference is host operations alone: it writes no argument and has no semaphore. -/
theorem frame_reference : Cert.quiescent_ReferenceIdeal := fun m ρ _ =>
  (θ_run Cert.ReferenceIdeal.defs _ _).mono (fun r hr => ⟨fun c => (hr c).2, sem_eq_zero_of_no_sems (by decide) r.2⟩)
    (Cert.ReferenceIdeal.Value.run (F := Ideal) m ρ)

theorem frame_reference_tables : Cert.quiescent_ReferenceIdeal_pre_routing_tables := fun m ρ _ => frame_reference m ρ trivial

/-- The kernel's result, element by element, is the reference's. -/
theorem result_same (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) (c : Dev KernelIdeal.nD)
    (h0 : m' ((c.tc : Thread ReferenceIdeal.nD ReferenceIdeal.τ).loc ReferenceIdeal.main_arg0) = m ((c.tc : Thread KernelIdeal.nD KernelIdeal.τ).loc KernelIdeal.main_arg0))
    (h1 : m' ((c.tc : Thread ReferenceIdeal.nD ReferenceIdeal.τ).loc ReferenceIdeal.main_arg1) = m ((c.tc : Thread KernelIdeal.nD KernelIdeal.τ).loc KernelIdeal.main_arg1))
    (h5 : m' ((c.tc : Thread ReferenceIdeal.nD ReferenceIdeal.τ).loc ReferenceIdeal.main_arg5) = m ((c.tc : Thread KernelIdeal.nD KernelIdeal.τ).loc KernelIdeal.main_arg5))
    (h6 : m' ((c.tc : Thread ReferenceIdeal.nD ReferenceIdeal.τ).loc ReferenceIdeal.main_arg6) = m ((c.tc : Thread KernelIdeal.nD KernelIdeal.τ).loc KernelIdeal.main_arg6))
    (h7 : m' ((c.tc : Thread ReferenceIdeal.nD ReferenceIdeal.τ).loc ReferenceIdeal.main_arg7) = m ((c.tc : Thread KernelIdeal.nD KernelIdeal.τ).loc KernelIdeal.main_arg7))
    (h8 : m' ((c.tc : Thread ReferenceIdeal.nD ReferenceIdeal.τ).loc ReferenceIdeal.main_arg8) = m ((c.tc : Thread KernelIdeal.nD KernelIdeal.τ).loc KernelIdeal.main_arg8)) :
    ReferenceIdeal.Value.res_main_v36 m' c = KernelIdeal.Moe.result m c := by
  refine funext fun (j : KernelIdeal.S65536x1024.Idx) => ?_
  obtain ⟨s, d, rfl⟩ : ∃ (s : Fin 65536) (d : Fin 1024), j = ValueIdx.ix2 s d := ⟨j 0, j 1, KernelIdeal.Moe.split2 j⟩
  refine (ReferenceIdeal.Moe.result_at m' c s d).trans ?_
  rw [h0, h1, h5, h6, h7, h8]
  refine Eq.trans ?_ (KernelIdeal.Moe.out_at m c ⟨s.val / 1024, by omega⟩ ⟨s.val % 1024, Nat.mod_lt _ (by decide)⟩ d).symm
  have e : KernelIdeal.Moe.tok ⟨s.val / 1024, by omega⟩ ⟨s.val % 1024, Nat.mod_lt _ (by decide)⟩ = s :=
    Fin.ext (by show s.val / 1024 * 1024 + s.val % 1024 = s.val; omega)
  rw [e]

theorem algebraic : Cert.algebraic_KernelIdeal_ReferenceIdeal_pre_routing_tables := by
  intro m ρ m' ρ' hpre hag
  refine ⟨fun c => KernelIdeal.Moe.result m c, (θ_run Cert.KernelIdeal.defs _ _).mono (fun r hr => hr.1) (KernelIdeal.Moe.whole m ρ 0 (hpre 0)),
    (θ_run Cert.ReferenceIdeal.defs _ _).mono (fun r hr c => ⟨(hr c).1.trans ?_, (hr c).2⟩) (ReferenceIdeal.Value.run (F := Ideal) m' ρ')⟩
  obtain ⟨h0, h1, -, -, -, h5, h6, h7, h8⟩ := hag c
  exact result_same m m' c h0 h1 h5 h6 h7 h8

/-- The dense call, as printed and read over the reals. -/
theorem frame_kernel2 : Cert.quiescent_Kernel2 := fun m ρ _ => Cert.Kernel2.Gen.frame (F := Bits) m ρ

theorem frame_ideal2 : Cert.quiescent_Kernel2Ideal := fun m ρ _ => Cert.Kernel2Ideal.Gen.frame (F := Ideal) m ρ

/-- The dense reference is host operations alone. -/
theorem frame_reference2 : Cert.quiescent_Reference2Ideal := fun m ρ _ =>
  (θ_run Cert.Reference2Ideal.defs _ _).mono (fun r hr => ⟨fun c => (hr c).2, sem_eq_zero_of_no_sems (by decide) r.2⟩)
    (Cert.Reference2Ideal.Value.run (F := Ideal) m ρ)

/-- The dense call's result, element by element, is its reference's. -/
theorem dense_same (m : (ℓ : Loc Kernel2Ideal.nD Kernel2Ideal.τ Kernel2Ideal.sig) → Buf (Elt Ideal) ℓ)
    (m' : (ℓ : Loc Reference2Ideal.nD Reference2Ideal.τ Reference2Ideal.sig) → Buf (Elt Ideal) ℓ) (c : Dev Kernel2Ideal.nD)
    (h0 : m' ((c.tc : Thread Reference2Ideal.nD Reference2Ideal.τ).loc Reference2Ideal.main_arg0) = m ((c.tc : Thread Kernel2Ideal.nD Kernel2Ideal.τ).loc Kernel2Ideal.main_arg0))
    (h1 : m' ((c.tc : Thread Reference2Ideal.nD Reference2Ideal.τ).loc Reference2Ideal.main_arg1) = m ((c.tc : Thread Kernel2Ideal.nD Kernel2Ideal.τ).loc Kernel2Ideal.main_arg1))
    (h2 : m' ((c.tc : Thread Reference2Ideal.nD Reference2Ideal.τ).loc Reference2Ideal.main_arg2) = m ((c.tc : Thread Kernel2Ideal.nD Kernel2Ideal.τ).loc Kernel2Ideal.main_arg2))
    (h3 : m' ((c.tc : Thread Reference2Ideal.nD Reference2Ideal.τ).loc Reference2Ideal.main_arg3) = m ((c.tc : Thread Kernel2Ideal.nD Kernel2Ideal.τ).loc Kernel2Ideal.main_arg3))
    (h4 : m' ((c.tc : Thread Reference2Ideal.nD Reference2Ideal.τ).loc Reference2Ideal.main_arg4) = m ((c.tc : Thread Kernel2Ideal.nD Kernel2Ideal.τ).loc Kernel2Ideal.main_arg4)) :
    Reference2Ideal.Value.res_main_v32 m' c = Kernel2Ideal.Value.G6 m c := by
  refine funext fun (j : Kernel2Ideal.S65536x1024.Idx) => ?_
  obtain ⟨s, d, rfl⟩ : ∃ (s : Fin 65536) (d : Fin 1024), j = ValueIdx.ix2 s d := ⟨j 0, j 1, KernelIdeal.Moe.split2 j⟩
  refine (Reference2Ideal.Ffn.result_at m' c s d).trans ?_
  rw [h0, h1, h2, h3, h4]
  exact (Kernel2Ideal.Ffn.out_at m c s d).symm

theorem algebraic2 : Cert.algebraic_Kernel2Ideal_Reference2Ideal := by
  intro m ρ m' ρ' _ hag
  refine ⟨fun c => Kernel2Ideal.Value.G6 m c, Kernel2Ideal.Value.run (F := Ideal) m ρ,
    (θ_run Cert.Reference2Ideal.defs _ _).mono (fun r hr c => ⟨(hr c).1.trans ?_, (hr c).2⟩) (Reference2Ideal.Value.run (F := Ideal) m' ρ')⟩
  obtain ⟨h0, h1, h2, h3, h4⟩ := hag c
  exact dense_same m m' c h0 h1 h2 h3 h4

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts,
    Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts,
    Cert.Pre_counts_fit.Gen.facts, Cert.Pre_routing_tables.Gen.facts,
    frame_kernel, frame_ideal, frame_ideal_tables, frame_reference, frame_reference_tables,
    frame_kernel2, frame_ideal2, frame_reference2,
    frame_kernel3, frame_ideal3, frame_reference3,
    frame_kernel4, frame_ideal4, frame_reference4,
    frame_kernel5, frame_ideal5, frame_reference5,
    frame_kernel6, frame_ideal6, frame_reference6,
    trivial, algebraic, trivial, algebraic2, trivial, algebraic3, trivial, algebraic4, trivial, algebraic5, trivial, algebraic6⟩

end Cert.Proof
